-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Gates (m : (ℓ : Loc Cert.Gates.nD Cert.Gates.τ Cert.Gates.sig) → Buf (Elt Bits) ℓ) : Prop :=
  True

def Pre_GatesIdeal (m : (ℓ : Loc Cert.GatesIdeal.nD Cert.GatesIdeal.τ Cert.GatesIdeal.sig) → Buf (Elt Ideal) ℓ) : Prop :=
  True

def Pre_GatesIdeal_finite_gates [hPre_finite_gates : Cert.Pre_finite_gates.Facts] (m : (ℓ : Loc Cert.GatesIdeal.nD Cert.GatesIdeal.τ Cert.GatesIdeal.sig) → Buf (Elt Ideal) ℓ) : Prop :=
  ∀ c : Dev Cert.GatesIdeal.nD,
    (Cert.Pre_finite_gates.fn (F := Ideal) (m ((c.tc : Thread Cert.GatesIdeal.nD Cert.GatesIdeal.τ).loc Cert.GatesIdeal.main_arg0)) (m ((c.tc : Thread Cert.GatesIdeal.nD Cert.GatesIdeal.τ).loc Cert.GatesIdeal.main_arg1)) (m ((c.tc : Thread Cert.GatesIdeal.nD Cert.GatesIdeal.τ).loc Cert.GatesIdeal.main_arg2)) (m ((c.tc : Thread Cert.GatesIdeal.nD Cert.GatesIdeal.τ).loc Cert.GatesIdeal.main_arg3)) (m ((c.tc : Thread Cert.GatesIdeal.nD Cert.GatesIdeal.τ).loc Cert.GatesIdeal.main_arg4))) = (fun _ => 1#1)

def Pre_GatesReferenceIdeal (m : (ℓ : Loc Cert.GatesReferenceIdeal.nD Cert.GatesReferenceIdeal.τ Cert.GatesReferenceIdeal.sig) → Buf (Elt Ideal) ℓ) : Prop :=
  True

def Pre_GatesReferenceIdeal_finite_gates [hPre_finite_gates : Cert.Pre_finite_gates.Facts] (m : (ℓ : Loc Cert.GatesReferenceIdeal.nD Cert.GatesReferenceIdeal.τ Cert.GatesReferenceIdeal.sig) → Buf (Elt Ideal) ℓ) : Prop :=
  ∀ c : Dev Cert.GatesReferenceIdeal.nD,
    (Cert.Pre_finite_gates.fn (F := Ideal) (m ((c.tc : Thread Cert.GatesReferenceIdeal.nD Cert.GatesReferenceIdeal.τ).loc Cert.GatesReferenceIdeal.main_arg0)) (m ((c.tc : Thread Cert.GatesReferenceIdeal.nD Cert.GatesReferenceIdeal.τ).loc Cert.GatesReferenceIdeal.main_arg1)) (m ((c.tc : Thread Cert.GatesReferenceIdeal.nD Cert.GatesReferenceIdeal.τ).loc Cert.GatesReferenceIdeal.main_arg2)) (m ((c.tc : Thread Cert.GatesReferenceIdeal.nD Cert.GatesReferenceIdeal.τ).loc Cert.GatesReferenceIdeal.main_arg3)) (m ((c.tc : Thread Cert.GatesReferenceIdeal.nD Cert.GatesReferenceIdeal.τ).loc Cert.GatesReferenceIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Final (m : (ℓ : Loc Cert.Final.nD Cert.Final.τ Cert.Final.sig) → Buf (Elt Bits) ℓ) : Prop :=
  True

def Pre_FinalIdeal (m : (ℓ : Loc Cert.FinalIdeal.nD Cert.FinalIdeal.τ Cert.FinalIdeal.sig) → Buf (Elt Ideal) ℓ) : Prop :=
  True

def Pre_FinalReferenceIdeal (m : (ℓ : Loc Cert.FinalReferenceIdeal.nD Cert.FinalReferenceIdeal.τ Cert.FinalReferenceIdeal.sig) → Buf (Elt Ideal) ℓ) : Prop :=
  True

def Pre_Inputs (m : (ℓ : Loc Cert.Inputs.nD Cert.Inputs.τ Cert.Inputs.sig) → Buf (Elt Bits) ℓ) : Prop :=
  True

def Pre_InputsIdeal (m : (ℓ : Loc Cert.InputsIdeal.nD Cert.InputsIdeal.τ Cert.InputsIdeal.sig) → Buf (Elt Ideal) ℓ) : Prop :=
  True

def Pre_InputsIdeal_finite_inputs [hPre_finite_inputs : Cert.Pre_finite_inputs.Facts] (m : (ℓ : Loc Cert.InputsIdeal.nD Cert.InputsIdeal.τ Cert.InputsIdeal.sig) → Buf (Elt Ideal) ℓ) : Prop :=
  ∀ c : Dev Cert.InputsIdeal.nD,
    (Cert.Pre_finite_inputs.fn (F := Ideal) (m ((c.tc : Thread Cert.InputsIdeal.nD Cert.InputsIdeal.τ).loc Cert.InputsIdeal.main_arg0)) (m ((c.tc : Thread Cert.InputsIdeal.nD Cert.InputsIdeal.τ).loc Cert.InputsIdeal.main_arg1)) (m ((c.tc : Thread Cert.InputsIdeal.nD Cert.InputsIdeal.τ).loc Cert.InputsIdeal.main_arg2)) (m ((c.tc : Thread Cert.InputsIdeal.nD Cert.InputsIdeal.τ).loc Cert.InputsIdeal.main_arg3))) = (fun _ => 1#1)

def Pre_InputsReferenceIdeal (m : (ℓ : Loc Cert.InputsReferenceIdeal.nD Cert.InputsReferenceIdeal.τ Cert.InputsReferenceIdeal.sig) → Buf (Elt Ideal) ℓ) : Prop :=
  True

def Pre_InputsReferenceIdeal_finite_inputs [hPre_finite_inputs : Cert.Pre_finite_inputs.Facts] (m : (ℓ : Loc Cert.InputsReferenceIdeal.nD Cert.InputsReferenceIdeal.τ Cert.InputsReferenceIdeal.sig) → Buf (Elt Ideal) ℓ) : Prop :=
  ∀ c : Dev Cert.InputsReferenceIdeal.nD,
    (Cert.Pre_finite_inputs.fn (F := Ideal) (m ((c.tc : Thread Cert.InputsReferenceIdeal.nD Cert.InputsReferenceIdeal.τ).loc Cert.InputsReferenceIdeal.main_arg0)) (m ((c.tc : Thread Cert.InputsReferenceIdeal.nD Cert.InputsReferenceIdeal.τ).loc Cert.InputsReferenceIdeal.main_arg1)) (m ((c.tc : Thread Cert.InputsReferenceIdeal.nD Cert.InputsReferenceIdeal.τ).loc Cert.InputsReferenceIdeal.main_arg2)) (m ((c.tc : Thread Cert.InputsReferenceIdeal.nD Cert.InputsReferenceIdeal.τ).loc Cert.InputsReferenceIdeal.main_arg3))) = (fun _ => 1#1)

def Pre_Spatial (m : (ℓ : Loc Cert.Spatial.nD Cert.Spatial.τ Cert.Spatial.sig) → Buf (Elt Bits) ℓ) : Prop :=
  True

def Pre_SpatialIdeal (m : (ℓ : Loc Cert.SpatialIdeal.nD Cert.SpatialIdeal.τ Cert.SpatialIdeal.sig) → Buf (Elt Ideal) ℓ) : Prop :=
  True

def Pre_SpatialIdeal_finite_spatial [hPre_finite_spatial : Cert.Pre_finite_spatial.Facts] (m : (ℓ : Loc Cert.SpatialIdeal.nD Cert.SpatialIdeal.τ Cert.SpatialIdeal.sig) → Buf (Elt Ideal) ℓ) : Prop :=
  ∀ c : Dev Cert.SpatialIdeal.nD,
    (Cert.Pre_finite_spatial.fn (F := Ideal) (m ((c.tc : Thread Cert.SpatialIdeal.nD Cert.SpatialIdeal.τ).loc Cert.SpatialIdeal.main_arg0)) (m ((c.tc : Thread Cert.SpatialIdeal.nD Cert.SpatialIdeal.τ).loc Cert.SpatialIdeal.main_arg1)) (m ((c.tc : Thread Cert.SpatialIdeal.nD Cert.SpatialIdeal.τ).loc Cert.SpatialIdeal.main_arg2)) (m ((c.tc : Thread Cert.SpatialIdeal.nD Cert.SpatialIdeal.τ).loc Cert.SpatialIdeal.main_arg3)) (m ((c.tc : Thread Cert.SpatialIdeal.nD Cert.SpatialIdeal.τ).loc Cert.SpatialIdeal.main_arg4)) (m ((c.tc : Thread Cert.SpatialIdeal.nD Cert.SpatialIdeal.τ).loc Cert.SpatialIdeal.main_arg5)) (m ((c.tc : Thread Cert.SpatialIdeal.nD Cert.SpatialIdeal.τ).loc Cert.SpatialIdeal.main_arg6)) (m ((c.tc : Thread Cert.SpatialIdeal.nD Cert.SpatialIdeal.τ).loc Cert.SpatialIdeal.main_arg7)) (m ((c.tc : Thread Cert.SpatialIdeal.nD Cert.SpatialIdeal.τ).loc Cert.SpatialIdeal.main_arg8)) (m ((c.tc : Thread Cert.SpatialIdeal.nD Cert.SpatialIdeal.τ).loc Cert.SpatialIdeal.main_arg9)) (m ((c.tc : Thread Cert.SpatialIdeal.nD Cert.SpatialIdeal.τ).loc Cert.SpatialIdeal.main_arg10))) = (fun _ => 1#1)

def Pre_SpatialReferenceIdeal (m : (ℓ : Loc Cert.SpatialReferenceIdeal.nD Cert.SpatialReferenceIdeal.τ Cert.SpatialReferenceIdeal.sig) → Buf (Elt Ideal) ℓ) : Prop :=
  True

def Pre_SpatialReferenceIdeal_finite_spatial [hPre_finite_spatial : Cert.Pre_finite_spatial.Facts] (m : (ℓ : Loc Cert.SpatialReferenceIdeal.nD Cert.SpatialReferenceIdeal.τ Cert.SpatialReferenceIdeal.sig) → Buf (Elt Ideal) ℓ) : Prop :=
  ∀ c : Dev Cert.SpatialReferenceIdeal.nD,
    (Cert.Pre_finite_spatial.fn (F := Ideal) (m ((c.tc : Thread Cert.SpatialReferenceIdeal.nD Cert.SpatialReferenceIdeal.τ).loc Cert.SpatialReferenceIdeal.main_arg0)) (m ((c.tc : Thread Cert.SpatialReferenceIdeal.nD Cert.SpatialReferenceIdeal.τ).loc Cert.SpatialReferenceIdeal.main_arg1)) (m ((c.tc : Thread Cert.SpatialReferenceIdeal.nD Cert.SpatialReferenceIdeal.τ).loc Cert.SpatialReferenceIdeal.main_arg2)) (m ((c.tc : Thread Cert.SpatialReferenceIdeal.nD Cert.SpatialReferenceIdeal.τ).loc Cert.SpatialReferenceIdeal.main_arg3)) (m ((c.tc : Thread Cert.SpatialReferenceIdeal.nD Cert.SpatialReferenceIdeal.τ).loc Cert.SpatialReferenceIdeal.main_arg4)) (m ((c.tc : Thread Cert.SpatialReferenceIdeal.nD Cert.SpatialReferenceIdeal.τ).loc Cert.SpatialReferenceIdeal.main_arg5)) (m ((c.tc : Thread Cert.SpatialReferenceIdeal.nD Cert.SpatialReferenceIdeal.τ).loc Cert.SpatialReferenceIdeal.main_arg6)) (m ((c.tc : Thread Cert.SpatialReferenceIdeal.nD Cert.SpatialReferenceIdeal.τ).loc Cert.SpatialReferenceIdeal.main_arg7)) (m ((c.tc : Thread Cert.SpatialReferenceIdeal.nD Cert.SpatialReferenceIdeal.τ).loc Cert.SpatialReferenceIdeal.main_arg8)) (m ((c.tc : Thread Cert.SpatialReferenceIdeal.nD Cert.SpatialReferenceIdeal.τ).loc Cert.SpatialReferenceIdeal.main_arg9)) (m ((c.tc : Thread Cert.SpatialReferenceIdeal.nD Cert.SpatialReferenceIdeal.τ).loc Cert.SpatialReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Gates [hGates : Cert.Gates.Facts] : Prop :=
  ∀ (m : (ℓ : Loc Cert.Gates.nD Cert.Gates.τ Cert.Gates.sig) → Buf (Elt Bits) ℓ) (g : Dev Cert.Gates.nD → PrngReg), Pre_Gates m →
    θ_run (Cert.Gates.defs (F := Bits)) (onTc (τ := Cert.Gates.τ) (Cert.Gates.main (F := Bits))) ⟨m, fun _ => 0, g⟩ (fun r => (∀ c : Dev Cert.Gates.nD,
      r.2.mem ((c.tc : Thread Cert.Gates.nD Cert.Gates.τ).loc Cert.Gates.main_arg0) = m ((c.tc : Thread Cert.Gates.nD Cert.Gates.τ).loc Cert.Gates.main_arg0)
      ∧ r.2.mem ((c.tc : Thread Cert.Gates.nD Cert.Gates.τ).loc Cert.Gates.main_arg1) = m ((c.tc : Thread Cert.Gates.nD Cert.Gates.τ).loc Cert.Gates.main_arg1)
      ∧ r.2.mem ((c.tc : Thread Cert.Gates.nD Cert.Gates.τ).loc Cert.Gates.main_arg2) = m ((c.tc : Thread Cert.Gates.nD Cert.Gates.τ).loc Cert.Gates.main_arg2)
      ∧ r.2.mem ((c.tc : Thread Cert.Gates.nD Cert.Gates.τ).loc Cert.Gates.main_arg3) = m ((c.tc : Thread Cert.Gates.nD Cert.Gates.τ).loc Cert.Gates.main_arg3)
      ∧ r.2.mem ((c.tc : Thread Cert.Gates.nD Cert.Gates.τ).loc Cert.Gates.main_arg4) = m ((c.tc : Thread Cert.Gates.nD Cert.Gates.τ).loc Cert.Gates.main_arg4))
      ∧ r.2.sem = fun _ => 0)

def quiescent_GatesIdeal [hGatesIdeal : Cert.GatesIdeal.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ r.2.sem = fun _ => 0)

def quiescent_GatesIdeal_pre_finite_gates [hGatesIdeal : Cert.GatesIdeal.Facts] [hPre_finite_gates : Cert.Pre_finite_gates.Facts] : Prop :=
  ∀ (m : (ℓ : Loc Cert.GatesIdeal.nD Cert.GatesIdeal.τ Cert.GatesIdeal.sig) → Buf (Elt Ideal) ℓ) (g : Dev Cert.GatesIdeal.nD → PrngReg), Pre_GatesIdeal_finite_gates m →
    θ_run (Cert.GatesIdeal.defs (F := Ideal)) (onTc (τ := Cert.GatesIdeal.τ) (Cert.GatesIdeal.main (F := Ideal))) ⟨m, fun _ => 0, g⟩ (fun r => (∀ c : Dev Cert.GatesIdeal.nD,
      r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
      ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
      ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
      ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
      ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ r.2.sem = fun _ => 0)

def quiescent_GatesReferenceIdeal [hGatesReferenceIdeal : Cert.GatesReferenceIdeal.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2)
      ∧ r.2.mem ((c.tc : Thread Cert.GatesReferenceIdeal.nD Cert.GatesReferenceIdeal.τ).loc Cert.GatesReferenceIdeal.main_arg3) = m ((c.tc : Thread Cert.GatesReferenceIdeal.nD Cert.GatesReferenceIdeal.τ).loc Cert.GatesReferenceIdeal.main_arg3)
      ∧ r.2.mem ((c.tc : Thread Cert.GatesReferenceIdeal.nD Cert.GatesReferenceIdeal.τ).loc Cert.GatesReferenceIdeal.main_arg4) = m ((c.tc : Thread Cert.GatesReferenceIdeal.nD Cert.GatesReferenceIdeal.τ).loc Cert.GatesReferenceIdeal.main_arg4))
      ∧ r.2.sem = fun _ => 0)

def quiescent_GatesReferenceIdeal_pre_finite_gates [hGatesReferenceIdeal : Cert.GatesReferenceIdeal.Facts] [hPre_finite_gates : Cert.Pre_finite_gates.Facts] : Prop :=
  ∀ (m : (ℓ : Loc Cert.GatesReferenceIdeal.nD Cert.GatesReferenceIdeal.τ Cert.GatesReferenceIdeal.sig) → Buf (Elt Ideal) ℓ) (g : Dev Cert.GatesReferenceIdeal.nD → PrngReg), Pre_GatesReferenceIdeal_finite_gates m →
    θ_run (Cert.GatesReferenceIdeal.defs (F := Ideal)) (onTc (τ := Cert.GatesReferenceIdeal.τ) (Cert.GatesReferenceIdeal.main (F := Ideal))) ⟨m, fun _ => 0, g⟩ (fun r => (∀ c : Dev Cert.GatesReferenceIdeal.nD,
      r.2.mem ((c.tc : Thread Cert.GatesReferenceIdeal.nD Cert.GatesReferenceIdeal.τ).loc Cert.GatesReferenceIdeal.main_arg0) = m ((c.tc : Thread Cert.GatesReferenceIdeal.nD Cert.GatesReferenceIdeal.τ).loc Cert.GatesReferenceIdeal.main_arg0)
      ∧ r.2.mem ((c.tc : Thread Cert.GatesReferenceIdeal.nD Cert.GatesReferenceIdeal.τ).loc Cert.GatesReferenceIdeal.main_arg1) = m ((c.tc : Thread Cert.GatesReferenceIdeal.nD Cert.GatesReferenceIdeal.τ).loc Cert.GatesReferenceIdeal.main_arg1)
      ∧ r.2.mem ((c.tc : Thread Cert.GatesReferenceIdeal.nD Cert.GatesReferenceIdeal.τ).loc Cert.GatesReferenceIdeal.main_arg2) = m ((c.tc : Thread Cert.GatesReferenceIdeal.nD Cert.GatesReferenceIdeal.τ).loc Cert.GatesReferenceIdeal.main_arg2)
      ∧ r.2.mem ((c.tc : Thread Cert.GatesReferenceIdeal.nD Cert.GatesReferenceIdeal.τ).loc Cert.GatesReferenceIdeal.main_arg3) = m ((c.tc : Thread Cert.GatesReferenceIdeal.nD Cert.GatesReferenceIdeal.τ).loc Cert.GatesReferenceIdeal.main_arg3)
      ∧ r.2.mem ((c.tc : Thread Cert.GatesReferenceIdeal.nD Cert.GatesReferenceIdeal.τ).loc Cert.GatesReferenceIdeal.main_arg4) = m ((c.tc : Thread Cert.GatesReferenceIdeal.nD Cert.GatesReferenceIdeal.τ).loc Cert.GatesReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_Final [hFinal : Cert.Final.Facts] : Prop :=
  ∀ (m : (ℓ : Loc Cert.Final.nD Cert.Final.τ Cert.Final.sig) → Buf (Elt Bits) ℓ) (g : Dev Cert.Final.nD → PrngReg), Pre_Final m →
    θ_run (Cert.Final.defs (F := Bits)) (onTc (τ := Cert.Final.τ) (Cert.Final.main (F := Bits))) ⟨m, fun _ => 0, g⟩ (fun r => (∀ c : Dev Cert.Final.nD,
      r.2.mem ((c.tc : Thread Cert.Final.nD Cert.Final.τ).loc Cert.Final.main_arg0) = m ((c.tc : Thread Cert.Final.nD Cert.Final.τ).loc Cert.Final.main_arg0)
      ∧ r.2.mem ((c.tc : Thread Cert.Final.nD Cert.Final.τ).loc Cert.Final.main_arg1) = m ((c.tc : Thread Cert.Final.nD Cert.Final.τ).loc Cert.Final.main_arg1)
      ∧ r.2.mem ((c.tc : Thread Cert.Final.nD Cert.Final.τ).loc Cert.Final.main_arg2) = m ((c.tc : Thread Cert.Final.nD Cert.Final.τ).loc Cert.Final.main_arg2)
      ∧ r.2.mem ((c.tc : Thread Cert.Final.nD Cert.Final.τ).loc Cert.Final.main_arg3) = m ((c.tc : Thread Cert.Final.nD Cert.Final.τ).loc Cert.Final.main_arg3))
      ∧ r.2.sem = fun _ => 0)

def quiescent_FinalIdeal [hFinalIdeal : Cert.FinalIdeal.Facts] : Prop :=
  ∀ (m : (ℓ : Loc Cert.FinalIdeal.nD Cert.FinalIdeal.τ Cert.FinalIdeal.sig) → Buf (Elt Ideal) ℓ) (g : Dev Cert.FinalIdeal.nD → PrngReg), Pre_FinalIdeal m →
    θ_run (Cert.FinalIdeal.defs (F := Ideal)) (onTc (τ := Cert.FinalIdeal.τ) (Cert.FinalIdeal.main (F := Ideal))) ⟨m, fun _ => 0, g⟩ (fun r => (∀ c : Dev Cert.FinalIdeal.nD,
      r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
      ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
      ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
      ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ r.2.sem = fun _ => 0)

def quiescent_FinalReferenceIdeal [hFinalReferenceIdeal : Cert.FinalReferenceIdeal.Facts] : Prop :=
  ∀ (m : (ℓ : Loc Cert.FinalReferenceIdeal.nD Cert.FinalReferenceIdeal.τ Cert.FinalReferenceIdeal.sig) → Buf (Elt Ideal) ℓ) (g : Dev Cert.FinalReferenceIdeal.nD → PrngReg), Pre_FinalReferenceIdeal m →
    θ_run (Cert.FinalReferenceIdeal.defs (F := Ideal)) (onTc (τ := Cert.FinalReferenceIdeal.τ) (Cert.FinalReferenceIdeal.main (F := Ideal))) ⟨m, fun _ => 0, g⟩ (fun r => (∀ c : Dev Cert.FinalReferenceIdeal.nD,
      r.2.mem ((c.tc : Thread Cert.FinalReferenceIdeal.nD Cert.FinalReferenceIdeal.τ).loc Cert.FinalReferenceIdeal.main_arg0) = m ((c.tc : Thread Cert.FinalReferenceIdeal.nD Cert.FinalReferenceIdeal.τ).loc Cert.FinalReferenceIdeal.main_arg0)
      ∧ r.2.mem ((c.tc : Thread Cert.FinalReferenceIdeal.nD Cert.FinalReferenceIdeal.τ).loc Cert.FinalReferenceIdeal.main_arg1) = m ((c.tc : Thread Cert.FinalReferenceIdeal.nD Cert.FinalReferenceIdeal.τ).loc Cert.FinalReferenceIdeal.main_arg1)
      ∧ r.2.mem ((c.tc : Thread Cert.FinalReferenceIdeal.nD Cert.FinalReferenceIdeal.τ).loc Cert.FinalReferenceIdeal.main_arg2) = m ((c.tc : Thread Cert.FinalReferenceIdeal.nD Cert.FinalReferenceIdeal.τ).loc Cert.FinalReferenceIdeal.main_arg2)
      ∧ r.2.mem ((c.tc : Thread Cert.FinalReferenceIdeal.nD Cert.FinalReferenceIdeal.τ).loc Cert.FinalReferenceIdeal.main_arg3) = m ((c.tc : Thread Cert.FinalReferenceIdeal.nD Cert.FinalReferenceIdeal.τ).loc Cert.FinalReferenceIdeal.main_arg3))
      ∧ r.2.sem = fun _ => 0)

def quiescent_Inputs [hInputs : Cert.Inputs.Facts] : Prop :=
  ∀ (m : (ℓ : Loc Cert.Inputs.nD Cert.Inputs.τ Cert.Inputs.sig) → Buf (Elt Bits) ℓ) (g : Dev Cert.Inputs.nD → PrngReg), Pre_Inputs m →
    θ_run (Cert.Inputs.defs (F := Bits)) (onTc (τ := Cert.Inputs.τ) (Cert.Inputs.main (F := Bits))) ⟨m, fun _ => 0, g⟩ (fun r => (∀ c : Dev Cert.Inputs.nD,
      r.2.mem ((c.tc : Thread Cert.Inputs.nD Cert.Inputs.τ).loc Cert.Inputs.main_arg0) = m ((c.tc : Thread Cert.Inputs.nD Cert.Inputs.τ).loc Cert.Inputs.main_arg0)
      ∧ r.2.mem ((c.tc : Thread Cert.Inputs.nD Cert.Inputs.τ).loc Cert.Inputs.main_arg1) = m ((c.tc : Thread Cert.Inputs.nD Cert.Inputs.τ).loc Cert.Inputs.main_arg1)
      ∧ r.2.mem ((c.tc : Thread Cert.Inputs.nD Cert.Inputs.τ).loc Cert.Inputs.main_arg2) = m ((c.tc : Thread Cert.Inputs.nD Cert.Inputs.τ).loc Cert.Inputs.main_arg2)
      ∧ r.2.mem ((c.tc : Thread Cert.Inputs.nD Cert.Inputs.τ).loc Cert.Inputs.main_arg3) = m ((c.tc : Thread Cert.Inputs.nD Cert.Inputs.τ).loc Cert.Inputs.main_arg3))
      ∧ r.2.sem = fun _ => 0)

def quiescent_InputsIdeal [hInputsIdeal : Cert.InputsIdeal.Facts] : Prop :=
  ∀ (m : (ℓ : Loc Cert.InputsIdeal.nD Cert.InputsIdeal.τ Cert.InputsIdeal.sig) → Buf (Elt Ideal) ℓ) (g : Dev Cert.InputsIdeal.nD → PrngReg), Pre_InputsIdeal m →
    θ_run (Cert.InputsIdeal.defs (F := Ideal)) (onTc (τ := Cert.InputsIdeal.τ) (Cert.InputsIdeal.main (F := Ideal))) ⟨m, fun _ => 0, g⟩ (fun r => (∀ c : Dev Cert.InputsIdeal.nD,
      r.2.mem ((c.tc : Thread Cert.InputsIdeal.nD Cert.InputsIdeal.τ).loc Cert.InputsIdeal.main_arg0) = m ((c.tc : Thread Cert.InputsIdeal.nD Cert.InputsIdeal.τ).loc Cert.InputsIdeal.main_arg0)
      ∧ r.2.mem ((c.tc : Thread Cert.InputsIdeal.nD Cert.InputsIdeal.τ).loc Cert.InputsIdeal.main_arg1) = m ((c.tc : Thread Cert.InputsIdeal.nD Cert.InputsIdeal.τ).loc Cert.InputsIdeal.main_arg1)
      ∧ r.2.mem ((c.tc : Thread Cert.InputsIdeal.nD Cert.InputsIdeal.τ).loc Cert.InputsIdeal.main_arg2) = m ((c.tc : Thread Cert.InputsIdeal.nD Cert.InputsIdeal.τ).loc Cert.InputsIdeal.main_arg2)
      ∧ r.2.mem ((c.tc : Thread Cert.InputsIdeal.nD Cert.InputsIdeal.τ).loc Cert.InputsIdeal.main_arg3) = m ((c.tc : Thread Cert.InputsIdeal.nD Cert.InputsIdeal.τ).loc Cert.InputsIdeal.main_arg3))
      ∧ r.2.sem = fun _ => 0)

def quiescent_InputsIdeal_pre_finite_inputs [hInputsIdeal : Cert.InputsIdeal.Facts] [hPre_finite_inputs : Cert.Pre_finite_inputs.Facts] : Prop :=
  ∀ (m : (ℓ : Loc Cert.InputsIdeal.nD Cert.InputsIdeal.τ Cert.InputsIdeal.sig) → Buf (Elt Ideal) ℓ) (g : Dev Cert.InputsIdeal.nD → PrngReg), Pre_InputsIdeal_finite_inputs m →
    θ_run (Cert.InputsIdeal.defs (F := Ideal)) (onTc (τ := Cert.InputsIdeal.τ) (Cert.InputsIdeal.main (F := Ideal))) ⟨m, fun _ => 0, g⟩ (fun r => (∀ c : Dev Cert.InputsIdeal.nD,
      r.2.mem ((c.tc : Thread Cert.InputsIdeal.nD Cert.InputsIdeal.τ).loc Cert.InputsIdeal.main_arg0) = m ((c.tc : Thread Cert.InputsIdeal.nD Cert.InputsIdeal.τ).loc Cert.InputsIdeal.main_arg0)
      ∧ r.2.mem ((c.tc : Thread Cert.InputsIdeal.nD Cert.InputsIdeal.τ).loc Cert.InputsIdeal.main_arg1) = m ((c.tc : Thread Cert.InputsIdeal.nD Cert.InputsIdeal.τ).loc Cert.InputsIdeal.main_arg1)
      ∧ r.2.mem ((c.tc : Thread Cert.InputsIdeal.nD Cert.InputsIdeal.τ).loc Cert.InputsIdeal.main_arg2) = m ((c.tc : Thread Cert.InputsIdeal.nD Cert.InputsIdeal.τ).loc Cert.InputsIdeal.main_arg2)
      ∧ r.2.mem ((c.tc : Thread Cert.InputsIdeal.nD Cert.InputsIdeal.τ).loc Cert.InputsIdeal.main_arg3) = m ((c.tc : Thread Cert.InputsIdeal.nD Cert.InputsIdeal.τ).loc Cert.InputsIdeal.main_arg3))
      ∧ r.2.sem = fun _ => 0)

def quiescent_InputsReferenceIdeal [hInputsReferenceIdeal : Cert.InputsReferenceIdeal.Facts] : Prop :=
  ∀ (m : (ℓ : Loc Cert.InputsReferenceIdeal.nD Cert.InputsReferenceIdeal.τ Cert.InputsReferenceIdeal.sig) → Buf (Elt Ideal) ℓ) (g : Dev Cert.InputsReferenceIdeal.nD → PrngReg), Pre_InputsReferenceIdeal m →
    θ_run (Cert.InputsReferenceIdeal.defs (F := Ideal)) (onTc (τ := Cert.InputsReferenceIdeal.τ) (Cert.InputsReferenceIdeal.main (F := Ideal))) ⟨m, fun _ => 0, g⟩ (fun r => (∀ c : Dev Cert.InputsReferenceIdeal.nD,
      r.2.mem ((c.tc : Thread Cert.InputsReferenceIdeal.nD Cert.InputsReferenceIdeal.τ).loc Cert.InputsReferenceIdeal.main_arg0) = m ((c.tc : Thread Cert.InputsReferenceIdeal.nD Cert.InputsReferenceIdeal.τ).loc Cert.InputsReferenceIdeal.main_arg0)
      ∧ r.2.mem ((c.tc : Thread Cert.InputsReferenceIdeal.nD Cert.InputsReferenceIdeal.τ).loc Cert.InputsReferenceIdeal.main_arg1) = m ((c.tc : Thread Cert.InputsReferenceIdeal.nD Cert.InputsReferenceIdeal.τ).loc Cert.InputsReferenceIdeal.main_arg1)
      ∧ r.2.mem ((c.tc : Thread Cert.InputsReferenceIdeal.nD Cert.InputsReferenceIdeal.τ).loc Cert.InputsReferenceIdeal.main_arg2) = m ((c.tc : Thread Cert.InputsReferenceIdeal.nD Cert.InputsReferenceIdeal.τ).loc Cert.InputsReferenceIdeal.main_arg2)
      ∧ r.2.mem ((c.tc : Thread Cert.InputsReferenceIdeal.nD Cert.InputsReferenceIdeal.τ).loc Cert.InputsReferenceIdeal.main_arg3) = m ((c.tc : Thread Cert.InputsReferenceIdeal.nD Cert.InputsReferenceIdeal.τ).loc Cert.InputsReferenceIdeal.main_arg3))
      ∧ r.2.sem = fun _ => 0)

def quiescent_InputsReferenceIdeal_pre_finite_inputs [hInputsReferenceIdeal : Cert.InputsReferenceIdeal.Facts] [hPre_finite_inputs : Cert.Pre_finite_inputs.Facts] : Prop :=
  ∀ (m : (ℓ : Loc Cert.InputsReferenceIdeal.nD Cert.InputsReferenceIdeal.τ Cert.InputsReferenceIdeal.sig) → Buf (Elt Ideal) ℓ) (g : Dev Cert.InputsReferenceIdeal.nD → PrngReg), Pre_InputsReferenceIdeal_finite_inputs m →
    θ_run (Cert.InputsReferenceIdeal.defs (F := Ideal)) (onTc (τ := Cert.InputsReferenceIdeal.τ) (Cert.InputsReferenceIdeal.main (F := Ideal))) ⟨m, fun _ => 0, g⟩ (fun r => (∀ c : Dev Cert.InputsReferenceIdeal.nD,
      r.2.mem ((c.tc : Thread Cert.InputsReferenceIdeal.nD Cert.InputsReferenceIdeal.τ).loc Cert.InputsReferenceIdeal.main_arg0) = m ((c.tc : Thread Cert.InputsReferenceIdeal.nD Cert.InputsReferenceIdeal.τ).loc Cert.InputsReferenceIdeal.main_arg0)
      ∧ r.2.mem ((c.tc : Thread Cert.InputsReferenceIdeal.nD Cert.InputsReferenceIdeal.τ).loc Cert.InputsReferenceIdeal.main_arg1) = m ((c.tc : Thread Cert.InputsReferenceIdeal.nD Cert.InputsReferenceIdeal.τ).loc Cert.InputsReferenceIdeal.main_arg1)
      ∧ r.2.mem ((c.tc : Thread Cert.InputsReferenceIdeal.nD Cert.InputsReferenceIdeal.τ).loc Cert.InputsReferenceIdeal.main_arg2) = m ((c.tc : Thread Cert.InputsReferenceIdeal.nD Cert.InputsReferenceIdeal.τ).loc Cert.InputsReferenceIdeal.main_arg2)
      ∧ r.2.mem ((c.tc : Thread Cert.InputsReferenceIdeal.nD Cert.InputsReferenceIdeal.τ).loc Cert.InputsReferenceIdeal.main_arg3) = m ((c.tc : Thread Cert.InputsReferenceIdeal.nD Cert.InputsReferenceIdeal.τ).loc Cert.InputsReferenceIdeal.main_arg3))
      ∧ r.2.sem = fun _ => 0)

def quiescent_Spatial [hSpatial : Cert.Spatial.Facts] : Prop :=
  ∀ (m : (ℓ : Loc Cert.Spatial.nD Cert.Spatial.τ Cert.Spatial.sig) → Buf (Elt Bits) ℓ) (g : Dev Cert.Spatial.nD → PrngReg), Pre_Spatial m →
    θ_run (Cert.Spatial.defs (F := Bits)) (onTc (τ := Cert.Spatial.τ) (Cert.Spatial.main (F := Bits))) ⟨m, fun _ => 0, g⟩ (fun r => (∀ c : Dev Cert.Spatial.nD,
      r.2.mem ((c.tc : Thread Cert.Spatial.nD Cert.Spatial.τ).loc Cert.Spatial.main_arg0) = m ((c.tc : Thread Cert.Spatial.nD Cert.Spatial.τ).loc Cert.Spatial.main_arg0)
      ∧ r.2.mem ((c.tc : Thread Cert.Spatial.nD Cert.Spatial.τ).loc Cert.Spatial.main_arg1) = m ((c.tc : Thread Cert.Spatial.nD Cert.Spatial.τ).loc Cert.Spatial.main_arg1)
      ∧ r.2.mem ((c.tc : Thread Cert.Spatial.nD Cert.Spatial.τ).loc Cert.Spatial.main_arg2) = m ((c.tc : Thread Cert.Spatial.nD Cert.Spatial.τ).loc Cert.Spatial.main_arg2)
      ∧ r.2.mem ((c.tc : Thread Cert.Spatial.nD Cert.Spatial.τ).loc Cert.Spatial.main_arg3) = m ((c.tc : Thread Cert.Spatial.nD Cert.Spatial.τ).loc Cert.Spatial.main_arg3)
      ∧ r.2.mem ((c.tc : Thread Cert.Spatial.nD Cert.Spatial.τ).loc Cert.Spatial.main_arg4) = m ((c.tc : Thread Cert.Spatial.nD Cert.Spatial.τ).loc Cert.Spatial.main_arg4)
      ∧ r.2.mem ((c.tc : Thread Cert.Spatial.nD Cert.Spatial.τ).loc Cert.Spatial.main_arg5) = m ((c.tc : Thread Cert.Spatial.nD Cert.Spatial.τ).loc Cert.Spatial.main_arg5)
      ∧ r.2.mem ((c.tc : Thread Cert.Spatial.nD Cert.Spatial.τ).loc Cert.Spatial.main_arg6) = m ((c.tc : Thread Cert.Spatial.nD Cert.Spatial.τ).loc Cert.Spatial.main_arg6)
      ∧ r.2.mem ((c.tc : Thread Cert.Spatial.nD Cert.Spatial.τ).loc Cert.Spatial.main_arg7) = m ((c.tc : Thread Cert.Spatial.nD Cert.Spatial.τ).loc Cert.Spatial.main_arg7)
      ∧ r.2.mem ((c.tc : Thread Cert.Spatial.nD Cert.Spatial.τ).loc Cert.Spatial.main_arg8) = m ((c.tc : Thread Cert.Spatial.nD Cert.Spatial.τ).loc Cert.Spatial.main_arg8)
      ∧ r.2.mem ((c.tc : Thread Cert.Spatial.nD Cert.Spatial.τ).loc Cert.Spatial.main_arg9) = m ((c.tc : Thread Cert.Spatial.nD Cert.Spatial.τ).loc Cert.Spatial.main_arg9)
      ∧ r.2.mem ((c.tc : Thread Cert.Spatial.nD Cert.Spatial.τ).loc Cert.Spatial.main_arg10) = m ((c.tc : Thread Cert.Spatial.nD Cert.Spatial.τ).loc Cert.Spatial.main_arg10))
      ∧ r.2.sem = fun _ => 0)

def quiescent_SpatialIdeal [hSpatialIdeal : Cert.SpatialIdeal.Facts] : Prop :=
  ∀ (m : (ℓ : Loc Cert.SpatialIdeal.nD Cert.SpatialIdeal.τ Cert.SpatialIdeal.sig) → Buf (Elt Ideal) ℓ) (g : Dev Cert.SpatialIdeal.nD → PrngReg), Pre_SpatialIdeal m →
    θ_run (Cert.SpatialIdeal.defs (F := Ideal)) (onTc (τ := Cert.SpatialIdeal.τ) (Cert.SpatialIdeal.main (F := Ideal))) ⟨m, fun _ => 0, g⟩ (fun r => (∀ c : Dev Cert.SpatialIdeal.nD,
      r.2.mem ((c.tc : Thread Cert.SpatialIdeal.nD Cert.SpatialIdeal.τ).loc Cert.SpatialIdeal.main_arg0) = m ((c.tc : Thread Cert.SpatialIdeal.nD Cert.SpatialIdeal.τ).loc Cert.SpatialIdeal.main_arg0)
      ∧ r.2.mem ((c.tc : Thread Cert.SpatialIdeal.nD Cert.SpatialIdeal.τ).loc Cert.SpatialIdeal.main_arg1) = m ((c.tc : Thread Cert.SpatialIdeal.nD Cert.SpatialIdeal.τ).loc Cert.SpatialIdeal.main_arg1)
      ∧ r.2.mem ((c.tc : Thread Cert.SpatialIdeal.nD Cert.SpatialIdeal.τ).loc Cert.SpatialIdeal.main_arg2) = m ((c.tc : Thread Cert.SpatialIdeal.nD Cert.SpatialIdeal.τ).loc Cert.SpatialIdeal.main_arg2)
      ∧ r.2.mem ((c.tc : Thread Cert.SpatialIdeal.nD Cert.SpatialIdeal.τ).loc Cert.SpatialIdeal.main_arg3) = m ((c.tc : Thread Cert.SpatialIdeal.nD Cert.SpatialIdeal.τ).loc Cert.SpatialIdeal.main_arg3)
      ∧ r.2.mem ((c.tc : Thread Cert.SpatialIdeal.nD Cert.SpatialIdeal.τ).loc Cert.SpatialIdeal.main_arg4) = m ((c.tc : Thread Cert.SpatialIdeal.nD Cert.SpatialIdeal.τ).loc Cert.SpatialIdeal.main_arg4)
      ∧ r.2.mem ((c.tc : Thread Cert.SpatialIdeal.nD Cert.SpatialIdeal.τ).loc Cert.SpatialIdeal.main_arg5) = m ((c.tc : Thread Cert.SpatialIdeal.nD Cert.SpatialIdeal.τ).loc Cert.SpatialIdeal.main_arg5)
      ∧ r.2.mem ((c.tc : Thread Cert.SpatialIdeal.nD Cert.SpatialIdeal.τ).loc Cert.SpatialIdeal.main_arg6) = m ((c.tc : Thread Cert.SpatialIdeal.nD Cert.SpatialIdeal.τ).loc Cert.SpatialIdeal.main_arg6)
      ∧ r.2.mem ((c.tc : Thread Cert.SpatialIdeal.nD Cert.SpatialIdeal.τ).loc Cert.SpatialIdeal.main_arg7) = m ((c.tc : Thread Cert.SpatialIdeal.nD Cert.SpatialIdeal.τ).loc Cert.SpatialIdeal.main_arg7)
      ∧ r.2.mem ((c.tc : Thread Cert.SpatialIdeal.nD Cert.SpatialIdeal.τ).loc Cert.SpatialIdeal.main_arg8) = m ((c.tc : Thread Cert.SpatialIdeal.nD Cert.SpatialIdeal.τ).loc Cert.SpatialIdeal.main_arg8)
      ∧ r.2.mem ((c.tc : Thread Cert.SpatialIdeal.nD Cert.SpatialIdeal.τ).loc Cert.SpatialIdeal.main_arg9) = m ((c.tc : Thread Cert.SpatialIdeal.nD Cert.SpatialIdeal.τ).loc Cert.SpatialIdeal.main_arg9)
      ∧ r.2.mem ((c.tc : Thread Cert.SpatialIdeal.nD Cert.SpatialIdeal.τ).loc Cert.SpatialIdeal.main_arg10) = m ((c.tc : Thread Cert.SpatialIdeal.nD Cert.SpatialIdeal.τ).loc Cert.SpatialIdeal.main_arg10))
      ∧ r.2.sem = fun _ => 0)

def quiescent_SpatialIdeal_pre_finite_spatial [hSpatialIdeal : Cert.SpatialIdeal.Facts] [hPre_finite_spatial : Cert.Pre_finite_spatial.Facts] : Prop :=
  ∀ (m : (ℓ : Loc Cert.SpatialIdeal.nD Cert.SpatialIdeal.τ Cert.SpatialIdeal.sig) → Buf (Elt Ideal) ℓ) (g : Dev Cert.SpatialIdeal.nD → PrngReg), Pre_SpatialIdeal_finite_spatial m →
    θ_run (Cert.SpatialIdeal.defs (F := Ideal)) (onTc (τ := Cert.SpatialIdeal.τ) (Cert.SpatialIdeal.main (F := Ideal))) ⟨m, fun _ => 0, g⟩ (fun r => (∀ c : Dev Cert.SpatialIdeal.nD,
      r.2.mem ((c.tc : Thread Cert.SpatialIdeal.nD Cert.SpatialIdeal.τ).loc Cert.SpatialIdeal.main_arg0) = m ((c.tc : Thread Cert.SpatialIdeal.nD Cert.SpatialIdeal.τ).loc Cert.SpatialIdeal.main_arg0)
      ∧ r.2.mem ((c.tc : Thread Cert.SpatialIdeal.nD Cert.SpatialIdeal.τ).loc Cert.SpatialIdeal.main_arg1) = m ((c.tc : Thread Cert.SpatialIdeal.nD Cert.SpatialIdeal.τ).loc Cert.SpatialIdeal.main_arg1)
      ∧ r.2.mem ((c.tc : Thread Cert.SpatialIdeal.nD Cert.SpatialIdeal.τ).loc Cert.SpatialIdeal.main_arg2) = m ((c.tc : Thread Cert.SpatialIdeal.nD Cert.SpatialIdeal.τ).loc Cert.SpatialIdeal.main_arg2)
      ∧ r.2.mem ((c.tc : Thread Cert.SpatialIdeal.nD Cert.SpatialIdeal.τ).loc Cert.SpatialIdeal.main_arg3) = m ((c.tc : Thread Cert.SpatialIdeal.nD Cert.SpatialIdeal.τ).loc Cert.SpatialIdeal.main_arg3)
      ∧ r.2.mem ((c.tc : Thread Cert.SpatialIdeal.nD Cert.SpatialIdeal.τ).loc Cert.SpatialIdeal.main_arg4) = m ((c.tc : Thread Cert.SpatialIdeal.nD Cert.SpatialIdeal.τ).loc Cert.SpatialIdeal.main_arg4)
      ∧ r.2.mem ((c.tc : Thread Cert.SpatialIdeal.nD Cert.SpatialIdeal.τ).loc Cert.SpatialIdeal.main_arg5) = m ((c.tc : Thread Cert.SpatialIdeal.nD Cert.SpatialIdeal.τ).loc Cert.SpatialIdeal.main_arg5)
      ∧ r.2.mem ((c.tc : Thread Cert.SpatialIdeal.nD Cert.SpatialIdeal.τ).loc Cert.SpatialIdeal.main_arg6) = m ((c.tc : Thread Cert.SpatialIdeal.nD Cert.SpatialIdeal.τ).loc Cert.SpatialIdeal.main_arg6)
      ∧ r.2.mem ((c.tc : Thread Cert.SpatialIdeal.nD Cert.SpatialIdeal.τ).loc Cert.SpatialIdeal.main_arg7) = m ((c.tc : Thread Cert.SpatialIdeal.nD Cert.SpatialIdeal.τ).loc Cert.SpatialIdeal.main_arg7)
      ∧ r.2.mem ((c.tc : Thread Cert.SpatialIdeal.nD Cert.SpatialIdeal.τ).loc Cert.SpatialIdeal.main_arg8) = m ((c.tc : Thread Cert.SpatialIdeal.nD Cert.SpatialIdeal.τ).loc Cert.SpatialIdeal.main_arg8)
      ∧ r.2.mem ((c.tc : Thread Cert.SpatialIdeal.nD Cert.SpatialIdeal.τ).loc Cert.SpatialIdeal.main_arg9) = m ((c.tc : Thread Cert.SpatialIdeal.nD Cert.SpatialIdeal.τ).loc Cert.SpatialIdeal.main_arg9)
      ∧ r.2.mem ((c.tc : Thread Cert.SpatialIdeal.nD Cert.SpatialIdeal.τ).loc Cert.SpatialIdeal.main_arg10) = m ((c.tc : Thread Cert.SpatialIdeal.nD Cert.SpatialIdeal.τ).loc Cert.SpatialIdeal.main_arg10))
      ∧ r.2.sem = fun _ => 0)

def quiescent_SpatialReferenceIdeal [hSpatialReferenceIdeal : Cert.SpatialReferenceIdeal.Facts] : Prop :=
  ∀ (m : (ℓ : Loc Cert.SpatialReferenceIdeal.nD Cert.SpatialReferenceIdeal.τ Cert.SpatialReferenceIdeal.sig) → Buf (Elt Ideal) ℓ) (g : Dev Cert.SpatialReferenceIdeal.nD → PrngReg), Pre_SpatialReferenceIdeal m →
    θ_run (Cert.SpatialReferenceIdeal.defs (F := Ideal)) (onTc (τ := Cert.SpatialReferenceIdeal.τ) (Cert.SpatialReferenceIdeal.main (F := Ideal))) ⟨m, fun _ => 0, g⟩ (fun r => (∀ c : Dev Cert.SpatialReferenceIdeal.nD,
      r.2.mem ((c.tc : Thread Cert.SpatialReferenceIdeal.nD Cert.SpatialReferenceIdeal.τ).loc Cert.SpatialReferenceIdeal.main_arg0) = m ((c.tc : Thread Cert.SpatialReferenceIdeal.nD Cert.SpatialReferenceIdeal.τ).loc Cert.SpatialReferenceIdeal.main_arg0)
      ∧ r.2.mem ((c.tc : Thread Cert.SpatialReferenceIdeal.nD Cert.SpatialReferenceIdeal.τ).loc Cert.SpatialReferenceIdeal.main_arg1) = m ((c.tc : Thread Cert.SpatialReferenceIdeal.nD Cert.SpatialReferenceIdeal.τ).loc Cert.SpatialReferenceIdeal.main_arg1)
      ∧ r.2.mem ((c.tc : Thread Cert.SpatialReferenceIdeal.nD Cert.SpatialReferenceIdeal.τ).loc Cert.SpatialReferenceIdeal.main_arg2) = m ((c.tc : Thread Cert.SpatialReferenceIdeal.nD Cert.SpatialReferenceIdeal.τ).loc Cert.SpatialReferenceIdeal.main_arg2)
      ∧ r.2.mem ((c.tc : Thread Cert.SpatialReferenceIdeal.nD Cert.SpatialReferenceIdeal.τ).loc Cert.SpatialReferenceIdeal.main_arg3) = m ((c.tc : Thread Cert.SpatialReferenceIdeal.nD Cert.SpatialReferenceIdeal.τ).loc Cert.SpatialReferenceIdeal.main_arg3)
      ∧ r.2.mem ((c.tc : Thread Cert.SpatialReferenceIdeal.nD Cert.SpatialReferenceIdeal.τ).loc Cert.SpatialReferenceIdeal.main_arg4) = m ((c.tc : Thread Cert.SpatialReferenceIdeal.nD Cert.SpatialReferenceIdeal.τ).loc Cert.SpatialReferenceIdeal.main_arg4)
      ∧ r.2.mem ((c.tc : Thread Cert.SpatialReferenceIdeal.nD Cert.SpatialReferenceIdeal.τ).loc Cert.SpatialReferenceIdeal.main_arg5) = m ((c.tc : Thread Cert.SpatialReferenceIdeal.nD Cert.SpatialReferenceIdeal.τ).loc Cert.SpatialReferenceIdeal.main_arg5)
      ∧ r.2.mem ((c.tc : Thread Cert.SpatialReferenceIdeal.nD Cert.SpatialReferenceIdeal.τ).loc Cert.SpatialReferenceIdeal.main_arg6) = m ((c.tc : Thread Cert.SpatialReferenceIdeal.nD Cert.SpatialReferenceIdeal.τ).loc Cert.SpatialReferenceIdeal.main_arg6)
      ∧ r.2.mem ((c.tc : Thread Cert.SpatialReferenceIdeal.nD Cert.SpatialReferenceIdeal.τ).loc Cert.SpatialReferenceIdeal.main_arg7) = m ((c.tc : Thread Cert.SpatialReferenceIdeal.nD Cert.SpatialReferenceIdeal.τ).loc Cert.SpatialReferenceIdeal.main_arg7)
      ∧ r.2.mem ((c.tc : Thread Cert.SpatialReferenceIdeal.nD Cert.SpatialReferenceIdeal.τ).loc Cert.SpatialReferenceIdeal.main_arg8) = m ((c.tc : Thread Cert.SpatialReferenceIdeal.nD Cert.SpatialReferenceIdeal.τ).loc Cert.SpatialReferenceIdeal.main_arg8)
      ∧ r.2.mem ((c.tc : Thread Cert.SpatialReferenceIdeal.nD Cert.SpatialReferenceIdeal.τ).loc Cert.SpatialReferenceIdeal.main_arg9) = m ((c.tc : Thread Cert.SpatialReferenceIdeal.nD Cert.SpatialReferenceIdeal.τ).loc Cert.SpatialReferenceIdeal.main_arg9)
      ∧ r.2.mem ((c.tc : Thread Cert.SpatialReferenceIdeal.nD Cert.SpatialReferenceIdeal.τ).loc Cert.SpatialReferenceIdeal.main_arg10) = m ((c.tc : Thread Cert.SpatialReferenceIdeal.nD Cert.SpatialReferenceIdeal.τ).loc Cert.SpatialReferenceIdeal.main_arg10))
      ∧ r.2.sem = fun _ => 0)

def quiescent_SpatialReferenceIdeal_pre_finite_spatial [hSpatialReferenceIdeal : Cert.SpatialReferenceIdeal.Facts] [hPre_finite_spatial : Cert.Pre_finite_spatial.Facts] : Prop :=
  ∀ (m : (ℓ : Loc Cert.SpatialReferenceIdeal.nD Cert.SpatialReferenceIdeal.τ Cert.SpatialReferenceIdeal.sig) → Buf (Elt Ideal) ℓ) (g : Dev Cert.SpatialReferenceIdeal.nD → PrngReg), Pre_SpatialReferenceIdeal_finite_spatial m →
    θ_run (Cert.SpatialReferenceIdeal.defs (F := Ideal)) (onTc (τ := Cert.SpatialReferenceIdeal.τ) (Cert.SpatialReferenceIdeal.main (F := Ideal))) ⟨m, fun _ => 0, g⟩ (fun r => (∀ c : Dev Cert.SpatialReferenceIdeal.nD,
      r.2.mem ((c.tc : Thread Cert.SpatialReferenceIdeal.nD Cert.SpatialReferenceIdeal.τ).loc Cert.SpatialReferenceIdeal.main_arg0) = m ((c.tc : Thread Cert.SpatialReferenceIdeal.nD Cert.SpatialReferenceIdeal.τ).loc Cert.SpatialReferenceIdeal.main_arg0)
      ∧ r.2.mem ((c.tc : Thread Cert.SpatialReferenceIdeal.nD Cert.SpatialReferenceIdeal.τ).loc Cert.SpatialReferenceIdeal.main_arg1) = m ((c.tc : Thread Cert.SpatialReferenceIdeal.nD Cert.SpatialReferenceIdeal.τ).loc Cert.SpatialReferenceIdeal.main_arg1)
      ∧ r.2.mem ((c.tc : Thread Cert.SpatialReferenceIdeal.nD Cert.SpatialReferenceIdeal.τ).loc Cert.SpatialReferenceIdeal.main_arg2) = m ((c.tc : Thread Cert.SpatialReferenceIdeal.nD Cert.SpatialReferenceIdeal.τ).loc Cert.SpatialReferenceIdeal.main_arg2)
      ∧ r.2.mem ((c.tc : Thread Cert.SpatialReferenceIdeal.nD Cert.SpatialReferenceIdeal.τ).loc Cert.SpatialReferenceIdeal.main_arg3) = m ((c.tc : Thread Cert.SpatialReferenceIdeal.nD Cert.SpatialReferenceIdeal.τ).loc Cert.SpatialReferenceIdeal.main_arg3)
      ∧ r.2.mem ((c.tc : Thread Cert.SpatialReferenceIdeal.nD Cert.SpatialReferenceIdeal.τ).loc Cert.SpatialReferenceIdeal.main_arg4) = m ((c.tc : Thread Cert.SpatialReferenceIdeal.nD Cert.SpatialReferenceIdeal.τ).loc Cert.SpatialReferenceIdeal.main_arg4)
      ∧ r.2.mem ((c.tc : Thread Cert.SpatialReferenceIdeal.nD Cert.SpatialReferenceIdeal.τ).loc Cert.SpatialReferenceIdeal.main_arg5) = m ((c.tc : Thread Cert.SpatialReferenceIdeal.nD Cert.SpatialReferenceIdeal.τ).loc Cert.SpatialReferenceIdeal.main_arg5)
      ∧ r.2.mem ((c.tc : Thread Cert.SpatialReferenceIdeal.nD Cert.SpatialReferenceIdeal.τ).loc Cert.SpatialReferenceIdeal.main_arg6) = m ((c.tc : Thread Cert.SpatialReferenceIdeal.nD Cert.SpatialReferenceIdeal.τ).loc Cert.SpatialReferenceIdeal.main_arg6)
      ∧ r.2.mem ((c.tc : Thread Cert.SpatialReferenceIdeal.nD Cert.SpatialReferenceIdeal.τ).loc Cert.SpatialReferenceIdeal.main_arg7) = m ((c.tc : Thread Cert.SpatialReferenceIdeal.nD Cert.SpatialReferenceIdeal.τ).loc Cert.SpatialReferenceIdeal.main_arg7)
      ∧ r.2.mem ((c.tc : Thread Cert.SpatialReferenceIdeal.nD Cert.SpatialReferenceIdeal.τ).loc Cert.SpatialReferenceIdeal.main_arg8) = m ((c.tc : Thread Cert.SpatialReferenceIdeal.nD Cert.SpatialReferenceIdeal.τ).loc Cert.SpatialReferenceIdeal.main_arg8)
      ∧ r.2.mem ((c.tc : Thread Cert.SpatialReferenceIdeal.nD Cert.SpatialReferenceIdeal.τ).loc Cert.SpatialReferenceIdeal.main_arg9) = m ((c.tc : Thread Cert.SpatialReferenceIdeal.nD Cert.SpatialReferenceIdeal.τ).loc Cert.SpatialReferenceIdeal.main_arg9)
      ∧ r.2.mem ((c.tc : Thread Cert.SpatialReferenceIdeal.nD Cert.SpatialReferenceIdeal.τ).loc Cert.SpatialReferenceIdeal.main_arg10) = m ((c.tc : Thread Cert.SpatialReferenceIdeal.nD Cert.SpatialReferenceIdeal.τ).loc Cert.SpatialReferenceIdeal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Gates_GatesIdeal : Prop :=
  True

def algebraic_GatesIdeal_GatesReferenceIdeal_pre_finite_gates [hGatesIdeal : Cert.GatesIdeal.Facts] [hGatesReferenceIdeal : Cert.GatesReferenceIdeal.Facts] [hPre_finite_gates : Cert.Pre_finite_gates.Facts] : Prop :=
  ∀ (m : (ℓ : Loc Cert.GatesIdeal.nD Cert.GatesIdeal.τ Cert.GatesIdeal.sig) → Buf (Elt Ideal) ℓ) (g : Dev Cert.GatesIdeal.nD → PrngReg)
    (m' : (ℓ : Loc Cert.GatesReferenceIdeal.nD Cert.GatesReferenceIdeal.τ Cert.GatesReferenceIdeal.sig) → Buf (Elt Ideal) ℓ) (g' : Dev Cert.GatesReferenceIdeal.nD → PrngReg), Pre_GatesIdeal_finite_gates m →
    (∀ c : Dev Cert.GatesIdeal.nD,
      m' ((c.tc : Thread Cert.GatesReferenceIdeal.nD Cert.GatesReferenceIdeal.τ).loc Cert.GatesReferenceIdeal.main_arg0) = m ((c.tc : Thread Cert.GatesIdeal.nD Cert.GatesIdeal.τ).loc Cert.GatesIdeal.main_arg0)
      ∧ m' ((c.tc : Thread Cert.GatesReferenceIdeal.nD Cert.GatesReferenceIdeal.τ).loc Cert.GatesReferenceIdeal.main_arg1) = m ((c.tc : Thread Cert.GatesIdeal.nD Cert.GatesIdeal.τ).loc Cert.GatesIdeal.main_arg1)
      ∧ m' ((c.tc : Thread Cert.GatesReferenceIdeal.nD Cert.GatesReferenceIdeal.τ).loc Cert.GatesReferenceIdeal.main_arg2) = m ((c.tc : Thread Cert.GatesIdeal.nD Cert.GatesIdeal.τ).loc Cert.GatesIdeal.main_arg2)
      ∧ m' ((c.tc : Thread Cert.GatesReferenceIdeal.nD Cert.GatesReferenceIdeal.τ).loc Cert.GatesReferenceIdeal.main_arg3) = m ((c.tc : Thread Cert.GatesIdeal.nD Cert.GatesIdeal.τ).loc Cert.GatesIdeal.main_arg3)
      ∧ m' ((c.tc : Thread Cert.GatesReferenceIdeal.nD Cert.GatesReferenceIdeal.τ).loc Cert.GatesReferenceIdeal.main_arg4) = m ((c.tc : Thread Cert.GatesIdeal.nD Cert.GatesIdeal.τ).loc Cert.GatesIdeal.main_arg4)) →
    ∃ (v0 : (c : Dev Cert.GatesIdeal.nD) → Buf (Elt Ideal) ((c.tc : Thread Cert.GatesIdeal.nD Cert.GatesIdeal.τ).loc Cert.GatesIdeal.main_v9)),
      θ_run (Cert.GatesIdeal.defs (F := Ideal)) (onTc (τ := Cert.GatesIdeal.τ) (Cert.GatesIdeal.main (F := Ideal))) ⟨m, fun _ => 0, g⟩ (fun r => ∀ c : Dev Cert.GatesIdeal.nD,
          r.2.mem ((c.tc : Thread Cert.GatesIdeal.nD Cert.GatesIdeal.τ).loc Cert.GatesIdeal.main_v9) = v0 c
          ∧ r.2.mem ((c.tc : Thread Cert.GatesIdeal.nD Cert.GatesIdeal.τ).loc Cert.GatesIdeal.main_arg0) = m ((c.tc : Thread Cert.GatesIdeal.nD Cert.GatesIdeal.τ).loc Cert.GatesIdeal.main_arg0)
          ∧ r.2.mem ((c.tc : Thread Cert.GatesIdeal.nD Cert.GatesIdeal.τ).loc Cert.GatesIdeal.main_arg1) = m ((c.tc : Thread Cert.GatesIdeal.nD Cert.GatesIdeal.τ).loc Cert.GatesIdeal.main_arg1)
          ∧ r.2.mem ((c.tc : Thread Cert.GatesIdeal.nD Cert.GatesIdeal.τ).loc Cert.GatesIdeal.main_arg2) = m ((c.tc : Thread Cert.GatesIdeal.nD Cert.GatesIdeal.τ).loc Cert.GatesIdeal.main_arg2)
          ∧ r.2.mem ((c.tc : Thread Cert.GatesIdeal.nD Cert.GatesIdeal.τ).loc Cert.GatesIdeal.main_arg3) = m ((c.tc : Thread Cert.GatesIdeal.nD Cert.GatesIdeal.τ).loc Cert.GatesIdeal.main_arg3)
          ∧ r.2.mem ((c.tc : Thread Cert.GatesIdeal.nD Cert.GatesIdeal.τ).loc Cert.GatesIdeal.main_arg4) = m ((c.tc : Thread Cert.GatesIdeal.nD Cert.GatesIdeal.τ).loc Cert.GatesIdeal.main_arg4))
      ∧ θ_run (Cert.GatesReferenceIdeal.defs (F := Ideal)) (onTc (τ := Cert.GatesReferenceIdeal.τ) (Cert.GatesReferenceIdeal.main (F := Ideal))) ⟨m', fun _ => 0, g'⟩ (fun r => ∀ c : Dev Cert.GatesReferenceIdeal.nD,
          r.2.mem ((c.tc : Thread Cert.GatesReferenceIdeal.nD Cert.GatesReferenceIdeal.τ).loc Cert.GatesReferenceIdeal.main_v24) = v0 c
          ∧ r.2.mem ((c.tc : Thread Cert.GatesReferenceIdeal.nD Cert.GatesReferenceIdeal.τ).loc Cert.GatesReferenceIdeal.main_arg0) = m' ((c.tc : Thread Cert.GatesReferenceIdeal.nD Cert.GatesReferenceIdeal.τ).loc Cert.GatesReferenceIdeal.main_arg0)
          ∧ r.2.mem ((c.tc : Thread Cert.GatesReferenceIdeal.nD Cert.GatesReferenceIdeal.τ).loc Cert.GatesReferenceIdeal.main_arg1) = m' ((c.tc : Thread Cert.GatesReferenceIdeal.nD Cert.GatesReferenceIdeal.τ).loc Cert.GatesReferenceIdeal.main_arg1)
          ∧ r.2.mem ((c.tc : Thread Cert.GatesReferenceIdeal.nD Cert.GatesReferenceIdeal.τ).loc Cert.GatesReferenceIdeal.main_arg2) = m' ((c.tc : Thread Cert.GatesReferenceIdeal.nD Cert.GatesReferenceIdeal.τ).loc Cert.GatesReferenceIdeal.main_arg2)
          ∧ r.2.mem ((c.tc : Thread Cert.GatesReferenceIdeal.nD Cert.GatesReferenceIdeal.τ).loc Cert.GatesReferenceIdeal.main_arg3) = m' ((c.tc : Thread Cert.GatesReferenceIdeal.nD Cert.GatesReferenceIdeal.τ).loc Cert.GatesReferenceIdeal.main_arg3)
          ∧ r.2.mem ((c.tc : Thread Cert.GatesReferenceIdeal.nD Cert.GatesReferenceIdeal.τ).loc Cert.GatesReferenceIdeal.main_arg4) = m' ((c.tc : Thread Cert.GatesReferenceIdeal.nD Cert.GatesReferenceIdeal.τ).loc Cert.GatesReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v2) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v15) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_Final_FinalIdeal : Prop :=
  True

def algebraic_FinalIdeal_FinalReferenceIdeal [hFinalIdeal : Cert.FinalIdeal.Facts] [hFinalReferenceIdeal : Cert.FinalReferenceIdeal.Facts] : Prop :=
  ∀ (m : (ℓ : Loc Cert.FinalIdeal.nD Cert.FinalIdeal.τ Cert.FinalIdeal.sig) → Buf (Elt Ideal) ℓ) (g : Dev Cert.FinalIdeal.nD → PrngReg)
    (m' : (ℓ : Loc Cert.FinalReferenceIdeal.nD Cert.FinalReferenceIdeal.τ Cert.FinalReferenceIdeal.sig) → Buf (Elt Ideal) ℓ) (g' : Dev Cert.FinalReferenceIdeal.nD → PrngReg), Pre_FinalIdeal m →
    (∀ c : Dev Cert.FinalIdeal.nD,
      m' ((c.tc : Thread Cert.FinalReferenceIdeal.nD Cert.FinalReferenceIdeal.τ).loc Cert.FinalReferenceIdeal.main_arg0) = m ((c.tc : Thread Cert.FinalIdeal.nD Cert.FinalIdeal.τ).loc Cert.FinalIdeal.main_arg0)
      ∧ m' ((c.tc : Thread Cert.FinalReferenceIdeal.nD Cert.FinalReferenceIdeal.τ).loc Cert.FinalReferenceIdeal.main_arg1) = m ((c.tc : Thread Cert.FinalIdeal.nD Cert.FinalIdeal.τ).loc Cert.FinalIdeal.main_arg1)
      ∧ m' ((c.tc : Thread Cert.FinalReferenceIdeal.nD Cert.FinalReferenceIdeal.τ).loc Cert.FinalReferenceIdeal.main_arg2) = m ((c.tc : Thread Cert.FinalIdeal.nD Cert.FinalIdeal.τ).loc Cert.FinalIdeal.main_arg2)
      ∧ m' ((c.tc : Thread Cert.FinalReferenceIdeal.nD Cert.FinalReferenceIdeal.τ).loc Cert.FinalReferenceIdeal.main_arg3) = m ((c.tc : Thread Cert.FinalIdeal.nD Cert.FinalIdeal.τ).loc Cert.FinalIdeal.main_arg3)) →
    ∃ (v0 : (c : Dev Cert.FinalIdeal.nD) → Buf (Elt Ideal) ((c.tc : Thread Cert.FinalIdeal.nD Cert.FinalIdeal.τ).loc Cert.FinalIdeal.main_v2)),
      θ_run (Cert.FinalIdeal.defs (F := Ideal)) (onTc (τ := Cert.FinalIdeal.τ) (Cert.FinalIdeal.main (F := Ideal))) ⟨m, fun _ => 0, g⟩ (fun r => ∀ c : Dev Cert.FinalIdeal.nD,
          r.2.mem ((c.tc : Thread Cert.FinalIdeal.nD Cert.FinalIdeal.τ).loc Cert.FinalIdeal.main_v2) = v0 c
          ∧ r.2.mem ((c.tc : Thread Cert.FinalIdeal.nD Cert.FinalIdeal.τ).loc Cert.FinalIdeal.main_arg0) = m ((c.tc : Thread Cert.FinalIdeal.nD Cert.FinalIdeal.τ).loc Cert.FinalIdeal.main_arg0)
          ∧ r.2.mem ((c.tc : Thread Cert.FinalIdeal.nD Cert.FinalIdeal.τ).loc Cert.FinalIdeal.main_arg1) = m ((c.tc : Thread Cert.FinalIdeal.nD Cert.FinalIdeal.τ).loc Cert.FinalIdeal.main_arg1)
          ∧ r.2.mem ((c.tc : Thread Cert.FinalIdeal.nD Cert.FinalIdeal.τ).loc Cert.FinalIdeal.main_arg2) = m ((c.tc : Thread Cert.FinalIdeal.nD Cert.FinalIdeal.τ).loc Cert.FinalIdeal.main_arg2)
          ∧ r.2.mem ((c.tc : Thread Cert.FinalIdeal.nD Cert.FinalIdeal.τ).loc Cert.FinalIdeal.main_arg3) = m ((c.tc : Thread Cert.FinalIdeal.nD Cert.FinalIdeal.τ).loc Cert.FinalIdeal.main_arg3))
      ∧ θ_run (Cert.FinalReferenceIdeal.defs (F := Ideal)) (onTc (τ := Cert.FinalReferenceIdeal.τ) (Cert.FinalReferenceIdeal.main (F := Ideal))) ⟨m', fun _ => 0, g'⟩ (fun r => ∀ c : Dev Cert.FinalReferenceIdeal.nD,
          r.2.mem ((c.tc : Thread Cert.FinalReferenceIdeal.nD Cert.FinalReferenceIdeal.τ).loc Cert.FinalReferenceIdeal.main_v17) = v0 c
          ∧ r.2.mem ((c.tc : Thread Cert.FinalReferenceIdeal.nD Cert.FinalReferenceIdeal.τ).loc Cert.FinalReferenceIdeal.main_arg0) = m' ((c.tc : Thread Cert.FinalReferenceIdeal.nD Cert.FinalReferenceIdeal.τ).loc Cert.FinalReferenceIdeal.main_arg0)
          ∧ r.2.mem ((c.tc : Thread Cert.FinalReferenceIdeal.nD Cert.FinalReferenceIdeal.τ).loc Cert.FinalReferenceIdeal.main_arg1) = m' ((c.tc : Thread Cert.FinalReferenceIdeal.nD Cert.FinalReferenceIdeal.τ).loc Cert.FinalReferenceIdeal.main_arg1)
          ∧ r.2.mem ((c.tc : Thread Cert.FinalReferenceIdeal.nD Cert.FinalReferenceIdeal.τ).loc Cert.FinalReferenceIdeal.main_arg2) = m' ((c.tc : Thread Cert.FinalReferenceIdeal.nD Cert.FinalReferenceIdeal.τ).loc Cert.FinalReferenceIdeal.main_arg2)
          ∧ r.2.mem ((c.tc : Thread Cert.FinalReferenceIdeal.nD Cert.FinalReferenceIdeal.τ).loc Cert.FinalReferenceIdeal.main_arg3) = m' ((c.tc : Thread Cert.FinalReferenceIdeal.nD Cert.FinalReferenceIdeal.τ).loc Cert.FinalReferenceIdeal.main_arg3))

def preserves_Inputs_InputsIdeal : Prop :=
  True

def algebraic_InputsIdeal_InputsReferenceIdeal_pre_finite_inputs [hInputsIdeal : Cert.InputsIdeal.Facts] [hInputsReferenceIdeal : Cert.InputsReferenceIdeal.Facts] [hPre_finite_inputs : Cert.Pre_finite_inputs.Facts] : Prop :=
  ∀ (m : (ℓ : Loc Cert.InputsIdeal.nD Cert.InputsIdeal.τ Cert.InputsIdeal.sig) → Buf (Elt Ideal) ℓ) (g : Dev Cert.InputsIdeal.nD → PrngReg)
    (m' : (ℓ : Loc Cert.InputsReferenceIdeal.nD Cert.InputsReferenceIdeal.τ Cert.InputsReferenceIdeal.sig) → Buf (Elt Ideal) ℓ) (g' : Dev Cert.InputsReferenceIdeal.nD → PrngReg), Pre_InputsIdeal_finite_inputs m →
    (∀ c : Dev Cert.InputsIdeal.nD,
      m' ((c.tc : Thread Cert.InputsReferenceIdeal.nD Cert.InputsReferenceIdeal.τ).loc Cert.InputsReferenceIdeal.main_arg0) = m ((c.tc : Thread Cert.InputsIdeal.nD Cert.InputsIdeal.τ).loc Cert.InputsIdeal.main_arg0)
      ∧ m' ((c.tc : Thread Cert.InputsReferenceIdeal.nD Cert.InputsReferenceIdeal.τ).loc Cert.InputsReferenceIdeal.main_arg1) = m ((c.tc : Thread Cert.InputsIdeal.nD Cert.InputsIdeal.τ).loc Cert.InputsIdeal.main_arg1)
      ∧ m' ((c.tc : Thread Cert.InputsReferenceIdeal.nD Cert.InputsReferenceIdeal.τ).loc Cert.InputsReferenceIdeal.main_arg2) = m ((c.tc : Thread Cert.InputsIdeal.nD Cert.InputsIdeal.τ).loc Cert.InputsIdeal.main_arg2)
      ∧ m' ((c.tc : Thread Cert.InputsReferenceIdeal.nD Cert.InputsReferenceIdeal.τ).loc Cert.InputsReferenceIdeal.main_arg3) = m ((c.tc : Thread Cert.InputsIdeal.nD Cert.InputsIdeal.τ).loc Cert.InputsIdeal.main_arg3)) →
    ∃ (v0 : (c : Dev Cert.InputsIdeal.nD) → Buf (Elt Ideal) ((c.tc : Thread Cert.InputsIdeal.nD Cert.InputsIdeal.τ).loc Cert.InputsIdeal.main_v6_0)) (v1 : (c : Dev Cert.InputsIdeal.nD) → Buf (Elt Ideal) ((c.tc : Thread Cert.InputsIdeal.nD Cert.InputsIdeal.τ).loc Cert.InputsIdeal.main_v6_1)) (v2 : (c : Dev Cert.InputsIdeal.nD) → Buf (Elt Ideal) ((c.tc : Thread Cert.InputsIdeal.nD Cert.InputsIdeal.τ).loc Cert.InputsIdeal.main_v6_2)),
      θ_run (Cert.InputsIdeal.defs (F := Ideal)) (onTc (τ := Cert.InputsIdeal.τ) (Cert.InputsIdeal.main (F := Ideal))) ⟨m, fun _ => 0, g⟩ (fun r => ∀ c : Dev Cert.InputsIdeal.nD,
          r.2.mem ((c.tc : Thread Cert.InputsIdeal.nD Cert.InputsIdeal.τ).loc Cert.InputsIdeal.main_v6_0) = v0 c
          ∧ r.2.mem ((c.tc : Thread Cert.InputsIdeal.nD Cert.InputsIdeal.τ).loc Cert.InputsIdeal.main_v6_1) = v1 c
          ∧ r.2.mem ((c.tc : Thread Cert.InputsIdeal.nD Cert.InputsIdeal.τ).loc Cert.InputsIdeal.main_v6_2) = v2 c
          ∧ r.2.mem ((c.tc : Thread Cert.InputsIdeal.nD Cert.InputsIdeal.τ).loc Cert.InputsIdeal.main_arg0) = m ((c.tc : Thread Cert.InputsIdeal.nD Cert.InputsIdeal.τ).loc Cert.InputsIdeal.main_arg0)
          ∧ r.2.mem ((c.tc : Thread Cert.InputsIdeal.nD Cert.InputsIdeal.τ).loc Cert.InputsIdeal.main_arg1) = m ((c.tc : Thread Cert.InputsIdeal.nD Cert.InputsIdeal.τ).loc Cert.InputsIdeal.main_arg1)
          ∧ r.2.mem ((c.tc : Thread Cert.InputsIdeal.nD Cert.InputsIdeal.τ).loc Cert.InputsIdeal.main_arg2) = m ((c.tc : Thread Cert.InputsIdeal.nD Cert.InputsIdeal.τ).loc Cert.InputsIdeal.main_arg2)
          ∧ r.2.mem ((c.tc : Thread Cert.InputsIdeal.nD Cert.InputsIdeal.τ).loc Cert.InputsIdeal.main_arg3) = m ((c.tc : Thread Cert.InputsIdeal.nD Cert.InputsIdeal.τ).loc Cert.InputsIdeal.main_arg3))
      ∧ θ_run (Cert.InputsReferenceIdeal.defs (F := Ideal)) (onTc (τ := Cert.InputsReferenceIdeal.τ) (Cert.InputsReferenceIdeal.main (F := Ideal))) ⟨m', fun _ => 0, g'⟩ (fun r => ∀ c : Dev Cert.InputsReferenceIdeal.nD,
          r.2.mem ((c.tc : Thread Cert.InputsReferenceIdeal.nD Cert.InputsReferenceIdeal.τ).loc Cert.InputsReferenceIdeal.main_v18) = v0 c
          ∧ r.2.mem ((c.tc : Thread Cert.InputsReferenceIdeal.nD Cert.InputsReferenceIdeal.τ).loc Cert.InputsReferenceIdeal.main_v21) = v1 c
          ∧ r.2.mem ((c.tc : Thread Cert.InputsReferenceIdeal.nD Cert.InputsReferenceIdeal.τ).loc Cert.InputsReferenceIdeal.main_v23) = v2 c
          ∧ r.2.mem ((c.tc : Thread Cert.InputsReferenceIdeal.nD Cert.InputsReferenceIdeal.τ).loc Cert.InputsReferenceIdeal.main_arg0) = m' ((c.tc : Thread Cert.InputsReferenceIdeal.nD Cert.InputsReferenceIdeal.τ).loc Cert.InputsReferenceIdeal.main_arg0)
          ∧ r.2.mem ((c.tc : Thread Cert.InputsReferenceIdeal.nD Cert.InputsReferenceIdeal.τ).loc Cert.InputsReferenceIdeal.main_arg1) = m' ((c.tc : Thread Cert.InputsReferenceIdeal.nD Cert.InputsReferenceIdeal.τ).loc Cert.InputsReferenceIdeal.main_arg1)
          ∧ r.2.mem ((c.tc : Thread Cert.InputsReferenceIdeal.nD Cert.InputsReferenceIdeal.τ).loc Cert.InputsReferenceIdeal.main_arg2) = m' ((c.tc : Thread Cert.InputsReferenceIdeal.nD Cert.InputsReferenceIdeal.τ).loc Cert.InputsReferenceIdeal.main_arg2)
          ∧ r.2.mem ((c.tc : Thread Cert.InputsReferenceIdeal.nD Cert.InputsReferenceIdeal.τ).loc Cert.InputsReferenceIdeal.main_arg3) = m' ((c.tc : Thread Cert.InputsReferenceIdeal.nD Cert.InputsReferenceIdeal.τ).loc Cert.InputsReferenceIdeal.main_arg3))

def preserves_Spatial_SpatialIdeal : Prop :=
  True

def algebraic_SpatialIdeal_SpatialReferenceIdeal_pre_finite_spatial [hSpatialIdeal : Cert.SpatialIdeal.Facts] [hSpatialReferenceIdeal : Cert.SpatialReferenceIdeal.Facts] [hPre_finite_spatial : Cert.Pre_finite_spatial.Facts] : Prop :=
  ∀ (m : (ℓ : Loc Cert.SpatialIdeal.nD Cert.SpatialIdeal.τ Cert.SpatialIdeal.sig) → Buf (Elt Ideal) ℓ) (g : Dev Cert.SpatialIdeal.nD → PrngReg)
    (m' : (ℓ : Loc Cert.SpatialReferenceIdeal.nD Cert.SpatialReferenceIdeal.τ Cert.SpatialReferenceIdeal.sig) → Buf (Elt Ideal) ℓ) (g' : Dev Cert.SpatialReferenceIdeal.nD → PrngReg), Pre_SpatialIdeal_finite_spatial m →
    (∀ c : Dev Cert.SpatialIdeal.nD,
      m' ((c.tc : Thread Cert.SpatialReferenceIdeal.nD Cert.SpatialReferenceIdeal.τ).loc Cert.SpatialReferenceIdeal.main_arg0) = m ((c.tc : Thread Cert.SpatialIdeal.nD Cert.SpatialIdeal.τ).loc Cert.SpatialIdeal.main_arg0)
      ∧ m' ((c.tc : Thread Cert.SpatialReferenceIdeal.nD Cert.SpatialReferenceIdeal.τ).loc Cert.SpatialReferenceIdeal.main_arg1) = m ((c.tc : Thread Cert.SpatialIdeal.nD Cert.SpatialIdeal.τ).loc Cert.SpatialIdeal.main_arg1)
      ∧ m' ((c.tc : Thread Cert.SpatialReferenceIdeal.nD Cert.SpatialReferenceIdeal.τ).loc Cert.SpatialReferenceIdeal.main_arg2) = m ((c.tc : Thread Cert.SpatialIdeal.nD Cert.SpatialIdeal.τ).loc Cert.SpatialIdeal.main_arg2)
      ∧ m' ((c.tc : Thread Cert.SpatialReferenceIdeal.nD Cert.SpatialReferenceIdeal.τ).loc Cert.SpatialReferenceIdeal.main_arg3) = m ((c.tc : Thread Cert.SpatialIdeal.nD Cert.SpatialIdeal.τ).loc Cert.SpatialIdeal.main_arg3)
      ∧ m' ((c.tc : Thread Cert.SpatialReferenceIdeal.nD Cert.SpatialReferenceIdeal.τ).loc Cert.SpatialReferenceIdeal.main_arg4) = m ((c.tc : Thread Cert.SpatialIdeal.nD Cert.SpatialIdeal.τ).loc Cert.SpatialIdeal.main_arg4)
      ∧ m' ((c.tc : Thread Cert.SpatialReferenceIdeal.nD Cert.SpatialReferenceIdeal.τ).loc Cert.SpatialReferenceIdeal.main_arg5) = m ((c.tc : Thread Cert.SpatialIdeal.nD Cert.SpatialIdeal.τ).loc Cert.SpatialIdeal.main_arg5)
      ∧ m' ((c.tc : Thread Cert.SpatialReferenceIdeal.nD Cert.SpatialReferenceIdeal.τ).loc Cert.SpatialReferenceIdeal.main_arg6) = m ((c.tc : Thread Cert.SpatialIdeal.nD Cert.SpatialIdeal.τ).loc Cert.SpatialIdeal.main_arg6)
      ∧ m' ((c.tc : Thread Cert.SpatialReferenceIdeal.nD Cert.SpatialReferenceIdeal.τ).loc Cert.SpatialReferenceIdeal.main_arg7) = m ((c.tc : Thread Cert.SpatialIdeal.nD Cert.SpatialIdeal.τ).loc Cert.SpatialIdeal.main_arg7)
      ∧ m' ((c.tc : Thread Cert.SpatialReferenceIdeal.nD Cert.SpatialReferenceIdeal.τ).loc Cert.SpatialReferenceIdeal.main_arg8) = m ((c.tc : Thread Cert.SpatialIdeal.nD Cert.SpatialIdeal.τ).loc Cert.SpatialIdeal.main_arg8)
      ∧ m' ((c.tc : Thread Cert.SpatialReferenceIdeal.nD Cert.SpatialReferenceIdeal.τ).loc Cert.SpatialReferenceIdeal.main_arg9) = m ((c.tc : Thread Cert.SpatialIdeal.nD Cert.SpatialIdeal.τ).loc Cert.SpatialIdeal.main_arg9)
      ∧ m' ((c.tc : Thread Cert.SpatialReferenceIdeal.nD Cert.SpatialReferenceIdeal.τ).loc Cert.SpatialReferenceIdeal.main_arg10) = m ((c.tc : Thread Cert.SpatialIdeal.nD Cert.SpatialIdeal.τ).loc Cert.SpatialIdeal.main_arg10)) →
    ∃ (v0 : (c : Dev Cert.SpatialIdeal.nD) → Buf (Elt Ideal) ((c.tc : Thread Cert.SpatialIdeal.nD Cert.SpatialIdeal.τ).loc Cert.SpatialIdeal.main_v19)),
      θ_run (Cert.SpatialIdeal.defs (F := Ideal)) (onTc (τ := Cert.SpatialIdeal.τ) (Cert.SpatialIdeal.main (F := Ideal))) ⟨m, fun _ => 0, g⟩ (fun r => ∀ c : Dev Cert.SpatialIdeal.nD,
          r.2.mem ((c.tc : Thread Cert.SpatialIdeal.nD Cert.SpatialIdeal.τ).loc Cert.SpatialIdeal.main_v19) = v0 c
          ∧ r.2.mem ((c.tc : Thread Cert.SpatialIdeal.nD Cert.SpatialIdeal.τ).loc Cert.SpatialIdeal.main_arg0) = m ((c.tc : Thread Cert.SpatialIdeal.nD Cert.SpatialIdeal.τ).loc Cert.SpatialIdeal.main_arg0)
          ∧ r.2.mem ((c.tc : Thread Cert.SpatialIdeal.nD Cert.SpatialIdeal.τ).loc Cert.SpatialIdeal.main_arg1) = m ((c.tc : Thread Cert.SpatialIdeal.nD Cert.SpatialIdeal.τ).loc Cert.SpatialIdeal.main_arg1)
          ∧ r.2.mem ((c.tc : Thread Cert.SpatialIdeal.nD Cert.SpatialIdeal.τ).loc Cert.SpatialIdeal.main_arg2) = m ((c.tc : Thread Cert.SpatialIdeal.nD Cert.SpatialIdeal.τ).loc Cert.SpatialIdeal.main_arg2)
          ∧ r.2.mem ((c.tc : Thread Cert.SpatialIdeal.nD Cert.SpatialIdeal.τ).loc Cert.SpatialIdeal.main_arg3) = m ((c.tc : Thread Cert.SpatialIdeal.nD Cert.SpatialIdeal.τ).loc Cert.SpatialIdeal.main_arg3)
          ∧ r.2.mem ((c.tc : Thread Cert.SpatialIdeal.nD Cert.SpatialIdeal.τ).loc Cert.SpatialIdeal.main_arg4) = m ((c.tc : Thread Cert.SpatialIdeal.nD Cert.SpatialIdeal.τ).loc Cert.SpatialIdeal.main_arg4)
          ∧ r.2.mem ((c.tc : Thread Cert.SpatialIdeal.nD Cert.SpatialIdeal.τ).loc Cert.SpatialIdeal.main_arg5) = m ((c.tc : Thread Cert.SpatialIdeal.nD Cert.SpatialIdeal.τ).loc Cert.SpatialIdeal.main_arg5)
          ∧ r.2.mem ((c.tc : Thread Cert.SpatialIdeal.nD Cert.SpatialIdeal.τ).loc Cert.SpatialIdeal.main_arg6) = m ((c.tc : Thread Cert.SpatialIdeal.nD Cert.SpatialIdeal.τ).loc Cert.SpatialIdeal.main_arg6)
          ∧ r.2.mem ((c.tc : Thread Cert.SpatialIdeal.nD Cert.SpatialIdeal.τ).loc Cert.SpatialIdeal.main_arg7) = m ((c.tc : Thread Cert.SpatialIdeal.nD Cert.SpatialIdeal.τ).loc Cert.SpatialIdeal.main_arg7)
          ∧ r.2.mem ((c.tc : Thread Cert.SpatialIdeal.nD Cert.SpatialIdeal.τ).loc Cert.SpatialIdeal.main_arg8) = m ((c.tc : Thread Cert.SpatialIdeal.nD Cert.SpatialIdeal.τ).loc Cert.SpatialIdeal.main_arg8)
          ∧ r.2.mem ((c.tc : Thread Cert.SpatialIdeal.nD Cert.SpatialIdeal.τ).loc Cert.SpatialIdeal.main_arg9) = m ((c.tc : Thread Cert.SpatialIdeal.nD Cert.SpatialIdeal.τ).loc Cert.SpatialIdeal.main_arg9)
          ∧ r.2.mem ((c.tc : Thread Cert.SpatialIdeal.nD Cert.SpatialIdeal.τ).loc Cert.SpatialIdeal.main_arg10) = m ((c.tc : Thread Cert.SpatialIdeal.nD Cert.SpatialIdeal.τ).loc Cert.SpatialIdeal.main_arg10))
      ∧ θ_run (Cert.SpatialReferenceIdeal.defs (F := Ideal)) (onTc (τ := Cert.SpatialReferenceIdeal.τ) (Cert.SpatialReferenceIdeal.main (F := Ideal))) ⟨m', fun _ => 0, g'⟩ (fun r => ∀ c : Dev Cert.SpatialReferenceIdeal.nD,
          r.2.mem ((c.tc : Thread Cert.SpatialReferenceIdeal.nD Cert.SpatialReferenceIdeal.τ).loc Cert.SpatialReferenceIdeal.main_v59) = v0 c
          ∧ r.2.mem ((c.tc : Thread Cert.SpatialReferenceIdeal.nD Cert.SpatialReferenceIdeal.τ).loc Cert.SpatialReferenceIdeal.main_arg0) = m' ((c.tc : Thread Cert.SpatialReferenceIdeal.nD Cert.SpatialReferenceIdeal.τ).loc Cert.SpatialReferenceIdeal.main_arg0)
          ∧ r.2.mem ((c.tc : Thread Cert.SpatialReferenceIdeal.nD Cert.SpatialReferenceIdeal.τ).loc Cert.SpatialReferenceIdeal.main_arg1) = m' ((c.tc : Thread Cert.SpatialReferenceIdeal.nD Cert.SpatialReferenceIdeal.τ).loc Cert.SpatialReferenceIdeal.main_arg1)
          ∧ r.2.mem ((c.tc : Thread Cert.SpatialReferenceIdeal.nD Cert.SpatialReferenceIdeal.τ).loc Cert.SpatialReferenceIdeal.main_arg2) = m' ((c.tc : Thread Cert.SpatialReferenceIdeal.nD Cert.SpatialReferenceIdeal.τ).loc Cert.SpatialReferenceIdeal.main_arg2)
          ∧ r.2.mem ((c.tc : Thread Cert.SpatialReferenceIdeal.nD Cert.SpatialReferenceIdeal.τ).loc Cert.SpatialReferenceIdeal.main_arg3) = m' ((c.tc : Thread Cert.SpatialReferenceIdeal.nD Cert.SpatialReferenceIdeal.τ).loc Cert.SpatialReferenceIdeal.main_arg3)
          ∧ r.2.mem ((c.tc : Thread Cert.SpatialReferenceIdeal.nD Cert.SpatialReferenceIdeal.τ).loc Cert.SpatialReferenceIdeal.main_arg4) = m' ((c.tc : Thread Cert.SpatialReferenceIdeal.nD Cert.SpatialReferenceIdeal.τ).loc Cert.SpatialReferenceIdeal.main_arg4)
          ∧ r.2.mem ((c.tc : Thread Cert.SpatialReferenceIdeal.nD Cert.SpatialReferenceIdeal.τ).loc Cert.SpatialReferenceIdeal.main_arg5) = m' ((c.tc : Thread Cert.SpatialReferenceIdeal.nD Cert.SpatialReferenceIdeal.τ).loc Cert.SpatialReferenceIdeal.main_arg5)
          ∧ r.2.mem ((c.tc : Thread Cert.SpatialReferenceIdeal.nD Cert.SpatialReferenceIdeal.τ).loc Cert.SpatialReferenceIdeal.main_arg6) = m' ((c.tc : Thread Cert.SpatialReferenceIdeal.nD Cert.SpatialReferenceIdeal.τ).loc Cert.SpatialReferenceIdeal.main_arg6)
          ∧ r.2.mem ((c.tc : Thread Cert.SpatialReferenceIdeal.nD Cert.SpatialReferenceIdeal.τ).loc Cert.SpatialReferenceIdeal.main_arg7) = m' ((c.tc : Thread Cert.SpatialReferenceIdeal.nD Cert.SpatialReferenceIdeal.τ).loc Cert.SpatialReferenceIdeal.main_arg7)
          ∧ r.2.mem ((c.tc : Thread Cert.SpatialReferenceIdeal.nD Cert.SpatialReferenceIdeal.τ).loc Cert.SpatialReferenceIdeal.main_arg8) = m' ((c.tc : Thread Cert.SpatialReferenceIdeal.nD Cert.SpatialReferenceIdeal.τ).loc Cert.SpatialReferenceIdeal.main_arg8)
          ∧ r.2.mem ((c.tc : Thread Cert.SpatialReferenceIdeal.nD Cert.SpatialReferenceIdeal.τ).loc Cert.SpatialReferenceIdeal.main_arg9) = m' ((c.tc : Thread Cert.SpatialReferenceIdeal.nD Cert.SpatialReferenceIdeal.τ).loc Cert.SpatialReferenceIdeal.main_arg9)
          ∧ r.2.mem ((c.tc : Thread Cert.SpatialReferenceIdeal.nD Cert.SpatialReferenceIdeal.τ).loc Cert.SpatialReferenceIdeal.main_arg10) = m' ((c.tc : Thread Cert.SpatialReferenceIdeal.nD Cert.SpatialReferenceIdeal.τ).loc Cert.SpatialReferenceIdeal.main_arg10))

def Claim : Prop :=
  ∃ (hKernel : Cert.Kernel.Facts) (hKernelIdeal : Cert.KernelIdeal.Facts) (hReferenceIdeal : Cert.ReferenceIdeal.Facts) (hGates : Cert.Gates.Facts) (hGatesIdeal : Cert.GatesIdeal.Facts) (hGatesReferenceIdeal : Cert.GatesReferenceIdeal.Facts) (hMerge : Cert.Merge.Facts) (hMergeIdeal : Cert.MergeIdeal.Facts) (hMergeReferenceIdeal : Cert.MergeReferenceIdeal.Facts) (hFinal : Cert.Final.Facts) (hFinalIdeal : Cert.FinalIdeal.Facts) (hFinalReferenceIdeal : Cert.FinalReferenceIdeal.Facts) (hInputs : Cert.Inputs.Facts) (hInputsIdeal : Cert.InputsIdeal.Facts) (hInputsReferenceIdeal : Cert.InputsReferenceIdeal.Facts) (hSpatial : Cert.Spatial.Facts) (hSpatialIdeal : Cert.SpatialIdeal.Facts) (hSpatialReferenceIdeal : Cert.SpatialReferenceIdeal.Facts) (hPre_finite : Cert.Pre_finite.Facts) (hPre_finite_gates : Cert.Pre_finite_gates.Facts) (hPre_finite_inputs : Cert.Pre_finite_inputs.Facts) (hPre_finite_spatial : Cert.Pre_finite_spatial.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Gates (hGates := hGates)
    ∧ quiescent_GatesIdeal (hGatesIdeal := hGatesIdeal)
    ∧ quiescent_GatesIdeal_pre_finite_gates (hGatesIdeal := hGatesIdeal) (hPre_finite_gates := hPre_finite_gates)
    ∧ quiescent_GatesReferenceIdeal (hGatesReferenceIdeal := hGatesReferenceIdeal)
    ∧ quiescent_GatesReferenceIdeal_pre_finite_gates (hGatesReferenceIdeal := hGatesReferenceIdeal) (hPre_finite_gates := hPre_finite_gates)
    ∧ quiescent_Merge (hMerge := hMerge)
    ∧ quiescent_MergeIdeal (hMergeIdeal := hMergeIdeal)
    ∧ quiescent_MergeReferenceIdeal (hMergeReferenceIdeal := hMergeReferenceIdeal)
    ∧ quiescent_Final (hFinal := hFinal)
    ∧ quiescent_FinalIdeal (hFinalIdeal := hFinalIdeal)
    ∧ quiescent_FinalReferenceIdeal (hFinalReferenceIdeal := hFinalReferenceIdeal)
    ∧ quiescent_Inputs (hInputs := hInputs)
    ∧ quiescent_InputsIdeal (hInputsIdeal := hInputsIdeal)
    ∧ quiescent_InputsIdeal_pre_finite_inputs (hInputsIdeal := hInputsIdeal) (hPre_finite_inputs := hPre_finite_inputs)
    ∧ quiescent_InputsReferenceIdeal (hInputsReferenceIdeal := hInputsReferenceIdeal)
    ∧ quiescent_InputsReferenceIdeal_pre_finite_inputs (hInputsReferenceIdeal := hInputsReferenceIdeal) (hPre_finite_inputs := hPre_finite_inputs)
    ∧ quiescent_Spatial (hSpatial := hSpatial)
    ∧ quiescent_SpatialIdeal (hSpatialIdeal := hSpatialIdeal)
    ∧ quiescent_SpatialIdeal_pre_finite_spatial (hSpatialIdeal := hSpatialIdeal) (hPre_finite_spatial := hPre_finite_spatial)
    ∧ quiescent_SpatialReferenceIdeal (hSpatialReferenceIdeal := hSpatialReferenceIdeal)
    ∧ quiescent_SpatialReferenceIdeal_pre_finite_spatial (hSpatialReferenceIdeal := hSpatialReferenceIdeal) (hPre_finite_spatial := hPre_finite_spatial)
    ∧ preserves_Kernel_KernelIdeal
    ∧ algebraic_KernelIdeal_ReferenceIdeal_pre_finite (hKernelIdeal := hKernelIdeal) (hReferenceIdeal := hReferenceIdeal) (hPre_finite := hPre_finite)
    ∧ preserves_Gates_GatesIdeal
    ∧ algebraic_GatesIdeal_GatesReferenceIdeal_pre_finite_gates (hGatesIdeal := hGatesIdeal) (hGatesReferenceIdeal := hGatesReferenceIdeal) (hPre_finite_gates := hPre_finite_gates)
    ∧ preserves_Merge_MergeIdeal
    ∧ algebraic_MergeIdeal_MergeReferenceIdeal (hMergeIdeal := hMergeIdeal) (hMergeReferenceIdeal := hMergeReferenceIdeal)
    ∧ preserves_Final_FinalIdeal
    ∧ algebraic_FinalIdeal_FinalReferenceIdeal (hFinalIdeal := hFinalIdeal) (hFinalReferenceIdeal := hFinalReferenceIdeal)
    ∧ preserves_Inputs_InputsIdeal
    ∧ algebraic_InputsIdeal_InputsReferenceIdeal_pre_finite_inputs (hInputsIdeal := hInputsIdeal) (hInputsReferenceIdeal := hInputsReferenceIdeal) (hPre_finite_inputs := hPre_finite_inputs)
    ∧ preserves_Spatial_SpatialIdeal
    ∧ algebraic_SpatialIdeal_SpatialReferenceIdeal_pre_finite_spatial (hSpatialIdeal := hSpatialIdeal) (hSpatialReferenceIdeal := hSpatialReferenceIdeal) (hPre_finite_spatial := hPre_finite_spatial)
-- ==== Pre_finite.lean ====
abbrev S8192x2048 : Shape := ⟨2, ![8192, 2048]⟩
abbrev S16384x2048 : Shape := ⟨2, ![16384, 2048]⟩
abbrev S_ : Shape := ⟨0, ![]⟩

class Facts : Prop where
  bitsLt_bf16_f32 : FTy.bits .bf16 < FTy.bits .f32
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn {F : FTy → Type} [FloatOps F] (main_arg0 : FVec F S8192x2048 .bf16) (main_arg1 : FVec F S8192x2048 .bf16) (main_arg2 : FVec F S16384x2048 .bf16) : IVec S_ 1 :=
  let main_v0 : FVec F S8192x2048 .f32 := (extf .f32 · bitsLt_bf16_f32) main_arg0
  let main_v1 : FVec F S8192x2048 .f32 := Host.absf main_v0
  let main_cst : FVec F S_ .f32 := constant S_ .f32 0x7F800000#32
  let main_v2 : FVec F S8192x2048 .f32 := broadcastInDim S8192x2048 ![] bcast_S_S8192x2048 main_cst
  let main_v3 : IVec S8192x2048 1 := cmpf .olt main_v1 main_v2
  let main_c : IVec S_ 1 := constantI S_ 1 1#1
  let main_v4 : IVec S_ 1 := (fun x v => Host.reduce IntOp.andi x v reducesTo_S8192x2048_S_d0_1 h_S_) main_v3 main_c
  let main_v5 : FVec F S8192x2048 .f32 := (extf .f32 · bitsLt_bf16_f32) main_arg1
  let main_v6 : FVec F S8192x2048 .f32 := Host.absf main_v5
  let main_cst_0 : FVec F S_ .f32 := constant S_ .f32 0x7F800000#32
  let main_v7 : FVec F S8192x2048 .f32 := broadcastInDim S8192x2048 ![] bcast_S_S8192x2048 main_cst_0
  let main_v8 : IVec S8192x2048 1 := cmpf .olt main_v6 main_v7
  let main_c_1 : IVec S_ 1 := constantI S_ 1 1#1
  let main_v9 : IVec S_ 1 := (fun x v => Host.reduce IntOp.andi x v reducesTo_S8192x2048_S_d0_1 h_S_) main_v8 main_c_1
  let main_v10 : IVec S_ 1 := andi main_v4 main_v9
  main_v10
-- ==== Pre_finite_gates.lean ====
abbrev S16384x4096 : Shape := ⟨2, ![16384, 4096]⟩
abbrev S16384 : Shape := ⟨1, ![16384]⟩
abbrev S2x4096 : Shape := ⟨2, ![2, 4096]⟩
abbrev S2x4096x18432 : Shape := ⟨3, ![2, 4096, 18432]⟩
abbrev S2x2x4096 : Shape := ⟨3, ![2, 2, 4096]⟩
abbrev S_ : Shape := ⟨0, ![]⟩

class Facts : Prop where
  bitsLt_bf16_f32 : FTy.bits .bf16 < FTy.bits .f32
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S16384 : S_.BroadcastsInDim S16384 (![] : Fin 0 → Fin S16384.rank)
  reducesTo_S16384_S_d0 : S16384.ReducesTo [0] S_
  bcast_S_S2x4096 : S_.BroadcastsInDim S2x4096 (![] : Fin 0 → Fin S2x4096.rank)
  reducesTo_S2x4096_S_d0_1 : S2x4096.ReducesTo [0, 1] S_
  bcast_S_S2x4096x18432 : S_.BroadcastsInDim S2x4096x18432 (![] : Fin 0 → Fin S2x4096x18432.rank)
  reducesTo_S2x4096x18432_S_d0_1_2 : S2x4096x18432.ReducesTo [0, 1, 2] S_

variable [Facts]

def fn_part1 {F : FTy → Type} [FloatOps F] (main_v14 : IVec S_ 1) (main_v15 : FVec F S2x4096x18432 .f32) (main_v16 : FVec F S2x4096x18432 .f32) : IVec S_ 1 :=
  let main_v17 : IVec S2x4096x18432 1 := cmpf .olt main_v15 main_v16
  let main_c_5 : IVec S_ 1 := constantI S_ 1 1#1
  let main_v18 : IVec S_ 1 := (fun x v => Host.reduce IntOp.andi x v reducesTo_S2x4096x18432_S_d0_1_2 h_S_) main_v17 main_c_5
  let main_v19 : IVec S_ 1 := andi main_v14 main_v18
  main_v19

def fn {F : FTy → Type} [FloatOps F] (main_arg0 : FVec F S16384x4096 .bf16) (main_arg1 : FVec F S16384 .f32) (main_arg2 : FVec F S2x4096 .f32) (main_arg3 : FVec F S2x4096x18432 .f32) (main_arg4 : FVec F S2x2x4096 .f32) : IVec S_ 1 :=
  let main_v0 : FVec F S16384x4096 .f32 := (extf .f32 · bitsLt_bf16_f32) main_arg0
  let main_v1 : FVec F S16384x4096 .f32 := Host.absf main_v0
  let main_cst : FVec F S_ .f32 := constant S_ .f32 0x7F800000#32
  let main_v2 : FVec F S16384x4096 .f32 := broadcastInDim S16384x4096 ![] bcast_S_S16384x4096 main_cst
  let main_v3 : IVec S16384x4096 1 := cmpf .olt main_v1 main_v2
  let main_c : IVec S_ 1 := constantI S_ 1 1#1
  let main_v4 : IVec S_ 1 := (fun x v => Host.reduce IntOp.andi x v reducesTo_S16384x4096_S_d0_1 h_S_) main_v3 main_c
  let main_v5 : FVec F S16384 .f32 := Host.absf main_arg1
  let main_cst_0 : FVec F S_ .f32 := constant S_ .f32 0x7F800000#32
  let main_v6 : FVec F S16384 .f32 := broadcastInDim S16384 ![] bcast_S_S16384 main_cst_0
  let main_v7 : IVec S16384 1 := cmpf .olt main_v5 main_v6
  let main_c_1 : IVec S_ 1 := constantI S_ 1 1#1
  let main_v8 : IVec S_ 1 := (fun x v => Host.reduce IntOp.andi x v reducesTo_S16384_S_d0 h_S_) main_v7 main_c_1
  let main_v9 : IVec S_ 1 := andi main_v4 main_v8
  let main_v10 : FVec F S2x4096 .f32 := Host.absf main_arg2
  let main_cst_2 : FVec F S_ .f32 := constant S_ .f32 0x7F800000#32
  let main_v11 : FVec F S2x4096 .f32 := broadcastInDim S2x4096 ![] bcast_S_S2x4096 main_cst_2
  let main_v12 : IVec S2x4096 1 := cmpf .olt main_v10 main_v11
  let main_c_3 : IVec S_ 1 := constantI S_ 1 1#1
  let main_v13 : IVec S_ 1 := (fun x v => Host.reduce IntOp.andi x v reducesTo_S2x4096_S_d0_1 h_S_) main_v12 main_c_3
  let main_v14 : IVec S_ 1 := andi main_v9 main_v13
  let main_v15 : FVec F S2x4096x18432 .f32 := Host.absf main_arg3
  let main_cst_4 : FVec F S_ .f32 := constant S_ .f32 0x7F800000#32
  let main_v16 : FVec F S2x4096x18432 .f32 := broadcastInDim S2x4096x18432 ![] bcast_S_S2x4096x18432 main_cst_4
  fn_part1 (F := F) main_v14 main_v15 main_v16
-- ==== Pre_finite_inputs.lean ====
abbrev S16384x4096 : Shape := ⟨2, ![16384, 4096]⟩
abbrev S16384 : Shape := ⟨1, ![16384]⟩
abbrev S2x4096 : Shape := ⟨2, ![2, 4096]⟩
abbrev S2x4096x18432 : Shape := ⟨3, ![2, 4096, 18432]⟩
abbrev S_ : Shape := ⟨0, ![]⟩

class Facts : Prop where
  bitsLt_bf16_f32 : FTy.bits .bf16 < FTy.bits .f32
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S16384 : S_.BroadcastsInDim S16384 (![] : Fin 0 → Fin S16384.rank)
  reducesTo_S16384_S_d0 : S16384.ReducesTo [0] S_
  bcast_S_S2x4096 : S_.BroadcastsInDim S2x4096 (![] : Fin 0 → Fin S2x4096.rank)
  reducesTo_S2x4096_S_d0_1 : S2x4096.ReducesTo [0, 1] S_
  bcast_S_S2x4096x18432 : S_.BroadcastsInDim S2x4096x18432 (![] : Fin 0 → Fin S2x4096x18432.rank)
  reducesTo_S2x4096x18432_S_d0_1_2 : S2x4096x18432.ReducesTo [0, 1, 2] S_

variable [Facts]

def fn_part1 {F : FTy → Type} [FloatOps F] (main_v14 : IVec S_ 1) (main_v15 : FVec F S2x4096x18432 .f32) (main_v16 : FVec F S2x4096x18432 .f32) : IVec S_ 1 :=
  let main_v17 : IVec S2x4096x18432 1 := cmpf .olt main_v15 main_v16
  let main_c_5 : IVec S_ 1 := constantI S_ 1 1#1
  let main_v18 : IVec S_ 1 := (fun x v => Host.reduce IntOp.andi x v reducesTo_S2x4096x18432_S_d0_1_2 h_S_) main_v17 main_c_5
  let main_v19 : IVec S_ 1 := andi main_v14 main_v18
  main_v19

def fn {F : FTy → Type} [FloatOps F] (main_arg0 : FVec F S16384x4096 .bf16) (main_arg1 : FVec F S16384 .f32) (main_arg2 : FVec F S2x4096 .f32) (main_arg3 : FVec F S2x4096x18432 .f32) : IVec S_ 1 :=
  let main_v0 : FVec F S16384x4096 .f32 := (extf .f32 · bitsLt_bf16_f32) main_arg0
  let main_v1 : FVec F S16384x4096 .f32 := Host.absf main_v0
  let main_cst : FVec F S_ .f32 := constant S_ .f32 0x7F800000#32
  let main_v2 : FVec F S16384x4096 .f32 := broadcastInDim S16384x4096 ![] bcast_S_S16384x4096 main_cst
  let main_v3 : IVec S16384x4096 1 := cmpf .olt main_v1 main_v2
  let main_c : IVec S_ 1 := constantI S_ 1 1#1
  let main_v4 : IVec S_ 1 := (fun x v => Host.reduce IntOp.andi x v reducesTo_S16384x4096_S_d0_1 h_S_) main_v3 main_c
  let main_v5 : FVec F S16384 .f32 := Host.absf main_arg1
  let main_cst_0 : FVec F S_ .f32 := constant S_ .f32 0x7F800000#32
  let main_v6 : FVec F S16384 .f32 := broadcastInDim S16384 ![] bcast_S_S16384 main_cst_0
  let main_v7 : IVec S16384 1 := cmpf .olt main_v5 main_v6
  let main_c_1 : IVec S_ 1 := constantI S_ 1 1#1
  let main_v8 : IVec S_ 1 := (fun x v => Host.reduce IntOp.andi x v reducesTo_S16384_S_d0 h_S_) main_v7 main_c_1
  let main_v9 : IVec S_ 1 := andi main_v4 main_v8
  let main_v10 : FVec F S2x4096 .f32 := Host.absf main_arg2
  let main_cst_2 : FVec F S_ .f32 := constant S_ .f32 0x7F800000#32
  let main_v11 : FVec F S2x4096 .f32 := broadcastInDim S2x4096 ![] bcast_S_S2x4096 main_cst_2
  let main_v12 : IVec S2x4096 1 := cmpf .olt main_v10 main_v11
  let main_c_3 : IVec S_ 1 := constantI S_ 1 1#1
  let main_v13 : IVec S_ 1 := (fun x v => Host.reduce IntOp.andi x v reducesTo_S2x4096_S_d0_1 h_S_) main_v12 main_c_3
  let main_v14 : IVec S_ 1 := andi main_v9 main_v13
  let main_v15 : FVec F S2x4096x18432 .f32 := Host.absf main_arg3
  let main_cst_4 : FVec F S_ .f32 := constant S_ .f32 0x7F800000#32
  let main_v16 : FVec F S2x4096x18432 .f32 := broadcastInDim S2x4096x18432 ![] bcast_S_S2x4096x18432 main_cst_4
  fn_part1 (F := F) main_v14 main_v15 main_v16
-- ==== Pre_finite_spatial.lean ====
abbrev S16384x4096 : Shape := ⟨2, ![16384, 4096]⟩
abbrev S16384 : Shape := ⟨1, ![16384]⟩
abbrev S2x4096 : Shape := ⟨2, ![2, 4096]⟩
abbrev S2x4096x18432 : Shape := ⟨3, ![2, 4096, 18432]⟩
abbrev S16384x2048 : Shape := ⟨2, ![16384, 2048]⟩
abbrev S2x2048 : Shape := ⟨2, ![2, 2048]⟩
abbrev S2x16x128x128 : Shape := ⟨4, ![2, 16, 128, 128]⟩
abbrev S2x16x128 : Shape := ⟨3, ![2, 16, 128]⟩
abbrev S_ : Shape := ⟨0, ![]⟩

class Facts : Prop where
  bitsLt_bf16_f32 : FTy.bits .bf16 < FTy.bits .f32
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S16384 : S_.BroadcastsInDim S16384 (![] : Fin 0 → Fin S16384.rank)
  reducesTo_S16384_S_d0 : S16384.ReducesTo [0] S_
  bcast_S_S2x4096 : S_.BroadcastsInDim S2x4096 (![] : Fin 0 → Fin S2x4096.rank)
  reducesTo_S2x4096_S_d0_1 : S2x4096.ReducesTo [0, 1] S_
  bcast_S_S2x4096x18432 : S_.BroadcastsInDim S2x4096x18432 (![] : Fin 0 → Fin S2x4096x18432.rank)
  reducesTo_S2x4096x18432_S_d0_1_2 : S2x4096x18432.ReducesTo [0, 1, 2] S_

variable [Facts]

def fn_part1 {F : FTy → Type} [FloatOps F] (main_v14 : IVec S_ 1) (main_v15 : FVec F S2x4096x18432 .f32) (main_v16 : FVec F S2x4096x18432 .f32) : IVec S_ 1 :=
  let main_v17 : IVec S2x4096x18432 1 := cmpf .olt main_v15 main_v16
  let main_c_5 : IVec S_ 1 := constantI S_ 1 1#1
  let main_v18 : IVec S_ 1 := (fun x v => Host.reduce IntOp.andi x v reducesTo_S2x4096x18432_S_d0_1_2 h_S_) main_v17 main_c_5
  let main_v19 : IVec S_ 1 := andi main_v14 main_v18
  main_v19

def fn {F : FTy → Type} [FloatOps F] (main_arg0 : FVec F S16384x4096 .bf16) (main_arg1 : FVec F S16384 .f32) (main_arg2 : FVec F S2x4096 .f32) (main_arg3 : FVec F S2x4096x18432 .f32) (main_arg4 : FVec F S16384x2048 .f32) (main_arg5 : FVec F S16384 .f32) (main_arg6 : FVec F S16384 .f32) (main_arg7 : FVec F S2x2048 .f32) (main_arg8 : FVec F S2x2048 .f32) (main_arg9 : FVec F S2x16x128x128 .f32) (main_arg10 : FVec F S2x16x128 .f32) : IVec S_ 1 :=
  let main_v0 : FVec F S16384x4096 .f32 := (extf .f32 · bitsLt_bf16_f32) main_arg0
  let main_v1 : FVec F S16384x4096 .f32 := Host.absf main_v0
  let main_cst : FVec F S_ .f32 := constant S_ .f32 0x7F800000#32
  let main_v2 : FVec F S16384x4096 .f32 := broadcastInDim S16384x4096 ![] bcast_S_S16384x4096 main_cst
  let main_v3 : IVec S16384x4096 1 := cmpf .olt main_v1 main_v2
  let main_c : IVec S_ 1 := constantI S_ 1 1#1
  let main_v4 : IVec S_ 1 := (fun x v => Host.reduce IntOp.andi x v reducesTo_S16384x4096_S_d0_1 h_S_) main_v3 main_c
  let main_v5 : FVec F S16384 .f32 := Host.absf main_arg1
  let main_cst_0 : FVec F S_ .f32 := constant S_ .f32 0x7F800000#32
  let main_v6 : FVec F S16384 .f32 := broadcastInDim S16384 ![] bcast_S_S16384 main_cst_0
  let main_v7 : IVec S16384 1 := cmpf .olt main_v5 main_v6
  let main_c_1 : IVec S_ 1 := constantI S_ 1 1#1
  let main_v8 : IVec S_ 1 := (fun x v => Host.reduce IntOp.andi x v reducesTo_S16384_S_d0 h_S_) main_v7 main_c_1
  let main_v9 : IVec S_ 1 := andi main_v4 main_v8
  let main_v10 : FVec F S2x4096 .f32 := Host.absf main_arg2
  let main_cst_2 : FVec F S_ .f32 := constant S_ .f32 0x7F800000#32
  let main_v11 : FVec F S2x4096 .f32 := broadcastInDim S2x4096 ![] bcast_S_S2x4096 main_cst_2
  let main_v12 : IVec S2x4096 1 := cmpf .olt main_v10 main_v11
  let main_c_3 : IVec S_ 1 := constantI S_ 1 1#1
  let main_v13 : IVec S_ 1 := (fun x v => Host.reduce IntOp.andi x v reducesTo_S2x4096_S_d0_1 h_S_) main_v12 main_c_3
  let main_v14 : IVec S_ 1 := andi main_v9 main_v13
  let main_v15 : FVec F S2x4096x18432 .f32 := Host.absf main_arg3
  let main_cst_4 : FVec F S_ .f32 := constant S_ .f32 0x7F800000#32
  let main_v16 : FVec F S2x4096x18432 .f32 := broadcastInDim S2x4096x18432 ![] bcast_S_S2x4096x18432 main_cst_4
  fn_part1 (F := F) main_v14 main_v15 main_v16
-- ==== Kernel.lean ====
abbrev S8192x2048 : Shape := ⟨2, ![8192, 2048]⟩
abbrev S16384x2048 : Shape := ⟨2, ![16384, 2048]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x1024 : Shape := ⟨2, ![1, 1024]⟩
abbrev S2048x1024 : Shape := ⟨2, ![2048, 1024]⟩
abbrev S1024x1 : Shape := ⟨2, ![1024, 1]⟩
abbrev S1024x1024 : Shape := ⟨2, ![1024, 1024]⟩
abbrev S4x2x2048x2048 : Shape := ⟨4, ![4, 2, 2048, 2048]⟩
abbrev S512x1024 : Shape := ⟨2, ![512, 1024]⟩
abbrev S2048x512 : Shape := ⟨2, ![2048, 512]⟩
abbrev S1x2x512x512 : Shape := ⟨4, ![1, 2, 512, 512]⟩
abbrev S1024x512 : Shape := ⟨2, ![1024, 512]⟩
abbrev S8x512 : Shape := ⟨2, ![8, 512]⟩
abbrev S256x512 : Shape := ⟨2, ![256, 512]⟩
abbrev S256x1024 : Shape := ⟨2, ![256, 1024]⟩
abbrev S1x512 : Shape := ⟨2, ![1, 512]⟩
abbrev S1x1x256x256 : Shape := ⟨4, ![1, 1, 256, 256]⟩

abbrev nBuf : Space → Nat
  | .hbm => 166
  | .vmem => 25
  | .smem => 0
  | _ => 0

abbrev hbmTy0_0 (i : Nat) : BufTy := match i % 128 with
  | 0 => ⟨S8192x2048, .bf16⟩
  | 1 => ⟨S8192x2048, .bf16⟩
  | 2 => ⟨S16384x2048, .bf16⟩
  | 3 => ⟨S256, .i32⟩
  | 4 => ⟨S256x1, .i32⟩
  | 5 => ⟨S1x256, .i32⟩
  | 6 => ⟨S256x256, .i32⟩
  | 7 => ⟨S256x256, .i32⟩
  | 8 => ⟨S256x256, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S256x256, .i32⟩
  | 16 => ⟨S256x256, .i32⟩
  | 17 => ⟨S_, .i32⟩
  | 18 => ⟨S256x256, .i32⟩
  | 19 => ⟨S256x256, .i1⟩
  | 20 => ⟨S_, .i32⟩
  | 21 => ⟨S256x256, .i32⟩
  | 22 => ⟨S256x256, .i1⟩
  | 23 => ⟨S_, .i32⟩
  | 24 => ⟨S_, .i1⟩
  | 25 => ⟨S256x256, .i1⟩
  | 26 => ⟨S256x256, .i1⟩
  | 27 => ⟨S256x256, .i1⟩
  | 28 => ⟨S256x256, .i32⟩
  | 29 => ⟨S256x256, .i32⟩
  | 30 => ⟨S256x256, .i32⟩
  | 31 => ⟨S256x256, .f32⟩
  | 32 => ⟨S_, .f32⟩
  | 33 => ⟨S_, .f32⟩
  | 34 => ⟨S_, .f32⟩
  | 35 => ⟨S_, .f32⟩
  | 36 => ⟨S256x256, .f32⟩
  | 37 => ⟨S256x256, .f32⟩
  | 38 => ⟨S256x256, .f32⟩
  | 39 => ⟨S_, .f32⟩
  | 40 => ⟨S256x256, .f32⟩
  | 41 => ⟨S256x256, .f32⟩
  | 42 => ⟨S256x256, .f32⟩
  | 43 => ⟨S_, .f32⟩
  | 44 => ⟨S256x256, .f32⟩
  | 45 => ⟨S256x256, .f32⟩
  | 46 => ⟨S2048, .i32⟩
  | 47 => ⟨S2048x1, .i32⟩
  | 48 => ⟨S1024, .i32⟩
  | 49 => ⟨S1x1024, .i32⟩
  | 50 => ⟨S_, .i32⟩
  | 51 => ⟨S1x1024, .i32⟩
  | 52 => ⟨S1x1024, .i32⟩
  | 53 => ⟨S2048x1024, .i32⟩
  | 54 => ⟨S2048x1024, .i32⟩
  | 55 => ⟨S2048x1024, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S2048x1024, .i32⟩
  | 63 => ⟨S2048x1024, .i32⟩
  | 64 => ⟨S_, .i32⟩
  | 65 => ⟨S2048x1024, .i32⟩
  | 66 => ⟨S2048x1024, .i1⟩
  | 67 => ⟨S_, .i32⟩
  | 68 => ⟨S2048x1024, .i32⟩
  | 69 => ⟨S2048x1024, .i1⟩
  | 70 => ⟨S_, .i32⟩
  | 71 => ⟨S_, .i1⟩
  | 72 => ⟨S2048x1024, .i1⟩
  | 73 => ⟨S2048x1024, .i1⟩
  | 74 => ⟨S2048x1024, .i1⟩
  | 75 => ⟨S2048x1024, .i32⟩
  | 76 => ⟨S2048x1024, .i32⟩
  | 77 => ⟨S2048x1024, .i32⟩
  | 78 => ⟨S2048x1024, .f32⟩
  | 79 => ⟨S_, .f32⟩
  | 80 => ⟨S_, .f32⟩
  | 81 => ⟨S_, .f32⟩
  | 82 => ⟨S_, .f32⟩
  | 83 => ⟨S2048x1024, .f32⟩
  | 84 => ⟨S2048x1024, .f32⟩
  | 85 => ⟨S2048x1024, .f32⟩
  | 86 => ⟨S_, .f32⟩
  | 87 => ⟨S2048x1024, .f32⟩
  | 88 => ⟨S2048x1024, .f32⟩
  | 89 => ⟨S2048x1024, .f32⟩
  | 90 => ⟨S_, .f32⟩
  | 91 => ⟨S2048x1024, .f32⟩
  | 92 => ⟨S2048x1024, .f32⟩
  | 93 => ⟨S_, .i32⟩
  | 94 => ⟨S2048x1, .i32⟩
  | 95 => ⟨S2048x1, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S2048x1, .i32⟩
  | 103 => ⟨S2048x1, .i32⟩
  | 104 => ⟨S_, .i32⟩
  | 105 => ⟨S2048x1, .i32⟩
  | 106 => ⟨S2048x1, .i1⟩
  | 107 => ⟨S_, .i32⟩
  | 108 => ⟨S2048x1, .i32⟩
  | 109 => ⟨S2048x1, .i1⟩
  | 110 => ⟨S_, .i32⟩
  | 111 => ⟨S_, .i1⟩
  | 112 => ⟨S2048x1, .i1⟩
  | 113 => ⟨S2048x1, .i1⟩
  | 114 => ⟨S2048x1, .i1⟩
  | 115 => ⟨S2048x1, .i32⟩
  | 116 => ⟨S2048x1, .i32⟩
  | 117 => ⟨S2048x1, .i32⟩
  | 118 => ⟨S2048x1, .f32⟩
  | 119 => ⟨S_, .f32⟩
  | 120 => ⟨S_, .f32⟩
  | 121 => ⟨S_, .f32⟩
  | 122 => ⟨S_, .f32⟩
  | 123 => ⟨S2048x1, .f32⟩
  | 124 => ⟨S2048x1, .f32⟩
  | 125 => ⟨S2048x1, .f32⟩
  | 126 => ⟨S_, .f32⟩
  | 127 => ⟨S2048x1, .f32⟩
  | _ => ⟨S8192x2048, .bf16⟩

abbrev hbmTy0_1 (i : Nat) : BufTy := match i % 128 with
  | 0 => ⟨S2048x1, .f32⟩
  | 1 => ⟨S2048x1, .f32⟩
  | 2 => ⟨S_, .f32⟩
  | 3 => ⟨S2048x1, .f32⟩
  | 4 => ⟨S2048x1, .f32⟩
  | 5 => ⟨S2048x1024, .f32⟩
  | 6 => ⟨S2048x1024, .f32⟩
  | 7 => ⟨S2048x1024, .f32⟩
  | 8 => ⟨S2048x1024, .f32⟩
  | 9 => ⟨S2048x1024, .f32⟩
  | 10 => ⟨S2048x1024, .f32⟩
  | 11 => ⟨S2048x1024, .f32⟩
  | 12 => ⟨S2048x1024, .f32⟩
  | 13 => ⟨S2048x1024, .f32⟩
  | 14 => ⟨S2048x1024, .f32⟩
  | 15 => ⟨S1024, .i32⟩
  | 16 => ⟨S1024x1, .i32⟩
  | 17 => ⟨S1x1024, .i32⟩
  | 18 => ⟨S1024x1024, .i32⟩
  | 19 => ⟨S1024x1024, .i32⟩
  | 20 => ⟨S1024x1024, .i32⟩
  | 21 => ⟨S_, .i32⟩
  | 22 => ⟨S1024x1024, .i32⟩
  | 23 => ⟨S1024x1024, .i1⟩
  | 24 => ⟨S_, .i32⟩
  | 25 => ⟨S1024x1024, .i32⟩
  | 26 => ⟨S1024x1024, .i1⟩
  | 27 => ⟨S2048x1024, .bf16⟩
  | 28 => ⟨S2048x1024, .bf16⟩
  | 29 => ⟨S2048x1024, .bf16⟩
  | 30 => ⟨S2048x1024, .bf16⟩
  | 31 => ⟨S1024x1024, .bf16⟩
  | 32 => ⟨S1024x1024, .bf16⟩
  | 33 => ⟨S256x256, .bf16⟩
  | 34 => ⟨S256x256, .f32⟩
  | 35 => ⟨S256x256, .bf16⟩
  | 36 => ⟨S4x2x2048x2048, .bf16⟩
  | 37 => ⟨S4x2x2048x2048, .bf16⟩
  | _ => ⟨S8192x2048, .bf16⟩

abbrev hbmTy (i : Nat) : BufTy := match i / 128 with
  | 0 => hbmTy0_0 i
  | 1 => hbmTy0_1 i
  | _ => ⟨S8192x2048, .bf16⟩

abbrev bufTy : (tb : Table) → Fin (tcTables nBuf tb) → BufTy
  | .hbm, ⟨i, _⟩ => hbmTy i
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S256x256, .bf16⟩
  | .local _ .vmem, ⟨9, _⟩ => ⟨S256x256, .bf16⟩
  | .local _ .vmem, ⟨10, _⟩ => ⟨S1024x1024, .bf16⟩
  | .local _ .vmem, ⟨11, _⟩ => ⟨S1024x1024, .bf16⟩
  | .local _ .vmem, ⟨12, _⟩ => ⟨S2048x512, .bf16⟩
  | .local _ .vmem, ⟨13, _⟩ => ⟨S2048x512, .bf16⟩
  | .local _ .vmem, ⟨14, _⟩ => ⟨S2048x512, .bf16⟩
  | .local _ .vmem, ⟨15, _⟩ => ⟨S2048x512, .bf16⟩
  | .local _ .vmem, ⟨16, _⟩ => ⟨S1x2x512x512, .bf16⟩
  | .local _ .vmem, ⟨17, _⟩ => ⟨S1x2x512x512, .bf16⟩
  | .local _ .vmem, ⟨18, _⟩ => ⟨S1x2x512x512, .bf16⟩
  | .local _ .vmem, ⟨19, _⟩ => ⟨S1x2x512x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S1024x512, .bf16⟩
  | .local _ .vmem, ⟨24, _⟩ => ⟨S8x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v6 : Ref sig .tc := ⟨.hbm, 30, rfl⟩
abbrev main_v7 : Ref sig .tc := ⟨.hbm, 31, rfl⟩
abbrev main_cst : Ref sig .tc := ⟨.hbm, 32, rfl⟩
abbrev main_v8 : Ref sig .tc := ⟨.hbm, 33, rfl⟩
abbrev main_cst_0 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_cst_1 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_cst_2 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_c_3 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_c_4 : Ref sig .tc := ⟨.hbm, 56, rfl⟩
abbrev main_call1_v0 : Ref sig .tc := ⟨.hbm, 57, rfl⟩
abbrev main_call1_c : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_c_1 : Ref sig .tc := ⟨.hbm, 64, rfl⟩
abbrev main_call1_v5 : Ref sig .tc := ⟨.hbm, 65, rfl⟩
abbrev main_call1_v6 : Ref sig .tc := ⟨.hbm, 66, rfl⟩
abbrev main_call1_c_2 : Ref sig .tc := ⟨.hbm, 67, rfl⟩
abbrev main_call1_v7 : Ref sig .tc := ⟨.hbm, 68, rfl⟩
abbrev main_call1_v8 : Ref sig .tc := ⟨.hbm, 69, rfl⟩
abbrev main_call1_c_3 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_v27 : Ref sig .tc := ⟨.hbm, 77, rfl⟩
abbrev main_v28 : Ref sig .tc := ⟨.hbm, 78, rfl⟩
abbrev main_cst_5 : Ref sig .tc := ⟨.hbm, 79, rfl⟩
abbrev main_v29 : Ref sig .tc := ⟨.hbm, 80, rfl⟩
abbrev main_cst_6 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_cst_7 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_cst_8 : Ref sig .tc := ⟨.hbm, 90, rfl⟩
abbrev main_v37 : Ref sig .tc := ⟨.hbm, 91, rfl⟩
abbrev main_v38 : Ref sig .tc := ⟨.hbm, 92, rfl⟩
abbrev main_c_9 : Ref sig .tc := ⟨.hbm, 93, rfl⟩
abbrev main_v39 : Ref sig .tc := ⟨.hbm, 94, rfl⟩
abbrev main_v40 : Ref sig .tc := ⟨.hbm, 95, rfl⟩
abbrev main_c_10 : Ref sig .tc := ⟨.hbm, 96, rfl⟩
abbrev main_call2_v0 : Ref sig .tc := ⟨.hbm, 97, rfl⟩
abbrev main_call2_c : Ref sig .tc := ⟨.hbm, 98, rfl⟩
abbrev main_call2_v1 : Ref sig .tc := ⟨.hbm, 99, rfl⟩
abbrev main_call2_c_0 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_c_1 : Ref sig .tc := ⟨.hbm, 104, rfl⟩
abbrev main_call2_v5 : Ref sig .tc := ⟨.hbm, 105, rfl⟩
abbrev main_call2_v6 : Ref sig .tc := ⟨.hbm, 106, rfl⟩
abbrev main_call2_c_2 : Ref sig .tc := ⟨.hbm, 107, rfl⟩
abbrev main_call2_v7 : Ref sig .tc := ⟨.hbm, 108, rfl⟩
abbrev main_call2_v8 : Ref sig .tc := ⟨.hbm, 109, rfl⟩
abbrev main_call2_c_3 : Ref sig .tc := ⟨.hbm, 110, rfl⟩
abbrev main_call2_v9 : Ref sig .tc := ⟨.hbm, 111, rfl⟩
abbrev main_call2_v10 : Ref sig .tc := ⟨.hbm, 112, rfl⟩
abbrev main_call2_v11 : Ref sig .tc := ⟨.hbm, 113, rfl⟩
abbrev main_call2_v12 : Ref sig .tc := ⟨.hbm, 114, rfl⟩
abbrev main_call2_v13 : Ref sig .tc := ⟨.hbm, 115, rfl⟩
abbrev main_call2_v14 : Ref sig .tc := ⟨.hbm, 116, rfl⟩
abbrev main_v41 : Ref sig .tc := ⟨.hbm, 117, rfl⟩
abbrev main_v42 : Ref sig .tc := ⟨.hbm, 118, rfl⟩
abbrev main_cst_11 : Ref sig .tc := ⟨.hbm, 119, rfl⟩
abbrev main_v43 : Ref sig .tc := ⟨.hbm, 120, rfl⟩
abbrev main_cst_12 : Ref sig .tc := ⟨.hbm, 121, rfl⟩
abbrev main_v44 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_cst_13 : Ref sig .tc := ⟨.hbm, 126, rfl⟩
abbrev main_v48 : Ref sig .tc := ⟨.hbm, 127, rfl⟩
abbrev main_v49 : Ref sig .tc := ⟨.hbm, 128, rfl⟩
abbrev main_v50 : Ref sig .tc := ⟨.hbm, 129, rfl⟩
abbrev main_cst_14 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_v66 : Ref sig .tc := ⟨.hbm, 146, rfl⟩
abbrev main_v67 : Ref sig .tc := ⟨.hbm, 147, rfl⟩
abbrev main_v68 : Ref sig .tc := ⟨.hbm, 148, rfl⟩
abbrev main_c_15 : Ref sig .tc := ⟨.hbm, 149, rfl⟩
abbrev main_v69 : Ref sig .tc := ⟨.hbm, 150, rfl⟩
abbrev main_v70 : Ref sig .tc := ⟨.hbm, 151, rfl⟩
abbrev main_c_16 : Ref sig .tc := ⟨.hbm, 152, rfl⟩
abbrev main_v71 : Ref sig .tc := ⟨.hbm, 153, rfl⟩
abbrev main_v72 : Ref sig .tc := ⟨.hbm, 154, rfl⟩
abbrev main_v73 : Ref sig .tc := ⟨.hbm, 155, rfl⟩
abbrev main_v74 : Ref sig .tc := ⟨.hbm, 156, rfl⟩
abbrev main_v75 : Ref sig .tc := ⟨.hbm, 157, rfl⟩
abbrev main_v76 : Ref sig .tc := ⟨.hbm, 158, rfl⟩
abbrev main_v77 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_v82 : Ref sig .tc := ⟨.hbm, 164, rfl⟩
abbrev main_v83 : Ref sig .tc := ⟨.hbm, 165, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19

abbrev nD : Nat := 1
abbrev τ : Topo := Topo.v7x

variable {F : FTy → Type} [FloatOps F]

abbrev grid0 : Pipeline.Grid := ⟨3, ![4, 4, 4], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat, arg1.toNat]

def cc0_transform_11 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x2x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S1x2x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]
-- ==== ReferenceIdeal.lean ====
abbrev S8192x2048 : Shape := ⟨2, ![8192, 2048]⟩
abbrev S16384x2048 : Shape := ⟨2, ![16384, 2048]⟩
abbrev S_ : Shape := ⟨0, ![]⟩
abbrev S8192x1x2048 : Shape := ⟨3, ![8192, 1, 2048]⟩
abbrev S8192x2x2048 : Shape := ⟨3, ![8192, 2, 2048]⟩
abbrev S4x4096x8x256 : Shape := ⟨4, ![4, 4096, 8, 256]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x8x256x4096 : Shape := ⟨4, ![4, 8, 256, 4096]⟩
abbrev S4x2x2048x2048 : Shape := ⟨4, ![4, 2, 2048, 2048]⟩

abbrev nBuf : Space → Nat
  | .hbm => 65
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S16384x2048, .bf16⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8192x2048, .f32⟩
  | .hbm, ⟨8, _⟩ => ⟨S8192x2048, .f32⟩
  | .hbm, ⟨9, _⟩ => ⟨S8192x1x2048, .f32⟩
  | .hbm, ⟨10, _⟩ => ⟨S8192x1x2048, .f32⟩
  | .hbm, ⟨11, _⟩ => ⟨S8192x2x2048, .f32⟩
  | .hbm, ⟨12, _⟩ => ⟨S4x4096x8x256, .f32⟩
  | .hbm, ⟨13, _⟩ => ⟨S4096, .i32⟩
  | .hbm, ⟨14, _⟩ => ⟨S4096x1, .i32⟩
  | .hbm, ⟨15, _⟩ => ⟨S1x4096, .i32⟩
  | .hbm, ⟨16, _⟩ => ⟨S4096x4096, .i32⟩
  | .hbm, ⟨17, _⟩ => ⟨S4096x4096, .i32⟩
  | .hbm, ⟨18, _⟩ => ⟨S4096x4096, .i32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096x4096, .f32⟩
  | .hbm, ⟨24, _⟩ => ⟨S4096x4096, .f32⟩
  | .hbm, ⟨25, _⟩ => ⟨S256, .i32⟩
  | .hbm, ⟨26, _⟩ => ⟨S256x1, .i32⟩
  | .hbm, ⟨27, _⟩ => ⟨S1x256, .i32⟩
  | .hbm, ⟨28, _⟩ => ⟨S256x256, .i32⟩
  | .hbm, ⟨29, _⟩ => ⟨S256x256, .i32⟩
  | .hbm, ⟨30, _⟩ => ⟨S256x256, .i32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S_, .f32⟩
  | .hbm, ⟨35, _⟩ => ⟨S256x256, .f32⟩
  | .hbm, ⟨36, _⟩ => ⟨S256x256, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S4096x4096, .f32⟩
  | .hbm, ⟨45, _⟩ => ⟨S4096x4096, .f32⟩
  | .hbm, ⟨46, _⟩ => ⟨S4096x4096, .f32⟩
  | .hbm, ⟨47, _⟩ => ⟨S256x256, .f32⟩
  | .hbm, ⟨48, _⟩ => ⟨S256x256, .f32⟩
  | .hbm, ⟨49, _⟩ => ⟨S256x256, .f32⟩
  | .hbm, ⟨50, _⟩ => ⟨S256x256, .f32⟩
  | .hbm, ⟨51, _⟩ => ⟨S256x256, .f32⟩
  | .hbm, ⟨52, _⟩ => ⟨S256x256, .f32⟩
  | .hbm, ⟨53, _⟩ => ⟨S4x8x256x4096, .f32⟩
  | .hbm, ⟨54, _⟩ => ⟨S4x4096x8x256, .f32⟩
  | .hbm, ⟨55, _⟩ => ⟨S4x8x256x4096, .f32⟩
  | .hbm, ⟨56, _⟩ => ⟨S4x4096x8x256, .f32⟩
  | .hbm, ⟨57, _⟩ => ⟨S4x4096x8x256, .f32⟩
  | .hbm, ⟨58, _⟩ => ⟨S4x4096x8x256, .f32⟩
  | .hbm, ⟨59, _⟩ => ⟨S4x4096x8x256, .f32⟩
  | .hbm, ⟨60, _⟩ => ⟨S16384x2048, .f32⟩
  | .hbm, ⟨61, _⟩ => ⟨S16384x2048, .f32⟩
  | .hbm, ⟨62, _⟩ => ⟨S16384x2048, .f32⟩
  | .hbm, ⟨63, _⟩ => ⟨S16384x2048, .bf16⟩
  | .hbm, ⟨64, _⟩ => ⟨S4x2x2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_cst_4 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩

abbrev nD : Nat := 1
abbrev τ : Topo := Topo.v7x

variable {F : FTy → Type} [FloatOps F]
-- ==== Gates.lean ====
abbrev S16384x4096 : Shape := ⟨2, ![16384, 4096]⟩
abbrev S16384 : Shape := ⟨1, ![16384]⟩
abbrev S2x4096 : Shape := ⟨2, ![2, 4096]⟩
abbrev S2x4096x18432 : Shape := ⟨3, ![2, 4096, 18432]⟩
abbrev S2x2x4096 : Shape := ⟨3, ![2, 2, 4096]⟩
abbrev S2x4096x1 : Shape := ⟨3, ![2, 4096, 1]⟩
abbrev S16384x1 : Shape := ⟨2, ![16384, 1]⟩
abbrev S16384x128 : Shape := ⟨2, ![16384, 128]⟩
abbrev S1x2x4096 : Shape := ⟨3, ![1, 2, 4096]⟩
abbrev S1x8192 : Shape := ⟨2, ![1, 8192]⟩
abbrev S16384x8192 : Shape := ⟨2, ![16384, 8192]⟩
abbrev S1024x4096 : Shape := ⟨2, ![1024, 4096]⟩
abbrev S1024x128 : Shape := ⟨2, ![1024, 128]⟩
abbrev S1x4096x1024 : Shape := ⟨3, ![1, 4096, 1024]⟩
abbrev S1x1024 : Shape := ⟨2, ![1, 1024]⟩
abbrev S1024x1024 : Shape := ⟨2, ![1024, 1024]⟩
abbrev S256x4096 : Shape := ⟨2, ![256, 4096]⟩
abbrev S4096x1024 : Shape := ⟨2, ![4096, 1024]⟩
abbrev S256x1024 : Shape := ⟨2, ![256, 1024]⟩
abbrev S256x128 : Shape := ⟨2, ![256, 128]⟩

abbrev nBuf : Space → Nat
  | .hbm => 15
  | .vmem => 10
  | .smem => 0
  | _ => 0

abbrev bufTy : (tb : Table) → Fin (tcTables nBuf tb) → BufTy
  | .hbm, ⟨0, _⟩ => ⟨S16384x4096, .bf16⟩
  | .hbm, ⟨1, _⟩ => ⟨S16384, .f32⟩
  | .hbm, ⟨2, _⟩ => ⟨S2x4096, .f32⟩
  | .hbm, ⟨3, _⟩ => ⟨S2x4096x18432, .f32⟩
  | .hbm, ⟨4, _⟩ => ⟨S2x2x4096, .f32⟩
  | .hbm, ⟨5, _⟩ => ⟨S2x4096x1, .f32⟩
  | .hbm, ⟨6, _⟩ => ⟨S2x4096x18432, .f32⟩
  | .hbm, ⟨7, _⟩ => ⟨S2x4096x18432, .f32⟩
  | .hbm, ⟨8, _⟩ => ⟨S2x4096x18432, .bf16⟩
  | .hbm, ⟨9, _⟩ => ⟨S16384x1, .f32⟩
  | .hbm, ⟨10, _⟩ => ⟨S16384x128, .f32⟩
  | .hbm, ⟨11, _⟩ => ⟨S1x2x4096, .f32⟩
  | .hbm, ⟨12, _⟩ => ⟨S2x4096, .f32⟩
  | .hbm, ⟨13, _⟩ => ⟨S1x8192, .f32⟩
  | .hbm, ⟨14, _⟩ => ⟨S16384x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1024x128, .f32⟩
  | .local _ .vmem, ⟨3, _⟩ => ⟨S1024x128, .f32⟩
  | .local _ .vmem, ⟨4, _⟩ => ⟨S1x4096x1024, .bf16⟩
  | .local _ .vmem, ⟨5, _⟩ => ⟨S1x4096x1024, .bf16⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== GatesReferenceIdeal.lean ====
abbrev S16384x4096 : Shape := ⟨2, ![16384, 4096]⟩
abbrev S16384 : Shape := ⟨1, ![16384]⟩
abbrev S2x4096 : Shape := ⟨2, ![2, 4096]⟩
abbrev S2x4096x18432 : Shape := ⟨3, ![2, 4096, 18432]⟩
abbrev S2x2x4096 : Shape := ⟨3, ![2, 2, 4096]⟩
abbrev S16384x1 : Shape := ⟨2, ![16384, 1]⟩
abbrev S1x4096 : Shape := ⟨2, ![1, 4096]⟩
abbrev S4096 : Shape := ⟨1, ![4096]⟩
abbrev S1x4096x8192 : Shape := ⟨3, ![1, 4096, 8192]⟩
abbrev S4096x8192 : Shape := ⟨2, ![4096, 8192]⟩
abbrev S16384x8192 : Shape := ⟨2, ![16384, 8192]⟩
abbrev S1x2x4096 : Shape := ⟨3, ![1, 2, 4096]⟩
abbrev S8192 : Shape := ⟨1, ![8192]⟩
abbrev S1x8192 : Shape := ⟨2, ![1, 8192]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384, .f32⟩
  | .hbm, ⟨2, _⟩ => ⟨S2x4096, .f32⟩
  | .hbm, ⟨3, _⟩ => ⟨S2x4096x18432, .f32⟩
  | .hbm, ⟨4, _⟩ => ⟨S2x2x4096, .f32⟩
  | .hbm, ⟨5, _⟩ => ⟨S16384x4096, .f32⟩
  | .hbm, ⟨6, _⟩ => ⟨S16384x1, .f32⟩
  | .hbm, ⟨7, _⟩ => ⟨S16384x4096, .f32⟩
  | .hbm, ⟨8, _⟩ => ⟨S16384x4096, .f32⟩
  | .hbm, ⟨9, _⟩ => ⟨S1x4096, .f32⟩
  | .hbm, ⟨10, _⟩ => ⟨S4096, .f32⟩
  | .hbm, ⟨11, _⟩ => ⟨S1x4096, .f32⟩
  | .hbm, ⟨12, _⟩ => ⟨S16384x4096, .f32⟩
  | .hbm, ⟨13, _⟩ => ⟨S16384x4096, .f32⟩
  | .hbm, ⟨14, _⟩ => ⟨S1x4096x8192, .f32⟩
  | .hbm, ⟨15, _⟩ => ⟨S4096x8192, .f32⟩
  | .hbm, ⟨16, _⟩ => ⟨S16384x8192, .f32⟩
  | .hbm, ⟨17, _⟩ => ⟨S1x2x4096, .f32⟩
  | .hbm, ⟨18, _⟩ => ⟨S2x4096, .f32⟩
  | .hbm, ⟨19, _⟩ => ⟨S8192, .f32⟩
  | .hbm, ⟨20, _⟩ => ⟨S1x8192, .f32⟩
  | .hbm, ⟨21, _⟩ => ⟨S16384x8192, .f32⟩
  | .hbm, ⟨22, _⟩ => ⟨S16384x8192, .f32⟩
  | .hbm, ⟨23, _⟩ => ⟨S16384x8192, .f32⟩
  | .hbm, ⟨24, _⟩ => ⟨S16384x8192, .f32⟩
  | .hbm, ⟨25, _⟩ => ⟨S_, .f32⟩
  | .hbm, ⟨26, _⟩ => ⟨S16384x8192, .f32⟩
  | .hbm, ⟨27, _⟩ => ⟨S16384x8192, .f32⟩
  | .hbm, ⟨28, _⟩ => ⟨S_, .f32⟩
  | .hbm, ⟨29, _⟩ => ⟨S16384x8192, .f32⟩
  | .hbm, ⟨30, _⟩ => ⟨S16384x8192, .f32⟩
  | .hbm, ⟨31, _⟩ => ⟨S16384x8192, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== Merge.lean ====
abbrev S16384x2048 : Shape := ⟨2, ![16384, 2048]⟩
abbrev S2x2048x4096 : Shape := ⟨3, ![2, 2048, 4096]⟩
abbrev S16384x8192 : Shape := ⟨2, ![16384, 8192]⟩
abbrev S16384x4096 : Shape := ⟨2, ![16384, 4096]⟩
abbrev S1024x2048 : Shape := ⟨2, ![1024, 2048]⟩
abbrev S1x2048x1024 : Shape := ⟨3, ![1, 2048, 1024]⟩
abbrev S1024x1024 : Shape := ⟨2, ![1024, 1024]⟩
abbrev S256x2048 : Shape := ⟨2, ![256, 2048]⟩
abbrev S2048x1024 : Shape := ⟨2, ![2048, 1024]⟩
abbrev S256x1024 : Shape := ⟨2, ![256, 1024]⟩

abbrev nBuf : Space → Nat
  | .hbm => 8
  | .vmem => 14
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2x2048x4096, .f32⟩
  | .hbm, ⟨3, _⟩ => ⟨S2x2048x4096, .f32⟩
  | .hbm, ⟨4, _⟩ => ⟨S16384x8192, .bf16⟩
  | .hbm, ⟨5, _⟩ => ⟨S2x2048x4096, .bf16⟩
  | .hbm, ⟨6, _⟩ => ⟨S2x2048x4096, .bf16⟩
  | .hbm, ⟨7, _⟩ => ⟨S16384x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x2048x1024, .bf16⟩
  | .local _ .vmem, ⟨7, _⟩ => ⟨S1x2048x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeReferenceIdeal.lean ====
abbrev S16384x2048 : Shape := ⟨2, ![16384, 2048]⟩
abbrev S2x2048x4096 : Shape := ⟨3, ![2, 2048, 4096]⟩
abbrev S16384x8192 : Shape := ⟨2, ![16384, 8192]⟩
abbrev S1x2048x4096 : Shape := ⟨3, ![1, 2048, 4096]⟩
abbrev S2048x4096 : Shape := ⟨2, ![2048, 4096]⟩
abbrev S16384x4096 : Shape := ⟨2, ![16384, 4096]⟩

abbrev nBuf : Space → Nat
  | .hbm => 21
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S2x2048x4096, .f32⟩
  | .hbm, ⟨3, _⟩ => ⟨S2x2048x4096, .f32⟩
  | .hbm, ⟨4, _⟩ => ⟨S16384x8192, .bf16⟩
  | .hbm, ⟨5, _⟩ => ⟨S16384x2048, .f32⟩
  | .hbm, ⟨6, _⟩ => ⟨S1x2048x4096, .f32⟩
  | .hbm, ⟨7, _⟩ => ⟨S2048x4096, .f32⟩
  | .hbm, ⟨8, _⟩ => ⟨S16384x4096, .f32⟩
  | .hbm, ⟨9, _⟩ => ⟨S16384x2048, .f32⟩
  | .hbm, ⟨10, _⟩ => ⟨S1x2048x4096, .f32⟩
  | .hbm, ⟨11, _⟩ => ⟨S2048x4096, .f32⟩
  | .hbm, ⟨12, _⟩ => ⟨S16384x4096, .f32⟩
  | .hbm, ⟨13, _⟩ => ⟨S16384x4096, .bf16⟩
  | .hbm, ⟨14, _⟩ => ⟨S16384x4096, .f32⟩
  | .hbm, ⟨15, _⟩ => ⟨S16384x4096, .f32⟩
  | .hbm, ⟨16, _⟩ => ⟨S16384x4096, .bf16⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Final.lean ====
abbrev S16384x4096 : Shape := ⟨2, ![16384, 4096]⟩
abbrev S2x4096x4096 : Shape := ⟨3, ![2, 4096, 4096]⟩
abbrev S4096 : Shape := ⟨1, ![4096]⟩
abbrev S1x4096 : Shape := ⟨2, ![1, 4096]⟩
abbrev S256x4096 : Shape := ⟨2, ![256, 4096]⟩
abbrev S1x4096x4096 : Shape := ⟨3, ![1, 4096, 4096]⟩
abbrev S256x128 : Shape := ⟨2, ![256, 128]⟩
abbrev S256x512 : Shape := ⟨2, ![256, 512]⟩
abbrev S1x4096x512 : Shape := ⟨3, ![1, 4096, 512]⟩
abbrev S4096x512 : Shape := ⟨2, ![4096, 512]⟩
abbrev S256 : Shape := ⟨1, ![256]⟩
abbrev S256x1 : Shape := ⟨2, ![256, 1]⟩
abbrev S1x512 : Shape := ⟨2, ![1, 512]⟩

abbrev nBuf : Space → Nat
  | .hbm => 7
  | .vmem => 8
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .f32⟩
  | .hbm, ⟨2, _⟩ => ⟨S16384x4096, .f32⟩
  | .hbm, ⟨3, _⟩ => ⟨S4096, .f32⟩
  | .hbm, ⟨4, _⟩ => ⟨S2x4096x4096, .bf16⟩
  | .hbm, ⟨5, _⟩ => ⟨S1x4096, .f32⟩
  | .hbm, ⟨6, _⟩ => ⟨S16384x4096, .f32⟩
  | .local _ .vmem, ⟨0, _⟩ => ⟨S256x4096, .bf16⟩
  | .local _ .vmem, ⟨1, _⟩ => ⟨S256x4096, .bf16⟩
  | .local _ .vmem, ⟨2, _⟩ => ⟨S1x4096x4096, .bf16⟩
  | .local _ .vmem, ⟨3, _⟩ => ⟨S256x4096, .f32⟩
  | .local _ .vmem, ⟨4, _⟩ => ⟨S256x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FinalReferenceIdeal.lean ====
abbrev S16384x4096 : Shape := ⟨2, ![16384, 4096]⟩
abbrev S2x4096x4096 : Shape := ⟨3, ![2, 4096, 4096]⟩
abbrev S4096 : Shape := ⟨1, ![4096]⟩
abbrev S1x4096x4096 : Shape := ⟨3, ![1, 4096, 4096]⟩
abbrev S4096x4096 : Shape := ⟨2, ![4096, 4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 25
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S2x4096x4096, .f32⟩
  | .hbm, ⟨2, _⟩ => ⟨S16384x4096, .f32⟩
  | .hbm, ⟨3, _⟩ => ⟨S4096, .f32⟩
  | .hbm, ⟨4, _⟩ => ⟨S16384x4096, .f32⟩
  | .hbm, ⟨5, _⟩ => ⟨S1x4096x4096, .f32⟩
  | .hbm, ⟨6, _⟩ => ⟨S4096x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x4096, .f32⟩
  | .hbm, ⟨21, _⟩ => ⟨S16384x4096, .f32⟩
  | .hbm, ⟨22, _⟩ => ⟨S1x4096, .f32⟩
  | .hbm, ⟨23, _⟩ => ⟨S16384x4096, .f32⟩
  | .hbm, ⟨24, _⟩ => ⟨S16384x4096, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Inputs.lean ====
abbrev S16384x4096 : Shape := ⟨2, ![16384, 4096]⟩
abbrev S16384 : Shape := ⟨1, ![16384]⟩
abbrev S2x4096 : Shape := ⟨2, ![2, 4096]⟩
abbrev S2x4096x18432 : Shape := ⟨3, ![2, 4096, 18432]⟩
abbrev S16384x1 : Shape := ⟨2, ![16384, 1]⟩
abbrev S16384x128 : Shape := ⟨2, ![16384, 128]⟩
abbrev S2x4096x1 : Shape := ⟨3, ![2, 4096, 1]⟩
abbrev S8192x2048 : Shape := ⟨2, ![8192, 2048]⟩
abbrev S16384x2048 : Shape := ⟨2, ![16384, 2048]⟩
abbrev S1024x4096 : Shape := ⟨2, ![1024, 4096]⟩
abbrev S1024x128 : Shape := ⟨2, ![1024, 128]⟩
abbrev S1x4096x512 : Shape := ⟨3, ![1, 4096, 512]⟩
abbrev S512x512 : Shape := ⟨2, ![512, 512]⟩
abbrev S1024x512 : Shape := ⟨2, ![1024, 512]⟩
abbrev S4x1024x128 : Shape := ⟨3, ![4, 1024, 128]⟩
abbrev S256x4096 : Shape := ⟨2, ![256, 4096]⟩
abbrev S256x128 : Shape := ⟨2, ![256, 128]⟩
abbrev S4096x512 : Shape := ⟨2, ![4096, 512]⟩
abbrev S256x512 : Shape := ⟨2, ![256, 512]⟩
abbrev S1x256x128 : Shape := ⟨3, ![1, 256, 128]⟩
abbrev S1x128x128 : Shape := ⟨3, ![1, 128, 128]⟩
abbrev S128x128 : Shape := ⟨2, ![128, 128]⟩

abbrev nBuf : Space → Nat
  | .hbm => 13
  | .vmem => 15
  | .smem => 0
  | _ => 0

abbrev bufTy : (tb : Table) → Fin (tcTables nBuf tb) → BufTy
  | .hbm, ⟨0, _⟩ => ⟨S16384x4096, .bf16⟩
  | .hbm, ⟨1, _⟩ => ⟨S16384, .f32⟩
  | .hbm, ⟨2, _⟩ => ⟨S2x4096, .f32⟩
  | .hbm, ⟨3, _⟩ => ⟨S2x4096x18432, .f32⟩
  | .hbm, ⟨4, _⟩ => ⟨S16384x1, .f32⟩
  | .hbm, ⟨5, _⟩ => ⟨S16384x128, .f32⟩
  | .hbm, ⟨6, _⟩ => ⟨S2x4096x1, .f32⟩
  | .hbm, ⟨7, _⟩ => ⟨S2x4096x18432, .f32⟩
  | .hbm, ⟨8, _⟩ => ⟨S2x4096x18432, .f32⟩
  | .hbm, ⟨9, _⟩ => ⟨S2x4096x18432, .bf16⟩
  | .hbm, ⟨10, _⟩ => ⟨S8192x2048, .bf16⟩
  | .hbm, ⟨11, _⟩ => ⟨S8192x2048, .bf16⟩
  | .hbm, ⟨12, _⟩ => ⟨S16384x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1024x128, .f32⟩
  | .local _ .vmem, ⟨3, _⟩ => ⟨S1024x128, .f32⟩
  | .local _ .vmem, ⟨4, _⟩ => ⟨S1x4096x512, .bf16⟩
  | .local _ .vmem, ⟨5, _⟩ => ⟨S1x4096x512, .bf16⟩
  | .local _ .vmem, ⟨6, _⟩ => ⟨S1x4096x512, .bf16⟩
  | .local _ .vmem, ⟨7, _⟩ => ⟨S1x4096x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S1024x512, .bf16⟩
  | .local _ .vmem, ⟨13, _⟩ => ⟨S1024x512, .bf16⟩
  | .local _ .vmem, ⟨14, _⟩ => ⟨S4x1024x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v6_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c1_i32 : BitVec 32 := 1#32
  let c0_i32 : BitVec 32 := 0#32
  let c0_i32_0 : BitVec 32 := 0#32
  ![c1_i32.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== InputsReferenceIdeal.lean ====
abbrev S16384x4096 : Shape := ⟨2, ![16384, 4096]⟩
abbrev S16384 : Shape := ⟨1, ![16384]⟩
abbrev S2x4096 : Shape := ⟨2, ![2, 4096]⟩
abbrev S2x4096x18432 : Shape := ⟨3, ![2, 4096, 18432]⟩
abbrev S16384x1 : Shape := ⟨2, ![16384, 1]⟩
abbrev S1x4096 : Shape := ⟨2, ![1, 4096]⟩
abbrev S4096 : Shape := ⟨1, ![4096]⟩
abbrev S1x4096x2048 : Shape := ⟨3, ![1, 4096, 2048]⟩
abbrev S4096x2048 : Shape := ⟨2, ![4096, 2048]⟩
abbrev S16384x2048 : Shape := ⟨2, ![16384, 2048]⟩
abbrev S8192x2x2048 : Shape := ⟨3, ![8192, 2, 2048]⟩
abbrev S8192x1x2048 : Shape := ⟨3, ![8192, 1, 2048]⟩
abbrev S8192x2048 : Shape := ⟨2, ![8192, 2048]⟩
abbrev S_ : Shape := ⟨0, ![]⟩

abbrev nBuf : Space → Nat
  | .hbm => 36
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384, .f32⟩
  | .hbm, ⟨2, _⟩ => ⟨S2x4096, .f32⟩
  | .hbm, ⟨3, _⟩ => ⟨S2x4096x18432, .f32⟩
  | .hbm, ⟨4, _⟩ => ⟨S16384x4096, .f32⟩
  | .hbm, ⟨5, _⟩ => ⟨S16384x1, .f32⟩
  | .hbm, ⟨6, _⟩ => ⟨S16384x4096, .f32⟩
  | .hbm, ⟨7, _⟩ => ⟨S16384x4096, .f32⟩
  | .hbm, ⟨8, _⟩ => ⟨S1x4096, .f32⟩
  | .hbm, ⟨9, _⟩ => ⟨S4096, .f32⟩
  | .hbm, ⟨10, _⟩ => ⟨S1x4096, .f32⟩
  | .hbm, ⟨11, _⟩ => ⟨S16384x4096, .f32⟩
  | .hbm, ⟨12, _⟩ => ⟨S16384x4096, .f32⟩
  | .hbm, ⟨13, _⟩ => ⟨S1x4096x2048, .f32⟩
  | .hbm, ⟨14, _⟩ => ⟨S4096x2048, .f32⟩
  | .hbm, ⟨15, _⟩ => ⟨S16384x2048, .f32⟩
  | .hbm, ⟨16, _⟩ => ⟨S8192x2x2048, .f32⟩
  | .hbm, ⟨17, _⟩ => ⟨S1x4096x2048, .f32⟩
  | .hbm, ⟨18, _⟩ => ⟨S4096x2048, .f32⟩
  | .hbm, ⟨19, _⟩ => ⟨S16384x2048, .f32⟩
  | .hbm, ⟨20, _⟩ => ⟨S8192x1x2048, .f32⟩
  | .hbm, ⟨21, _⟩ => ⟨S8192x2048, .f32⟩
  | .hbm, ⟨22, _⟩ => ⟨S8192x2048, .bf16⟩
  | .hbm, ⟨23, _⟩ => ⟨S8192x1x2048, .f32⟩
  | .hbm, ⟨24, _⟩ => ⟨S8192x2048, .f32⟩
  | .hbm, ⟨25, _⟩ => ⟨S8192x2048, .bf16⟩
  | .hbm, ⟨26, _⟩ => ⟨S16384x2048, .f32⟩
  | .hbm, ⟨27, _⟩ => ⟨S16384x2048, .f32⟩
  | .hbm, ⟨28, _⟩ => ⟨S_, .f32⟩
  | .hbm, ⟨29, _⟩ => ⟨S16384x2048, .f32⟩
  | .hbm, ⟨30, _⟩ => ⟨S16384x2048, .f32⟩
  | .hbm, ⟨31, _⟩ => ⟨S_, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Spatial.lean ====
abbrev S16384x4096 : Shape := ⟨2, ![16384, 4096]⟩
abbrev S16384 : Shape := ⟨1, ![16384]⟩
abbrev S2x4096 : Shape := ⟨2, ![2, 4096]⟩
abbrev S2x4096x18432 : Shape := ⟨3, ![2, 4096, 18432]⟩
abbrev S16384x2048 : Shape := ⟨2, ![16384, 2048]⟩
abbrev S2x2048 : Shape := ⟨2, ![2, 2048]⟩
abbrev S2x16x128x128 : Shape := ⟨4, ![2, 16, 128, 128]⟩
abbrev S2x16x128 : Shape := ⟨3, ![2, 16, 128]⟩
abbrev S2x16x128x1 : Shape := ⟨4, ![2, 16, 128, 1]⟩
abbrev S16384x1 : Shape := ⟨2, ![16384, 1]⟩
abbrev S16384x128 : Shape := ⟨2, ![16384, 128]⟩
abbrev S2x4096x1 : Shape := ⟨3, ![2, 4096, 1]⟩
abbrev S1x2048 : Shape := ⟨2, ![1, 2048]⟩
abbrev S2048 : Shape := ⟨1, ![2048]⟩
abbrev S1024x4096 : Shape := ⟨2, ![1024, 4096]⟩
abbrev S1024x128 : Shape := ⟨2, ![1024, 128]⟩
abbrev S1x4096x512 : Shape := ⟨3, ![1, 4096, 512]⟩
abbrev S1024x512 : Shape := ⟨2, ![1024, 512]⟩
abbrev S1x512 : Shape := ⟨2, ![1, 512]⟩
abbrev S1x4x128x128 : Shape := ⟨4, ![1, 4, 128, 128]⟩
abbrev S256x4096 : Shape := ⟨2, ![256, 4096]⟩
abbrev S256x128 : Shape := ⟨2, ![256, 128]⟩
abbrev S4096x512 : Shape := ⟨2, ![4096, 512]⟩
abbrev S256x512 : Shape := ⟨2, ![256, 512]⟩
abbrev S128x128 : Shape := ⟨2, ![128, 128]⟩
abbrev S128x256 : Shape := ⟨2, ![128, 256]⟩
abbrev S1x1x128x128 : Shape := ⟨4, ![1, 1, 128, 128]⟩

abbrev nBuf : Space → Nat
  | .hbm => 31
  | .vmem => 24
  | .smem => 0
  | _ => 0

abbrev bufTy : (tb : Table) → Fin (tcTables nBuf tb) → BufTy
  | .hbm, ⟨0, _⟩ => ⟨S16384x4096, .bf16⟩
  | .hbm, ⟨1, _⟩ => ⟨S16384, .f32⟩
  | .hbm, ⟨2, _⟩ => ⟨S2x4096, .f32⟩
  | .hbm, ⟨3, _⟩ => ⟨S2x4096x18432, .f32⟩
  | .hbm, ⟨4, _⟩ => ⟨S16384x2048, .f32⟩
  | .hbm, ⟨5, _⟩ => ⟨S16384, .f32⟩
  | .hbm, ⟨6, _⟩ => ⟨S16384, .f32⟩
  | .hbm, ⟨7, _⟩ => ⟨S2x2048, .f32⟩
  | .hbm, ⟨8, _⟩ => ⟨S2x2048, .f32⟩
  | .hbm, ⟨9, _⟩ => ⟨S2x16x128x128, .f32⟩
  | .hbm, ⟨10, _⟩ => ⟨S2x16x128, .f32⟩
  | .hbm, ⟨11, _⟩ => ⟨S2x16x128x1, .f32⟩
  | .hbm, ⟨12, _⟩ => ⟨S2x16x128x128, .f32⟩
  | .hbm, ⟨13, _⟩ => ⟨S16384x1, .f32⟩
  | .hbm, ⟨14, _⟩ => ⟨S16384x128, .f32⟩
  | .hbm, ⟨15, _⟩ => ⟨S2x4096x1, .f32⟩
  | .hbm, ⟨16, _⟩ => ⟨S2x4096x18432, .f32⟩
  | .hbm, ⟨17, _⟩ => ⟨S2x4096x18432, .f32⟩
  | .hbm, ⟨18, _⟩ => ⟨S2x4096x18432, .bf16⟩
  | .hbm, ⟨19, _⟩ => ⟨S16384x1, .f32⟩
  | .hbm, ⟨20, _⟩ => ⟨S16384x128, .f32⟩
  | .hbm, ⟨21, _⟩ => ⟨S16384x1, .f32⟩
  | .hbm, ⟨22, _⟩ => ⟨S16384x128, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S2048, .f32⟩
  | .hbm, ⟨27, _⟩ => ⟨S2x16x128x128, .bf16⟩
  | .hbm, ⟨28, _⟩ => ⟨S1x2048, .f32⟩
  | .hbm, ⟨29, _⟩ => ⟨S1x2048, .f32⟩
  | .hbm, ⟨30, _⟩ => ⟨S16384x2048, .bf16⟩
  | .local _ .vmem, ⟨0, _⟩ => ⟨S1024x4096, .bf16⟩
  | .local _ .vmem, ⟨1, _⟩ => ⟨S1024x4096, .bf16⟩
  | .local _ .vmem, ⟨2, _⟩ => ⟨S1024x128, .f32⟩
  | .local _ .vmem, ⟨3, _⟩ => ⟨S1024x128, .f32⟩
  | .local _ .vmem, ⟨4, _⟩ => ⟨S1x4096x512, .bf16⟩
  | .local _ .vmem, ⟨5, _⟩ => ⟨S1x4096x512, .bf16⟩
  | .local _ .vmem, ⟨6, _⟩ => ⟨S1x4096x512, .bf16⟩
  | .local _ .vmem, ⟨7, _⟩ => ⟨S1x4096x512, .bf16⟩
  | .local _ .vmem, ⟨8, _⟩ => ⟨S1024x512, .f32⟩
  | .local _ .vmem, ⟨9, _⟩ => ⟨S1024x512, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x4x128x128, .bf16⟩
  | .local _ .vmem, ⟨19, _⟩ => ⟨S1x4x128x128, .bf16⟩
  | .local _ .vmem, ⟨20, _⟩ => ⟨S1x4x128x128, .f32⟩
  | .local _ .vmem, ⟨21, _⟩ => ⟨S1x4x128x128, .f32⟩
  | .local _ .vmem, ⟨22, _⟩ => ⟨S1024x512, .bf16⟩
  | .local _ .vmem, ⟨23, _⟩ => ⟨S1024x512, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c1_i32 : BitVec 32 := 1#32
  let c0_i32_0 : BitVec 32 := 0#32
  let c0_i32_1 : BitVec 32 := 0#32
  ![c1_i32.toNat, c0_i32_0.toNat, v0.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c1_i32 : BitVec 32 := 1#32
  let c0_i32 : BitVec 32 := 0#32
  let c0_i32_0 : BitVec 32 := 0#32
  ![c1_i32.toNat, c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, arg1.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x4x128x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x4x128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1024x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== SpatialReferenceIdeal.lean ====
abbrev S16384x4096 : Shape := ⟨2, ![16384, 4096]⟩
abbrev S16384 : Shape := ⟨1, ![16384]⟩
abbrev S2x4096 : Shape := ⟨2, ![2, 4096]⟩
abbrev S2x4096x18432 : Shape := ⟨3, ![2, 4096, 18432]⟩
abbrev S16384x2048 : Shape := ⟨2, ![16384, 2048]⟩
abbrev S2x2048 : Shape := ⟨2, ![2, 2048]⟩
abbrev S2x16x128x128 : Shape := ⟨4, ![2, 16, 128, 128]⟩
abbrev S2x16x128 : Shape := ⟨3, ![2, 16, 128]⟩
abbrev S16384x1 : Shape := ⟨2, ![16384, 1]⟩
abbrev S1x4096 : Shape := ⟨2, ![1, 4096]⟩
abbrev S4096 : Shape := ⟨1, ![4096]⟩
abbrev S1x4096x2048 : Shape := ⟨3, ![1, 4096, 2048]⟩
abbrev S4096x2048 : Shape := ⟨2, ![4096, 2048]⟩
abbrev S_ : Shape := ⟨0, ![]⟩
abbrev S1x2048 : Shape := ⟨2, ![1, 2048]⟩
abbrev S2048 : Shape := ⟨1, ![2048]⟩
abbrev S128x128x16x128 : Shape := ⟨4, ![128, 128, 16, 128]⟩
abbrev S1x16x128x128 : Shape := ⟨4, ![1, 16, 128, 128]⟩
abbrev S16x128x128 : Shape := ⟨3, ![16, 128, 128]⟩
abbrev S16x128x128x128 : Shape := ⟨4, ![16, 128, 128, 128]⟩
abbrev S1x16x128 : Shape := ⟨3, ![1, 16, 128]⟩
abbrev S16x128 : Shape := ⟨2, ![16, 128]⟩
abbrev S128x16 : Shape := ⟨2, ![128, 16]⟩
abbrev S1x128x16x1 : Shape := ⟨4, ![1, 128, 16, 1]⟩

abbrev nBuf : Space → Nat
  | .hbm => 83
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384, .f32⟩
  | .hbm, ⟨2, _⟩ => ⟨S2x4096, .f32⟩
  | .hbm, ⟨3, _⟩ => ⟨S2x4096x18432, .f32⟩
  | .hbm, ⟨4, _⟩ => ⟨S16384x2048, .f32⟩
  | .hbm, ⟨5, _⟩ => ⟨S16384, .f32⟩
  | .hbm, ⟨6, _⟩ => ⟨S16384, .f32⟩
  | .hbm, ⟨7, _⟩ => ⟨S2x2048, .f32⟩
  | .hbm, ⟨8, _⟩ => ⟨S2x2048, .f32⟩
  | .hbm, ⟨9, _⟩ => ⟨S2x16x128x128, .f32⟩
  | .hbm, ⟨10, _⟩ => ⟨S2x16x128, .f32⟩
  | .hbm, ⟨11, _⟩ => ⟨S16384x4096, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S4096, .f32⟩
  | .hbm, ⟨17, _⟩ => ⟨S1x4096, .f32⟩
  | .hbm, ⟨18, _⟩ => ⟨S16384x4096, .f32⟩
  | .hbm, ⟨19, _⟩ => ⟨S16384x4096, .f32⟩
  | .hbm, ⟨20, _⟩ => ⟨S1x4096x2048, .f32⟩
  | .hbm, ⟨21, _⟩ => ⟨S4096x2048, .f32⟩
  | .hbm, ⟨22, _⟩ => ⟨S16384x2048, .f32⟩
  | .hbm, ⟨23, _⟩ => ⟨S16384x2048, .f32⟩
  | .hbm, ⟨24, _⟩ => ⟨S16384x2048, .f32⟩
  | .hbm, ⟨25, _⟩ => ⟨S_, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S_, .f32⟩
  | .hbm, ⟨30, _⟩ => ⟨S16384x2048, .f32⟩
  | .hbm, ⟨31, _⟩ => ⟨S16384x2048, .f32⟩
  | .hbm, ⟨32, _⟩ => ⟨S16384x2048, .f32⟩
  | .hbm, ⟨33, _⟩ => ⟨S_, .f32⟩
  | .hbm, ⟨34, _⟩ => ⟨S16384x2048, .f32⟩
  | .hbm, ⟨35, _⟩ => ⟨S16384x2048, .f32⟩
  | .hbm, ⟨36, _⟩ => ⟨S_, .f32⟩
  | .hbm, ⟨37, _⟩ => ⟨S16384x2048, .f32⟩
  | .hbm, ⟨38, _⟩ => ⟨S16384x2048, .f32⟩
  | .hbm, ⟨39, _⟩ => ⟨S16384x2048, .f32⟩
  | .hbm, ⟨40, _⟩ => ⟨S1x4096x2048, .f32⟩
  | .hbm, ⟨41, _⟩ => ⟨S4096x2048, .f32⟩
  | .hbm, ⟨42, _⟩ => ⟨S16384x2048, .f32⟩
  | .hbm, ⟨43, _⟩ => ⟨S16384x1, .f32⟩
  | .hbm, ⟨44, _⟩ => ⟨S16384x2048, .f32⟩
  | .hbm, ⟨45, _⟩ => ⟨S16384x2048, .f32⟩
  | .hbm, ⟨46, _⟩ => ⟨S16384x1, .f32⟩
  | .hbm, ⟨47, _⟩ => ⟨S16384x2048, .f32⟩
  | .hbm, ⟨48, _⟩ => ⟨S16384x2048, .f32⟩
  | .hbm, ⟨49, _⟩ => ⟨S1x2048, .f32⟩
  | .hbm, ⟨50, _⟩ => ⟨S2048, .f32⟩
  | .hbm, ⟨51, _⟩ => ⟨S1x2048, .f32⟩
  | .hbm, ⟨52, _⟩ => ⟨S16384x2048, .f32⟩
  | .hbm, ⟨53, _⟩ => ⟨S16384x2048, .f32⟩
  | .hbm, ⟨54, _⟩ => ⟨S1x2048, .f32⟩
  | .hbm, ⟨55, _⟩ => ⟨S2048, .f32⟩
  | .hbm, ⟨56, _⟩ => ⟨S1x2048, .f32⟩
  | .hbm, ⟨57, _⟩ => ⟨S16384x2048, .f32⟩
  | .hbm, ⟨58, _⟩ => ⟨S16384x2048, .f32⟩
  | .hbm, ⟨59, _⟩ => ⟨S128x128x16x128, .f32⟩
  | .hbm, ⟨60, _⟩ => ⟨S1x16x128x128, .f32⟩
  | .hbm, ⟨61, _⟩ => ⟨S16x128x128, .f32⟩
  | .hbm, ⟨62, _⟩ => ⟨S16x128x128x128, .f32⟩
  | .hbm, ⟨63, _⟩ => ⟨S128x128x16x128, .f32⟩
  | .hbm, ⟨64, _⟩ => ⟨S1x16x128, .f32⟩
  | .hbm, ⟨65, _⟩ => ⟨S16x128, .f32⟩
  | .hbm, ⟨66, _⟩ => ⟨S128x16, .f32⟩
  | .hbm, ⟨67, _⟩ => ⟨S1x128x16x1, .f32⟩
  | .hbm, ⟨68, _⟩ => ⟨S128x128x16x128, .f32⟩
  | .hbm, ⟨69, _⟩ => ⟨S128x128x16x128, .f32⟩
  | .hbm, ⟨70, _⟩ => ⟨S16384x2048, .f32⟩
  | .hbm, ⟨71, _⟩ => ⟨S16384x2048, .f32⟩
  | .hbm, ⟨72, _⟩ => ⟨S16384x2048, .f32⟩
  | .hbm, ⟨73, _⟩ => ⟨S16384x2048, .f32⟩
  | .hbm, ⟨74, _⟩ => ⟨S_, .f32⟩
  | .hbm, ⟨75, _⟩ => ⟨S16384x2048, .f32⟩
  | .hbm, ⟨76, _⟩ => ⟨S16384x2048, .f32⟩
  | .hbm, ⟨77, _⟩ => ⟨S_, .f32⟩
  | .hbm, ⟨78, _⟩ => ⟨S16384x2048, .f32⟩
  | .hbm, ⟨79, _⟩ => ⟨S16384x2048, .f32⟩
  | .hbm, ⟨80, _⟩ => ⟨S16384x2048, .f32⟩
  | .hbm, ⟨81, _⟩ => ⟨S16384x2048, .f32⟩
  | .hbm, ⟨82, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_call0_v5 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩

abbrev nD : Nat := 1
abbrev τ : Topo := Topo.v7x

variable {F : FTy → Type} [FloatOps F]
-- ==== Proof.Block.lean ====
/-
  What one grid point computes: the closed form of the two 256-row halves of its output tile, entry by entry, as a function of
  the tables, the gate tile and the folded slabs it reads.
-/
module
public import proofs.«01_k».proof.Defs
public import proofs.«01_k».proof.Proof.Gen.KernelIdeal.Frame
public import Idealize.ShloMosaic.Lib.Pipeline.Value
public import Idealize.ShloMosaic.Lib.Pipeline.ValueKit.Tiles
public import Idealize.ShloMosaic.Lib.MatmulPlain
public import Idealize.ShloMosaic.Lib.ValueIdx
public import Idealize.ShloMosaic.Lib.Affine
public import Idealize.ShloMosaic.Lib.IdealHost
public import Idealize.ShloMosaic.Lib.Tactic
@[expose] public section
noncomputable section
namespace Cert.Mix
open Cert.KernelIdeal Cert.KernelIdeal.Gen Idealize.ShloMosaic Idealize.ShloMosaic.TcCoe Idealize.SL.Sem
open Idealize.ShloMosaic.ValueIdx
open scoped BigOperators

/-! ## Constants -/

/-- The zero accumulator's bit pattern is 0. -/
theorem bits_zero : (Ideal.ofBits .f32 0x00000000#32 : EReal) = 0 := by simp [Ideal.ofBits, Ideal.ieee]
/-- 1/64. -/
theorem bits_sixtyfourth : (Ideal.ofBits .f32 0x3C800000#32 : EReal) = ((1 / 64 : ℝ) : EReal) := by
  simp [Ideal.ofBits, Ideal.ieee, -EReal.coe_mul]; norm_num
/-- −1/64. -/
theorem bits_neg_sixtyfourth : (Ideal.ofBits .f32 0xBC800000#32 : EReal) = ((-(1 / 64) : ℝ) : EReal) := by
  simp [Ideal.ofBits, Ideal.ieee, -EReal.coe_mul]; norm_num

/-! ## The vector expressions the body is made of -/

/-- A 256-row piece of a table times a slab. -/
def mm (A : FVec Ideal S256x1024 .bf16) (B : FVec Ideal S1024x512 .bf16) : FVec Ideal S256x512 .f32 :=
  matmul dot_S256x1024_S1024x512_S256x512_1_0_0_1_n_n none (shapeCast S256x1024 A shapeCasts_S256x1024_S256x1024) B
    (constant S256x512 .f32 0x00000000#32)

theorem mm_apply (A : FVec Ideal S256x1024 .bf16) (B : FVec Ideal S1024x512 .bf16) (r : Fin 256) (j : Fin 512) :
    mm A B (ix2 r j) = ∑ k : Fin 1024, A (ix2 r k) * B (ix2 k j) := by
  have h := Ideal.matmul_plain_apply (M := 256) (K := 1024) (N := 512) none
    (shapeCast S256x1024 A shapeCasts_S256x1024_S256x1024) B (constant S256x512 .f32 0x00000000#32) r j
  rw [shapeCast_self] at h
  unfold mm
  rw [shapeCast_self]
  refine (show _ = _ from h).trans ?_
  show Ideal.ofBits .f32 0x00000000#32 + _ = _
  rw [bits_zero, zero_add]

/-- The row at the Nyquist position, with the sign the frequency's parity gives it; `w` is the first frequency of the piece. -/
def nyq (w : BitVec 32) (xh : FVec Ideal S1x512 .f32) : FVec Ideal S256x512 .f32 :=
  mulf (select (cmpi .eq (andi (addi (broadcast S256x512 w) (iota .tc S256x512 32 [0] iota_S256x512_d0_w32))
      (broadcast S256x512 1#32)) (broadcast S256x512 0#32))
      (broadcast S256x512 (Scalar.ofBits (F := Ideal) .f32 0x3C800000#32))
      (broadcast S256x512 (Scalar.ofBits (F := Ideal) .f32 0xBC800000#32)))
    (broadcastTo S256x512 xh broadcasts_S1x512_S256x512)

/-- ±1/64 by the parity of a row number. -/
def paritySign (r : ℕ) : EReal := if r % 2 = 0 then ((1 / 64 : ℝ) : EReal) else ((-(1 / 64) : ℝ) : EReal)

theorem nyq_apply (n : ℕ) (hn : n % 2 = 0) (hl : n < 2 ^ 31) (xh : FVec Ideal S1x512 .f32) (r : Fin 256) (j : Fin 512) :
    nyq (BitVec.ofNat 32 n) xh (ix2 r j) = paritySign r.val * xh (ix2 0 j) := by
  have hb : (broadcastTo S256x512 xh broadcasts_S1x512_S256x512) (ix2 r j) = xh (ix2 (0 : Fin 1) j) :=
    broadcastTo_apply _ _ _ _ (by intro a; fin_cases a <;> rfl)
  have hc : (IntOp.cmpi .eq (IntOp.andi (IntOp.addi (BitVec.ofNat 32 n) (BitVec.ofNat 32 r.val)) 1#32) 0#32 = 1#1) ↔ r.val % 2 = 0 := by
    rw [IntOp.cmpi_eq, ← BitVec.toNat_inj]
    have h1 : (IntOp.andi (IntOp.addi (BitVec.ofNat 32 n) (BitVec.ofNat 32 r.val)) 1#32).toNat = (n + r.val) % 2 := by
      show (((BitVec.ofNat 32 n) + (BitVec.ofNat 32 r.val)) &&& 1#32).toNat = _
      rw [BitVec.toNat_and, BitVec.toNat_add, BitVec.toNat_ofNat, BitVec.toNat_ofNat]
      show _ &&& 1 = _
      rw [Nat.and_one_is_mod]
      have := r.isLt
      omega
    rw [h1]
    show (n + r.val) % 2 = 0 ↔ _
    omega
  have hi : (iota .tc S256x512 32 [0] iota_S256x512_d0_w32) (ix2 r j) = BitVec.ofNat 32 r.val := by
    show BitVec.ofNat 32 (0 * 512 + r.val) = _
    rw [Nat.zero_mul, Nat.zero_add]
  show Scalar.select (IntOp.cmpi .eq (IntOp.andi (IntOp.addi (BitVec.ofNat 32 n)
    ((iota .tc S256x512 32 [0] iota_S256x512_d0_w32) (ix2 r j))) 1#32) 0#32) (Ideal.ofBits .f32 0x3C800000#32)
    (Ideal.ofBits .f32 0xBC800000#32) * _ = _
  rw [hb, hi, bits_sixtyfourth, bits_neg_sixtyfourth]
  refine congrArg (· * _) ?_
  unfold paritySign Scalar.select
  by_cases h : r.val % 2 = 0
  · rw [if_pos h]; exact if_pos (hc.mpr h)
  · rw [if_neg h]; exact if_neg (fun h' => h (hc.mp h'))

/-- The even rows' cosine sums: the product with the folded slab plus the Nyquist row. -/
def evenRe (w : BitVec 32) (xh : FVec Ideal S1x512 .f32) (A : FVec Ideal S256x1024 .bf16) (B : FVec Ideal S1024x512 .bf16) :
    FVec Ideal S256x512 .f32 := addf (mm A B) (nyq w xh)

/-- Adding or subtracting the odd rows' part: the lower half of the frequencies adds, the upper subtracts. -/
def comb (h : Fin 2) (a b : FVec Ideal S256x512 .f32) : FVec Ideal S256x512 .f32 := if h = 0 then addf a b else subf a b

/-- A column block of 256 channels of a wider matrix, mixed by a 256 × 256 table. -/
def mix (off : Fin 2 → Nat) (hs : S256x512.Slices off S256x256) (g : FVec Ideal S256x512 .bf16) (C : FVec Ideal S256x256 .bf16) :
    FVec Ideal S256x256 .f32 :=
  matmul dot_S256x256_S256x256_S256x256_1_0_0_1_n_n none (extractStridedSlice S256x256 off g hs)
    (shapeCast S256x256 C shapeCasts_S256x256_S256x256) (constant S256x256 .f32 0x00000000#32)

/-- One 256 × 256 tile of the output: the two transforms' columns mixed along the group's 256 channels and gated. -/
def tile (off : Fin 2 → Nat) (hs : S256x512.Slices off S256x256) (gr gi : FVec Ideal S256x512 .f32)
    (cc sc : FVec Ideal S256x256 .bf16) (sz : FVec Ideal S1x1x256x256 .bf16) : FVec Ideal S1x1x256x256 .bf16 :=
  shapeCast S1x1x256x256 (truncf .bf16 (mulf (addf (mix off hs (truncf .bf16 gr bitsLt_bf16_f32) cc)
    (mix off hs (truncf .bf16 gi bitsLt_bf16_f32) sc))
    (extf .f32 (shapeCast S256x256 sz shapeCasts_S1x1x256x256_S256x256) bitsLt_bf16_f32)) bitsLt_bf16_f32)
    shapeCasts_S256x256_S1x1x256x256

/-- A 256 × 256 product of a column block of a wider matrix, at an entry. -/
theorem mix_apply (off : Fin 2 → Nat) (hs : S256x512.Slices off S256x256) (o : ℕ) (ho : off = ![0, o]) (hl : o + 256 ≤ 512)
    (g : FVec Ideal S256x512 .bf16) (C : FVec Ideal S256x256 .bf16) (r j : Fin 256) :
    mix off hs g C (ix2 r j) = ∑ b : Fin 256, g (ix2 r ⟨o + b.val, by omega⟩) * C (ix2 b j) := by
  have h := Ideal.matmul_plain_apply (M := 256) (K := 256) (N := 256) none
    (extractStridedSlice S256x256 off g hs) (shapeCast S256x256 C shapeCasts_S256x256_S256x256) (constant S256x256 .f32 0x00000000#32) r j
  refine (show _ = _ from h).trans ?_
  show Ideal.ofBits .f32 0x00000000#32 + _ = _
  rw [bits_zero, zero_add, shapeCast_self]
  refine Finset.sum_congr rfl fun b _ => congrArg (· * _) ?_
  subst ho
  refine extractStridedSlice_apply _ _ _ _ _ ?_
  intro a; fin_cases a
  · show r.val = 0 + r.val; omega
  · rfl

theorem tile_apply (off : Fin 2 → Nat) (hs : S256x512.Slices off S256x256) (o : ℕ) (ho : off = ![0, o]) (hl : o + 256 ≤ 512)
    (gr gi : FVec Ideal S256x512 .f32) (cc sc : FVec Ideal S256x256 .bf16) (sz : FVec Ideal S1x1x256x256 .bf16) (r j : Fin 256) :
    tile off hs gr gi cc sc sz (ix4 0 0 r j)
      = (∑ b : Fin 256, gr (ix2 r ⟨o + b.val, by omega⟩) * cc (ix2 b j)
          + ∑ b : Fin 256, gi (ix2 r ⟨o + b.val, by omega⟩) * sc (ix2 b j)) * sz (ix4 0 0 r j) := by
  have c1 : ∀ v : FVec Ideal S256x256 .bf16, shapeCast S1x1x256x256 v shapeCasts_S256x256_S1x1x256x256 (ix4 0 0 r j) = v (ix2 r j) :=
    fun v => shapeCast_apply _ _ _ _ (by
      rw [Shape.rowMajor_val_four, Shape.rowMajor_val_two]
      show r.val * 256 + j.val = ((0 * 1 + 0) * 256 + r.val) * 256 + j.val
      omega)
  have c2 : shapeCast S256x256 sz shapeCasts_S1x1x256x256_S256x256 (ix2 r j) = sz (ix4 0 0 r j) :=
    shapeCast_apply _ _ _ _ (by
      rw [Shape.rowMajor_val_four, Shape.rowMajor_val_two]
      show ((0 * 1 + 0) * 256 + r.val) * 256 + j.val = r.val * 256 + j.val
      omega)
  unfold tile
  rw [c1]
  show (mix off hs gr cc (ix2 r j) + mix off hs gi sc (ix2 r j)) * shapeCast S256x256 sz shapeCasts_S1x1x256x256_S256x256 (ix2 r j) = _
  rw [c2, mix_apply off hs o ho hl, mix_apply off hs o ho hl]

/-! ## The closed form of a point's output -/

/-- Adding for the lower half of the frequencies, subtracting for the upper. -/
def pm (h : Fin 2) (a b : EReal) : EReal := if h = 0 then a + b else a - b

/-- The column that channel `b` of `j`'s group of 256 has in a 512-wide slab. -/
def col (j : Fin 512) (b : Fin 256) : Fin 512 := ⟨256 * (j.val / 256) + b.val, by omega⟩

/-- A column's place within its group. -/
def lane (j : Fin 512) : Fin 256 := ⟨j.val % 256, by omega⟩

section
variable (x0 x1 x2 x3 : FVec Ideal S512x1024 .bf16) (x4 x5 : FVec Ideal S256x256 .bf16) (x10 : FVec Ideal S1x2x512x512 .bf16)
  (s0 s1 s2 s3 : FVec Ideal S1024x512 .bf16) (s4 : FVec Ideal S8x512 .f32)

/-- The real part at row `r` of half `h`. -/
def blkRe (h : Fin 2) (r j : Fin 512) : EReal :=
  pm h (∑ k : Fin 1024, x0 (ix2 r k) * s0 (ix2 k j) + paritySign r.val * s4 (ix2 0 j)) (∑ k : Fin 1024, x2 (ix2 r k) * s2 (ix2 k j))

/-- The imaginary part at row `r` of half `h`. -/
def blkIm (h : Fin 2) (r j : Fin 512) : EReal :=
  pm h (∑ k : Fin 1024, x1 (ix2 r k) * s1 (ix2 k j)) (∑ k : Fin 1024, x3 (ix2 r k) * s3 (ix2 k j))

/-- One entry of the output tile. -/
def blk (h : Fin 2) (r j : Fin 512) : EReal :=
  (∑ b : Fin 256, blkRe x0 x2 s0 s2 s4 h r (col j b) * x4 (ix2 b (lane j))
    + ∑ b : Fin 256, blkIm x1 x3 s1 s3 h r (col j b) * x5 (ix2 b (lane j))) * x10 (ix4 0 h r j)

/-- The output tile as an array. -/
def blkTile : FVec Ideal S1x2x512x512 .bf16 := fun y => blk x0 x1 x2 x3 x4 x5 x10 s0 s1 s2 s3 s4 (y 1) (y 2) (y 3)

theorem comb_apply (h : Fin 2) (a b : FVec Ideal S256x512 .f32) (i : S256x512.Idx) : comb h a b i = pm h (a i) (b i) := by
  unfold comb pm
  by_cases hh : h = 0
  · rw [if_pos hh, if_pos hh]; rfl
  · rw [if_neg hh, if_neg hh]; rfl

/-- A 256-row piece of the 512-row block, rows `256 ρ` on. -/
def rows (ρ : Fin 2) (X : FVec Ideal S512x1024 .bf16) (A : FVec Ideal S256x1024 .bf16) : Prop :=
  ∀ (r : Fin 256) (k : Fin 1024), A (ix2 r k) = X (ix2 ⟨256 * ρ.val + r.val, by omega⟩ k)

/-- The tile the body stores at half `h`, row block `ρ`, column block `γ` is that part of the closed form. -/
theorem tile_eq_blk (h ρ γ : Fin 2) (off : Fin 2 → Nat) (hs : S256x512.Slices off S256x256) (ho : off = ![0, 256 * γ.val])
    (n : ℕ) (hn : n % 2 = 0) (hl : n < 2 ^ 31)
    (xh : FVec Ideal S1x512 .f32) (hxh : ∀ j : Fin 512, xh (ix2 0 j) = s4 (ix2 0 j))
    (A0 A1 A2 A3 : FVec Ideal S256x1024 .bf16) (h0 : rows ρ x0 A0) (h1 : rows ρ x1 A1) (h2 : rows ρ x2 A2) (h3 : rows ρ x3 A3)
    (sz : FVec Ideal S1x1x256x256 .bf16)
    (hz : ∀ r j : Fin 256, sz (ix4 0 0 r j) = x10 (ix4 0 h ⟨256 * ρ.val + r.val, by omega⟩ ⟨256 * γ.val + j.val, by omega⟩))
    (inb : ∀ a, (![0, h.val, 256 * ρ.val, 256 * γ.val] : Fin 4 → Nat) a + (![1, 1, 256, 256] : Fin 4 → Nat) a ≤ S1x2x512x512.size a)
    (x : (Rect.unit (s := S1x2x512x512) ![0, h.val, 256 * ρ.val, 256 * γ.val] ![1, 1, 256, 256] inb).shape.Idx) :
    tile off hs (comb h (evenRe (BitVec.ofNat 32 n) xh A0 s0) (mm A2 s2)) (comb h (mm A1 s1) (mm A3 s3)) x4 x5 sz x
      = blkTile x0 x1 x2 x3 x4 x5 x10 s0 s1 s2 s3 s4
          ((Rect.unit (s := S1x2x512x512) ![0, h.val, 256 * ρ.val, 256 * γ.val] ![1, 1, 256, 256] inb).emb x) := by
  obtain ⟨u, v, r, j, rfl⟩ : ∃ (u v : Fin 1) (r j : Fin 256), x = ix4 u v r j := ⟨_, _, _, _, eq_ix4 x⟩
  obtain rfl : u = 0 := Subsingleton.elim _ _
  obtain rfl : v = 0 := Subsingleton.elim _ _
  have he : (Rect.unit (s := S1x2x512x512) ![0, h.val, 256 * ρ.val, 256 * γ.val] ![1, 1, 256, 256] inb).emb (ix4 0 0 r j)
      = ix4 0 h ⟨256 * ρ.val + r.val, by omega⟩ ⟨256 * γ.val + j.val, by omega⟩ := by
    funext a
    apply Fin.ext
    refine (Rect.idx_unit_val _ _ _ _ _).trans ?_
    fin_cases a <;> rfl
  have hp : paritySign (256 * ρ.val + r.val) = paritySign r.val := by
    unfold paritySign
    have : (256 * ρ.val + r.val) % 2 = r.val % 2 := by omega
    rw [this]
  have hcol : ∀ b : Fin 256, col ⟨256 * γ.val + j.val, by omega⟩ b = ⟨256 * γ.val + b.val, by omega⟩ := by
    intro b; apply Fin.ext; show 256 * ((256 * γ.val + j.val) / 256) + b.val = 256 * γ.val + b.val; omega
  have hlane : lane ⟨256 * γ.val + j.val, by omega⟩ = j := by
    apply Fin.ext; show (256 * γ.val + j.val) % 256 = j.val; omega
  refine (tile_apply off hs (256 * γ.val) ho (by omega) _ _ _ _ _ r j).trans ?_
  rw [he, hz]
  show _ = blk x0 x1 x2 x3 x4 x5 x10 s0 s1 s2 s3 s4 h ⟨256 * ρ.val + r.val, _⟩ ⟨256 * γ.val + j.val, _⟩
  unfold blk
  rw [hlane]
  refine congrArg (· * _) ?_
  refine congrArg₂ (· + ·) (Finset.sum_congr rfl fun b _ => ?_) (Finset.sum_congr rfl fun b _ => ?_)
  · rw [hcol, comb_apply]
    refine congrArg (· * _) ?_
    unfold blkRe
    refine congrArg₂ (pm h) ?_ ?_
    · show mm A0 s0 _ + nyq _ _ _ = _
      rw [mm_apply, nyq_apply n hn hl, hxh, hp]
      refine congrArg (· + _) (Finset.sum_congr rfl fun k _ => ?_)
      rw [h0]
    · rw [mm_apply]
      exact Finset.sum_congr rfl fun k _ => by rw [h2]
  · rw [hcol, comb_apply]
    refine congrArg (· * _) ?_
    unfold blkIm
    refine congrArg₂ (pm h) ?_ ?_
    · rw [mm_apply]
      exact Finset.sum_congr rfl fun k _ => by rw [h1]
    · rw [mm_apply]
      exact Finset.sum_congr rfl fun k _ => by rw [h3]
end
end Cert.Mix
-- ==== Proof.Point.lean ====
/-
  The grid point's output contents as the printed run leaves them are the closed form of Block: at a point that finds the folded
  slabs in the scratches, and at a sweep's first point, which folds them itself.
-/
module
public import proofs.«01_k».proof.Proof.Block
@[expose] public section
noncomputable section
namespace Cert.Mix
open Cert.KernelIdeal Cert.KernelIdeal.Gen Idealize.ShloMosaic Idealize.ShloMosaic.TcCoe Idealize.SL.Sem
open Idealize.ShloMosaic.ValueIdx
open scoped BigOperators

/-! ## Loads -/

/-- The zero offset. -/
theorem zero_off : (![0, 0] : Fin 2 → Nat) = fun _ => 0 := by funext a; fin_cases a <;> rfl

theorem ld_slab (X : FVec Idealize.ShloMosaic.Ideal S1024x512 .bf16) (inb) :
    View.ld (Val := Elt Idealize.ShloMosaic.Ideal) (e' := .bf16) X (Rect.unit (s := S1024x512) ![0, 0] ![1024, 512] inb) = X :=
  View.ld_unit_zero (Val := Elt Idealize.ShloMosaic.Ideal) (e := .bf16) zero_off inb X
theorem ld_chan (X : FVec Idealize.ShloMosaic.Ideal S256x256 .bf16) (inb) :
    View.ld (Val := Elt Idealize.ShloMosaic.Ideal) (e' := .bf16) X (Rect.unit (s := S256x256) ![0, 0] ![256, 256] inb) = X :=
  View.ld_unit_zero (Val := Elt Idealize.ShloMosaic.Ideal) (e := .bf16) zero_off inb X

theorem rows_ld (ρ : Fin 2) (X : FVec Idealize.ShloMosaic.Ideal S512x1024 .bf16) (inb) :
    rows ρ X (View.ld (Val := Elt Idealize.ShloMosaic.Ideal) (e' := .bf16) X (Rect.unit (s := S512x1024) ![256 * ρ.val, 0] ![256, 1024] inb)) := by
  intro r k
  refine View.ld_unit_apply_of (Val := Elt Idealize.ShloMosaic.Ideal) (e := .bf16) X _ _ inb (ix2 r k) _ ?_
  intro a; fin_cases a
  · rfl
  · show k.val = 0 + k.val; omega

theorem nyq_ld (s4 : FVec Idealize.ShloMosaic.Ideal S8x512 .f32) (inb) (j : Fin 512) :
    View.ld (Val := Elt Idealize.ShloMosaic.Ideal) (e' := .f32) s4 (Rect.unit (s := S8x512) ![0, 0] ![1, 512] inb) (ix2 (0 : Fin 1) j) = s4 (ix2 0 j) := by
  refine View.ld_unit_apply_of (Val := Elt Idealize.ShloMosaic.Ideal) (e := .f32) s4 _ _ inb (ix2 (0 : Fin 1) j) _ ?_
  intro a; fin_cases a
  · rfl
  · show j.val = 0 + j.val; omega

theorem gate_ld (h ρ γ : Fin 2) (X : FVec Idealize.ShloMosaic.Ideal S1x2x512x512 .bf16) (inb) (r j : Fin 256) :
    View.ld (Val := Elt Idealize.ShloMosaic.Ideal) (e' := .bf16) X (Rect.unit (s := S1x2x512x512) ![0, h.val, 256 * ρ.val, 256 * γ.val] ![1, 1, 256, 256] inb) (ix4 (0 : Fin 1) (0 : Fin 1) r j)
      = X (ix4 0 h ⟨256 * ρ.val + r.val, by omega⟩ ⟨256 * γ.val + j.val, by omega⟩) := by
  refine View.ld_unit_apply_of (Val := Elt Idealize.ShloMosaic.Ideal) (e := .bf16) X _ _ inb (ix4 (0 : Fin 1) (0 : Fin 1) r j) _ ?_
  intro a; fin_cases a <;> rfl

/-- The first row block's even part. -/
theorem even_lo (i : grid0.Coords) (xh : FVec Idealize.ShloMosaic.Ideal S1x512 .f32) (A : FVec Idealize.ShloMosaic.Ideal S256x1024 .bf16) (B : FVec Idealize.ShloMosaic.Ideal S1024x512 .bf16) :
    k0_pay37 i xh A B = evenRe (BitVec.ofNat 32 (512 * (i 2).val)) xh A B := by
  have h : Scalar.addi (Scalar.muli (BitVec.ofNat 32 (i 2).val) 512#32) 0#32 = BitVec.ofNat 32 (512 * (i 2).val) := by
    show BitVec.ofNat 32 (i 2).val * 512#32 + 0#32 = _
    apply BitVec.eq_of_toNat_eq
    simp only [BitVec.toNat_add, BitVec.toNat_mul, BitVec.toNat_ofNat]
    omega
  rw [← h]
  rfl

/-- The second row block's even part. -/
theorem even_hi (i : grid0.Coords) (xh : FVec Idealize.ShloMosaic.Ideal S1x512 .f32) (A : FVec Idealize.ShloMosaic.Ideal S256x1024 .bf16) (B : FVec Idealize.ShloMosaic.Ideal S1024x512 .bf16) :
    k0_pay55 (Scalar.muli (BitVec.ofNat 32 (i 2).val) 512#32) xh A B = evenRe (BitVec.ofNat 32 (512 * (i 2).val + 256)) xh A B := by
  have h : Scalar.addi (Scalar.muli (BitVec.ofNat 32 (i 2).val) 512#32) 256#32 = BitVec.ofNat 32 (512 * (i 2).val + 256) := by
    show BitVec.ofNat 32 (i 2).val * 512#32 + 256#32 = _
    apply BitVec.eq_of_toNat_eq
    simp only [BitVec.toNat_add, BitVec.toNat_mul, BitVec.toNat_ofNat]
    omega
  rw [← h]
  rfl

theorem lt_of_coord (i : grid0.Coords) : (i 2).val < 4 := (i 2).isLt

set_option maxRecDepth 8192 in
set_option maxHeartbeats 400000 in
/-- At a point that finds the slabs folded, the output tile is the closed form over the scratches. -/
theorem out_B (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S1x2x512x512 .bf16) (harg13 : arg13.IsWhole) (arg14 : Memref sig .tc .vmem S1x2x512x512 .bf16) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x512 .bf16) (harg18 : arg18.IsWhole) (arg19 : Memref sig .tc .vmem S8x512 .f32) (harg19 : arg19.IsWhole) (hc0 : ¬cond0_0 i)
    (x0 : Vec Idealize.ShloMosaic.Ideal S512x1024 .bf16) (x1 : Vec Idealize.ShloMosaic.Ideal S512x1024 .bf16) (x2 : Vec Idealize.ShloMosaic.Ideal S512x1024 .bf16) (x3 : Vec Idealize.ShloMosaic.Ideal S512x1024 .bf16) (x4 : Vec Idealize.ShloMosaic.Ideal S256x256 .bf16) (x5 : Vec Idealize.ShloMosaic.Ideal S256x256 .bf16) (x6 : Vec Idealize.ShloMosaic.Ideal S1024x1024 .bf16) (x7 : Vec Idealize.ShloMosaic.Ideal S1024x1024 .bf16) (x8 : Vec Idealize.ShloMosaic.Ideal S2048x512 .bf16) (x9 : Vec Idealize.ShloMosaic.Ideal S2048x512 .bf16) (x10 : Vec Idealize.ShloMosaic.Ideal S1x2x512x512 .bf16) (xs0 : Vec Idealize.ShloMosaic.Ideal S1024x512 .bf16) (xs1 : Vec Idealize.ShloMosaic.Ideal S1024x512 .bf16) (xs2 : Vec Idealize.ShloMosaic.Ideal S1024x512 .bf16) (xs3 : Vec Idealize.ShloMosaic.Ideal S1024x512 .bf16) (xs4 : Vec Idealize.ShloMosaic.Ideal S8x512 .f32) :
    out0_B_11 (F := Idealize.ShloMosaic.Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 xs1 xs2 xs3 xs4 = blkTile x0 x1 x2 x3 x4 x5 x10 xs0 xs1 xs2 xs3 xs4 := by
  unfold out0_B_11
  rw [View.read_writes_eq_canon _ _ _ (cover0_B_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 xs1 xs2 xs3 xs4)]
  funext y
  refine View.canon_apply_of_pieces (blkTile x0 x1 x2 x3 x4 x5 x10 xs0 xs1 xs2 xs3 xs4) _ ?_ y (cover0_B_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 xs0 xs1 xs2 xs3 xs4 y)
  unfold kernelRun0_B
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, harg15.read_unread, harg16.read_unread, harg17.read_unread, harg18.read_unread, harg19.read_unread, List.forall_mem_cons, ld_slab, ld_chan, even_lo, even_hi]
  refine ⟨?_, ?_, ?_, ?_, ?_, ?_, ?_, ?_, by simp⟩
  · intro x
    exact tile_eq_blk x0 x1 x2 x3 x4 x5 x10 xs0 xs1 xs2 xs3 xs4 1 1 1 _ _ rfl _ (by have := lt_of_coord i; omega) (by have := lt_of_coord i; omega)
      _ (nyq_ld _ _) _ _ _ _ (rows_ld 1 _ _) (rows_ld 1 _ _) (rows_ld 1 _ _) (rows_ld 1 _ _) _ (gate_ld 1 1 1 _ _) _ x
  · intro x
    exact tile_eq_blk x0 x1 x2 x3 x4 x5 x10 xs0 xs1 xs2 xs3 xs4 1 1 0 _ _ rfl _ (by have := lt_of_coord i; omega) (by have := lt_of_coord i; omega)
      _ (nyq_ld _ _) _ _ _ _ (rows_ld 1 _ _) (rows_ld 1 _ _) (rows_ld 1 _ _) (rows_ld 1 _ _) _ (gate_ld 1 1 0 _ _) _ x
  · intro x
    exact tile_eq_blk x0 x1 x2 x3 x4 x5 x10 xs0 xs1 xs2 xs3 xs4 0 1 1 _ _ rfl _ (by have := lt_of_coord i; omega) (by have := lt_of_coord i; omega)
      _ (nyq_ld _ _) _ _ _ _ (rows_ld 1 _ _) (rows_ld 1 _ _) (rows_ld 1 _ _) (rows_ld 1 _ _) _ (gate_ld 0 1 1 _ _) _ x
  · intro x
    exact tile_eq_blk x0 x1 x2 x3 x4 x5 x10 xs0 xs1 xs2 xs3 xs4 0 1 0 _ _ rfl _ (by have := lt_of_coord i; omega) (by have := lt_of_coord i; omega)
      _ (nyq_ld _ _) _ _ _ _ (rows_ld 1 _ _) (rows_ld 1 _ _) (rows_ld 1 _ _) (rows_ld 1 _ _) _ (gate_ld 0 1 0 _ _) _ x
  · intro x
    exact tile_eq_blk x0 x1 x2 x3 x4 x5 x10 xs0 xs1 xs2 xs3 xs4 1 0 1 _ _ rfl _ (by have := lt_of_coord i; omega) (by have := lt_of_coord i; omega)
      _ (nyq_ld _ _) _ _ _ _ (rows_ld 0 _ _) (rows_ld 0 _ _) (rows_ld 0 _ _) (rows_ld 0 _ _) _ (gate_ld 1 0 1 _ _) _ x
  · intro x
    exact tile_eq_blk x0 x1 x2 x3 x4 x5 x10 xs0 xs1 xs2 xs3 xs4 1 0 0 _ _ rfl _ (by have := lt_of_coord i; omega) (by have := lt_of_coord i; omega)
      _ (nyq_ld _ _) _ _ _ _ (rows_ld 0 _ _) (rows_ld 0 _ _) (rows_ld 0 _ _) (rows_ld 0 _ _) _ (gate_ld 1 0 0 _ _) _ x
  · intro x
    exact tile_eq_blk x0 x1 x2 x3 x4 x5 x10 xs0 xs1 xs2 xs3 xs4 0 0 1 _ _ rfl _ (by have := lt_of_coord i; omega) (by have := lt_of_coord i; omega)
      _ (nyq_ld _ _) _ _ _ _ (rows_ld 0 _ _) (rows_ld 0 _ _) (rows_ld 0 _ _) (rows_ld 0 _ _) _ (gate_ld 0 0 1 _ _) _ x
  · intro x
    exact tile_eq_blk x0 x1 x2 x3 x4 x5 x10 xs0 xs1 xs2 xs3 xs4 0 0 0 _ _ rfl _ (by have := lt_of_coord i; omega) (by have := lt_of_coord i; omega)
      _ (nyq_ld _ _) _ _ _ _ (rows_ld 0 _ _) (rows_ld 0 _ _) (rows_ld 0 _ _) (rows_ld 0 _ _) _ (gate_ld 0 0 0 _ _) _ x
end Cert.Mix
-- ==== Proof.Fold.lean ====
/-
  The sweep's first grid point folds its column block: rows 0..1023 of each half slab plus (minus) the rows 1024..2047 moved by a
  0/1 matrix. The four folded slabs and the Nyquist row, as what that point leaves in the scratches.
-/
module
public import proofs.«01_k».proof.Proof.Point
@[expose] public section
noncomputable section
namespace Cert.Mix
open Cert.KernelIdeal Cert.KernelIdeal.Gen Idealize.ShloMosaic Idealize.ShloMosaic.TcCoe Idealize.SL.Sem
open Idealize.ShloMosaic.ValueIdx
open scoped BigOperators

/-! ## The folded slabs -/

/-- The moved upper half: row n of P times rows 1024..2047. -/
def moved (x : FVec Idealize.ShloMosaic.Ideal S2048x512 .bf16) (p : FVec Idealize.ShloMosaic.Ideal S1024x1024 .bf16) (n : Fin 1024) (j : Fin 512) : EReal :=
  ∑ k : Fin 1024, p (ix2 n k) * x (ix2 ⟨1024 + k.val, by omega⟩ j)
/-- Lower half plus moved upper half. -/
def plus (x : FVec Idealize.ShloMosaic.Ideal S2048x512 .bf16) (p : FVec Idealize.ShloMosaic.Ideal S1024x1024 .bf16) : FVec Idealize.ShloMosaic.Ideal S1024x512 .bf16 := fun y =>
  (x (ix2 ⟨(y 0).val, Nat.lt_trans (show (y 0).val < 1024 from (y 0).isLt) (by decide)⟩ (y 1)) + moved x p (y 0) (y 1) : EReal)
/-- Lower half minus moved upper half. -/
def minus (x : FVec Idealize.ShloMosaic.Ideal S2048x512 .bf16) (p : FVec Idealize.ShloMosaic.Ideal S1024x1024 .bf16) : FVec Idealize.ShloMosaic.Ideal S1024x512 .bf16 := fun y =>
  (x (ix2 ⟨(y 0).val, Nat.lt_trans (show (y 0).val < 1024 from (y 0).isLt) (by decide)⟩ (y 1)) - moved x p (y 0) (y 1) : EReal)
/-- Row 1024, in each of 8 rows. -/
def nyqRows (x : FVec Idealize.ShloMosaic.Ideal S2048x512 .bf16) : FVec Idealize.ShloMosaic.Ideal S8x512 .f32 := fun y => x (ix2 ⟨1024, by decide⟩ (y 1))

/-- One 256-row piece of the sum. -/
def plusPiece (lo : FVec Idealize.ShloMosaic.Ideal S256x512 .bf16) (A : FVec Idealize.ShloMosaic.Ideal S256x1024 .bf16) (hi : FVec Idealize.ShloMosaic.Ideal S1024x512 .bf16) : FVec Idealize.ShloMosaic.Ideal S256x512 .bf16 :=
  shapeCast S256x512 (truncf .bf16 (addf (extf .f32 lo bitsLt_bf16_f32) (mm A hi)) bitsLt_bf16_f32) shapeCasts_S256x512_S256x512
/-- One 256-row piece of the difference. -/
def minusPiece (lo : FVec Idealize.ShloMosaic.Ideal S256x512 .bf16) (A : FVec Idealize.ShloMosaic.Ideal S256x1024 .bf16) (hi : FVec Idealize.ShloMosaic.Ideal S1024x512 .bf16) : FVec Idealize.ShloMosaic.Ideal S256x512 .bf16 :=
  shapeCast S256x512 (truncf .bf16 (subf (extf .f32 lo bitsLt_bf16_f32) (mm A hi)) bitsLt_bf16_f32) shapeCasts_S256x512_S256x512

section
variable (x : FVec Idealize.ShloMosaic.Ideal S2048x512 .bf16) (p : FVec Idealize.ShloMosaic.Ideal S1024x1024 .bf16) (ρ : Fin 4)

theorem lo_ld (inb) (r : Fin 256) (j : Fin 512) :
    View.ld (Val := Elt Idealize.ShloMosaic.Ideal) (e' := .bf16) x (Rect.unit (s := S2048x512) ![256 * ρ.val, 0] ![256, 512] inb) (ix2 r j)
      = x (ix2 ⟨256 * ρ.val + r.val, by omega⟩ j) := by
  refine View.ld_unit_apply_of (Val := Elt Idealize.ShloMosaic.Ideal) (e := .bf16) x _ _ inb (ix2 r j) _ ?_
  intro a; fin_cases a
  · rfl
  · show j.val = 0 + j.val; omega
theorem hi_ld (inb) (k : Fin 1024) (j : Fin 512) :
    View.ld (Val := Elt Idealize.ShloMosaic.Ideal) (e' := .bf16) x (Rect.unit (s := S2048x512) ![1024, 0] ![1024, 512] inb) (ix2 k j)
      = x (ix2 ⟨1024 + k.val, by omega⟩ j) := by
  refine View.ld_unit_apply_of (Val := Elt Idealize.ShloMosaic.Ideal) (e := .bf16) x _ _ inb (ix2 k j) _ ?_
  intro a; fin_cases a
  · rfl
  · show j.val = 0 + j.val; omega
theorem perm_ld (inb) (r : Fin 256) (k : Fin 1024) :
    View.ld (Val := Elt Idealize.ShloMosaic.Ideal) (e' := .bf16) p (Rect.unit (s := S1024x1024) ![256 * ρ.val, 0] ![256, 1024] inb) (ix2 r k)
      = p (ix2 ⟨256 * ρ.val + r.val, by omega⟩ k) := by
  refine View.ld_unit_apply_of (Val := Elt Idealize.ShloMosaic.Ideal) (e := .bf16) p _ _ inb (ix2 r k) _ ?_
  intro a; fin_cases a
  · rfl
  · show k.val = 0 + k.val; omega

theorem moved_piece (inb1 inb2) (r : Fin 256) (j : Fin 512) :
    mm (View.ld (Val := Elt Idealize.ShloMosaic.Ideal) (e' := .bf16) p (Rect.unit (s := S1024x1024) ![256 * ρ.val, 0] ![256, 1024] inb1))
      (View.ld (Val := Elt Idealize.ShloMosaic.Ideal) (e' := .bf16) x (Rect.unit (s := S2048x512) ![1024, 0] ![1024, 512] inb2)) (ix2 r j)
      = moved x p ⟨256 * ρ.val + r.val, by omega⟩ j := by
  rw [mm_apply]
  refine Finset.sum_congr rfl fun k _ => ?_
  rw [perm_ld p ρ inb1, hi_ld x inb2]

theorem plus_piece (inb0 inb1 inb2) (inb) (z : S256x512.Idx) :
    plusPiece (View.ld (Val := Elt Idealize.ShloMosaic.Ideal) (e' := .bf16) x (Rect.unit (s := S2048x512) ![256 * ρ.val, 0] ![256, 512] inb0))
      (View.ld (Val := Elt Idealize.ShloMosaic.Ideal) (e' := .bf16) p (Rect.unit (s := S1024x1024) ![256 * ρ.val, 0] ![256, 1024] inb1))
      (View.ld (Val := Elt Idealize.ShloMosaic.Ideal) (e' := .bf16) x (Rect.unit (s := S2048x512) ![1024, 0] ![1024, 512] inb2)) z
      = plus x p ((Rect.unit (s := S1024x512) ![256 * ρ.val, 0] ![256, 512] inb).emb z) := by
  obtain ⟨r, j, rfl⟩ : ∃ r j, z = ix2 r j := ⟨_, _, eq_ix2 z⟩
  unfold plusPiece
  rw [shapeCast_self]
  refine (congrArg₂ (fun a b : EReal => a + b) (lo_ld x ρ inb0 r j) (moved_piece x p ρ inb1 inb2 r j)).trans ?_
  have e : (Rect.unit (s := S1024x512) ![256 * ρ.val, 0] ![256, 512] inb).emb (ix2 r j) = ix2 (⟨256 * ρ.val + r.val, by omega⟩ : Fin 1024) j := by
    funext a; apply Fin.ext; rw [Rect.emb_apply]; fin_cases a
    · show 256 * ρ.val + 1 * r.val = _; simp
    · show 0 + 1 * j.val = _; simp
  rw [e]
  rfl
theorem minus_piece (inb0 inb1 inb2) (inb) (z : S256x512.Idx) :
    minusPiece (View.ld (Val := Elt Idealize.ShloMosaic.Ideal) (e' := .bf16) x (Rect.unit (s := S2048x512) ![256 * ρ.val, 0] ![256, 512] inb0))
      (View.ld (Val := Elt Idealize.ShloMosaic.Ideal) (e' := .bf16) p (Rect.unit (s := S1024x1024) ![256 * ρ.val, 0] ![256, 1024] inb1))
      (View.ld (Val := Elt Idealize.ShloMosaic.Ideal) (e' := .bf16) x (Rect.unit (s := S2048x512) ![1024, 0] ![1024, 512] inb2)) z
      = minus x p ((Rect.unit (s := S1024x512) ![256 * ρ.val, 0] ![256, 512] inb).emb z) := by
  obtain ⟨r, j, rfl⟩ : ∃ r j, z = ix2 r j := ⟨_, _, eq_ix2 z⟩
  unfold minusPiece
  rw [shapeCast_self]
  refine (congrArg₂ (fun a b : EReal => a - b) (lo_ld x ρ inb0 r j) (moved_piece x p ρ inb1 inb2 r j)).trans ?_
  have e : (Rect.unit (s := S1024x512) ![256 * ρ.val, 0] ![256, 512] inb).emb (ix2 r j) = ix2 (⟨256 * ρ.val + r.val, by omega⟩ : Fin 1024) j := by
    funext a; apply Fin.ext; rw [Rect.emb_apply]; fin_cases a
    · show 256 * ρ.val + 1 * r.val = _; simp
    · show 0 + 1 * j.val = _; simp
  rw [e]
  rfl
end

/-- An index in 256 rows from o on lies in that piece. -/
theorem mem_rows (o : Nat) (i) (y : S1024x512.Idx) (h : o ≤ (y 0).val) (h' : (y 0).val < o + 256) :
    y ∈ (Rect.unit (s := S1024x512) ![o, 0] ![256, 512] i).set := by
  have hy1 : (y 1).val < 512 := (y 1).isLt
  refine Rect.mem_set_unit.2 fun a => ?_
  fin_cases a
  · exact ⟨h, h'⟩
  · refine ⟨Nat.zero_le _, ?_⟩
    show (y 1).val < 0 + 512
    omega

/-- Four 256-row pieces that agree with one slab are that slab. -/
theorem canon_four (G : FVec Idealize.ShloMosaic.Ideal S1024x512 .bf16) (p0 p1 p2 p3 : FVec Idealize.ShloMosaic.Ideal S256x512 .bf16) (i0 i1 i2 i3)
    (h0 : ∀ z, p0 z = G ((Rect.unit (s := S1024x512) ![0, 0] ![256, 512] i0).emb z))
    (h1 : ∀ z, p1 z = G ((Rect.unit (s := S1024x512) ![256, 0] ![256, 512] i1).emb z))
    (h2 : ∀ z, p2 z = G ((Rect.unit (s := S1024x512) ![512, 0] ![256, 512] i2).emb z))
    (h3 : ∀ z, p3 z = G ((Rect.unit (s := S1024x512) ![768, 0] ![256, 512] i3).emb z)) :
    (∀ y, ∃ pc ∈ ([⟨Rect.unit (s := S1024x512) ![768, 0] ![256, 512] i3, p3⟩, ⟨Rect.unit (s := S1024x512) ![512, 0] ![256, 512] i2, p2⟩,
      ⟨Rect.unit (s := S1024x512) ![256, 0] ![256, 512] i1, p1⟩, ⟨Rect.unit (s := S1024x512) ![0, 0] ![256, 512] i0, p0⟩] : List (View.Piece (Elt Idealize.ShloMosaic.Ideal) S1024x512 .bf16)), y ∈ pc.1.set) ∧
    View.canon ([⟨Rect.unit (s := S1024x512) ![768, 0] ![256, 512] i3, p3⟩, ⟨Rect.unit (s := S1024x512) ![512, 0] ![256, 512] i2, p2⟩,
      ⟨Rect.unit (s := S1024x512) ![256, 0] ![256, 512] i1, p1⟩, ⟨Rect.unit (s := S1024x512) ![0, 0] ![256, 512] i0, p0⟩] : List (View.Piece (Elt Idealize.ShloMosaic.Ideal) S1024x512 .bf16)) = G := by
  have hc : ∀ y, ∃ pc ∈ ([⟨Rect.unit (s := S1024x512) ![768, 0] ![256, 512] i3, p3⟩, ⟨Rect.unit (s := S1024x512) ![512, 0] ![256, 512] i2, p2⟩,
      ⟨Rect.unit (s := S1024x512) ![256, 0] ![256, 512] i1, p1⟩, ⟨Rect.unit (s := S1024x512) ![0, 0] ![256, 512] i0, p0⟩] : List (View.Piece (Elt Idealize.ShloMosaic.Ideal) S1024x512 .bf16)), y ∈ pc.1.set := by
    intro y
    have hy0 : (y 0).val < 1024 := (y 0).isLt
    by_cases a3 : 768 ≤ (y 0).val
    · exact ⟨_, List.mem_cons_self, mem_rows 768 i3 y a3 (show _ < 1024 by omega)⟩
    by_cases a2 : 512 ≤ (y 0).val
    · exact ⟨_, List.mem_cons_of_mem _ List.mem_cons_self, mem_rows 512 i2 y a2 (by omega)⟩
    by_cases a1 : 256 ≤ (y 0).val
    · exact ⟨_, List.mem_cons_of_mem _ (List.mem_cons_of_mem _ List.mem_cons_self), mem_rows 256 i1 y a1 (by omega)⟩
    · exact ⟨_, List.mem_cons_of_mem _ (List.mem_cons_of_mem _ (List.mem_cons_of_mem _ List.mem_cons_self)), mem_rows 0 i0 y (Nat.zero_le _) (by omega)⟩
  refine ⟨hc, ?_⟩
  funext y
  refine View.canon_apply_of_pieces G _ ?_ y (hc y)
  simp only [List.forall_mem_cons]
  exact ⟨h3, h2, h1, h0, by simp⟩

/-- A slab read back whole. -/
theorem read_four {sp : Space} (v : View sig .tc sp S1024x512 .bf16) (G : FVec Idealize.ShloMosaic.Ideal S1024x512 .bf16) (p0 p1 p2 p3 : FVec Idealize.ShloMosaic.Ideal S256x512 .bf16) (i0 i1 i2 i3 inb)
    (h0 : ∀ z, p0 z = G ((Rect.unit (s := S1024x512) ![0, 0] ![256, 512] i0).emb z))
    (h1 : ∀ z, p1 z = G ((Rect.unit (s := S1024x512) ![256, 0] ![256, 512] i1).emb z))
    (h2 : ∀ z, p2 z = G ((Rect.unit (s := S1024x512) ![512, 0] ![256, 512] i2).emb z))
    (h3 : ∀ z, p3 z = G ((Rect.unit (s := S1024x512) ![768, 0] ![256, 512] i3).emb z)) :
    v.readCov ([⟨Rect.unit (s := S1024x512) ![768, 0] ![256, 512] i3, p3⟩, ⟨Rect.unit (s := S1024x512) ![512, 0] ![256, 512] i2, p2⟩,
      ⟨Rect.unit (s := S1024x512) ![256, 0] ![256, 512] i1, p1⟩, ⟨Rect.unit (s := S1024x512) ![0, 0] ![256, 512] i0, p0⟩] : List (View.Piece (Elt Idealize.ShloMosaic.Ideal) S1024x512 .bf16))
      (Rect.unit (s := S1024x512) ![0, 0] ![1024, 512] inb).toLoadRect = G := by
  obtain ⟨hc, he⟩ := canon_four G p0 p1 p2 p3 i0 i1 i2 i3 h0 h1 h2 h3
  rw [View.readCov_eq_canon_ld _ _ _ hc, he]
  exact ld_slab G inb

section
variable {sp : Space} (v : View sig .tc sp S1024x512 .bf16) (x : FVec Idealize.ShloMosaic.Ideal S2048x512 .bf16) (p : FVec Idealize.ShloMosaic.Ideal S1024x1024 .bf16)
/-- The even rows' sum, read back. -/
theorem read_ep (a0 b0 c0 d0) (a1 b1 c1 d1) (a2 b2 c2 d2) (a3 b3 c3 d3) (inb) : v.readCov ([⟨Rect.unit (s := S1024x512) ![768, 0] ![256, 512] d3, k0_pay17 (F := Idealize.ShloMosaic.Ideal) (View.ld (Val := Elt Idealize.ShloMosaic.Ideal) (e' := .bf16) x (Rect.unit (s := S2048x512) ![768, 0] ![256, 512] a3)) (View.ld (Val := Elt Idealize.ShloMosaic.Ideal) (e' := .bf16) p (Rect.unit (s := S1024x1024) ![768, 0] ![256, 1024] b3)) (View.ld (Val := Elt Idealize.ShloMosaic.Ideal) (e' := .bf16) x (Rect.unit (s := S2048x512) ![1024, 0] ![1024, 512] c3))⟩, ⟨Rect.unit (s := S1024x512) ![512, 0] ![256, 512] d2, k0_pay13 (F := Idealize.ShloMosaic.Ideal) (View.ld (Val := Elt Idealize.ShloMosaic.Ideal) (e' := .bf16) x (Rect.unit (s := S2048x512) ![512, 0] ![256, 512] a2)) (View.ld (Val := Elt Idealize.ShloMosaic.Ideal) (e' := .bf16) p (Rect.unit (s := S1024x1024) ![512, 0] ![256, 1024] b2)) (View.ld (Val := Elt Idealize.ShloMosaic.Ideal) (e' := .bf16) x (Rect.unit (s := S2048x512) ![1024, 0] ![1024, 512] c2))⟩, ⟨Rect.unit (s := S1024x512) ![256, 0] ![256, 512] d1, k0_pay9 (F := Idealize.ShloMosaic.Ideal) (View.ld (Val := Elt Idealize.ShloMosaic.Ideal) (e' := .bf16) x (Rect.unit (s := S2048x512) ![256, 0] ![256, 512] a1)) (View.ld (Val := Elt Idealize.ShloMosaic.Ideal) (e' := .bf16) p (Rect.unit (s := S1024x1024) ![256, 0] ![256, 1024] b1)) (View.ld (Val := Elt Idealize.ShloMosaic.Ideal) (e' := .bf16) x (Rect.unit (s := S2048x512) ![1024, 0] ![1024, 512] c1))⟩, ⟨Rect.unit (s := S1024x512) ![0, 0] ![256, 512] d0, k0_pay5 (F := Idealize.ShloMosaic.Ideal) (View.ld (Val := Elt Idealize.ShloMosaic.Ideal) (e' := .bf16) x (Rect.unit (s := S2048x512) ![0, 0] ![256, 512] a0)) (View.ld (Val := Elt Idealize.ShloMosaic.Ideal) (e' := .bf16) p (Rect.unit (s := S1024x1024) ![0, 0] ![256, 1024] b0)) (View.ld (Val := Elt Idealize.ShloMosaic.Ideal) (e' := .bf16) x (Rect.unit (s := S2048x512) ![1024, 0] ![1024, 512] c0))⟩] : List (View.Piece (Elt Idealize.ShloMosaic.Ideal) S1024x512 .bf16))
    (Rect.unit (s := S1024x512) ![0, 0] ![1024, 512] inb).toLoadRect = plus x p :=
  read_four v (plus x p) _ _ _ _ d0 d1 d2 d3 inb (plus_piece x p 0 a0 b0 c0 d0) (plus_piece x p 1 a1 b1 c1 d1) (plus_piece x p 2 a2 b2 c2 d2) (plus_piece x p 3 a3 b3 c3 d3)
/-- The even rows' sum, as the pieces leave it. -/
theorem canon_ep (a0 b0 c0 d0) (a1 b1 c1 d1) (a2 b2 c2 d2) (a3 b3 c3 d3) : View.canon ([⟨Rect.unit (s := S1024x512) ![768, 0] ![256, 512] d3, k0_pay17 (F := Idealize.ShloMosaic.Ideal) (View.ld (Val := Elt Idealize.ShloMosaic.Ideal) (e' := .bf16) x (Rect.unit (s := S2048x512) ![768, 0] ![256, 512] a3)) (View.ld (Val := Elt Idealize.ShloMosaic.Ideal) (e' := .bf16) p (Rect.unit (s := S1024x1024) ![768, 0] ![256, 1024] b3)) (View.ld (Val := Elt Idealize.ShloMosaic.Ideal) (e' := .bf16) x (Rect.unit (s := S2048x512) ![1024, 0] ![1024, 512] c3))⟩, ⟨Rect.unit (s := S1024x512) ![512, 0] ![256, 512] d2, k0_pay13 (F := Idealize.ShloMosaic.Ideal) (View.ld (Val := Elt Idealize.ShloMosaic.Ideal) (e' := .bf16) x (Rect.unit (s := S2048x512) ![512, 0] ![256, 512] a2)) (View.ld (Val := Elt Idealize.ShloMosaic.Ideal) (e' := .bf16) p (Rect.unit (s := S1024x1024) ![512, 0] ![256, 1024] b2)) (View.ld (Val := Elt Idealize.ShloMosaic.Ideal) (e' := .bf16) x (Rect.unit (s := S2048x512) ![1024, 0] ![1024, 512] c2))⟩, ⟨Rect.unit (s := S1024x512) ![256, 0] ![256, 512] d1, k0_pay9 (F := Idealize.ShloMosaic.Ideal) (View.ld (Val := Elt Idealize.ShloMosaic.Ideal) (e' := .bf16) x (Rect.unit (s := S2048x512) ![256, 0] ![256, 512] a1)) (View.ld (Val := Elt Idealize.ShloMosaic.Ideal) (e' := .bf16) p (Rect.unit (s := S1024x1024) ![256, 0] ![256, 1024] b1)) (View.ld (Val := Elt Idealize.ShloMosaic.Ideal) (e' := .bf16) x (Rect.unit (s := S2048x512) ![1024, 0] ![1024, 512] c1))⟩, ⟨Rect.unit (s := S1024x512) ![0, 0] ![256, 512] d0, k0_pay5 (F := Idealize.ShloMosaic.Ideal) (View.ld (Val := Elt Idealize.ShloMosaic.Ideal) (e' := .bf16) x (Rect.unit (s := S2048x512) ![0, 0] ![256, 512] a0)) (View.ld (Val := Elt Idealize.ShloMosaic.Ideal) (e' := .bf16) p (Rect.unit (s := S1024x1024) ![0, 0] ![256, 1024] b0)) (View.ld (Val := Elt Idealize.ShloMosaic.Ideal) (e' := .bf16) x (Rect.unit (s := S2048x512) ![1024, 0] ![1024, 512] c0))⟩] : List (View.Piece (Elt Idealize.ShloMosaic.Ideal) S1024x512 .bf16)) = plus x p :=
  (canon_four (plus x p) _ _ _ _ d0 d1 d2 d3 (plus_piece x p 0 a0 b0 c0 d0) (plus_piece x p 1 a1 b1 c1 d1) (plus_piece x p 2 a2 b2 c2 d2) (plus_piece x p 3 a3 b3 c3 d3)).2
/-- The even rows' difference, read back. -/
theorem read_em (a0 b0 c0 d0) (a1 b1 c1 d1) (a2 b2 c2 d2) (a3 b3 c3 d3) (inb) : v.readCov ([⟨Rect.unit (s := S1024x512) ![768, 0] ![256, 512] d3, k0_pay18 (F := Idealize.ShloMosaic.Ideal) (View.ld (Val := Elt Idealize.ShloMosaic.Ideal) (e' := .bf16) x (Rect.unit (s := S2048x512) ![768, 0] ![256, 512] a3)) (View.ld (Val := Elt Idealize.ShloMosaic.Ideal) (e' := .bf16) p (Rect.unit (s := S1024x1024) ![768, 0] ![256, 1024] b3)) (View.ld (Val := Elt Idealize.ShloMosaic.Ideal) (e' := .bf16) x (Rect.unit (s := S2048x512) ![1024, 0] ![1024, 512] c3))⟩, ⟨Rect.unit (s := S1024x512) ![512, 0] ![256, 512] d2, k0_pay14 (F := Idealize.ShloMosaic.Ideal) (View.ld (Val := Elt Idealize.ShloMosaic.Ideal) (e' := .bf16) x (Rect.unit (s := S2048x512) ![512, 0] ![256, 512] a2)) (View.ld (Val := Elt Idealize.ShloMosaic.Ideal) (e' := .bf16) p (Rect.unit (s := S1024x1024) ![512, 0] ![256, 1024] b2)) (View.ld (Val := Elt Idealize.ShloMosaic.Ideal) (e' := .bf16) x (Rect.unit (s := S2048x512) ![1024, 0] ![1024, 512] c2))⟩, ⟨Rect.unit (s := S1024x512) ![256, 0] ![256, 512] d1, k0_pay10 (F := Idealize.ShloMosaic.Ideal) (View.ld (Val := Elt Idealize.ShloMosaic.Ideal) (e' := .bf16) x (Rect.unit (s := S2048x512) ![256, 0] ![256, 512] a1)) (View.ld (Val := Elt Idealize.ShloMosaic.Ideal) (e' := .bf16) p (Rect.unit (s := S1024x1024) ![256, 0] ![256, 1024] b1)) (View.ld (Val := Elt Idealize.ShloMosaic.Ideal) (e' := .bf16) x (Rect.unit (s := S2048x512) ![1024, 0] ![1024, 512] c1))⟩, ⟨Rect.unit (s := S1024x512) ![0, 0] ![256, 512] d0, k0_pay6 (F := Idealize.ShloMosaic.Ideal) (View.ld (Val := Elt Idealize.ShloMosaic.Ideal) (e' := .bf16) x (Rect.unit (s := S2048x512) ![0, 0] ![256, 512] a0)) (View.ld (Val := Elt Idealize.ShloMosaic.Ideal) (e' := .bf16) p (Rect.unit (s := S1024x1024) ![0, 0] ![256, 1024] b0)) (View.ld (Val := Elt Idealize.ShloMosaic.Ideal) (e' := .bf16) x (Rect.unit (s := S2048x512) ![1024, 0] ![1024, 512] c0))⟩] : List (View.Piece (Elt Idealize.ShloMosaic.Ideal) S1024x512 .bf16))
    (Rect.unit (s := S1024x512) ![0, 0] ![1024, 512] inb).toLoadRect = minus x p :=
  read_four v (minus x p) _ _ _ _ d0 d1 d2 d3 inb (minus_piece x p 0 a0 b0 c0 d0) (minus_piece x p 1 a1 b1 c1 d1) (minus_piece x p 2 a2 b2 c2 d2) (minus_piece x p 3 a3 b3 c3 d3)
/-- The even rows' difference, as the pieces leave it. -/
theorem canon_em (a0 b0 c0 d0) (a1 b1 c1 d1) (a2 b2 c2 d2) (a3 b3 c3 d3) : View.canon ([⟨Rect.unit (s := S1024x512) ![768, 0] ![256, 512] d3, k0_pay18 (F := Idealize.ShloMosaic.Ideal) (View.ld (Val := Elt Idealize.ShloMosaic.Ideal) (e' := .bf16) x (Rect.unit (s := S2048x512) ![768, 0] ![256, 512] a3)) (View.ld (Val := Elt Idealize.ShloMosaic.Ideal) (e' := .bf16) p (Rect.unit (s := S1024x1024) ![768, 0] ![256, 1024] b3)) (View.ld (Val := Elt Idealize.ShloMosaic.Ideal) (e' := .bf16) x (Rect.unit (s := S2048x512) ![1024, 0] ![1024, 512] c3))⟩, ⟨Rect.unit (s := S1024x512) ![512, 0] ![256, 512] d2, k0_pay14 (F := Idealize.ShloMosaic.Ideal) (View.ld (Val := Elt Idealize.ShloMosaic.Ideal) (e' := .bf16) x (Rect.unit (s := S2048x512) ![512, 0] ![256, 512] a2)) (View.ld (Val := Elt Idealize.ShloMosaic.Ideal) (e' := .bf16) p (Rect.unit (s := S1024x1024) ![512, 0] ![256, 1024] b2)) (View.ld (Val := Elt Idealize.ShloMosaic.Ideal) (e' := .bf16) x (Rect.unit (s := S2048x512) ![1024, 0] ![1024, 512] c2))⟩, ⟨Rect.unit (s := S1024x512) ![256, 0] ![256, 512] d1, k0_pay10 (F := Idealize.ShloMosaic.Ideal) (View.ld (Val := Elt Idealize.ShloMosaic.Ideal) (e' := .bf16) x (Rect.unit (s := S2048x512) ![256, 0] ![256, 512] a1)) (View.ld (Val := Elt Idealize.ShloMosaic.Ideal) (e' := .bf16) p (Rect.unit (s := S1024x1024) ![256, 0] ![256, 1024] b1)) (View.ld (Val := Elt Idealize.ShloMosaic.Ideal) (e' := .bf16) x (Rect.unit (s := S2048x512) ![1024, 0] ![1024, 512] c1))⟩, ⟨Rect.unit (s := S1024x512) ![0, 0] ![256, 512] d0, k0_pay6 (F := Idealize.ShloMosaic.Ideal) (View.ld (Val := Elt Idealize.ShloMosaic.Ideal) (e' := .bf16) x (Rect.unit (s := S2048x512) ![0, 0] ![256, 512] a0)) (View.ld (Val := Elt Idealize.ShloMosaic.Ideal) (e' := .bf16) p (Rect.unit (s := S1024x1024) ![0, 0] ![256, 1024] b0)) (View.ld (Val := Elt Idealize.ShloMosaic.Ideal) (e' := .bf16) x (Rect.unit (s := S2048x512) ![1024, 0] ![1024, 512] c0))⟩] : List (View.Piece (Elt Idealize.ShloMosaic.Ideal) S1024x512 .bf16)) = minus x p :=
  (canon_four (minus x p) _ _ _ _ d0 d1 d2 d3 (minus_piece x p 0 a0 b0 c0 d0) (minus_piece x p 1 a1 b1 c1 d1) (minus_piece x p 2 a2 b2 c2 d2) (minus_piece x p 3 a3 b3 c3 d3)).2
/-- The odd rows' sum, read back. -/
theorem read_op (a0 b0 c0 d0) (a1 b1 c1 d1) (a2 b2 c2 d2) (a3 b3 c3 d3) (inb) : v.readCov ([⟨Rect.unit (s := S1024x512) ![768, 0] ![256, 512] d3, k0_pay33 (F := Idealize.ShloMosaic.Ideal) (View.ld (Val := Elt Idealize.ShloMosaic.Ideal) (e' := .bf16) x (Rect.unit (s := S2048x512) ![768, 0] ![256, 512] a3)) (View.ld (Val := Elt Idealize.ShloMosaic.Ideal) (e' := .bf16) p (Rect.unit (s := S1024x1024) ![768, 0] ![256, 1024] b3)) (View.ld (Val := Elt Idealize.ShloMosaic.Ideal) (e' := .bf16) x (Rect.unit (s := S2048x512) ![1024, 0] ![1024, 512] c3))⟩, ⟨Rect.unit (s := S1024x512) ![512, 0] ![256, 512] d2, k0_pay29 (F := Idealize.ShloMosaic.Ideal) (k0_pay27 (View.ld (Val := Elt Idealize.ShloMosaic.Ideal) (e' := .bf16) x (Rect.unit (s := S2048x512) ![512, 0] ![256, 512] a2))) (View.ld (Val := Elt Idealize.ShloMosaic.Ideal) (e' := .bf16) p (Rect.unit (s := S1024x1024) ![512, 0] ![256, 1024] b2)) (View.ld (Val := Elt Idealize.ShloMosaic.Ideal) (e' := .bf16) x (Rect.unit (s := S2048x512) ![1024, 0] ![1024, 512] c2))⟩, ⟨Rect.unit (s := S1024x512) ![256, 0] ![256, 512] d1, k0_pay25 (F := Idealize.ShloMosaic.Ideal) (View.ld (Val := Elt Idealize.ShloMosaic.Ideal) (e' := .bf16) x (Rect.unit (s := S2048x512) ![256, 0] ![256, 512] a1)) (View.ld (Val := Elt Idealize.ShloMosaic.Ideal) (e' := .bf16) p (Rect.unit (s := S1024x1024) ![256, 0] ![256, 1024] b1)) (View.ld (Val := Elt Idealize.ShloMosaic.Ideal) (e' := .bf16) x (Rect.unit (s := S2048x512) ![1024, 0] ![1024, 512] c1))⟩, ⟨Rect.unit (s := S1024x512) ![0, 0] ![256, 512] d0, k0_pay21 (F := Idealize.ShloMosaic.Ideal) (k0_pay19 (View.ld (Val := Elt Idealize.ShloMosaic.Ideal) (e' := .bf16) x (Rect.unit (s := S2048x512) ![0, 0] ![256, 512] a0))) (View.ld (Val := Elt Idealize.ShloMosaic.Ideal) (e' := .bf16) p (Rect.unit (s := S1024x1024) ![0, 0] ![256, 1024] b0)) (View.ld (Val := Elt Idealize.ShloMosaic.Ideal) (e' := .bf16) x (Rect.unit (s := S2048x512) ![1024, 0] ![1024, 512] c0))⟩] : List (View.Piece (Elt Idealize.ShloMosaic.Ideal) S1024x512 .bf16))
    (Rect.unit (s := S1024x512) ![0, 0] ![1024, 512] inb).toLoadRect = plus x p :=
  read_four v (plus x p) _ _ _ _ d0 d1 d2 d3 inb (plus_piece x p 0 a0 b0 c0 d0) (plus_piece x p 1 a1 b1 c1 d1) (plus_piece x p 2 a2 b2 c2 d2) (plus_piece x p 3 a3 b3 c3 d3)
/-- The odd rows' sum, as the pieces leave it. -/
theorem canon_op (a0 b0 c0 d0) (a1 b1 c1 d1) (a2 b2 c2 d2) (a3 b3 c3 d3) : View.canon ([⟨Rect.unit (s := S1024x512) ![768, 0] ![256, 512] d3, k0_pay33 (F := Idealize.ShloMosaic.Ideal) (View.ld (Val := Elt Idealize.ShloMosaic.Ideal) (e' := .bf16) x (Rect.unit (s := S2048x512) ![768, 0] ![256, 512] a3)) (View.ld (Val := Elt Idealize.ShloMosaic.Ideal) (e' := .bf16) p (Rect.unit (s := S1024x1024) ![768, 0] ![256, 1024] b3)) (View.ld (Val := Elt Idealize.ShloMosaic.Ideal) (e' := .bf16) x (Rect.unit (s := S2048x512) ![1024, 0] ![1024, 512] c3))⟩, ⟨Rect.unit (s := S1024x512) ![512, 0] ![256, 512] d2, k0_pay29 (F := Idealize.ShloMosaic.Ideal) (k0_pay27 (View.ld (Val := Elt Idealize.ShloMosaic.Ideal) (e' := .bf16) x (Rect.unit (s := S2048x512) ![512, 0] ![256, 512] a2))) (View.ld (Val := Elt Idealize.ShloMosaic.Ideal) (e' := .bf16) p (Rect.unit (s := S1024x1024) ![512, 0] ![256, 1024] b2)) (View.ld (Val := Elt Idealize.ShloMosaic.Ideal) (e' := .bf16) x (Rect.unit (s := S2048x512) ![1024, 0] ![1024, 512] c2))⟩, ⟨Rect.unit (s := S1024x512) ![256, 0] ![256, 512] d1, k0_pay25 (F := Idealize.ShloMosaic.Ideal) (View.ld (Val := Elt Idealize.ShloMosaic.Ideal) (e' := .bf16) x (Rect.unit (s := S2048x512) ![256, 0] ![256, 512] a1)) (View.ld (Val := Elt Idealize.ShloMosaic.Ideal) (e' := .bf16) p (Rect.unit (s := S1024x1024) ![256, 0] ![256, 1024] b1)) (View.ld (Val := Elt Idealize.ShloMosaic.Ideal) (e' := .bf16) x (Rect.unit (s := S2048x512) ![1024, 0] ![1024, 512] c1))⟩, ⟨Rect.unit (s := S1024x512) ![0, 0] ![256, 512] d0, k0_pay21 (F := Idealize.ShloMosaic.Ideal) (k0_pay19 (View.ld (Val := Elt Idealize.ShloMosaic.Ideal) (e' := .bf16) x (Rect.unit (s := S2048x512) ![0, 0] ![256, 512] a0))) (View.ld (Val := Elt Idealize.ShloMosaic.Ideal) (e' := .bf16) p (Rect.unit (s := S1024x1024) ![0, 0] ![256, 1024] b0)) (View.ld (Val := Elt Idealize.ShloMosaic.Ideal) (e' := .bf16) x (Rect.unit (s := S2048x512) ![1024, 0] ![1024, 512] c0))⟩] : List (View.Piece (Elt Idealize.ShloMosaic.Ideal) S1024x512 .bf16)) = plus x p :=
  (canon_four (plus x p) _ _ _ _ d0 d1 d2 d3 (plus_piece x p 0 a0 b0 c0 d0) (plus_piece x p 1 a1 b1 c1 d1) (plus_piece x p 2 a2 b2 c2 d2) (plus_piece x p 3 a3 b3 c3 d3)).2
/-- The odd rows' difference, read back. -/
theorem read_om (a0 b0 c0 d0) (a1 b1 c1 d1) (a2 b2 c2 d2) (a3 b3 c3 d3) (inb) : v.readCov ([⟨Rect.unit (s := S1024x512) ![768, 0] ![256, 512] d3, k0_pay34 (F := Idealize.ShloMosaic.Ideal) (View.ld (Val := Elt Idealize.ShloMosaic.Ideal) (e' := .bf16) x (Rect.unit (s := S2048x512) ![768, 0] ![256, 512] a3)) (View.ld (Val := Elt Idealize.ShloMosaic.Ideal) (e' := .bf16) p (Rect.unit (s := S1024x1024) ![768, 0] ![256, 1024] b3)) (View.ld (Val := Elt Idealize.ShloMosaic.Ideal) (e' := .bf16) x (Rect.unit (s := S2048x512) ![1024, 0] ![1024, 512] c3))⟩, ⟨Rect.unit (s := S1024x512) ![512, 0] ![256, 512] d2, k0_pay30 (F := Idealize.ShloMosaic.Ideal) (k0_pay27 (View.ld (Val := Elt Idealize.ShloMosaic.Ideal) (e' := .bf16) x (Rect.unit (s := S2048x512) ![512, 0] ![256, 512] a2))) (View.ld (Val := Elt Idealize.ShloMosaic.Ideal) (e' := .bf16) p (Rect.unit (s := S1024x1024) ![512, 0] ![256, 1024] b2)) (View.ld (Val := Elt Idealize.ShloMosaic.Ideal) (e' := .bf16) x (Rect.unit (s := S2048x512) ![1024, 0] ![1024, 512] c2))⟩, ⟨Rect.unit (s := S1024x512) ![256, 0] ![256, 512] d1, k0_pay26 (F := Idealize.ShloMosaic.Ideal) (View.ld (Val := Elt Idealize.ShloMosaic.Ideal) (e' := .bf16) x (Rect.unit (s := S2048x512) ![256, 0] ![256, 512] a1)) (View.ld (Val := Elt Idealize.ShloMosaic.Ideal) (e' := .bf16) p (Rect.unit (s := S1024x1024) ![256, 0] ![256, 1024] b1)) (View.ld (Val := Elt Idealize.ShloMosaic.Ideal) (e' := .bf16) x (Rect.unit (s := S2048x512) ![1024, 0] ![1024, 512] c1))⟩, ⟨Rect.unit (s := S1024x512) ![0, 0] ![256, 512] d0, k0_pay22 (F := Idealize.ShloMosaic.Ideal) (k0_pay19 (View.ld (Val := Elt Idealize.ShloMosaic.Ideal) (e' := .bf16) x (Rect.unit (s := S2048x512) ![0, 0] ![256, 512] a0))) (View.ld (Val := Elt Idealize.ShloMosaic.Ideal) (e' := .bf16) p (Rect.unit (s := S1024x1024) ![0, 0] ![256, 1024] b0)) (View.ld (Val := Elt Idealize.ShloMosaic.Ideal) (e' := .bf16) x (Rect.unit (s := S2048x512) ![1024, 0] ![1024, 512] c0))⟩] : List (View.Piece (Elt Idealize.ShloMosaic.Ideal) S1024x512 .bf16))
    (Rect.unit (s := S1024x512) ![0, 0] ![1024, 512] inb).toLoadRect = minus x p :=
  read_four v (minus x p) _ _ _ _ d0 d1 d2 d3 inb (minus_piece x p 0 a0 b0 c0 d0) (minus_piece x p 1 a1 b1 c1 d1) (minus_piece x p 2 a2 b2 c2 d2) (minus_piece x p 3 a3 b3 c3 d3)
/-- The odd rows' difference, as the pieces leave it. -/
theorem canon_om (a0 b0 c0 d0) (a1 b1 c1 d1) (a2 b2 c2 d2) (a3 b3 c3 d3) : View.canon ([⟨Rect.unit (s := S1024x512) ![768, 0] ![256, 512] d3, k0_pay34 (F := Idealize.ShloMosaic.Ideal) (View.ld (Val := Elt Idealize.ShloMosaic.Ideal) (e' := .bf16) x (Rect.unit (s := S2048x512) ![768, 0] ![256, 512] a3)) (View.ld (Val := Elt Idealize.ShloMosaic.Ideal) (e' := .bf16) p (Rect.unit (s := S1024x1024) ![768, 0] ![256, 1024] b3)) (View.ld (Val := Elt Idealize.ShloMosaic.Ideal) (e' := .bf16) x (Rect.unit (s := S2048x512) ![1024, 0] ![1024, 512] c3))⟩, ⟨Rect.unit (s := S1024x512) ![512, 0] ![256, 512] d2, k0_pay30 (F := Idealize.ShloMosaic.Ideal) (k0_pay27 (View.ld (Val := Elt Idealize.ShloMosaic.Ideal) (e' := .bf16) x (Rect.unit (s := S2048x512) ![512, 0] ![256, 512] a2))) (View.ld (Val := Elt Idealize.ShloMosaic.Ideal) (e' := .bf16) p (Rect.unit (s := S1024x1024) ![512, 0] ![256, 1024] b2)) (View.ld (Val := Elt Idealize.ShloMosaic.Ideal) (e' := .bf16) x (Rect.unit (s := S2048x512) ![1024, 0] ![1024, 512] c2))⟩, ⟨Rect.unit (s := S1024x512) ![256, 0] ![256, 512] d1, k0_pay26 (F := Idealize.ShloMosaic.Ideal) (View.ld (Val := Elt Idealize.ShloMosaic.Ideal) (e' := .bf16) x (Rect.unit (s := S2048x512) ![256, 0] ![256, 512] a1)) (View.ld (Val := Elt Idealize.ShloMosaic.Ideal) (e' := .bf16) p (Rect.unit (s := S1024x1024) ![256, 0] ![256, 1024] b1)) (View.ld (Val := Elt Idealize.ShloMosaic.Ideal) (e' := .bf16) x (Rect.unit (s := S2048x512) ![1024, 0] ![1024, 512] c1))⟩, ⟨Rect.unit (s := S1024x512) ![0, 0] ![256, 512] d0, k0_pay22 (F := Idealize.ShloMosaic.Ideal) (k0_pay19 (View.ld (Val := Elt Idealize.ShloMosaic.Ideal) (e' := .bf16) x (Rect.unit (s := S2048x512) ![0, 0] ![256, 512] a0))) (View.ld (Val := Elt Idealize.ShloMosaic.Ideal) (e' := .bf16) p (Rect.unit (s := S1024x1024) ![0, 0] ![256, 1024] b0)) (View.ld (Val := Elt Idealize.ShloMosaic.Ideal) (e' := .bf16) x (Rect.unit (s := S2048x512) ![1024, 0] ![1024, 512] c0))⟩] : List (View.Piece (Elt Idealize.ShloMosaic.Ideal) S1024x512 .bf16)) = minus x p :=
  (canon_four (minus x p) _ _ _ _ d0 d1 d2 d3 (minus_piece x p 0 a0 b0 c0 d0) (minus_piece x p 1 a1 b1 c1 d1) (minus_piece x p 2 a2 b2 c2 d2) (minus_piece x p 3 a3 b3 c3 d3)).2
end
/-- The Nyquist row, repeated. -/
theorem nyq_payload (x : FVec Idealize.ShloMosaic.Ideal S2048x512 .bf16) (inb) :
    k0_pay36 (F := Idealize.ShloMosaic.Ideal) (k0_pay35 (View.ld (Val := Elt Idealize.ShloMosaic.Ideal) (e' := .bf16) x (Rect.unit (s := S2048x512) ![1024, 0] ![1, 512] inb))) = nyqRows x := by
  funext y
  obtain ⟨r, j, rfl⟩ : ∃ r j, y = ix2 r j := ⟨_, _, eq_ix2 y⟩
  have h0 : View.ld (Val := Elt Idealize.ShloMosaic.Ideal) (e' := .bf16) x (Rect.unit (s := S2048x512) ![1024, 0] ![1, 512] inb) (ix2 (0 : Fin 1) j) = x (ix2 (⟨1024, by decide⟩ : Fin 2048) j) := by
    refine View.ld_unit_apply_of (Val := Elt Idealize.ShloMosaic.Ideal) (e := .bf16) x _ _ inb (ix2 (0 : Fin 1) j) (ix2 (⟨1024, by decide⟩ : Fin 2048) j) ?_
    intro a; fin_cases a
    · rfl
    · show j.val = 0 + j.val; omega
  refine Eq.trans ?_ h0
  unfold k0_pay36 k0_pay35
  dsimp only
  rw [shapeCast_self]
  refine (broadcastTo_apply _ broadcasts_S1x512_S8x512 _ (ix2 (0 : Fin 1) j) ?_).trans ?_
  · intro a; fin_cases a <;> rfl
  · rw [shapeCast_self]; rfl
/-- The first of the repeated rows, read back. -/
theorem read_nyq {sp : Space} (v : View sig .tc sp S8x512 .f32) (w : FVec Idealize.ShloMosaic.Ideal S8x512 .f32) (i inb) :
    v.readCov ([⟨Rect.unit (s := S8x512) ![0, 0] ![8, 512] i, w⟩] : List (View.Piece (Elt Idealize.ShloMosaic.Ideal) S8x512 .f32))
      (Rect.unit (s := S8x512) ![0, 0] ![1, 512] inb).toLoadRect
      = View.ld (Val := Elt Idealize.ShloMosaic.Ideal) (e' := .f32) w (Rect.unit (s := S8x512) ![0, 0] ![1, 512] inb) := by
  have hc : ∀ y, ∃ pc ∈ ([⟨Rect.unit (s := S8x512) ![0, 0] ![8, 512] i, w⟩] : List (View.Piece (Elt Idealize.ShloMosaic.Ideal) S8x512 .f32)), y ∈ pc.1.set := by
    intro y
    have hy0 : (y 0).val < 8 := (y 0).isLt
    have hy1 : (y 1).val < 512 := (y 1).isLt
    refine ⟨_, List.mem_singleton_self _, (Rect.mem_set_unit (inb := i)).2 fun a => ?_⟩
    fin_cases a
    · refine ⟨Nat.zero_le _, ?_⟩
      show (y 0).val < 0 + 8
      omega
    · refine ⟨Nat.zero_le _, ?_⟩
      show (y 1).val < 0 + 512
      omega
  have hw : View.canon ([⟨Rect.unit (s := S8x512) ![0, 0] ![8, 512] i, w⟩] : List (View.Piece (Elt Idealize.ShloMosaic.Ideal) S8x512 .f32)) = w :=
    View.canon_unit_zero (Val := Elt Idealize.ShloMosaic.Ideal) (S := S8x512) (e := .f32) zero_off i w
  rw [View.readCov_eq_canon_ld _ _ _ hc, hw]

set_option maxRecDepth 8192 in
set_option maxHeartbeats 400000 in
/-- At a sweep's first point, the output tile is the closed form over the slabs it folds. -/
theorem out_A (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S1x2x512x512 .bf16) (harg13 : arg13.IsWhole) (arg14 : Memref sig .tc .vmem S1x2x512x512 .bf16) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x512 .bf16) (harg18 : arg18.IsWhole) (arg19 : Memref sig .tc .vmem S8x512 .f32) (harg19 : arg19.IsWhole) (hc0 : cond0_0 i)
    (x0 : Vec Idealize.ShloMosaic.Ideal S512x1024 .bf16) (x1 : Vec Idealize.ShloMosaic.Ideal S512x1024 .bf16) (x2 : Vec Idealize.ShloMosaic.Ideal S512x1024 .bf16) (x3 : Vec Idealize.ShloMosaic.Ideal S512x1024 .bf16) (x4 : Vec Idealize.ShloMosaic.Ideal S256x256 .bf16) (x5 : Vec Idealize.ShloMosaic.Ideal S256x256 .bf16) (x6 : Vec Idealize.ShloMosaic.Ideal S1024x1024 .bf16) (x7 : Vec Idealize.ShloMosaic.Ideal S1024x1024 .bf16) (x8 : Vec Idealize.ShloMosaic.Ideal S2048x512 .bf16) (x9 : Vec Idealize.ShloMosaic.Ideal S2048x512 .bf16) (x10 : Vec Idealize.ShloMosaic.Ideal S1x2x512x512 .bf16) :
    out0_A_11 (F := Idealize.ShloMosaic.Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 = blkTile x0 x1 x2 x3 x4 x5 x10 (plus x8 x6) (minus x8 x6) (plus x9 x7) (minus x9 x7) (nyqRows x8) := by
  unfold out0_A_11
  rw [View.read_writes_eq_canon _ _ _ (cover0_A_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10)]
  funext y
  refine View.canon_apply_of_pieces (blkTile x0 x1 x2 x3 x4 x5 x10 (plus x8 x6) (minus x8 x6) (plus x9 x7) (minus x9 x7) (nyqRows x8)) _ ?_ y (cover0_A_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 y)
  unfold kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread, List.forall_mem_cons, ld_slab, ld_chan, even_lo, even_hi, read_ep, read_em, read_op, read_om, nyq_payload, read_nyq]
  refine ⟨?_, ?_, ?_, ?_, ?_, ?_, ?_, ?_, by simp⟩
  · intro x
    exact tile_eq_blk x0 x1 x2 x3 x4 x5 x10 (plus x8 x6) (minus x8 x6) (plus x9 x7) (minus x9 x7) (nyqRows x8) 1 1 1 _ _ rfl _ (by have := lt_of_coord i; omega) (by have := lt_of_coord i; omega)
      _ (nyq_ld _ _) _ _ _ _ (rows_ld 1 _ _) (rows_ld 1 _ _) (rows_ld 1 _ _) (rows_ld 1 _ _) _ (gate_ld 1 1 1 _ _) _ x
  · intro x
    exact tile_eq_blk x0 x1 x2 x3 x4 x5 x10 (plus x8 x6) (minus x8 x6) (plus x9 x7) (minus x9 x7) (nyqRows x8) 1 1 0 _ _ rfl _ (by have := lt_of_coord i; omega) (by have := lt_of_coord i; omega)
      _ (nyq_ld _ _) _ _ _ _ (rows_ld 1 _ _) (rows_ld 1 _ _) (rows_ld 1 _ _) (rows_ld 1 _ _) _ (gate_ld 1 1 0 _ _) _ x
  · intro x
    exact tile_eq_blk x0 x1 x2 x3 x4 x5 x10 (plus x8 x6) (minus x8 x6) (plus x9 x7) (minus x9 x7) (nyqRows x8) 0 1 1 _ _ rfl _ (by have := lt_of_coord i; omega) (by have := lt_of_coord i; omega)
      _ (nyq_ld _ _) _ _ _ _ (rows_ld 1 _ _) (rows_ld 1 _ _) (rows_ld 1 _ _) (rows_ld 1 _ _) _ (gate_ld 0 1 1 _ _) _ x
  · intro x
    exact tile_eq_blk x0 x1 x2 x3 x4 x5 x10 (plus x8 x6) (minus x8 x6) (plus x9 x7) (minus x9 x7) (nyqRows x8) 0 1 0 _ _ rfl _ (by have := lt_of_coord i; omega) (by have := lt_of_coord i; omega)
      _ (nyq_ld _ _) _ _ _ _ (rows_ld 1 _ _) (rows_ld 1 _ _) (rows_ld 1 _ _) (rows_ld 1 _ _) _ (gate_ld 0 1 0 _ _) _ x
  · intro x
    exact tile_eq_blk x0 x1 x2 x3 x4 x5 x10 (plus x8 x6) (minus x8 x6) (plus x9 x7) (minus x9 x7) (nyqRows x8) 1 0 1 _ _ rfl _ (by have := lt_of_coord i; omega) (by have := lt_of_coord i; omega)
      _ (nyq_ld _ _) _ _ _ _ (rows_ld 0 _ _) (rows_ld 0 _ _) (rows_ld 0 _ _) (rows_ld 0 _ _) _ (gate_ld 1 0 1 _ _) _ x
  · intro x
    exact tile_eq_blk x0 x1 x2 x3 x4 x5 x10 (plus x8 x6) (minus x8 x6) (plus x9 x7) (minus x9 x7) (nyqRows x8) 1 0 0 _ _ rfl _ (by have := lt_of_coord i; omega) (by have := lt_of_coord i; omega)
      _ (nyq_ld _ _) _ _ _ _ (rows_ld 0 _ _) (rows_ld 0 _ _) (rows_ld 0 _ _) (rows_ld 0 _ _) _ (gate_ld 1 0 0 _ _) _ x
  · intro x
    exact tile_eq_blk x0 x1 x2 x3 x4 x5 x10 (plus x8 x6) (minus x8 x6) (plus x9 x7) (minus x9 x7) (nyqRows x8) 0 0 1 _ _ rfl _ (by have := lt_of_coord i; omega) (by have := lt_of_coord i; omega)
      _ (nyq_ld _ _) _ _ _ _ (rows_ld 0 _ _) (rows_ld 0 _ _) (rows_ld 0 _ _) (rows_ld 0 _ _) _ (gate_ld 0 0 1 _ _) _ x
  · intro x
    exact tile_eq_blk x0 x1 x2 x3 x4 x5 x10 (plus x8 x6) (minus x8 x6) (plus x9 x7) (minus x9 x7) (nyqRows x8) 0 0 0 _ _ rfl _ (by have := lt_of_coord i; omega) (by have := lt_of_coord i; omega)
      _ (nyq_ld _ _) _ _ _ _ (rows_ld 0 _ _) (rows_ld 0 _ _) (rows_ld 0 _ _) (rows_ld 0 _ _) _ (gate_ld 0 0 0 _ _) _ x

set_option maxRecDepth 8192 in
set_option maxHeartbeats 400000 in
/-- What a sweep's first point leaves in scratch 0. -/
theorem sout_A_0 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S1x2x512x512 .bf16) (harg13 : arg13.IsWhole) (arg14 : Memref sig .tc .vmem S1x2x512x512 .bf16) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x512 .bf16) (harg18 : arg18.IsWhole) (arg19 : Memref sig .tc .vmem S8x512 .f32) (harg19 : arg19.IsWhole) (hc0 : cond0_0 i)
    (x0 : Vec Idealize.ShloMosaic.Ideal S512x1024 .bf16) (x1 : Vec Idealize.ShloMosaic.Ideal S512x1024 .bf16) (x2 : Vec Idealize.ShloMosaic.Ideal S512x1024 .bf16) (x3 : Vec Idealize.ShloMosaic.Ideal S512x1024 .bf16) (x4 : Vec Idealize.ShloMosaic.Ideal S256x256 .bf16) (x5 : Vec Idealize.ShloMosaic.Ideal S256x256 .bf16) (x6 : Vec Idealize.ShloMosaic.Ideal S1024x1024 .bf16) (x7 : Vec Idealize.ShloMosaic.Ideal S1024x1024 .bf16) (x8 : Vec Idealize.ShloMosaic.Ideal S2048x512 .bf16) (x9 : Vec Idealize.ShloMosaic.Ideal S2048x512 .bf16) (x10 : Vec Idealize.ShloMosaic.Ideal S1x2x512x512 .bf16) :
    sout0_A_0 (F := Idealize.ShloMosaic.Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 = plus x8 x6 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10)]
  unfold kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread]
  exact canon_ep x8 x6 _ _ _ _ _ _ _ _ _ _ _ _ _ _ _ _

set_option maxRecDepth 8192 in
set_option maxHeartbeats 400000 in
/-- What a sweep's first point leaves in scratch 1. -/
theorem sout_A_1 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S1x2x512x512 .bf16) (harg13 : arg13.IsWhole) (arg14 : Memref sig .tc .vmem S1x2x512x512 .bf16) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x512 .bf16) (harg18 : arg18.IsWhole) (arg19 : Memref sig .tc .vmem S8x512 .f32) (harg19 : arg19.IsWhole) (hc0 : cond0_0 i)
    (x0 : Vec Idealize.ShloMosaic.Ideal S512x1024 .bf16) (x1 : Vec Idealize.ShloMosaic.Ideal S512x1024 .bf16) (x2 : Vec Idealize.ShloMosaic.Ideal S512x1024 .bf16) (x3 : Vec Idealize.ShloMosaic.Ideal S512x1024 .bf16) (x4 : Vec Idealize.ShloMosaic.Ideal S256x256 .bf16) (x5 : Vec Idealize.ShloMosaic.Ideal S256x256 .bf16) (x6 : Vec Idealize.ShloMosaic.Ideal S1024x1024 .bf16) (x7 : Vec Idealize.ShloMosaic.Ideal S1024x1024 .bf16) (x8 : Vec Idealize.ShloMosaic.Ideal S2048x512 .bf16) (x9 : Vec Idealize.ShloMosaic.Ideal S2048x512 .bf16) (x10 : Vec Idealize.ShloMosaic.Ideal S1x2x512x512 .bf16) :
    sout0_A_1 (F := Idealize.ShloMosaic.Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 = minus x8 x6 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10)]
  unfold kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread]
  exact canon_em x8 x6 _ _ _ _ _ _ _ _ _ _ _ _ _ _ _ _

set_option maxRecDepth 8192 in
set_option maxHeartbeats 400000 in
/-- What a sweep's first point leaves in scratch 2. -/
theorem sout_A_2 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S1x2x512x512 .bf16) (harg13 : arg13.IsWhole) (arg14 : Memref sig .tc .vmem S1x2x512x512 .bf16) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x512 .bf16) (harg18 : arg18.IsWhole) (arg19 : Memref sig .tc .vmem S8x512 .f32) (harg19 : arg19.IsWhole) (hc0 : cond0_0 i)
    (x0 : Vec Idealize.ShloMosaic.Ideal S512x1024 .bf16) (x1 : Vec Idealize.ShloMosaic.Ideal S512x1024 .bf16) (x2 : Vec Idealize.ShloMosaic.Ideal S512x1024 .bf16) (x3 : Vec Idealize.ShloMosaic.Ideal S512x1024 .bf16) (x4 : Vec Idealize.ShloMosaic.Ideal S256x256 .bf16) (x5 : Vec Idealize.ShloMosaic.Ideal S256x256 .bf16) (x6 : Vec Idealize.ShloMosaic.Ideal S1024x1024 .bf16) (x7 : Vec Idealize.ShloMosaic.Ideal S1024x1024 .bf16) (x8 : Vec Idealize.ShloMosaic.Ideal S2048x512 .bf16) (x9 : Vec Idealize.ShloMosaic.Ideal S2048x512 .bf16) (x10 : Vec Idealize.ShloMosaic.Ideal S1x2x512x512 .bf16) :
    sout0_A_2 (F := Idealize.ShloMosaic.Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 = plus x9 x7 := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10)]
  unfold kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread]
  exact canon_op x9 x7 _ _ _ _ _ _ _ _ _ _ _ _ _ _ _ _

set_option maxRecDepth 8192 in
set_option maxHeartbeats 400000 in
/-- What a sweep's first point leaves in scratch 3. -/
theorem sout_A_3 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S1x2x512x512 .bf16) (harg13 : arg13.IsWhole) (arg14 : Memref sig .tc .vmem S1x2x512x512 .bf16) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x512 .bf16) (harg18 : arg18.IsWhole) (arg19 : Memref sig .tc .vmem S8x512 .f32) (harg19 : arg19.IsWhole) (hc0 : cond0_0 i)
    (x0 : Vec Idealize.ShloMosaic.Ideal S512x1024 .bf16) (x1 : Vec Idealize.ShloMosaic.Ideal S512x1024 .bf16) (x2 : Vec Idealize.ShloMosaic.Ideal S512x1024 .bf16) (x3 : Vec Idealize.ShloMosaic.Ideal S512x1024 .bf16) (x4 : Vec Idealize.ShloMosaic.Ideal S256x256 .bf16) (x5 : Vec Idealize.ShloMosaic.Ideal S256x256 .bf16) (x6 : Vec Idealize.ShloMosaic.Ideal S1024x1024 .bf16) (x7 : Vec Idealize.ShloMosaic.Ideal S1024x1024 .bf16) (x8 : Vec Idealize.ShloMosaic.Ideal S2048x512 .bf16) (x9 : Vec Idealize.ShloMosaic.Ideal S2048x512 .bf16) (x10 : Vec Idealize.ShloMosaic.Ideal S1x2x512x512 .bf16) :
    sout0_A_3 (F := Idealize.ShloMosaic.Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 = minus x9 x7 := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10)]
  unfold kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread]
  exact canon_om x9 x7 _ _ _ _ _ _ _ _ _ _ _ _ _ _ _ _

set_option maxRecDepth 8192 in
set_option maxHeartbeats 400000 in
/-- What a sweep's first point leaves in scratch 4. -/
theorem sout_A_4 (c : Dev nD) (i : grid0.Coords) (arg3 : Memref sig .tc .vmem S512x1024 .bf16) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S256x256 .bf16) (harg7 : arg7.IsWhole) (arg8 : Memref sig .tc .vmem S256x256 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S2048x512 .bf16) (harg11 : arg11.IsWhole) (arg12 : Memref sig .tc .vmem S2048x512 .bf16) (harg12 : arg12.IsWhole) (arg13 : Memref sig .tc .vmem S1x2x512x512 .bf16) (harg13 : arg13.IsWhole) (arg14 : Memref sig .tc .vmem S1x2x512x512 .bf16) (harg14 : arg14.IsWhole) (arg15 : Memref sig .tc .vmem S1024x512 .bf16) (harg15 : arg15.IsWhole) (arg16 : Memref sig .tc .vmem S1024x512 .bf16) (harg16 : arg16.IsWhole) (arg17 : Memref sig .tc .vmem S1024x512 .bf16) (harg17 : arg17.IsWhole) (arg18 : Memref sig .tc .vmem S1024x512 .bf16) (harg18 : arg18.IsWhole) (arg19 : Memref sig .tc .vmem S8x512 .f32) (harg19 : arg19.IsWhole) (hc0 : cond0_0 i)
    (x0 : Vec Idealize.ShloMosaic.Ideal S512x1024 .bf16) (x1 : Vec Idealize.ShloMosaic.Ideal S512x1024 .bf16) (x2 : Vec Idealize.ShloMosaic.Ideal S512x1024 .bf16) (x3 : Vec Idealize.ShloMosaic.Ideal S512x1024 .bf16) (x4 : Vec Idealize.ShloMosaic.Ideal S256x256 .bf16) (x5 : Vec Idealize.ShloMosaic.Ideal S256x256 .bf16) (x6 : Vec Idealize.ShloMosaic.Ideal S1024x1024 .bf16) (x7 : Vec Idealize.ShloMosaic.Ideal S1024x1024 .bf16) (x8 : Vec Idealize.ShloMosaic.Ideal S2048x512 .bf16) (x9 : Vec Idealize.ShloMosaic.Ideal S2048x512 .bf16) (x10 : Vec Idealize.ShloMosaic.Ideal S1x2x512x512 .bf16) :
    sout0_A_4 (F := Idealize.ShloMosaic.Ideal) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10 = nyqRows x8 := by
  unfold sout0_A_4
  rw [View.read_writes_eq_canon _ _ _ (scover0_A_4 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 x0 x1 x2 x3 x4 x5 x6 x7 x8 x9 x10)]
  unfold kernelRun0_A
  dsimp only
  sl_unfold_words
  simp only [View.readAt_eq_ld, harg3.read_unread, harg4.read_unread, harg5.read_unread, harg6.read_unread, harg7.read_unread, harg8.read_unread, harg9.read_unread, harg10.read_unread, harg11.read_unread, harg12.read_unread, harg13.read_unread]
  exact (View.canon_unit_zero zero_off _ _).trans (nyq_payload x8 _)
end Cert.Mix
-- ==== Proof.Sweep.lean ====
/-
  Every point of the launch writes back the closed form of Block over its input blocks and the slabs its sweep's first point folded:
  the slabs depend on the column block only, which the four points of a sweep share.
-/
module
public import proofs.«01_k».proof.Proof.Fold
public import proofs.«01_k».proof.Proof.Gen.KernelIdeal.Value
public import Idealize.ShloMosaic.Lib.Pipeline.ValueKit
public import Idealize.ShloMosaic.Lib.Claim
@[expose] public section
set_option maxRecDepth 16384
noncomputable section
namespace Cert.Mix
open Cert.KernelIdeal Cert.KernelIdeal.Gen
open Idealize.ShloMosaic hiding ix0 ix1 ix2 ix3 ix4 ix5
open Idealize.ShloMosaic.TcCoe Idealize.SL.Sem
open Idealize.ShloMosaic.ValueIdx
open scoped BigOperators

/-! ## Where the blocks lie -/

theorem idx_tab : ∀ t : Fin grid0.N, win0_0.index t = ![t.val % 4, 0] ∧ win0_1.index t = ![t.val % 4, 0] ∧ win0_2.index t = ![t.val % 4, 0]
    ∧ win0_3.index t = ![t.val % 4, 0] := by decide +kernel
theorem idx_const : ∀ t : Fin grid0.N, win0_4.index t = ![0, 0] ∧ win0_5.index t = ![0, 0] ∧ win0_6.index t = ![0, 0] ∧ win0_7.index t = ![0, 0] := by
  decide +kernel
theorem idx_x : ∀ t : Fin grid0.N, win0_8.index t = ![t.val / 16, t.val / 4 % 4] ∧ win0_9.index t = ![t.val / 16, t.val / 4 % 4] := by decide +kernel
theorem idx_out : ∀ t : Fin grid0.N, win0_10.index t = ![t.val / 16, 0, t.val % 4, t.val / 4 % 4] ∧ win0_11.index t = ![t.val / 16, 0, t.val % 4, t.val / 4 % 4] := by
  decide +kernel

variable (m : (ℓ : Loc nD τ sig) → Buf (Elt Idealize.ShloMosaic.Ideal) ℓ)

theorem lt_N (t : Fin cfg0.N) : t.val < 64 := lt_of_lt_of_eq t.isLt N_0
theorem iblk0_apply (c : Dev nD) (t : Fin cfg0.N) (r : Fin 512) (k : Fin 1024) :
    iblk m c 0 t (ix2 r k) = V m c main_v73 (ix2 (⟨512 * (t.val % 4) + r.val, by omega⟩ : Fin 2048) k) := by
  have e := (idx_tab t).1
  blk_ext [iblk, e]
  all_goals first | exact congrArg (· + _) (Nat.mul_comm _ _) | exact Nat.mul_one _
theorem iblk1_apply (c : Dev nD) (t : Fin cfg0.N) (r : Fin 512) (k : Fin 1024) :
    iblk m c 1 t (ix2 r k) = V m c main_v74 (ix2 (⟨512 * (t.val % 4) + r.val, by omega⟩ : Fin 2048) k) := by
  have e := (idx_tab t).2.1
  blk_ext [iblk, e]
  all_goals first | exact congrArg (· + _) (Nat.mul_comm _ _) | exact Nat.mul_one _
theorem iblk2_apply (c : Dev nD) (t : Fin cfg0.N) (r : Fin 512) (k : Fin 1024) :
    iblk m c 2 t (ix2 r k) = V m c main_v75 (ix2 (⟨512 * (t.val % 4) + r.val, by omega⟩ : Fin 2048) k) := by
  have e := (idx_tab t).2.2.1
  blk_ext [iblk, e]
  all_goals first | exact congrArg (· + _) (Nat.mul_comm _ _) | exact Nat.mul_one _
theorem iblk3_apply (c : Dev nD) (t : Fin cfg0.N) (r : Fin 512) (k : Fin 1024) :
    iblk m c 3 t (ix2 r k) = V m c main_v76 (ix2 (⟨512 * (t.val % 4) + r.val, by omega⟩ : Fin 2048) k) := by
  have e := (idx_tab t).2.2.2
  blk_ext [iblk, e]
  all_goals first | exact congrArg (· + _) (Nat.mul_comm _ _) | exact Nat.mul_one _
theorem iblk4_apply (c : Dev nD) (t : Fin cfg0.N) (r : Fin 256) (k : Fin 256) :
    iblk m c 4 t (ix2 r k) = V m c main_v79 (ix2 r k) := by
  have e := (idx_const t).1
  blk_ext [iblk, e]
theorem iblk5_apply (c : Dev nD) (t : Fin cfg0.N) (r : Fin 256) (k : Fin 256) :
    iblk m c 5 t (ix2 r k) = V m c main_v81 (ix2 r k) := by
  have e := (idx_const t).2.1
  blk_ext [iblk, e]
theorem iblk6_apply (c : Dev nD) (t : Fin cfg0.N) (r : Fin 1024) (k : Fin 1024) :
    iblk m c 6 t (ix2 r k) = V m c main_v77 (ix2 r k) := by
  have e := (idx_const t).2.2.1
  blk_ext [iblk, e]
theorem iblk7_apply (c : Dev nD) (t : Fin cfg0.N) (r : Fin 1024) (k : Fin 1024) :
    iblk m c 7 t (ix2 r k) = V m c main_v78 (ix2 r k) := by
  have e := (idx_const t).2.2.2
  blk_ext [iblk, e]
theorem iblk8_apply (c : Dev nD) (t : Fin cfg0.N) (r : Fin 2048) (k : Fin 512) :
    iblk m c 8 t (ix2 r k) = V m c main_arg0 (ix2 (⟨2048 * (t.val / 16) + r.val, by have := lt_N t; omega⟩ : Fin 8192) (⟨512 * (t.val / 4 % 4) + k.val, by omega⟩ : Fin 2048)) := by
  have e := (idx_x t).1
  have := lt_N t
  blk_ext [iblk, e]
  all_goals first | exact congrArg (· + _) (Nat.mul_comm _ _) | exact Nat.mul_one _
theorem iblk9_apply (c : Dev nD) (t : Fin cfg0.N) (r : Fin 2048) (k : Fin 512) :
    iblk m c 9 t (ix2 r k) = V m c main_arg1 (ix2 (⟨2048 * (t.val / 16) + r.val, by have := lt_N t; omega⟩ : Fin 8192) (⟨512 * (t.val / 4 % 4) + k.val, by omega⟩ : Fin 2048)) := by
  have e := (idx_x t).2
  have := lt_N t
  blk_ext [iblk, e]
  all_goals first | exact congrArg (· + _) (Nat.mul_comm _ _) | exact Nat.mul_one _
theorem iblk10_apply (c : Dev nD) (t : Fin cfg0.N) (h : Fin 2) (r k : Fin 512) :
    iblk m c 10 t (ix4 0 h r k) = V m c main_v82 (ix4 (⟨t.val / 16, by have := lt_N t; omega⟩ : Fin 4) h (⟨512 * (t.val % 4) + r.val, by omega⟩ : Fin 2048) (⟨512 * (t.val / 4 % 4) + k.val, by omega⟩ : Fin 2048)) := by
  have e := (idx_out t).1
  have := lt_N t
  blk_ext [iblk, e]
  all_goals first | exact congrArg (· + _) (Nat.mul_comm _ _) | exact Nat.mul_one _

/-- Within a sweep the column block and the two 0/1 matrices stay. -/
theorem iblk_prev (c : Dev nD) (t p : Fin cfg0.N) (hp : p.val = t.val - 1) (h0 : ¬t.val % 4 = 0) :
    (iblk m c 6 p : FVec Idealize.ShloMosaic.Ideal S1024x1024 .bf16) = iblk m c 6 t ∧ (iblk m c 7 p : FVec Idealize.ShloMosaic.Ideal S1024x1024 .bf16) = iblk m c 7 t
      ∧ (iblk m c 8 p : FVec Idealize.ShloMosaic.Ideal S2048x512 .bf16) = iblk m c 8 t ∧ (iblk m c 9 p : FVec Idealize.ShloMosaic.Ideal S2048x512 .bf16) = iblk m c 9 t := by
  have h1 : p.val / 16 = t.val / 16 := by omega
  have h2 : p.val / 4 % 4 = t.val / 4 % 4 := by omega
  refine ⟨?_, ?_, ?_, ?_⟩ <;> funext y <;> obtain ⟨r, k, rfl⟩ : ∃ r k, y = ix2 r k := ⟨_, _, ValueIdx.eq_ix2 y⟩
  · exact (iblk6_apply m c p r k).trans (iblk6_apply m c t r k).symm
  · exact (iblk7_apply m c p r k).trans (iblk7_apply m c t r k).symm
  · refine (iblk8_apply m c p r k).trans (Eq.trans ?_ (iblk8_apply m c t r k).symm)
    simp only [h1, h2]
  · refine (iblk9_apply m c p r k).trans (Eq.trans ?_ (iblk9_apply m c t r k).symm)
    simp only [h1, h2]

set_option maxHeartbeats 600000 in
/-- After every point: the closed form in the output buffer, the folded slabs in the scratches. -/
theorem outs_eq (c : Dev nD) : ∀ (n : Nat) (hn : n < cfg0.N), outsAt0 m c n hn = (fun t : Fin cfg0.N =>
    (blkTile (iblk m c 0 t) (iblk m c 1 t) (iblk m c 2 t) (iblk m c 3 t) (iblk m c 4 t) (iblk m c 5 t) (iblk m c 10 t) (plus (iblk m c 8 t) (iblk m c 6 t)) (minus (iblk m c 8 t) (iblk m c 6 t)) (plus (iblk m c 9 t) (iblk m c 7 t)) (minus (iblk m c 9 t) (iblk m c 7 t)) (nyqRows (iblk m c 8 t)), plus (iblk m c 8 t) (iblk m c 6 t), minus (iblk m c 8 t) (iblk m c 6 t), plus (iblk m c 9 t) (iblk m c 7 t), minus (iblk m c 9 t) (iblk m c 7 t), nyqRows (iblk m c 8 t))) ⟨n, hn⟩ := by
  intro n
  induction n using Nat.strong_induction_on with
  | _ n ih =>
    intro hn
    generalize ht : (⟨n, hn⟩ : Fin cfg0.N) = t
    have hv : t.val = n := by rw [← ht]
    subst hv
    dsimp only
    by_cases h0 : t.val % 4 = 0
    · rw [outsAt0_A m c t h0, out_A, sout_A_0, sout_A_1, sout_A_2, sout_A_3, sout_A_4]
    · have hlt : t.val - 1 < t.val := by omega
      have hp := ih (t.val - 1) hlt (Nat.lt_of_le_of_lt (Nat.sub_le _ _) t.isLt)
      obtain ⟨e6, e7, e8, e9⟩ := iblk_prev m c t ⟨t.val - 1, Nat.lt_of_le_of_lt (Nat.sub_le _ _) t.isLt⟩ rfl h0
      dsimp only at hp
      rw [e6, e7, e8, e9] at hp
      have s0 := congrArg (fun q => q.2.1) hp
      have s1 := congrArg (fun q => q.2.2.1) hp
      have s2 := congrArg (fun q => q.2.2.2.1) hp
      have s3 := congrArg (fun q => q.2.2.2.2.1) hp
      have s4 := congrArg (fun q => q.2.2.2.2.2) hp
      dsimp only at s0 s1 s2 s3 s4
      rw [outsAt0_B m c t h0, out_B, s0, s1, s2, s3, s4]
      rfl

/-- What every point writes back. -/
theorem flushed_eq (c : Dev nD) (t : Fin cfg0.N) : (Gen.dats m 0 c).after 11 t = blkTile (iblk m c 0 t) (iblk m c 1 t) (iblk m c 2 t) (iblk m c 3 t) (iblk m c 4 t) (iblk m c 5 t) (iblk m c 10 t) (plus (iblk m c 8 t) (iblk m c 6 t)) (minus (iblk m c 8 t) (iblk m c 6 t)) (plus (iblk m c 9 t) (iblk m c 7 t)) (minus (iblk m c 9 t) (iblk m c 7 t)) (nyqRows (iblk m c 8 t)) := by
  rw [after0_11, outs_eq m c t.val t.isLt]
end Cert.Mix
-- ==== Proof.Trig.lean ====
/-
  The half-sequence Fourier identities over the reals: a cosine or sine sum over a whole period of `4 q` positions,
  written through the even and odd positions folded at the middle. No array, no program.
-/
module

public import Mathlib.Analysis.SpecialFunctions.Trigonometric.Basic
public import Mathlib.Algebra.BigOperators.Intervals
public import Mathlib.Tactic.FieldSimp
public import Mathlib.Tactic.IntervalCases
public import Mathlib.Tactic.Linarith
public import Mathlib.Tactic.Ring

@[expose] public section

noncomputable section

namespace Cert.Mix

open Finset

/-- A sum over `2 (p + 1)` terms, folded at its middle term: term `m` meets term `2 (p + 1) - m`. -/
theorem sum_fold_even (p : ℕ) (f : ℕ → ℝ) :
    ∑ m ∈ range (2 * (p + 1)), f m
      = (∑ m ∈ range (p + 1), (f m + if m = 0 then 0 else f (2 * (p + 1) - m))) + f (p + 1) := by
  rw [two_mul, sum_range_add, sum_add_distrib, add_assoc]
  congr 1
  rw [sum_range_succ' (fun j => f (p + 1 + j)), sum_range_succ' (fun m => if m = 0 then (0 : ℝ) else f (p + 1 + (p + 1) - m)),
    ← sum_range_reflect]
  simp only [if_true, add_zero]
  congr 1
  refine sum_congr rfl fun j hj => ?_
  have := mem_range.mp hj
  rw [if_neg (by omega)]
  congr 1; omega

/-- A sum over `2 q` terms, folded between its middle terms: term `m` meets term `2 q - 1 - m`. -/
theorem sum_fold_odd (q : ℕ) (f : ℕ → ℝ) :
    ∑ m ∈ range (2 * q), f m = ∑ m ∈ range q, (f m + f (2 * q - 1 - m)) := by
  rw [two_mul, sum_range_add, sum_add_distrib]
  congr 1
  rw [← sum_range_reflect]
  refine sum_congr rfl fun j hj => ?_
  have := mem_range.mp hj
  congr 1; omega

/-- A sum over `2 n` terms, the even ones and the odd ones apart. -/
theorem sum_parity (n : ℕ) (f : ℕ → ℝ) :
    ∑ m ∈ range (2 * n), f m = ∑ m ∈ range n, f (2 * m) + ∑ m ∈ range n, f (2 * m + 1) := by
  induction n with
  | zero => simp
  | succ n ih =>
    rw [show 2 * (n + 1) = 2 * n + 1 + 1 by ring, sum_range_succ, sum_range_succ, ih, sum_range_succ, sum_range_succ]
    ring

/-- The angle of frequency `a` at a period `n`: `2 π a / n`. -/
def ang (n a : ℕ) : ℝ := 2 * Real.pi * a / n

/-- The angle is `2 π` times a whole number beyond that of the remainder. -/
theorem ang_eq_mod {n : ℕ} (hn : 0 < n) (a : ℕ) : ang n a = ang n (a % n) + (a / n : ℕ) * (2 * Real.pi) := by
  have hn' : (n : ℝ) ≠ 0 := by positivity
  have h : (a : ℝ) = n * (a / n : ℕ) + (a % n : ℕ) := by exact_mod_cast (Nat.div_add_mod a n).symm
  unfold ang
  rw [h]; field_simp; ring

theorem cos_ang_mod {n : ℕ} (hn : 0 < n) (a : ℕ) : Real.cos (ang n (a % n)) = Real.cos (ang n a) := by
  rw [ang_eq_mod hn a, Real.cos_add_nat_mul_two_pi]
theorem sin_ang_mod {n : ℕ} (hn : 0 < n) (a : ℕ) : Real.sin (ang n (a % n)) = Real.sin (ang n a) := by
  rw [ang_eq_mod hn a, Real.sin_add_nat_mul_two_pi]

theorem ang_add (n a b : ℕ) : ang n (a + b) = ang n a + ang n b := by unfold ang; push_cast; ring

section Period
variable (q : ℕ) (hq : 0 < q)
include hq

/-- A whole number of periods leaves the cosine, … -/
theorem cos_ang_add_period (a b : ℕ) : Real.cos (ang (4 * q) (a + 4 * q * b)) = Real.cos (ang (4 * q) a) := by
  have h : ang (4 * q) (4 * q * b) = b * (2 * Real.pi) := by
    have : (q : ℝ) ≠ 0 := by positivity
    unfold ang; push_cast; field_simp
  rw [ang_add, h, Real.cos_add_nat_mul_two_pi]
/-- … and the sine. -/
theorem sin_ang_add_period (a b : ℕ) : Real.sin (ang (4 * q) (a + 4 * q * b)) = Real.sin (ang (4 * q) a) := by
  have h : ang (4 * q) (4 * q * b) = b * (2 * Real.pi) := by
    have : (q : ℝ) ≠ 0 := by positivity
    unfold ang; push_cast; field_simp
  rw [ang_add, h, Real.sin_add_nat_mul_two_pi]
/-- Half a period turns the sign of the cosine, … -/
theorem cos_ang_add_half (a : ℕ) : Real.cos (ang (4 * q) (a + 2 * q)) = -Real.cos (ang (4 * q) a) := by
  have h : ang (4 * q) (2 * q) = Real.pi := by
    have : (q : ℝ) ≠ 0 := by positivity
    unfold ang; push_cast; field_simp; norm_num
  rw [ang_add, h, Real.cos_add_pi]
/-- … and of the sine. -/
theorem sin_ang_add_half (a : ℕ) : Real.sin (ang (4 * q) (a + 2 * q)) = -Real.sin (ang (4 * q) a) := by
  have h : ang (4 * q) (2 * q) = Real.pi := by
    have : (q : ℝ) ≠ 0 := by positivity
    unfold ang; push_cast; field_simp; norm_num
  rw [ang_add, h, Real.sin_add_pi]
/-- Frequencies that fill whole periods together have one cosine, … -/
theorem cos_ang_mirror (a b c : ℕ) (h : a + b = 4 * q * c) : Real.cos (ang (4 * q) b) = Real.cos (ang (4 * q) a) := by
  have e : ang (4 * q) a + ang (4 * q) b = c * (2 * Real.pi) := by
    have : (q : ℝ) ≠ 0 := by positivity
    rw [← ang_add, h]; unfold ang; push_cast; field_simp
  rw [show ang (4 * q) b = c * (2 * Real.pi) - ang (4 * q) a by linarith, Real.cos_nat_mul_two_pi_sub]
/-- … and opposite sines. -/
theorem sin_ang_mirror (a b c : ℕ) (h : a + b = 4 * q * c) : Real.sin (ang (4 * q) b) = -Real.sin (ang (4 * q) a) := by
  have e : ang (4 * q) a + ang (4 * q) b = c * (2 * Real.pi) := by
    have : (q : ℝ) ≠ 0 := by positivity
    rw [← ang_add, h]; unfold ang; push_cast; field_simp
  rw [show ang (4 * q) b = c * (2 * Real.pi) - ang (4 * q) a by linarith, Real.sin_nat_mul_two_pi_sub]
/-- At half a period times `k` the cosine is the sign of `k`'s parity, … -/
theorem cos_ang_nyquist (k : ℕ) : Real.cos (ang (4 * q) (k * (2 * q))) = if k % 2 = 0 then 1 else -1 := by
  have h : ang (4 * q) (k * (2 * q)) = k * Real.pi := by
    have : (q : ℝ) ≠ 0 := by positivity
    unfold ang; push_cast; field_simp; ring
  rw [h, Real.cos_nat_mul_pi]
  split_ifs with h0
  · exact (Nat.even_iff.mpr h0).neg_one_pow
  · exact (Nat.odd_iff.mpr (by omega)).neg_one_pow
/-- … and the sine vanishes. -/
theorem sin_ang_nyquist (k : ℕ) : Real.sin (ang (4 * q) (k * (2 * q))) = 0 := by
  have h : ang (4 * q) (k * (2 * q)) = k * Real.pi := by
    have : (q : ℝ) ≠ 0 := by positivity
    unfold ang; push_cast; field_simp; ring
  rw [h, Real.sin_nat_mul_pi]

/-- The even positions' cosine sum, folded. -/
theorem cos_even (k : ℕ) (x : ℕ → ℝ) :
    ∑ m ∈ range (2 * q), Real.cos (ang (4 * q) (k * (2 * m))) * x m
      = (∑ m ∈ range q, Real.cos (ang (4 * q) (k * (2 * m))) * (x m + if m = 0 then 0 else x (2 * q - m)))
        + (if k % 2 = 0 then 1 else -1) * x q := by
  obtain ⟨p, rfl⟩ : ∃ p, q = p + 1 := ⟨q - 1, by omega⟩
  rw [sum_fold_even, cos_ang_nyquist _ hq]
  congr 1
  refine sum_congr rfl fun m hm => ?_
  have := mem_range.mp hm
  split_ifs with h0
  · simp
  · rw [cos_ang_mirror _ hq (k * (2 * m)) (k * (2 * (2 * (p + 1) - m))) k, mul_add (Real.cos _)]
    obtain ⟨d, hd⟩ : ∃ d, 2 * (p + 1) = m + d := ⟨2 * (p + 1) - m, by omega⟩
    rw [show 4 * (p + 1) = 2 * (m + d) by omega, hd, Nat.add_sub_cancel_left]; ring
/-- The even positions' sine sum, folded: the middle term vanishes. -/
theorem sin_even (k : ℕ) (x : ℕ → ℝ) :
    ∑ m ∈ range (2 * q), Real.sin (ang (4 * q) (k * (2 * m))) * x m
      = ∑ m ∈ range q, Real.sin (ang (4 * q) (k * (2 * m))) * (x m - if m = 0 then 0 else x (2 * q - m)) := by
  obtain ⟨p, rfl⟩ : ∃ p, q = p + 1 := ⟨q - 1, by omega⟩
  rw [sum_fold_even, sin_ang_nyquist _ hq, zero_mul, add_zero]
  refine sum_congr rfl fun m hm => ?_
  have := mem_range.mp hm
  split_ifs with h0
  · simp
  · rw [sin_ang_mirror _ hq (k * (2 * m)) (k * (2 * (2 * (p + 1) - m))) k]
    · ring
    obtain ⟨d, hd⟩ : ∃ d, 2 * (p + 1) = m + d := ⟨2 * (p + 1) - m, by omega⟩
    rw [show 4 * (p + 1) = 2 * (m + d) by omega, hd, Nat.add_sub_cancel_left]; ring
/-- The odd positions' cosine sum, folded. -/
theorem cos_odd (k : ℕ) (x : ℕ → ℝ) :
    ∑ m ∈ range (2 * q), Real.cos (ang (4 * q) (k * (2 * m + 1))) * x m
      = ∑ m ∈ range q, Real.cos (ang (4 * q) (k * (2 * m + 1))) * (x m + x (2 * q - 1 - m)) := by
  rw [sum_fold_odd]
  refine sum_congr rfl fun m hm => ?_
  have := mem_range.mp hm
  rw [cos_ang_mirror _ hq (k * (2 * m + 1)) (k * (2 * (2 * q - 1 - m) + 1)) k, mul_add (Real.cos _)]
  obtain ⟨d, hd⟩ : ∃ d, 2 * q = m + d + 1 := ⟨2 * q - 1 - m, by omega⟩
  rw [show 4 * q = 2 * (m + d + 1) by omega, hd, show m + d + 1 - 1 - m = d by omega]; ring
/-- The odd positions' sine sum, folded. -/
theorem sin_odd (k : ℕ) (x : ℕ → ℝ) :
    ∑ m ∈ range (2 * q), Real.sin (ang (4 * q) (k * (2 * m + 1))) * x m
      = ∑ m ∈ range q, Real.sin (ang (4 * q) (k * (2 * m + 1))) * (x m - x (2 * q - 1 - m)) := by
  rw [sum_fold_odd]
  refine sum_congr rfl fun m hm => ?_
  have := mem_range.mp hm
  rw [sin_ang_mirror _ hq (k * (2 * m + 1)) (k * (2 * (2 * q - 1 - m) + 1)) k]
  · ring
  obtain ⟨d, hd⟩ : ∃ d, 2 * q = m + d + 1 := ⟨2 * q - 1 - m, by omega⟩
  rw [show 4 * q = 2 * (m + d + 1) by omega, hd, show m + d + 1 - 1 - m = d by omega]; ring

/-- The sign a frequency's half puts on the odd positions. -/
def halfSign (h : ℕ) : ℝ := if h = 0 then 1 else -1

/-- The cosine at frequency `k + 2 q h` and an even position is that at `k`, … -/
theorem cos_half_even (k h m : ℕ) : Real.cos (ang (4 * q) ((k + 2 * q * h) * (2 * m))) = Real.cos (ang (4 * q) (k * (2 * m))) := by
  rw [show (k + 2 * q * h) * (2 * m) = k * (2 * m) + 4 * q * (h * m) by ring, cos_ang_add_period _ hq]
theorem sin_half_even (k h m : ℕ) : Real.sin (ang (4 * q) ((k + 2 * q * h) * (2 * m))) = Real.sin (ang (4 * q) (k * (2 * m))) := by
  rw [show (k + 2 * q * h) * (2 * m) = k * (2 * m) + 4 * q * (h * m) by ring, sin_ang_add_period _ hq]
/-- … and at an odd one it takes the half's sign. -/
theorem cos_half_odd (k m : ℕ) {h : ℕ} (hh : h < 2) :
    Real.cos (ang (4 * q) ((k + 2 * q * h) * (2 * m + 1))) = halfSign h * Real.cos (ang (4 * q) (k * (2 * m + 1))) := by
  unfold halfSign
  interval_cases h
  · simp
  · rw [show (k + 2 * q * 1) * (2 * m + 1) = (k * (2 * m + 1) + 2 * q) + 4 * q * m by ring, cos_ang_add_period _ hq,
      cos_ang_add_half _ hq]; simp
theorem sin_half_odd (k m : ℕ) {h : ℕ} (hh : h < 2) :
    Real.sin (ang (4 * q) ((k + 2 * q * h) * (2 * m + 1))) = halfSign h * Real.sin (ang (4 * q) (k * (2 * m + 1))) := by
  unfold halfSign
  interval_cases h
  · simp
  · rw [show (k + 2 * q * 1) * (2 * m + 1) = (k * (2 * m + 1) + 2 * q) + 4 * q * m by ring, sin_ang_add_period _ hq,
      sin_ang_add_half _ hq]; simp

/-- THE COSINE SUM of a sequence with even positions `xe` and odd positions `xo`, at frequency `k + 2 q h`. -/
theorem cos_sum (k : ℕ) {h : ℕ} (hh : h < 2) (xe xo x : ℕ → ℝ) (he : ∀ m, x (2 * m) = xe m) (ho : ∀ m, x (2 * m + 1) = xo m) :
    ∑ M ∈ range (4 * q), Real.cos (ang (4 * q) ((k + 2 * q * h) * M)) * x M
      = ((∑ m ∈ range q, Real.cos (ang (4 * q) (k * (2 * m))) * (xe m + if m = 0 then 0 else xe (2 * q - m)))
          + (if k % 2 = 0 then 1 else -1) * xe q)
        + halfSign h * ∑ m ∈ range q, Real.cos (ang (4 * q) (k * (2 * m + 1))) * (xo m + xo (2 * q - 1 - m)) := by
  rw [show range (4 * q) = range (2 * (2 * q)) by congr 1; ring, sum_parity, ← cos_even q hq, ← cos_odd q hq, mul_sum]
  congr 1
  · exact sum_congr rfl fun m _ => by rw [cos_half_even q hq, he]
  · exact sum_congr rfl fun m _ => by rw [cos_half_odd q hq _ _ hh, ho, mul_assoc]
/-- THE SINE SUM, likewise. -/
theorem sin_sum (k : ℕ) {h : ℕ} (hh : h < 2) (xe xo x : ℕ → ℝ) (he : ∀ m, x (2 * m) = xe m) (ho : ∀ m, x (2 * m + 1) = xo m) :
    ∑ M ∈ range (4 * q), Real.sin (ang (4 * q) ((k + 2 * q * h) * M)) * x M
      = (∑ m ∈ range q, Real.sin (ang (4 * q) (k * (2 * m))) * (xe m - if m = 0 then 0 else xe (2 * q - m)))
        + halfSign h * ∑ m ∈ range q, Real.sin (ang (4 * q) (k * (2 * m + 1))) * (xo m - xo (2 * q - 1 - m)) := by
  rw [show range (4 * q) = range (2 * (2 * q)) by congr 1; ring, sum_parity, ← sin_even q hq, ← sin_odd q hq, mul_sum]
  congr 1
  · exact sum_congr rfl fun m _ => by rw [sin_half_even q hq, he]
  · exact sum_congr rfl fun m _ => by rw [sin_half_odd q hq _ _ hh, ho, mul_assoc]

end Period

end Cert.Mix

end
-- ==== Proof.Half.lean ====
/-
  The folded slabs and the two transforms of a grid point, over the reals: with the tables' entries scaled cosines and sines and the
  sequence's entries finite, a point's real part is the whole cosine sum over positions and its imaginary part the sine sum, negated.
-/
module
public import proofs.«01_k».proof.Proof.Fold
public import proofs.«01_k».proof.Proof.Trig
@[expose] public section
noncomputable section
namespace Cert.Mix
open Cert.KernelIdeal Cert.KernelIdeal.Gen Idealize.ShloMosaic Idealize.ShloMosaic.TcCoe Idealize.SL.Sem
open Idealize.ShloMosaic.ValueIdx
open scoped BigOperators

/-- A finite sum of reals, read in the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of products of reals. -/
theorem coe_sum_mul {ι : Type} (s : Finset ι) (f g : ι → ℝ) :
    ∑ i ∈ s, ((f i : ℝ) : EReal) * ((g i : ℝ) : EReal) = ((∑ i ∈ s, f i * g i : ℝ) : EReal) := by
  rw [← coe_sum]
  exact Finset.sum_congr rfl fun i _ => (EReal.coe_mul _ _).symm

section
variable (x : FVec Idealize.ShloMosaic.Ideal S2048x512 .bf16) (p : FVec Idealize.ShloMosaic.Ideal S1024x1024 .bf16) (v : ℕ → ℝ) (j : Fin 512)
  (hx : ∀ q : Fin 2048, x (ix2 q j) = ((v q.val : ℝ) : EReal))
include hx

/-- The even positions' mirror image: position 2048 − n, and nothing at n = 0. -/
theorem moved_even (hp : ∀ i k : Fin 1024, p (ix2 i k) = (if i.val + k.val = 1024 then 1 else 0 : EReal)) (n : Fin 1024) :
    moved x p n j = ((if n.val = 0 then 0 else v (2048 - n.val) : ℝ) : EReal) := by
  have hn := n.isLt
  unfold moved
  by_cases h : n.val = 0
  · rw [if_pos h]
    refine (Finset.sum_eq_zero fun k _ => ?_).trans EReal.coe_zero.symm
    have hk := k.isLt
    rw [hp, if_neg (by omega), zero_mul]
  · rw [if_neg h, Finset.sum_eq_single (⟨1024 - n.val, by omega⟩ : Fin 1024)]
    · rw [hp, if_pos (by show n.val + (1024 - n.val) = 1024; omega), one_mul, hx]
      exact congrArg (fun q => ((v q : ℝ) : EReal)) (by show 1024 + (1024 - n.val) = 2048 - n.val; omega)
    · intro k _ hk
      rw [hp, if_neg (fun e => hk (Fin.ext (by show k.val = 1024 - n.val; omega))), zero_mul]
    · intro h'; exact absurd (Finset.mem_univ _) h'
/-- The odd positions': position 2047 − n. -/
theorem moved_odd (hp : ∀ i k : Fin 1024, p (ix2 i k) = (if i.val + k.val = 1023 then 1 else 0 : EReal)) (n : Fin 1024) :
    moved x p n j = ((v (2047 - n.val) : ℝ) : EReal) := by
  have hn := n.isLt
  unfold moved
  rw [Finset.sum_eq_single (⟨1023 - n.val, by omega⟩ : Fin 1024)]
  · rw [hp, if_pos (by show n.val + (1023 - n.val) = 1023; omega), one_mul, hx]
    exact congrArg (fun q => ((v q : ℝ) : EReal)) (by show 1024 + (1023 - n.val) = 2047 - n.val; omega)
  · intro k _ hk
    rw [hp, if_neg (fun e => hk (Fin.ext (by show k.val = 1023 - n.val; omega))), zero_mul]
  · intro h'; exact absurd (Finset.mem_univ _) h'

theorem plus_even (hp : ∀ i k : Fin 1024, p (ix2 i k) = (if i.val + k.val = 1024 then 1 else 0 : EReal)) (n : Fin 1024) :
    plus x p (ix2 n j) = ((v n.val + (if n.val = 0 then 0 else v (2048 - n.val)) : ℝ) : EReal) := by
  rw [EReal.coe_add, ← moved_even x p v j hx hp n]
  exact congrArg (· + moved x p n j) (hx _)
theorem minus_even (hp : ∀ i k : Fin 1024, p (ix2 i k) = (if i.val + k.val = 1024 then 1 else 0 : EReal)) (n : Fin 1024) :
    minus x p (ix2 n j) = ((v n.val - (if n.val = 0 then 0 else v (2048 - n.val)) : ℝ) : EReal) := by
  rw [EReal.coe_sub, ← moved_even x p v j hx hp n]
  exact congrArg (· - moved x p n j) (hx _)
theorem plus_odd (hp : ∀ i k : Fin 1024, p (ix2 i k) = (if i.val + k.val = 1023 then 1 else 0 : EReal)) (n : Fin 1024) :
    plus x p (ix2 n j) = ((v n.val + v (2047 - n.val) : ℝ) : EReal) := by
  rw [EReal.coe_add, ← moved_odd x p v j hx hp n]
  exact congrArg (· + moved x p n j) (hx _)
theorem minus_odd (hp : ∀ i k : Fin 1024, p (ix2 i k) = (if i.val + k.val = 1023 then 1 else 0 : EReal)) (n : Fin 1024) :
    minus x p (ix2 n j) = ((v n.val - v (2047 - n.val) : ℝ) : EReal) := by
  rw [EReal.coe_sub, ← moved_odd x p v j hx hp n]
  exact congrArg (· - moved x p n j) (hx _)
end

/-- Adding or subtracting reals by halves. -/
theorem pm_coe (h : Fin 2) (a b : ℝ) : pm h ((a : ℝ) : EReal) ((b : ℝ) : EReal) = ((a + halfSign h.val * b : ℝ) : EReal) := by
  unfold pm halfSign
  by_cases hh : h = 0
  · subst hh
    rw [if_pos rfl, if_pos (show ((0 : Fin 2) : ℕ) = 0 from rfl), one_mul, EReal.coe_add]
  · have h1 : ¬ h.val = 0 := fun e => hh (Fin.ext e)
    rw [if_neg hh, if_neg h1, ← EReal.coe_sub]
    congr 1; ring

/-- The parity sign as a real. -/
theorem paritySign_coe (r : ℕ) : paritySign r = (((if r % 2 = 0 then 1 else -1) * (1 / 64) : ℝ) : EReal) := by
  unfold paritySign
  by_cases h : r % 2 = 0
  · rw [if_pos h, if_pos h, one_mul]
  · rw [if_neg h, if_neg h]
    congr 1; ring

section
variable (A B : FVec Idealize.ShloMosaic.Ideal S512x1024 .bf16) (s t : FVec Idealize.ShloMosaic.Ideal S1024x512 .bf16) (s4 : FVec Idealize.ShloMosaic.Ideal S8x512 .f32)
  (h : Fin 2) (r j : Fin 512) (K : ℕ) (xe xo x : ℕ → ℝ) (he : ∀ m, x (2 * m) = xe m) (ho : ∀ m, x (2 * m + 1) = xo m)
include he ho

/-- The real part is the cosine sum over all positions at frequency K + 2048 h. -/
theorem blkRe_coe (hK : K % 2 = r.val % 2)
    (hA : ∀ k : Fin 1024, A (ix2 r k) = ((Real.cos (ang 4096 (K * (2 * k.val))) * (1 / 64) : ℝ) : EReal))
    (hB : ∀ k : Fin 1024, B (ix2 r k) = ((Real.cos (ang 4096 (K * (2 * k.val + 1))) * (1 / 64) : ℝ) : EReal))
    (hs : ∀ k : Fin 1024, s (ix2 k j) = ((xe k.val + (if k.val = 0 then 0 else xe (2048 - k.val)) : ℝ) : EReal))
    (ht : ∀ k : Fin 1024, t (ix2 k j) = ((xo k.val + xo (2047 - k.val) : ℝ) : EReal))
    (h4 : s4 (ix2 0 j) = ((xe 1024 : ℝ) : EReal)) :
    blkRe A B s t s4 h r j = ((∑ M : Fin 4096, x M.val * (Real.cos (ang 4096 ((2048 * h.val + K) * M.val)) * (1 / 64)) : ℝ) : EReal) := by
  have e := cos_sum 1024 (by decide) K h.isLt xe xo x he ho
  unfold blkRe
  rw [Finset.sum_congr rfl fun k _ => congrArg₂ (· * ·) (hA k) (hs k), Finset.sum_congr rfl fun k _ => congrArg₂ (· * ·) (hB k) (ht k),
    coe_sum_mul, coe_sum_mul, paritySign_coe, h4, ← EReal.coe_mul, ← EReal.coe_add, pm_coe]
  congr 1
  have e1 : ∑ M : Fin 4096, x M.val * (Real.cos (ang 4096 ((2048 * h.val + K) * M.val)) * (1 / 64))
      = (∑ M ∈ Finset.range (4 * 1024), Real.cos (ang (4 * 1024) ((K + 2 * 1024 * h.val) * M)) * x M) * (1 / 64) := by
    rw [Finset.sum_mul, Finset.sum_range]
    refine Finset.sum_congr rfl fun M _ => ?_
    rw [show (2048 * h.val + K) = K + 2 * 1024 * h.val by ring]
    ring
  rw [e1, e, ← hK, Finset.sum_range, Finset.sum_range, add_mul, add_mul, mul_assoc (halfSign _), Finset.sum_mul, Finset.sum_mul]
  refine congrArg₂ (· + ·) (congrArg₂ (· + ·) (Finset.sum_congr rfl fun k _ => ?_) ?_) (congrArg _ (Finset.sum_congr rfl fun k _ => ?_))
  · show Real.cos (ang 4096 _) * (1 / 64) * _ = Real.cos (ang 4096 _) * _ * (1 / 64)
    ring
  · ring
  · show Real.cos (ang 4096 _) * (1 / 64) * _ = Real.cos (ang 4096 _) * _ * (1 / 64)
    ring

/-- The imaginary part is the sine sum, negated. -/
theorem blkIm_coe
    (hA : ∀ k : Fin 1024, A (ix2 r k) = ((Real.sin (ang 4096 (K * (2 * k.val))) * -(1 / 64) : ℝ) : EReal))
    (hB : ∀ k : Fin 1024, B (ix2 r k) = ((Real.sin (ang 4096 (K * (2 * k.val + 1))) * -(1 / 64) : ℝ) : EReal))
    (hs : ∀ k : Fin 1024, s (ix2 k j) = ((xe k.val - (if k.val = 0 then 0 else xe (2048 - k.val)) : ℝ) : EReal))
    (ht : ∀ k : Fin 1024, t (ix2 k j) = ((xo k.val - xo (2047 - k.val) : ℝ) : EReal)) :
    blkIm A B s t h r j = ((-∑ M : Fin 4096, x M.val * (Real.sin (ang 4096 ((2048 * h.val + K) * M.val)) * (1 / 64)) : ℝ) : EReal) := by
  have e := sin_sum 1024 (by decide) K h.isLt xe xo x he ho
  unfold blkIm
  rw [Finset.sum_congr rfl fun k _ => congrArg₂ (· * ·) (hA k) (hs k), Finset.sum_congr rfl fun k _ => congrArg₂ (· * ·) (hB k) (ht k),
    coe_sum_mul, coe_sum_mul, pm_coe]
  congr 1
  have e1 : -∑ M : Fin 4096, x M.val * (Real.sin (ang 4096 ((2048 * h.val + K) * M.val)) * (1 / 64))
      = (∑ M ∈ Finset.range (4 * 1024), Real.sin (ang (4 * 1024) ((K + 2 * 1024 * h.val) * M)) * x M) * -(1 / 64) := by
    rw [Finset.sum_mul, Finset.sum_range, ← Finset.sum_neg_distrib]
    refine Finset.sum_congr rfl fun M _ => ?_
    rw [show (2048 * h.val + K) = K + 2 * 1024 * h.val by ring]
    ring
  rw [e1, e, Finset.sum_range, Finset.sum_range, add_mul, mul_assoc (halfSign _), Finset.sum_mul, Finset.sum_mul]
  refine congrArg₂ (· + ·) (Finset.sum_congr rfl fun k _ => ?_) (congrArg _ (Finset.sum_congr rfl fun k _ => ?_))
  · show Real.sin (ang 4096 _) * -(1 / 64) * _ = Real.sin (ang 4096 _) * _ * -(1 / 64)
    ring
  · show Real.sin (ang 4096 _) * -(1 / 64) * _ = Real.sin (ang 4096 _) * _ * -(1 / 64)
    ring
end
end Cert.Mix
-- ==== Proof.Tables.lean ====
/-
  The tables the host code prepares, entry by entry: scaled cosines and sines of 2 π k m / n, the two 0/1 matrices, and the gate
  laid out by halves of the frequency range.
-/
module
public import proofs.«01_k».proof.Defs
public import proofs.«01_k».proof.Proof.Trig
public import proofs.«01_k».proof.Proof.Gen.KernelIdeal.Frame.Runs
public import Idealize.ShloMosaic.Lib.StableHlo.RunRead
public import Idealize.ShloMosaic.Lib.Affine
public import Idealize.ShloMosaic.Lib.ValueIdx
public import Idealize.ShloMosaic.Lib.Tactic
public import Idealize.ShloMosaic.Lib.Pipeline.ValueKit
public import Idealize.ShloMosaic.Lib.Claim
@[expose] public section
set_option maxRecDepth 8192
noncomputable section
namespace Cert.Mix
open Cert.KernelIdeal Cert.KernelIdeal.Gen
open Idealize.ShloMosaic hiding ix0 ix1 ix2 ix3 ix4 ix5
open Idealize.ShloMosaic.TcCoe Idealize.SL.Sem
open Idealize.ShloMosaic.ValueIdx

/-! ## The remainder of a product of two indices -/

/-- The divisor with zero replaced by one. -/
def sdiv (n : BitVec 32) : BitVec 32 := Scalar.select (IntOp.cmpi .eq n 0#32) 1#32 n
/-- The remainder with the divisor's sign. -/
def srem (x n : BitVec 32) : BitVec 32 :=
  Scalar.select (IntOp.andi (IntOp.cmpi .ne (IntOp.cmpi .slt (IntOp.remsi .host x (sdiv n)) 0#32) (IntOp.cmpi .slt (sdiv n) 0#32))
      (IntOp.cmpi .ne (IntOp.remsi .host x (sdiv n)) 0#32))
    (IntOp.addi (IntOp.remsi .host x (sdiv n)) (sdiv n)) (IntOp.remsi .host x (sdiv n))

theorem srem_toNat (x : BitVec 32) (n : ℕ) (hx : 2 * x.toNat < 2 ^ 32) (hn : 0 < n) (hn' : 2 * n < 2 ^ 32) :
    (srem x (BitVec.ofNat 32 n)).toNat = x.toNat % n := by
  have hr := IntOp.toNat_remsi .host hx n hn hn'
  have hlt := Nat.mod_lt x.toNat hn
  have hd : sdiv (BitVec.ofNat 32 n) = BitVec.ofNat 32 n := by
    unfold sdiv Scalar.select
    rw [if_neg]
    intro h
    have h1 := congrArg BitVec.toNat (IntOp.cmpi_eq.1 h)
    rw [BitVec.toNat_ofNat] at h1
    have : n % 2 ^ 32 = n := Nat.mod_eq_of_lt (by omega)
    have h2 : (0#32 : BitVec 32).toNat = 0 := rfl
    omega
  unfold srem Scalar.select
  rw [hd, if_neg]
  · exact hr
  · intro h
    obtain ⟨h1, -⟩ := IntOp.andi_eq_one.1 h
    refine IntOp.cmpi_ne.1 h1 ?_
    have a1 : ¬ IntOp.cmpi .slt (IntOp.remsi .host x (BitVec.ofNat 32 n)) 0#32 = 1#1 := by
      rw [IntOp.cmpi_slt, BitVec.toInt_eq_toNat_of_lt (by omega)]
      have : (0#32 : BitVec 32).toInt = 0 := rfl
      omega
    have a2 : ¬ IntOp.cmpi .slt (BitVec.ofNat 32 n) 0#32 = 1#1 := by
      have e : (BitVec.ofNat 32 n).toNat = n := by rw [BitVec.toNat_ofNat]; exact Nat.mod_eq_of_lt (by omega)
      rw [IntOp.cmpi_slt, BitVec.toInt_eq_toNat_of_lt (by omega)]
      have : (0#32 : BitVec 32).toInt = 0 := rfl
      omega
    have b : ∀ c : BitVec 1, ¬ c = 1#1 → c = 0#1 := by decide
    rw [b _ a1, b _ a2]

/-! ## Scaled cosines and sines -/

theorem bits_neg_one : (Ideal.ofBits .f32 0xBF800000#32 : EReal) = ((-1 : ℝ) : EReal) := by
  simp [Ideal.ofBits, Ideal.ieee, -EReal.coe_mul]; norm_num
theorem bits_step4096 : (Ideal.ofBits .f32 0x3A000000#32 : EReal) = ((2 / 4096 : ℝ) : EReal) := by
  simp [Ideal.ofBits, Ideal.ieee, -EReal.coe_mul]; norm_num
theorem bits_step256 : (Ideal.ofBits .f32 0x3C000000#32 : EReal) = ((2 / 256 : ℝ) : EReal) := by
  simp [Ideal.ofBits, Ideal.ieee, -EReal.coe_mul]; norm_num
theorem bits_one : (Ideal.ofBits .f32 0x3F800000#32 : EReal) = ((1 : ℝ) : EReal) := by
  simp [Ideal.ofBits, Ideal.ieee, -EReal.coe_mul]; norm_num
theorem bits_16th : (Ideal.ofBits .f32 0x3D800000#32 : EReal) = ((1 / 16 : ℝ) : EReal) := by
  simp [Ideal.ofBits, Ideal.ieee, -EReal.coe_mul]; norm_num
theorem bits_neg_16th : (Ideal.ofBits .f32 0xBD800000#32 : EReal) = ((-(1 / 16) : ℝ) : EReal) := by
  simp [Ideal.ofBits, Ideal.ieee, -EReal.coe_mul]; norm_num
theorem bits_64th : (Ideal.ofBits .f32 0x3C800000#32 : EReal) = ((1 / 64 : ℝ) : EReal) := by
  simp [Ideal.ofBits, Ideal.ieee, -EReal.coe_mul]; norm_num
theorem bits_neg_64th : (Ideal.ofBits .f32 0xBC800000#32 : EReal) = ((-(1 / 64) : ℝ) : EReal) := by
  simp [Ideal.ofBits, Ideal.ieee, -EReal.coe_mul]; norm_num

/-- The angle of a word: the word times (arccos −1 times the step). -/
def hang (w st : BitVec 32) : EReal := ((w.toInt : ℝ) : EReal) * (Ideal.acos (Ideal.ofBits .f32 0xBF800000#32) * Ideal.ofBits .f32 st)
/-- The scaled cosine of a word's angle. -/
def hcos (w st sc : BitVec 32) : EReal := Ideal.cos (hang w st) * Ideal.ofBits .f32 sc
/-- The scaled sine. -/
def hsin (w st sc : BitVec 32) : EReal := Ideal.sin (hang w st) * Ideal.ofBits .f32 sc

section
variable (n a : ℕ) (w st sc : BitVec 32) (s : ℝ) (hn : 0 < n) (hn' : 2 * n < 2 ^ 32) (hw : w.toNat = a % n)
  (hst : (Ideal.ofBits .f32 st : EReal) = ((2 / n : ℝ) : EReal)) (hsc : (Ideal.ofBits .f32 sc : EReal) = ((s : ℝ) : EReal))
include hn hn' hw hst

theorem hang_eq : hang w st = ((ang n (a % n) : ℝ) : EReal) := by
  have hlt := Nat.mod_lt a hn
  unfold hang
  rw [bits_neg_one, hst, Ideal.acos_coe, if_pos (by norm_num), Real.arccos_neg_one, BitVec.toInt_eq_toNat_of_lt (by omega), hw,
    ← EReal.coe_mul, ← EReal.coe_mul]
  congr 1
  unfold ang
  rw [Int.cast_natCast]
  ring

include hsc
theorem hcos_eq : hcos w st sc = ((Real.cos (ang n a) * s : ℝ) : EReal) := by
  unfold hcos
  rw [hang_eq n a w st hn hn' hw hst, Ideal.cos_coe, hsc, ← EReal.coe_mul, cos_ang_mod hn]
theorem hsin_eq : hsin w st sc = ((Real.sin (ang n a) * s : ℝ) : EReal) := by
  unfold hsin
  rw [hang_eq n a w st hn hn' hw hst, Ideal.sin_coe, hsc, ← EReal.coe_mul, sin_ang_mod hn]
end

/-- The remainder of k · (2 i) by 4096. -/
theorem word_even (k i : ℕ) (hk : k < 2048) (hi : i < 1024) :
    (srem (IntOp.muli (BitVec.ofNat 32 k) (IntOp.muli 2#32 (BitVec.ofNat 32 i))) 4096#32).toNat = (k * (2 * i)) % 4096 := by
  have h1 : k * (2 * i) ≤ 2047 * (2 * 1023) := Nat.mul_le_mul (by omega) (by omega)
  have e : (IntOp.muli (BitVec.ofNat 32 k) (IntOp.muli 2#32 (BitVec.ofNat 32 i)) : BitVec 32) = BitVec.ofNat 32 (k * (2 * i)) := by
    show BitVec.ofNat 32 k * (BitVec.ofNat 32 2 * BitVec.ofNat 32 i) = _
    rw [← BitVec.ofNat_mul, ← BitVec.ofNat_mul]
  have e2 : (BitVec.ofNat 32 (k * (2 * i))).toNat = k * (2 * i) := by rw [BitVec.toNat_ofNat]; exact Nat.mod_eq_of_lt (by omega)
  rw [e]
  refine (srem_toNat _ 4096 (by omega) (by decide) (by decide)).trans ?_
  rw [e2]
theorem word_one (k : ℕ) (hk : k < 2048) :
    (srem (IntOp.muli (BitVec.ofNat 32 k) 1#32) 4096#32).toNat = k % 4096 := by
  have e : (IntOp.muli (BitVec.ofNat 32 k) 1#32 : BitVec 32) = BitVec.ofNat 32 k := by
    show BitVec.ofNat 32 k * BitVec.ofNat 32 1 = _
    rw [← BitVec.ofNat_mul, Nat.mul_one]
  have e2 : (BitVec.ofNat 32 k).toNat = k := by rw [BitVec.toNat_ofNat]; exact Nat.mod_eq_of_lt (by omega)
  rw [e]
  refine (srem_toNat _ 4096 (by omega) (by decide) (by decide)).trans ?_
  rw [e2]
theorem word_chan (a b : ℕ) (ha : a < 256) (hb : b < 256) :
    (srem (IntOp.muli (BitVec.ofNat 32 a) (BitVec.ofNat 32 b)) 256#32).toNat = (a * b) % 256 := by
  have h1 : a * b ≤ 255 * 255 := Nat.mul_le_mul (by omega) (by omega)
  have e : (IntOp.muli (BitVec.ofNat 32 a) (BitVec.ofNat 32 b) : BitVec 32) = BitVec.ofNat 32 (a * b) := by
    show BitVec.ofNat 32 a * BitVec.ofNat 32 b = _
    rw [← BitVec.ofNat_mul]
  have e2 : (BitVec.ofNat 32 (a * b)).toNat = a * b := by rw [BitVec.toNat_ofNat]; exact Nat.mod_eq_of_lt (by omega)
  rw [e]
  refine (srem_toNat _ 256 (by omega) (by decide) (by decide)).trans ?_
  rw [e2]

/-! ## The arrays -/

variable (m : (ℓ : Loc nD τ sig) → Buf (Elt Idealize.ShloMosaic.Ideal) ℓ) (c : Dev nD)

theorem tce_word (k : Fin 2048) (i : Fin 1024) : V m c main_v73 (ix2 k i) = hcos (srem (IntOp.muli (BitVec.ofNat 32 k.val) (IntOp.muli 2#32 (BitVec.ofNat 32 i.val))) 4096#32) 0x3A000000#32 0x3C800000#32 := by
  unfold_abbrev_sides; simp only [List.flatten_cons, List.flatten_nil, List.cons_append, List.nil_append]; after_reads_simp
  rfl
theorem tse_word (k : Fin 2048) (i : Fin 1024) : V m c main_v74 (ix2 k i) = hsin (srem (IntOp.muli (BitVec.ofNat 32 k.val) (IntOp.muli 2#32 (BitVec.ofNat 32 i.val))) 4096#32) 0x3A000000#32 0xBC800000#32 := by
  unfold_abbrev_sides; simp only [List.flatten_cons, List.flatten_nil, List.cons_append, List.nil_append]; after_reads_simp
  rfl
theorem tco_word (k : Fin 2048) (i : Fin 1024) : V m c main_v75 (ix2 k i)
    = (hcos (srem (IntOp.muli (BitVec.ofNat 32 k.val) (IntOp.muli 2#32 (BitVec.ofNat 32 i.val))) 4096#32) 0x3A000000#32 0x3C800000#32 * hcos (srem (IntOp.muli (BitVec.ofNat 32 k.val) 1#32) 4096#32) 0x3A000000#32 0x3F800000#32
      - hsin (srem (IntOp.muli (BitVec.ofNat 32 k.val) (IntOp.muli 2#32 (BitVec.ofNat 32 i.val))) 4096#32) 0x3A000000#32 0xBC800000#32 * hsin (srem (IntOp.muli (BitVec.ofNat 32 k.val) 1#32) 4096#32) 0x3A000000#32 0xBF800000#32 : EReal) := by
  unfold_abbrev_sides; simp only [List.flatten_cons, List.flatten_nil, List.cons_append, List.nil_append]; after_reads_simp
  simp only [StableHlo.TRef.ofBuf_toBuf]
  refine (show _ = FloatOps.subf (F := Idealize.ShloMosaic.Ideal) (φ := .f32) (FloatOps.mulf _ _) (FloatOps.mulf _ _) from rfl).trans ?_
  refine congrArg₂ (FloatOps.subf (F := Idealize.ShloMosaic.Ideal) (φ := .f32)) (congrArg₂ (FloatOps.mulf (F := Idealize.ShloMosaic.Ideal) (φ := .f32)) ?_ ?_) (congrArg₂ (FloatOps.mulf (F := Idealize.ShloMosaic.Ideal) (φ := .f32)) ?_ ?_)
  all_goals rfl
theorem tso_word (k : Fin 2048) (i : Fin 1024) : V m c main_v76 (ix2 k i)
    = (hsin (srem (IntOp.muli (BitVec.ofNat 32 k.val) (IntOp.muli 2#32 (BitVec.ofNat 32 i.val))) 4096#32) 0x3A000000#32 0xBC800000#32 * hcos (srem (IntOp.muli (BitVec.ofNat 32 k.val) 1#32) 4096#32) 0x3A000000#32 0x3F800000#32
      + hcos (srem (IntOp.muli (BitVec.ofNat 32 k.val) (IntOp.muli 2#32 (BitVec.ofNat 32 i.val))) 4096#32) 0x3A000000#32 0x3C800000#32 * hsin (srem (IntOp.muli (BitVec.ofNat 32 k.val) 1#32) 4096#32) 0x3A000000#32 0xBF800000#32 : EReal) := by
  unfold_abbrev_sides; simp only [List.flatten_cons, List.flatten_nil, List.cons_append, List.nil_append]; after_reads_simp
  simp only [StableHlo.TRef.ofBuf_toBuf]
  refine (show _ = FloatOps.addf (F := Idealize.ShloMosaic.Ideal) (φ := .f32) (FloatOps.mulf _ _) (FloatOps.mulf _ _) from rfl).trans ?_
  refine congrArg₂ (FloatOps.addf (F := Idealize.ShloMosaic.Ideal) (φ := .f32)) (congrArg₂ (FloatOps.mulf (F := Idealize.ShloMosaic.Ideal) (φ := .f32)) ?_ ?_) (congrArg₂ (FloatOps.mulf (F := Idealize.ShloMosaic.Ideal) (φ := .f32)) ?_ ?_)
  all_goals rfl
theorem cc_word (a b : Fin 256) : V m c main_v79 (ix2 a b) = hcos (srem (IntOp.muli (BitVec.ofNat 32 a.val) (BitVec.ofNat 32 b.val)) 256#32) 0x3C000000#32 0x3D800000#32 := by
  unfold_abbrev_sides; simp only [List.flatten_cons, List.flatten_nil, List.cons_append, List.nil_append]; after_reads_simp
  rfl
theorem sc_word (a b : Fin 256) : V m c main_v81 (ix2 a b) = (-hsin (srem (IntOp.muli (BitVec.ofNat 32 a.val) (BitVec.ofNat 32 b.val)) 256#32) 0x3C000000#32 0xBD800000#32 : EReal) := by
  unfold_abbrev_sides; simp only [List.flatten_cons, List.flatten_nil, List.cons_append, List.nil_append]; after_reads_simp
  rfl
theorem pe_word (i j : Fin 1024) : V m c main_v77 (ix2 i j)
    = (((IntOp.cmpi .eq (IntOp.addi (BitVec.ofNat 32 i.val) (BitVec.ofNat 32 j.val)) 1024#32).toNat : ℝ) : EReal) := by
  unfold_abbrev_sides; simp only [List.flatten_cons, List.flatten_nil, List.cons_append, List.nil_append]; after_reads_simp
  rfl
theorem po_word (i j : Fin 1024) : V m c main_v78 (ix2 i j)
    = (((IntOp.cmpi .eq (IntOp.addi (BitVec.ofNat 32 i.val) (BitVec.ofNat 32 j.val)) 1023#32).toNat : ℝ) : EReal) := by
  unfold_abbrev_sides; simp only [List.flatten_cons, List.flatten_nil, List.cons_append, List.nil_append]; after_reads_simp
  rfl
theorem sz_word (b : Fin 4) (h : Fin 2) (r j : Fin 2048) : V m c main_v82 (ix4 b h r j)
    = m ((c : Thread nD τ).loc main_arg2) (ix2 (⟨4096 * b.val + 2048 * h.val + r.val, by omega⟩ : Fin 16384) j) := by
  unfold_abbrev_sides; simp only [List.flatten_cons, List.flatten_nil, List.cons_append, List.nil_append]; after_reads_simp
  refine shapeCast_apply _ _ _ _ ?_
  show (S16384x2048.rowMajor (ix2 (⟨4096 * b.val + 2048 * h.val + r.val, by omega⟩ : Fin 16384) j)).val = (S4x2x2048x2048.rowMajor (ix4 b h r j)).val
  rw [Shape.rowMajor_val_two, Shape.rowMajor_val_four]
  show (4096 * b.val + 2048 * h.val + r.val) * 2048 + j.val = ((b.val * 2 + h.val) * 2048 + r.val) * 2048 + j.val
  omega

/-! ## The entries in closed form -/

theorem tce_entry (k : Fin 2048) (i : Fin 1024) :
    V m c main_v73 (ix2 k i) = ((Real.cos (ang 4096 (k.val * (2 * i.val))) * (1 / 64) : ℝ) : EReal) :=
  (tce_word m c k i).trans (hcos_eq 4096 _ _ _ _ _ (by decide) (by decide) (word_even _ _ k.isLt i.isLt) bits_step4096 bits_64th)
theorem tse_entry (k : Fin 2048) (i : Fin 1024) :
    V m c main_v74 (ix2 k i) = ((Real.sin (ang 4096 (k.val * (2 * i.val))) * -(1 / 64) : ℝ) : EReal) :=
  (tse_word m c k i).trans (hsin_eq 4096 _ _ _ _ _ (by decide) (by decide) (word_even _ _ k.isLt i.isLt) bits_step4096 bits_neg_64th)
theorem tco_entry (k : Fin 2048) (i : Fin 1024) :
    V m c main_v75 (ix2 k i) = ((Real.cos (ang 4096 (k.val * (2 * i.val + 1))) * (1 / 64) : ℝ) : EReal) := by
  rw [tco_word, hcos_eq 4096 _ _ _ _ _ (by decide) (by decide) (word_even _ _ k.isLt i.isLt) bits_step4096 bits_64th,
    hsin_eq 4096 _ _ _ _ _ (by decide) (by decide) (word_even _ _ k.isLt i.isLt) bits_step4096 bits_neg_64th,
    hcos_eq 4096 _ _ _ _ _ (by decide) (by decide) (word_one _ k.isLt) bits_step4096 bits_one,
    hsin_eq 4096 _ _ _ _ _ (by decide) (by decide) (word_one _ k.isLt) bits_step4096 bits_neg_one,
    ← EReal.coe_mul, ← EReal.coe_mul, ← EReal.coe_sub, Nat.mul_add, Nat.mul_one, ang_add, Real.cos_add]
  congr 1
  ring
theorem tso_entry (k : Fin 2048) (i : Fin 1024) :
    V m c main_v76 (ix2 k i) = ((Real.sin (ang 4096 (k.val * (2 * i.val + 1))) * -(1 / 64) : ℝ) : EReal) := by
  rw [tso_word, hcos_eq 4096 _ _ _ _ _ (by decide) (by decide) (word_even _ _ k.isLt i.isLt) bits_step4096 bits_64th,
    hsin_eq 4096 _ _ _ _ _ (by decide) (by decide) (word_even _ _ k.isLt i.isLt) bits_step4096 bits_neg_64th,
    hcos_eq 4096 _ _ _ _ _ (by decide) (by decide) (word_one _ k.isLt) bits_step4096 bits_one,
    hsin_eq 4096 _ _ _ _ _ (by decide) (by decide) (word_one _ k.isLt) bits_step4096 bits_neg_one,
    ← EReal.coe_mul, ← EReal.coe_mul, ← EReal.coe_add, Nat.mul_add, Nat.mul_one, ang_add, Real.sin_add]
  congr 1
  ring
theorem cc_entry (a b : Fin 256) :
    V m c main_v79 (ix2 a b) = ((Real.cos (ang 256 (a.val * b.val)) * (1 / 16) : ℝ) : EReal) :=
  (cc_word m c a b).trans (hcos_eq 256 _ _ _ _ _ (by decide) (by decide) (word_chan _ _ a.isLt b.isLt) bits_step256 bits_16th)
theorem sc_entry (a b : Fin 256) :
    V m c main_v81 (ix2 a b) = ((Real.sin (ang 256 (a.val * b.val)) * (1 / 16) : ℝ) : EReal) := by
  rw [sc_word, hsin_eq 256 _ _ _ _ _ (by decide) (by decide) (word_chan _ _ a.isLt b.isLt) bits_step256 bits_neg_16th, ← EReal.coe_neg]
  congr 1
  ring

theorem sum_bit (i j n : ℕ) (hi : i < 1024) (hj : j < 1024) (hn : n < 2048) :
    (((IntOp.cmpi .eq (IntOp.addi (BitVec.ofNat 32 i) (BitVec.ofNat 32 j)) (BitVec.ofNat 32 n)).toNat : ℝ) : EReal)
      = if i + j = n then 1 else 0 := by
  have e : (IntOp.addi (BitVec.ofNat 32 i) (BitVec.ofNat 32 j) : BitVec 32) = BitVec.ofNat 32 (i + j) := by
    show BitVec.ofNat 32 i + BitVec.ofNat 32 j = _
    rw [← BitVec.ofNat_add]
  have b : ∀ x : BitVec 1, ¬ x = 1#1 → x = 0#1 := by decide
  rw [e]
  by_cases h : i + j = n
  · rw [if_pos h, IntOp.cmpi_eq.2 (congrArg _ h)]
    simp
  · have hc : ¬ IntOp.cmpi .eq (BitVec.ofNat 32 (i + j)) (BitVec.ofNat 32 n) = 1#1 := fun hc => h ?_
    · rw [if_neg h, b _ hc]
      simp
    · have h1 := congrArg BitVec.toNat (IntOp.cmpi_eq.1 hc)
      rwa [BitVec.toNat_ofNat, BitVec.toNat_ofNat, Nat.mod_eq_of_lt (by omega), Nat.mod_eq_of_lt (by omega)] at h1
theorem pe_entry (i j : Fin 1024) : V m c main_v77 (ix2 i j) = (if i.val + j.val = 1024 then 1 else 0 : EReal) :=
  (pe_word m c i j).trans (sum_bit _ _ _ i.isLt j.isLt (by decide))
theorem po_entry (i j : Fin 1024) : V m c main_v78 (ix2 i j) = (if i.val + j.val = 1023 then 1 else 0 : EReal) :=
  (po_word m c i j).trans (sum_bit _ _ _ i.isLt j.isLt (by decide))
end Cert.Mix
-- ==== Proof.RefTables.lean ====
/-
  The tables of cosines and sines that the reference multiplies by, entry by entry.
-/
module
public import proofs.«01_k».proof.Proof.Tables
public import proofs.«01_k».proof.Proof.Gen.ReferenceIdeal.Read
@[expose] public section
set_option maxRecDepth 8192
noncomputable section
namespace Cert.Mix
open Cert.ReferenceIdeal Cert.ReferenceIdeal.Gen Cert.ReferenceIdeal.Read
open Idealize.ShloMosaic hiding ix0 ix1 ix2 ix3 ix4 ix5
open Idealize.ShloMosaic.TcCoe Idealize.SL.Sem
open Idealize.ShloMosaic.ValueIdx
open scoped BigOperators

variable (x0 x1 : S8192x2048.Idx → EReal) (x2 : S16384x2048.Idx → EReal)

/-- Position M of sequence b: row M / 2 of the array of its parity. -/
def pos (b : Fin 4) (M : Fin 4096) (n : Fin 2048) : EReal :=
  if M.val % 2 = 0 then x0 (ix2 (⟨2048 * b.val + M.val / 2, by omega⟩ : Fin 8192) n) else x1 (ix2 (⟨2048 * b.val + M.val / 2, by omega⟩ : Fin 8192) n)
/-- The channel c of group g. -/
def chan (g : Fin 8) (c : Fin 256) : Fin 2048 := ⟨256 * g.val + c.val, by omega⟩

theorem bits_two : (Ideal.ofBits .f32 0x40000000#32 : EReal) = ((2 : ℝ) : EReal) := by
  simp [Ideal.ofBits, Ideal.ieee, -EReal.coe_mul]; norm_num
theorem bits_4096 : (Ideal.ofBits .f32 0x45800000#32 : EReal) = ((4096 : ℝ) : EReal) := by
  simp [Ideal.ofBits, Ideal.ieee, -EReal.coe_mul]; norm_num
theorem bits_256 : (Ideal.ofBits .f32 0x43800000#32 : EReal) = ((256 : ℝ) : EReal) := by
  simp [Ideal.ofBits, Ideal.ieee, -EReal.coe_mul]; norm_num

/-- The reference's angle: 2 arccos(-1) times the product of the indices, divided by the length. -/
def rang (w nb : BitVec 32) : EReal :=
  Ideal.div (Ideal.ofBits .f32 0x40000000#32 * Ideal.acos (Ideal.ofBits .f32 0xBF800000#32) * ((w.toInt : ℝ) : EReal)) (Ideal.ofBits .f32 nb)

theorem rang_eq (n k m : ℕ) (nb : BitVec 32) (hn : 0 < n) (hk : k * m < 2 ^ 30) (hnb : (Ideal.ofBits .f32 nb : EReal) = ((n : ℝ) : EReal)) :
    rang (IntOp.muli (BitVec.ofNat 32 k) (BitVec.ofNat 32 m)) nb = ((ang n (k * m) : ℝ) : EReal) := by
  have e : (IntOp.muli (BitVec.ofNat 32 k) (BitVec.ofNat 32 m) : BitVec 32) = BitVec.ofNat 32 (k * m) := by
    show BitVec.ofNat 32 k * BitVec.ofNat 32 m = _
    rw [← BitVec.ofNat_mul]
  have e2 : (BitVec.ofNat 32 (k * m)).toNat = k * m := by rw [BitVec.toNat_ofNat]; exact Nat.mod_eq_of_lt (by omega)
  have hn' : (n : ℝ) ≠ 0 := by positivity
  unfold rang
  rw [e, BitVec.toInt_eq_toNat_of_lt (by omega), e2, bits_two, bits_neg_one, Ideal.acos_coe, if_pos (by norm_num), Real.arccos_neg_one, hnb,
    Ideal.div_coe hn', ← EReal.coe_mul, ← EReal.coe_mul, ← EReal.coe_mul]
  congr 1
  unfold ang
  rw [Int.cast_natCast]
  field_simp

/-- Division by the square root of a length. -/
theorem div_sqrt (x : ℝ) (n s : ℝ) (nb : BitVec 32) (hs : 0 < s) (hn : s * s = n) (hnb : (Ideal.ofBits .f32 nb : EReal) = ((n : ℝ) : EReal)) :
    Ideal.div ((x : ℝ) : EReal) (Ideal.sqrt (Ideal.ofBits .f32 nb)) = ((x * (1 / s) : ℝ) : EReal) := by
  have h0 : ¬ n < 0 := by rw [← hn]; exact not_lt.2 (mul_nonneg hs.le hs.le)
  rw [hnb, Ideal.sqrt_coe, if_neg h0, ← hn, Real.sqrt_mul_self hs.le, Ideal.div_coe hs.ne', ← EReal.coe_mul]

theorem fin_mul_lt {n : ℕ} (hn : n * n ≤ 2 ^ 30) (a b : Fin n) : a.val * b.val < 2 ^ 30 := by
  have h := Nat.mul_lt_mul'' a.isLt b.isLt
  omega

theorem seq_cos (k M : Fin 4096) :
    val_main_v34 (F := Idealize.ShloMosaic.Ideal) (ix2 k M) = ((Real.cos (ang 4096 (k.val * M.val)) * (1 / 64) : ℝ) : EReal) := by
  refine (show _ = Ideal.div (Ideal.cos (rang (IntOp.muli (BitVec.ofNat 32 k.val) (BitVec.ofNat 32 M.val)) 0x45800000#32))
    (Ideal.sqrt (Ideal.ofBits .f32 0x45800000#32)) from rfl).trans ?_
  rw [rang_eq 4096 _ _ _ (by decide) (fin_mul_lt (by decide) k M) (by rw [bits_4096]; norm_num), Ideal.cos_coe]
  exact div_sqrt _ _ 64 _ (by norm_num) (by norm_num) bits_4096
theorem seq_sin (k M : Fin 4096) :
    val_main_v37 (F := Idealize.ShloMosaic.Ideal) (ix2 k M) = ((Real.sin (ang 4096 (k.val * M.val)) * (1 / 64) : ℝ) : EReal) := by
  refine (show _ = Ideal.div (Ideal.sin (rang (IntOp.muli (BitVec.ofNat 32 k.val) (BitVec.ofNat 32 M.val)) 0x45800000#32))
    (Ideal.sqrt (Ideal.ofBits .f32 0x45800000#32)) from rfl).trans ?_
  rw [rang_eq 4096 _ _ _ (by decide) (fin_mul_lt (by decide) k M) (by rw [bits_4096]; norm_num), Ideal.sin_coe]
  exact div_sqrt _ _ 64 _ (by norm_num) (by norm_num) bits_4096
theorem chan_cos (k M : Fin 256) :
    val_main_v40 (F := Idealize.ShloMosaic.Ideal) (ix2 k M) = ((Real.cos (ang 256 (k.val * M.val)) * (1 / 16) : ℝ) : EReal) := by
  refine (show _ = Ideal.div (Ideal.cos (rang (IntOp.muli (BitVec.ofNat 32 k.val) (BitVec.ofNat 32 M.val)) 0x43800000#32))
    (Ideal.sqrt (Ideal.ofBits .f32 0x43800000#32)) from rfl).trans ?_
  rw [rang_eq 256 _ _ _ (by decide) (fin_mul_lt (by decide) k M) (by rw [bits_256]; norm_num), Ideal.cos_coe]
  exact div_sqrt _ _ 16 _ (by norm_num) (by norm_num) bits_256
theorem chan_sin (k M : Fin 256) :
    val_main_v43 (F := Idealize.ShloMosaic.Ideal) (ix2 k M) = ((Real.sin (ang 256 (k.val * M.val)) * (1 / 16) : ℝ) : EReal) := by
  refine (show _ = Ideal.div (Ideal.sin (rang (IntOp.muli (BitVec.ofNat 32 k.val) (BitVec.ofNat 32 M.val)) 0x43800000#32))
    (Ideal.sqrt (Ideal.ofBits .f32 0x43800000#32)) from rfl).trans ?_
  rw [rang_eq 256 _ _ _ (by decide) (fin_mul_lt (by decide) k M) (by rw [bits_256]; norm_num), Ideal.sin_coe]
  exact div_sqrt _ _ 16 _ (by norm_num) (by norm_num) bits_256

end Cert.Mix
-- ==== Proof.RefValue.lean ====
/-
  The reference, entry by entry: the real part of the two-dimensional discrete Fourier transform of the interleaved sequence, times the gate.
-/
module
public import proofs.«01_k».proof.Proof.RefTables
@[expose] public section
set_option maxRecDepth 8192
noncomputable section
namespace Cert.Mix
open Cert.ReferenceIdeal Cert.ReferenceIdeal.Gen Cert.ReferenceIdeal.Read
open Idealize.ShloMosaic hiding ix0 ix1 ix2 ix3 ix4 ix5
open Idealize.ShloMosaic.TcCoe Idealize.SL.Sem
open Idealize.ShloMosaic.ValueIdx
open scoped BigOperators

variable (x0 x1 : S8192x2048.Idx → EReal) (x2 : S16384x2048.Idx → EReal)

/-! ## The interleaved sequence -/

theorem stack_even (m : Fin 8192) (n : Fin 2048) : val_main_v6 (F := Idealize.ShloMosaic.Ideal) x0 x1 (ix3 m (0 : Fin 2) n) = x0 (ix2 m n) := by
  unfold val_main_v6
  rw [concatenate_pair_apply_left (t := S8192x2x2048) (s₁ := S8192x1x2048) (s₂ := S8192x1x2048) 1 _ _ _ _ rfl (ix3 m (0 : Fin 1) n) (fun a => by match a with | ⟨0, _⟩ => rfl | ⟨1, _⟩ => rfl | ⟨2, _⟩ => rfl) ]
  rw [val_main_v4_apply]
  exact congrArg x0 (funext fun a => match a with | ⟨0, _⟩ => rfl | ⟨1, _⟩ => rfl)
theorem stack_odd (m : Fin 8192) (n : Fin 2048) : val_main_v6 (F := Idealize.ShloMosaic.Ideal) x0 x1 (ix3 m (1 : Fin 2) n) = x1 (ix2 m n) := by
  unfold val_main_v6
  rw [concatenate_pair_apply_right (t := S8192x2x2048) (s₁ := S8192x1x2048) (s₂ := S8192x1x2048) 1 _ _ _ _ rfl rfl (ix3 m (0 : Fin 1) n) (fun a ha => by match a with | ⟨0, _⟩ => rfl | ⟨1, _⟩ => exact absurd rfl ha | ⟨2, _⟩ => rfl) rfl ]
  rw [val_main_v5_apply]
  exact congrArg x1 (funext fun a => match a with | ⟨0, _⟩ => rfl | ⟨1, _⟩ => rfl)

theorem pos_eq (b : Fin 4) (M : Fin 4096) (g : Fin 8) (c : Fin 256) :
    val_main_v7 (F := Idealize.ShloMosaic.Ideal) x0 x1 (ix4 b M g c) = pos x0 x1 b M (chan g c) := by
  rw [val_main_v7_apply]
  unfold pos
  have hb := b.isLt; have hM := M.isLt; have hg := g.isLt; have hc := c.isLt
  by_cases h : M.val % 2 = 0
  · rw [if_pos h, ← stack_even x0 x1]
    refine congrArg _ (funext fun a => Fin.ext ?_)
    match a with
    | ⟨0, _⟩ => show (((b.val * 4096 + M.val) * 8 + g.val) * 256 + c.val) / 4096 = 2048 * b.val + M.val / 2; omega
    | ⟨1, _⟩ => show (((b.val * 4096 + M.val) * 8 + g.val) * 256 + c.val) / 2048 % 2 = 0; omega
    | ⟨2, _⟩ => show (((b.val * 4096 + M.val) * 8 + g.val) * 256 + c.val) % 2048 = 256 * g.val + c.val; omega
  · rw [if_neg h, ← stack_odd x0 x1]
    refine congrArg _ (funext fun a => Fin.ext ?_)
    match a with
    | ⟨0, _⟩ => show (((b.val * 4096 + M.val) * 8 + g.val) * 256 + c.val) / 4096 = 2048 * b.val + M.val / 2; omega
    | ⟨1, _⟩ => show (((b.val * 4096 + M.val) * 8 + g.val) * 256 + c.val) / 2048 % 2 = 1; omega
    | ⟨2, _⟩ => show (((b.val * 4096 + M.val) * 8 + g.val) * 256 + c.val) % 2048 = 256 * g.val + c.val; omega

/-! ## The transform -/

/-- The cosine sum over positions at frequency k. -/
def seqRe (b : Fin 4) (k : Fin 4096) (n : Fin 2048) : EReal :=
  ∑ M : Fin 4096, pos x0 x1 b M n * ((Real.cos (ang 4096 (k.val * M.val)) * (1 / 64) : ℝ) : EReal)
/-- The sine sum. -/
def seqIm (b : Fin 4) (k : Fin 4096) (n : Fin 2048) : EReal :=
  ∑ M : Fin 4096, pos x0 x1 b M n * ((Real.sin (ang 4096 (k.val * M.val)) * (1 / 64) : ℝ) : EReal)
/-- The real part of the transform over positions and channels. -/
def dft (b : Fin 4) (k : Fin 4096) (g : Fin 8) (l : Fin 256) : EReal :=
  (∑ c : Fin 256, seqRe x0 x1 b k (chan g c) * ((Real.cos (ang 256 (c.val * l.val)) * (1 / 16) : ℝ) : EReal))
    - ∑ c : Fin 256, seqIm x0 x1 b k (chan g c) * ((Real.sin (ang 256 (c.val * l.val)) * (1 / 16) : ℝ) : EReal)

theorem seqRe_eq (b : Fin 4) (k : Fin 4096) (g : Fin 8) (c : Fin 256) :
    val_main_v45 (F := Idealize.ShloMosaic.Ideal) x0 x1 (ix4 b k g c) = seqRe x0 x1 b k (chan g c) := by
  rw [val_main_v45_apply, val_main_v44_apply]
  refine Finset.sum_congr rfl fun M _ => congrArg₂ (· * ·) ?_ ?_
  · rw [← pos_eq]
    exact congrArg _ (funext fun a => match a with | ⟨0, _⟩ => rfl | ⟨1, _⟩ => rfl | ⟨2, _⟩ => rfl | ⟨3, _⟩ => rfl)
  · rw [← seq_cos]
    exact congrArg _ (funext fun a => match a with | ⟨0, _⟩ => rfl | ⟨1, _⟩ => rfl)
theorem seqIm_eq (b : Fin 4) (k : Fin 4096) (g : Fin 8) (c : Fin 256) :
    val_main_v47 (F := Idealize.ShloMosaic.Ideal) x0 x1 (ix4 b k g c) = seqIm x0 x1 b k (chan g c) := by
  rw [val_main_v47_apply, val_main_v46_apply]
  refine Finset.sum_congr rfl fun M _ => congrArg₂ (· * ·) ?_ ?_
  · rw [← pos_eq]
    exact congrArg _ (funext fun a => match a with | ⟨0, _⟩ => rfl | ⟨1, _⟩ => rfl | ⟨2, _⟩ => rfl | ⟨3, _⟩ => rfl)
  · rw [← seq_sin]
    exact congrArg _ (funext fun a => match a with | ⟨0, _⟩ => rfl | ⟨1, _⟩ => rfl)
theorem dft_eq (b : Fin 4) (k : Fin 4096) (g : Fin 8) (l : Fin 256) :
    val_main_v50 (F := Idealize.ShloMosaic.Ideal) x0 x1 (ix4 b k g l) = dft x0 x1 b k g l := by
  rw [val_main_v50_apply, Ideal.subf_def, val_main_v48_apply, val_main_v49_apply]
  refine congrArg₂ (· - ·) (Finset.sum_congr rfl fun c _ => congrArg₂ (· * ·) ?_ ?_) (Finset.sum_congr rfl fun c _ => congrArg₂ (· * ·) ?_ ?_)
  · rw [← seqRe_eq]
    exact congrArg _ (funext fun a => match a with | ⟨0, _⟩ => rfl | ⟨1, _⟩ => rfl | ⟨2, _⟩ => rfl | ⟨3, _⟩ => rfl)
  · rw [← chan_cos]
    exact congrArg _ (funext fun a => match a with | ⟨0, _⟩ => rfl | ⟨1, _⟩ => rfl)
  · rw [← seqIm_eq]
    exact congrArg _ (funext fun a => match a with | ⟨0, _⟩ => rfl | ⟨1, _⟩ => rfl | ⟨2, _⟩ => rfl | ⟨3, _⟩ => rfl)
  · rw [← chan_sin]
    exact congrArg _ (funext fun a => match a with | ⟨0, _⟩ => rfl | ⟨1, _⟩ => rfl)

/-- The reference's result: the transform times the gate. -/
theorem ref_entry (b : Fin 4) (h : Fin 2) (r j : Fin 2048) :
    val_main_v55 (F := Idealize.ShloMosaic.Ideal) x0 x1 x2 (ix4 b h r j)
      = dft x0 x1 b ⟨2048 * h.val + r.val, by omega⟩ ⟨j.val / 256, by omega⟩ ⟨j.val % 256, by omega⟩
        * x2 (ix2 (⟨4096 * b.val + 2048 * h.val + r.val, by omega⟩ : Fin 16384) j) := by
  have hb := b.isLt; have hh := h.isLt; have hr := r.isLt; have hj := j.isLt
  have e : idx_main_v55 (ix4 b h r j) = ix2 (⟨4096 * b.val + 2048 * h.val + r.val, by omega⟩ : Fin 16384) j := funext fun a => Fin.ext (by
    match a with
    | ⟨0, _⟩ => show (((b.val * 2 + h.val) * 2048 + r.val) * 2048 + j.val) / 2048 = 4096 * b.val + 2048 * h.val + r.val; omega
    | ⟨1, _⟩ => show (((b.val * 2 + h.val) * 2048 + r.val) * 2048 + j.val) % 2048 = j.val; omega)
  rw [val_main_v55_apply, e, val_main_v54_apply, Ideal.truncf_def, val_main_v53_apply, Ideal.mulf_def, val_main_v52_apply, Ideal.extf_def]
  refine congrArg (· * x2 _) ?_
  rw [val_main_v51_apply, ← dft_eq]
  refine congrArg _ (funext fun a => Fin.ext ?_)
  match a with
  | ⟨0, _⟩ => show ((4096 * b.val + 2048 * h.val + r.val) * 2048 + j.val) / 8388608 = b.val; omega
  | ⟨1, _⟩ => show ((4096 * b.val + 2048 * h.val + r.val) * 2048 + j.val) / 2048 % 4096 = 2048 * h.val + r.val; omega
  | ⟨2, _⟩ => show ((4096 * b.val + 2048 * h.val + r.val) * 2048 + j.val) / 256 % 8 = j.val / 256; omega
  | ⟨3, _⟩ => show ((4096 * b.val + 2048 * h.val + r.val) * 2048 + j.val) % 256 = j.val % 256; omega

end Cert.Mix
-- ==== Proof.Finite.lean ====
/-
  What the precondition says: every entry of the two arrays is a real number.
-/
module
public import proofs.«01_k».proof.Defs
public import proofs.«01_k».proof.Proof.Gen.Pre_finite
public import Idealize.ShloMosaic.Lib.ReduceAll
public import Idealize.ShloMosaic.Lib.Affine
public import Idealize.ShloMosaic.PureOps.Ideal.Laws
@[expose] public section
noncomputable section
namespace Cert.Mix
open Cert.Pre_finite Idealize.ShloMosaic

theorem bits_inf : (Ideal.ofBits .f32 0x7F800000#32 : EReal) = ⊤ := by simp [Ideal.ofBits, Ideal.ieee]

/-- Below infinity in absolute value is a real number. -/
theorem real_of_abs_lt (v : EReal) (h : Ideal.cmp .olt (max v (-v)) (Ideal.ofBits .f32 0x7F800000#32) = 1#1) : ∃ r : ℝ, v = (r : EReal) := by
  rw [bits_inf] at h
  have h1 : max v (-v) < ⊤ := by
    by_contra hn
    have : Ideal.cmp .olt (max v (-v)) ⊤ = BitVec.ofBool (decide (max v (-v) < ⊤)) := rfl
    rw [this, decide_eq_false hn] at h
    exact absurd h (by decide)
  induction v using EReal.rec with
  | bot => simp at h1
  | coe r => exact ⟨r, rfl⟩
  | top => simp at h1

/-- An array whose absolute values are all below infinity. -/
theorem all_real [Cert.Pre_finite.Facts] (x : FVec Idealize.ShloMosaic.Ideal S8192x2048 .bf16) (j : S_.Idx)
    (h : Host.reduce IntOp.andi (cmpf .olt (Host.absf (extf .f32 x Facts.bitsLt_bf16_f32))
      (broadcastInDim S8192x2048 ![] Facts.bcast_S_S8192x2048 (constant S_ .f32 0x7F800000#32)))
      (constantI S_ 1 1#1) Facts.reducesTo_S8192x2048_S_d0_1 Facts.h_S_ j = 1#1) : ∃ X : S8192x2048.Idx → ℝ, x = fun i => ((X i : ℝ) : EReal) := by
  haveI : Subsingleton S_.Idx := ⟨fun a b => funext fun i => i.elim0⟩
  have hx : ∀ i : S8192x2048.Idx, ∃ r : ℝ, x i = (r : EReal) := fun i =>
    real_of_abs_lt (x i) (Host.reduce_andi_all _ _ _ _ j h i)
  choose X hX using hx
  exact ⟨X, funext hX⟩

/-- THE PRECONDITION READ. -/
theorem finite_args [hP : Cert.Pre_finite.Facts] (x0 x1 : FVec Idealize.ShloMosaic.Ideal S8192x2048 .bf16) (x2 : FVec Idealize.ShloMosaic.Ideal S16384x2048 .bf16)
    (h : Cert.Pre_finite.fn (F := Idealize.ShloMosaic.Ideal) x0 x1 x2 = fun _ => 1#1) :
    (∃ X : S8192x2048.Idx → ℝ, x0 = fun i => ((X i : ℝ) : EReal)) ∧ ∃ X : S8192x2048.Idx → ℝ, x1 = fun i => ((X i : ℝ) : EReal) := by
  have h0 := congrFun h (fun a => a.elim0)
  dsimp only [Cert.Pre_finite.fn] at h0
  obtain ⟨ha, hb⟩ := IntOp.andi_eq_one.1 h0
  exact ⟨all_real x0 _ ha, all_real x1 _ hb⟩
end Cert.Mix
-- ==== Proof.Fourier.lean ====
/-
  The launch computes the reference: each entry of the output is the real part of the two-dimensional discrete Fourier transform of the
  interleaved sequence, times the gate, when the sequence is finite.
-/
module
public import proofs.«01_k».proof.Proof.Sweep
public import proofs.«01_k».proof.Proof.Half
public import proofs.«01_k».proof.Proof.RefValue
public import proofs.«01_k».proof.Proof.Finite
@[expose] public section
set_option maxRecDepth 8192
noncomputable section
namespace Cert.Mix
open Cert.KernelIdeal Cert.KernelIdeal.Gen
open Idealize.ShloMosaic hiding ix0 ix1 ix2 ix3 ix4 ix5
open Idealize.ShloMosaic.TcCoe Idealize.SL.Sem
open Idealize.ShloMosaic.ValueIdx
open scoped BigOperators

/-- Row 2048 b + m of a real array, 0 past its end. -/
def rowOf (X : S8192x2048.Idx → ℝ) (b : Fin 4) (n : Fin 2048) (m : ℕ) : ℝ :=
  if h : 2048 * b.val + m < 8192 then X (ix2 (⟨2048 * b.val + m, h⟩ : Fin 8192) n) else 0
/-- Position M of the sequence: row M / 2 of the array of its parity. -/
def posOf (X0 X1 : S8192x2048.Idx → ℝ) (b : Fin 4) (n : Fin 2048) (M : ℕ) : ℝ :=
  if M % 2 = 0 then rowOf X0 b n (M / 2) else rowOf X1 b n (M / 2)

section
variable (X0 X1 : S8192x2048.Idx → ℝ)

theorem posOf_even (b : Fin 4) (n : Fin 2048) (m : ℕ) : posOf X0 X1 b n (2 * m) = rowOf X0 b n m := by
  unfold posOf
  rw [if_pos (by omega), Nat.mul_div_cancel_left m (by decide)]
theorem posOf_odd (b : Fin 4) (n : Fin 2048) (m : ℕ) : posOf X0 X1 b n (2 * m + 1) = rowOf X1 b n m := by
  unfold posOf
  rw [if_neg (by omega), show (2 * m + 1) / 2 = m by omega]
theorem rowOf_fin (X : S8192x2048.Idx → ℝ) (b : Fin 4) (n : Fin 2048) (q : Fin 2048) (i : Fin 8192) (hi : i.val = 2048 * b.val + q.val) :
    X (ix2 i n) = rowOf X b n q.val := by
  have hb := b.isLt
  have hq := q.isLt
  unfold rowOf
  rw [dif_pos (by omega)]
  exact congrArg (fun i : Fin 8192 => X (ix2 i n)) (Fin.ext hi)
theorem pos_coe (b : Fin 4) (M : Fin 4096) (n : Fin 2048) :
    pos (fun i => ((X0 i : ℝ) : EReal)) (fun i => ((X1 i : ℝ) : EReal)) b M n = ((posOf X0 X1 b n M.val : ℝ) : EReal) := by
  have hM := M.isLt
  unfold pos posOf
  by_cases h : M.val % 2 = 0
  · rw [if_pos h, if_pos h]
    exact congrArg _ (rowOf_fin X0 b n ⟨M.val / 2, by omega⟩ _ rfl)
  · rw [if_neg h, if_neg h]
    exact congrArg _ (rowOf_fin X1 b n ⟨M.val / 2, by omega⟩ _ rfl)
theorem seqRe_coe (b : Fin 4) (k : Fin 4096) (n : Fin 2048) :
    seqRe (fun i => ((X0 i : ℝ) : EReal)) (fun i => ((X1 i : ℝ) : EReal)) b k n
      = ((∑ M : Fin 4096, posOf X0 X1 b n M.val * (Real.cos (ang 4096 (k.val * M.val)) * (1 / 64)) : ℝ) : EReal) := by
  unfold seqRe
  rw [← coe_sum_mul]
  exact Finset.sum_congr rfl fun M _ => congrArg (· * _) (pos_coe X0 X1 b M n)
theorem seqIm_coe (b : Fin 4) (k : Fin 4096) (n : Fin 2048) :
    seqIm (fun i => ((X0 i : ℝ) : EReal)) (fun i => ((X1 i : ℝ) : EReal)) b k n
      = ((∑ M : Fin 4096, posOf X0 X1 b n M.val * (Real.sin (ang 4096 (k.val * M.val)) * (1 / 64)) : ℝ) : EReal) := by
  unfold seqIm
  rw [← coe_sum_mul]
  exact Finset.sum_congr rfl fun M _ => congrArg (· * _) (pos_coe X0 X1 b M n)
end

/-- The sum with the negated imaginary parts is the difference of the reference. -/
theorem sum_neg_eq {ι : Type} (s : Finset ι) (a b c d : ι → ℝ) :
    (∑ i ∈ s, ((a i : ℝ) : EReal) * ((c i : ℝ) : EReal)) + ∑ i ∈ s, ((-b i : ℝ) : EReal) * ((d i : ℝ) : EReal)
      = (∑ i ∈ s, ((a i : ℝ) : EReal) * ((c i : ℝ) : EReal)) - ∑ i ∈ s, ((b i : ℝ) : EReal) * ((d i : ℝ) : EReal) := by
  rw [coe_sum_mul, coe_sum_mul, coe_sum_mul, ← EReal.coe_add, ← EReal.coe_sub]
  congr 1
  rw [sub_eq_add_neg, ← Finset.sum_neg_distrib]
  exact congrArg _ (Finset.sum_congr rfl fun i _ => by ring)

variable (m : (ℓ : Loc nD τ sig) → Buf (Elt Idealize.ShloMosaic.Ideal) ℓ) (c : Dev nD)

section
variable (X0 X1 : S8192x2048.Idx → ℝ)
  (h0 : (m ((c : Thread nD τ).loc main_arg0) : S8192x2048.Idx → EReal) = fun i => ((X0 i : ℝ) : EReal))
  (h1 : (m ((c : Thread nD τ).loc main_arg1) : S8192x2048.Idx → EReal) = fun i => ((X1 i : ℝ) : EReal))
  (t : Fin cfg0.N)

/-- The batch of a point, … -/
def batch : Fin 4 := ⟨t.val / 16, by have := lt_N t; omega⟩
/-- … the row a block's row is, … -/
def rowIn (r : Fin 512) : Fin 2048 := ⟨512 * (t.val % 4) + r.val, by omega⟩
/-- … and the column. -/
def colIn (j : Fin 512) : Fin 2048 := ⟨512 * (t.val / 4 % 4) + j.val, by omega⟩

include h0 in
theorem xe_entry (q : Fin 2048) (j : Fin 512) : iblk m c 8 t (ix2 q j) = ((rowOf X0 (batch t) (colIn t j) q.val : ℝ) : EReal) := by
  rw [iblk8_apply, V_main_arg0, h0]
  exact congrArg _ (rowOf_fin X0 (batch t) (colIn t j) q _ rfl)
include h1 in
theorem xo_entry (q : Fin 2048) (j : Fin 512) : iblk m c 9 t (ix2 q j) = ((rowOf X1 (batch t) (colIn t j) q.val : ℝ) : EReal) := by
  rw [iblk9_apply, V_main_arg1, h1]
  exact congrArg _ (rowOf_fin X1 (batch t) (colIn t j) q _ rfl)

theorem pe_blk (i k : Fin 1024) : iblk m c 6 t (ix2 i k) = (if i.val + k.val = 1024 then 1 else 0 : EReal) := by
  rw [iblk6_apply]; exact pe_entry m c i k
theorem po_blk (i k : Fin 1024) : iblk m c 7 t (ix2 i k) = (if i.val + k.val = 1023 then 1 else 0 : EReal) := by
  rw [iblk7_apply]; exact po_entry m c i k

include h0 h1

/-- The real part of a point is the reference's cosine sum. -/
theorem point_re (h : Fin 2) (r j : Fin 512) :
    blkRe (iblk m c 0 t) (iblk m c 2 t) (plus (iblk m c 8 t) (iblk m c 6 t)) (plus (iblk m c 9 t) (iblk m c 7 t)) (nyqRows (iblk m c 8 t)) h r j
      = ((∑ M : Fin 4096, posOf X0 X1 (batch t) (colIn t j) M.val
          * (Real.cos (ang 4096 ((2048 * h.val + (rowIn t r).val) * M.val)) * (1 / 64)) : ℝ) : EReal) := by
  refine blkRe_coe _ _ _ _ _ h r j (rowIn t r).val _ _ _ (posOf_even X0 X1 (batch t) (colIn t j)) (posOf_odd X0 X1 (batch t) (colIn t j))
    ?_ (fun k => ?_) (fun k => ?_) (fun k => ?_) (fun k => ?_) ?_
  · show (512 * (t.val % 4) + r.val) % 2 = r.val % 2
    omega
  · rw [iblk0_apply]; exact tce_entry m c (rowIn t r) k
  · rw [iblk2_apply]; exact tco_entry m c (rowIn t r) k
  · exact plus_even _ _ _ j (fun q => xe_entry m c X0 h0 t q j) (pe_blk m c t) k
  · exact plus_odd _ _ _ j (fun q => xo_entry m c X1 h1 t q j) (po_blk m c t) k
  · exact xe_entry m c X0 h0 t ⟨1024, by decide⟩ j
/-- The imaginary part is the sine sum, negated. -/
theorem point_im (h : Fin 2) (r j : Fin 512) :
    blkIm (iblk m c 1 t) (iblk m c 3 t) (minus (iblk m c 8 t) (iblk m c 6 t)) (minus (iblk m c 9 t) (iblk m c 7 t)) h r j
      = ((-∑ M : Fin 4096, posOf X0 X1 (batch t) (colIn t j) M.val
          * (Real.sin (ang 4096 ((2048 * h.val + (rowIn t r).val) * M.val)) * (1 / 64)) : ℝ) : EReal) := by
  refine blkIm_coe _ _ _ _ h r j (rowIn t r).val _ _ _ (posOf_even X0 X1 (batch t) (colIn t j)) (posOf_odd X0 X1 (batch t) (colIn t j))
    (fun k => ?_) (fun k => ?_) (fun k => ?_) (fun k => ?_)
  · rw [iblk1_apply]; exact tse_entry m c (rowIn t r) k
  · rw [iblk3_apply]; exact tso_entry m c (rowIn t r) k
  · exact minus_even _ _ _ j (fun q => xe_entry m c X0 h0 t q j) (pe_blk m c t) k
  · exact minus_odd _ _ _ j (fun q => xo_entry m c X1 h1 t q j) (po_blk m c t) k

/-- ONE ENTRY of what a point writes back: the reference's. -/
theorem point_entry (h : Fin 2) (r j : Fin 512) :
    blk (iblk m c 0 t) (iblk m c 1 t) (iblk m c 2 t) (iblk m c 3 t) (iblk m c 4 t) (iblk m c 5 t) (iblk m c 10 t)
        (plus (iblk m c 8 t) (iblk m c 6 t)) (minus (iblk m c 8 t) (iblk m c 6 t)) (plus (iblk m c 9 t) (iblk m c 7 t))
        (minus (iblk m c 9 t) (iblk m c 7 t)) (nyqRows (iblk m c 8 t)) h r j
      = Cert.ReferenceIdeal.Read.val_main_v55 (F := Idealize.ShloMosaic.Ideal) (m ((c : Thread nD τ).loc main_arg0)) (m ((c : Thread nD τ).loc main_arg1))
          (m ((c : Thread nD τ).loc main_arg2)) (ix4 (batch t) h (rowIn t r) (colIn t j)) := by
  rw [ref_entry, h0, h1]
  unfold blk dft
  refine congrArg₂ (· * ·) ?_ ?_
  · have hc : ∀ b : Fin 256, colIn t (col j b) = chan ⟨(colIn t j).val / 256, by omega⟩ b := fun b => Fin.ext (by
      have hj := j.isLt
      have hb := b.isLt
      show 512 * (t.val / 4 % 4) + (256 * (j.val / 256) + b.val) = 256 * ((512 * (t.val / 4 % 4) + j.val) / 256) + b.val
      omega)
    have hl : (lane j).val = (colIn t j).val % 256 := by
      show j.val % 256 = (512 * (t.val / 4 % 4) + j.val) % 256
      omega
    rw [Finset.sum_congr rfl fun b _ => congrArg₂ (· * ·) (point_re m c X0 X1 h0 h1 t h r (col j b))
        ((iblk4_apply m c t b (lane j)).trans (cc_entry m c b (lane j))),
      Finset.sum_congr rfl fun b _ => congrArg₂ (· * ·) (point_im m c X0 X1 h0 h1 t h r (col j b))
        ((iblk5_apply m c t b (lane j)).trans (sc_entry m c b (lane j))), sum_neg_eq]
    refine congrArg₂ (· - ·) (Finset.sum_congr rfl fun b _ => ?_) (Finset.sum_congr rfl fun b _ => ?_)
    · rw [seqRe_coe, hc, hl]
    · rw [seqIm_coe, hc, hl]
  · rw [iblk10_apply]
    exact sz_word m c (batch t) h (rowIn t r) (colIn t j)

/-- THE OUTPUT ARRAY of the launch is the reference's result. -/
theorem array_eq : (Gen.dats m 0 c).arrAt 11 cfg0.N
    = Cert.ReferenceIdeal.Read.val_main_v55 (F := Idealize.ShloMosaic.Ideal) (m ((c : Thread nD τ).loc main_arg0)) (m ((c : Thread nD τ).loc main_arg1))
          (m ((c : Thread nD τ).loc main_arg2)) := by
  refine (Gen.dats m 0 c).arrAt_eq_of_covers 11 _ (by decide +kernel) fun t hf y => ?_
  rw [flushed_eq]
  blk_simp
  have e := (idx_out t).2
  obtain ⟨z, h, r, j, rfl⟩ : ∃ (z : Fin 1) (h : Fin 2) (r j : Fin 512), y = ix4 z h r j := ⟨y 0, y 1, y 2, y 3, ValueIdx.eq_ix4 y⟩
  refine (point_entry m c X0 X1 h0 h1 t h r j).trans (congrArg (Cert.ReferenceIdeal.Read.val_main_v55 (F := Idealize.ShloMosaic.Ideal) _ _ _) ?_)
  funext a
  refine Fin.ext ?_
  fin_cases a <;> blk_simp [e]
  · rfl
  · exact congrArg (· + _) (Nat.mul_comm _ _)
  · exact congrArg (· + _) (Nat.mul_comm _ _)
end

/-- THE VALUE CLAIM. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hargs
  refine ⟨fun c => (Gen.dats m 0 c).arrAt 11 cfg0.N, Cert.KernelIdeal.Value.run_blocks m g, ?_⟩
  refine (θ_run _ _ _).mono (fun r h c => ?_) (Cert.ReferenceIdeal.Value.run m' g')
  refine ⟨(h c).1.trans ?_, (h c).2⟩
  obtain ⟨⟨X0, h0⟩, X1, h1⟩ := finite_args (hP := Cert.Pre_finite.Gen.facts) _ _ _ (hpre c)
  refine Eq.trans ?_ (array_eq m c X0 X1 h0 h1).symm
  rw [Cert.ReferenceIdeal.Read.val_main_v55_eq, (hargs c).1, (hargs c).2.1, (hargs c).2.2]
end Cert.Mix
-- ==== Proof.GatesPoint.lean ====
/-
  The merge gates, one grid point: four strips of 256 rows, each the product of its rows with a weight block, scaled row by row, with
  the bias added, through the sigmoid.
-/
module
public import proofs.«01_k».proof.Defs
public import proofs.«01_k».proof.Proof.Gen.GatesIdeal.Value
public import Idealize.ShloMosaic.Lib.Pipeline.Value
public import Idealize.ShloMosaic.Lib.Pipeline.ValueKit
public import Idealize.ShloMosaic.Lib.Pipeline.ValueKit.Tiles
public import Idealize.ShloMosaic.Lib.MatmulPlain
public import Idealize.ShloMosaic.Lib.ValueIdx
public import Idealize.ShloMosaic.Lib.ValueLayout
public import Idealize.ShloMosaic.Lib.IdealHost
public import Idealize.ShloMosaic.Lib.Tactic
public import Idealize.ShloMosaic.Lib.Claim
@[expose] public section
set_option maxRecDepth 8192
noncomputable section
namespace Cert.GatesProof
open Cert.GatesIdeal Cert.GatesIdeal.Gen
open Idealize.ShloMosaic hiding ix0 ix1 ix2 ix3 ix4 ix5
open Idealize.ShloMosaic.TcCoe Idealize.SL.Sem
open Idealize.ShloMosaic.ValueIdx
open scoped BigOperators

/-- The accumulator starts at 0. -/
theorem acc_zero : (Idealize.ShloMosaic.Ideal.ofBits .f32 0x00000000#32 : EReal) = 0 := by simp [Idealize.ShloMosaic.Ideal.ofBits, Idealize.ShloMosaic.Ideal.ieee]

/-- 256 rows times a weight block. -/
def strip (A : FVec Idealize.ShloMosaic.Ideal S256x4096 .bf16) (B : FVec Idealize.ShloMosaic.Ideal S1x4096x1024 .bf16) : FVec Idealize.ShloMosaic.Ideal S256x1024 .f32 :=
  matmul dot_S256x4096_S4096x1024_S256x1024_1_0_0_1_n_n none A (shapeCast S4096x1024 B shapeCasts_S1x4096x1024_S4096x1024)
    (constant S256x1024 .f32 0x00000000#32)

theorem strip_apply (A : FVec Idealize.ShloMosaic.Ideal S256x4096 .bf16) (B : FVec Idealize.ShloMosaic.Ideal S1x4096x1024 .bf16) (r : Fin 256) (j : Fin 1024) :
    strip A B (ix2 r j) = ∑ k : Fin 4096, A (ix2 r k) * B (ix3 0 k j) := by
  have h := Ideal.matmul_plain_apply (M := 256) (K := 4096) (N := 1024) none A
    (shapeCast S4096x1024 B shapeCasts_S1x4096x1024_S4096x1024) (constant S256x1024 .f32 0x00000000#32) r j
  refine (show strip A B (ix2 r j) = _ from h).trans ?_
  show Idealize.ShloMosaic.Ideal.ofBits .f32 0x00000000#32 + _ = _
  rw [acc_zero, zero_add]
  refine Finset.sum_congr rfl fun k _ => congrArg (A (ix2 r k) * ·) ?_
  exact shapeCast_apply _ _ _ _ (by
    rw [Shape.rowMajor_val_three, Shape.rowMajor_val_two]
    show (0 * 4096 + k.val) * 1024 + j.val = k.val * 1024 + j.val
    omega)

/-- The row scales, laid out once per 128 columns. -/
def lanes (p : FVec Idealize.ShloMosaic.Ideal S256x128 .f32) : FVec Idealize.ShloMosaic.Ideal S256x1024 .f32 :=
  concatenate S256x1024 1 [⟨S256x128, p⟩, ⟨S256x128, p⟩, ⟨S256x128, p⟩, ⟨S256x128, p⟩, ⟨S256x128, p⟩, ⟨S256x128, p⟩, ⟨S256x128, p⟩, ⟨S256x128, p⟩]
    concatenates_S256x128_S256x128_S256x128_S256x128_S256x128_S256x128_S256x128_S256x128_S256x1024_d1

theorem lanes_apply (p : FVec Idealize.ShloMosaic.Ideal S256x128 .f32) (r : Fin 256) (j : Fin 1024) :
    lanes p (ix2 r j) = p (ix2 r (⟨j.val % 128, by omega⟩ : Fin 128)) := by
  refine concatenate_replicate_apply (t := S256x1024) (s₁ := S256x128) 1 8 p _ rfl (ix2 r j) _ rfl fun b hb => ?_
  fin_cases b
  · rfl
  · exact absurd rfl hb

/-- What one strip stores: the sigmoid of the scaled product plus the bias. -/
def gate (A : FVec Idealize.ShloMosaic.Ideal S256x4096 .bf16) (B : FVec Idealize.ShloMosaic.Ideal S1x4096x1024 .bf16) (p : FVec Idealize.ShloMosaic.Ideal S256x128 .f32) (b : FVec Idealize.ShloMosaic.Ideal S1x1024 .f32) :
    FVec Idealize.ShloMosaic.Ideal S256x1024 .bf16 :=
  truncf .bf16 (logistic (addf (mulf (strip A B) (lanes (shapeCast S256x128 p shapeCasts_S256x128_S256x128)))
    (broadcastTo S256x1024 (shapeCast S1x1024 b shapeCasts_S1x1024_S1x1024) broadcasts_S1x1024_S256x1024))) bitsLt_bf16_f32

section
variable (x0 : FVec Idealize.ShloMosaic.Ideal S1024x4096 .bf16) (x1 : FVec Idealize.ShloMosaic.Ideal S1024x128 .f32) (x2 : FVec Idealize.ShloMosaic.Ideal S1x4096x1024 .bf16) (x3 : FVec Idealize.ShloMosaic.Ideal S1x1024 .f32)

/-- One entry of a point's output tile. -/
def entry (r j : Fin 1024) : EReal :=
  Idealize.ShloMosaic.Ideal.logistic ((∑ k : Fin 4096, x0 (ix2 r k) * x2 (ix3 0 k j)) * x1 (ix2 r (⟨j.val % 128, by omega⟩ : Fin 128)) + x3 (ix2 0 j))
/-- The tile. -/
def tile : FVec Idealize.ShloMosaic.Ideal S1024x1024 .bf16 := fun y => entry x0 x1 x2 x3 (y 0) (y 1)

/-- A strip that starts at row `o` stores the tile's rows from `o` on. -/
theorem gate_apply (o : ℕ) (ho : o + 256 ≤ 1024) (A : FVec Idealize.ShloMosaic.Ideal S256x4096 .bf16) (B : FVec Idealize.ShloMosaic.Ideal S1x4096x1024 .bf16) (p : FVec Idealize.ShloMosaic.Ideal S256x128 .f32)
    (b : FVec Idealize.ShloMosaic.Ideal S1x1024 .f32)
    (hA : ∀ (r : Fin 256) (k : Fin 4096), A (ix2 r k) = x0 (ix2 (⟨o + r.val, by omega⟩ : Fin 1024) k)) (hB : B = x2)
    (hp : ∀ (r : Fin 256) (l : Fin 128), p (ix2 r l) = x1 (ix2 (⟨o + r.val, by omega⟩ : Fin 1024) l)) (hb : b = x3)
    (r : Fin 256) (j : Fin 1024) : gate A B p b (ix2 r j) = entry x0 x1 x2 x3 (⟨o + r.val, by omega⟩ : Fin 1024) j := by
  show Idealize.ShloMosaic.Ideal.logistic (strip A B (ix2 r j) * lanes (shapeCast S256x128 p shapeCasts_S256x128_S256x128) (ix2 r j)
    + broadcastTo S256x1024 (shapeCast S1x1024 b shapeCasts_S1x1024_S1x1024) broadcasts_S1x1024_S256x1024 (ix2 r j)) = _
  rw [strip_apply, shapeCast_self, shapeCast_self, lanes_apply, hp, hB, hb]
  unfold entry
  refine congrArg _ (congrArg₂ (· + ·) (congrArg (· * _) (Finset.sum_congr rfl fun k _ => ?_)) ?_)
  · rw [hA]
  · exact broadcastTo_1b_ab_apply x3 broadcasts_S1x1024_S256x1024 r j

/-- Rows read at an offset. -/
theorem ld_rows (X : FVec Idealize.ShloMosaic.Ideal S1024x4096 .bf16) (o : ℕ) (ho : o + 256 ≤ 1024)
    (inb : ∀ a, (![o, 0] : Fin 2 → ℕ) a + S256x4096.size a ≤ S1024x4096.size a) (r : Fin 256) (k : Fin 4096) :
    View.ld (Val := Elt Idealize.ShloMosaic.Ideal) (e' := .bf16) X (Rect.unit (s := S1024x4096) ![o, 0] S256x4096.size inb) (ix2 r k)
      = X (ix2 (⟨o + r.val, by omega⟩ : Fin 1024) k) := by
  refine View.ld_unit_apply_of (Val := Elt Idealize.ShloMosaic.Ideal) (e := .bf16) X _ _ inb (ix2 r k) _ ?_
  intro a; fin_cases a
  · rfl
  · exact (Nat.zero_add _).symm
theorem ld_scale (X : FVec Idealize.ShloMosaic.Ideal S1024x128 .f32) (o : ℕ) (ho : o + 256 ≤ 1024)
    (inb : ∀ a, (![o, 0] : Fin 2 → ℕ) a + S256x128.size a ≤ S1024x128.size a) (r : Fin 256) (k : Fin 128) :
    View.ld (Val := Elt Idealize.ShloMosaic.Ideal) (e' := .f32) X (Rect.unit (s := S1024x128) ![o, 0] S256x128.size inb) (ix2 r k)
      = X (ix2 (⟨o + r.val, by omega⟩ : Fin 1024) k) := by
  refine View.ld_unit_apply_of (Val := Elt Idealize.ShloMosaic.Ideal) (e := .f32) X _ _ inb (ix2 r k) _ ?_
  intro a; fin_cases a
  · rfl
  · exact (Nat.zero_add _).symm
theorem off_zero : (![0, 0, 0] : Fin 3 → ℕ) = fun _ => 0 := by decide
theorem off_zero2 : (![0, 0] : Fin 2 → ℕ) = fun _ => 0 := by decide
theorem ld_weight (X : FVec Idealize.ShloMosaic.Ideal S1x4096x1024 .bf16) : View.ld (Val := Elt Idealize.ShloMosaic.Ideal) (e' := .bf16) X r0_1 = X :=
  View.ld_unit_zero (Val := Elt Idealize.ShloMosaic.Ideal) (e := .bf16) (S := S1x4096x1024) off_zero _ X
theorem ld_bias (X : FVec Idealize.ShloMosaic.Ideal S1x1024 .f32) : View.ld (Val := Elt Idealize.ShloMosaic.Ideal) (e' := .f32) X r0_3 = X :=
  View.ld_unit_zero (Val := Elt Idealize.ShloMosaic.Ideal) (e := .f32) (S := S1x1024) off_zero2 _ X

/-- One strip, as its store writes it. -/
theorem strip_store (o : ℕ) (ho : o + 256 ≤ 1024) (inb : ∀ a, (![o, 0] : Fin 2 → ℕ) a + S256x4096.size a ≤ S1024x4096.size a)
    (inb1 : ∀ a, (![o, 0] : Fin 2 → ℕ) a + S256x128.size a ≤ S1024x128.size a)
    (inb' : ∀ a, (![o, 0] : Fin 2 → ℕ) a + S256x1024.size a ≤ S1024x1024.size a)
    (x : (Rect.unit (s := S1024x1024) ![o, 0] S256x1024.size inb').shape.Idx) :
    gate (View.ld (Val := Elt Idealize.ShloMosaic.Ideal) (e' := .bf16) x0 (Rect.unit (s := S1024x4096) ![o, 0] S256x4096.size inb))
        (View.ld (Val := Elt Idealize.ShloMosaic.Ideal) (e' := .bf16) x2 r0_1)
        (View.ld (Val := Elt Idealize.ShloMosaic.Ideal) (e' := .f32) x1 (Rect.unit (s := S1024x128) ![o, 0] S256x128.size inb1))
        (View.ld (Val := Elt Idealize.ShloMosaic.Ideal) (e' := .f32) x3 r0_3) x
      = tile x0 x1 x2 x3 ((Rect.unit (s := S1024x1024) ![o, 0] S256x1024.size inb').emb x) := by
  obtain ⟨r, j, rfl⟩ : ∃ (r : Fin 256) (j : Fin 1024), x = ix2 r j := ⟨x 0, x 1, ValueIdx.eq_ix2 x⟩
  refine (gate_apply x0 x1 x2 x3 o ho _ _ _ _ (ld_rows x0 o ho inb) (ld_weight x2) (ld_scale x1 o ho inb1) (ld_bias x3) r j).trans ?_
  unfold tile
  refine congrArg₂ (entry x0 x1 x2 x3) (Fin.ext ?_) (Fin.ext ?_)
  · exact (Rect.idx_unit_val (s := S1024x1024) ![o, 0] S256x1024.size inb' (ix2 r j) 0).symm
  · exact ((Rect.idx_unit_val (s := S1024x1024) ![o, 0] S256x1024.size inb' (ix2 r j) 1).trans (Nat.zero_add _)).symm

/-- The four stores are the tile. -/
theorem out_eq : out0_4 (F := Idealize.ShloMosaic.Ideal) x0 x1 x2 x3 = tile x0 x1 x2 x3 := by
  funext y
  unfold out0_4
  refine View.canon_apply_of_pieces (Val := Elt Idealize.ShloMosaic.Ideal) (e := .bf16) (tile x0 x1 x2 x3) _ ?_ y (cover0_4 _ _ _ _ y)
  simp only [List.forall_mem_cons]
  refine ⟨?_, ?_, ?_, ?_, fun p hp => absurd hp List.not_mem_nil⟩
  · exact fun x => strip_store x0 x1 x2 x3 768 (by decide) inb_S1024x4096_S256x4096_768_0 inb_S1024x128_S256x128_768_0 inb_S1024x1024_S256x1024_768_0 x
  · exact fun x => strip_store x0 x1 x2 x3 512 (by decide) inb_S1024x4096_S256x4096_512_0 inb_S1024x128_S256x128_512_0 inb_S1024x1024_S256x1024_512_0 x
  · exact fun x => strip_store x0 x1 x2 x3 256 (by decide) inb_S1024x4096_S256x4096_256_0 inb_S1024x128_S256x128_256_0 inb_S1024x1024_S256x1024_256_0 x
  · exact fun x => strip_store x0 x1 x2 x3 0 (by decide) inb_S1024x4096_S256x4096_0_0 inb_S1024x128_S256x128_0_0 inb_S1024x1024_S256x1024_0_0 x
end
end Cert.GatesProof
-- ==== Proof.FiniteGates.lean ====
/-
  What the gates' precondition says: the activations, the row scales, the norm's weights and the projection are real numbers.
-/
module
public import proofs.«01_k».proof.Defs
public import proofs.«01_k».proof.Proof.Gen.Pre_finite_gates
public import proofs.«01_k».proof.Proof.Finite
@[expose] public section
noncomputable section
namespace Cert.GatesProof
open Cert.Pre_finite_gates Idealize.ShloMosaic

/-- The precondition, read. -/
theorem finite_args [hP : Cert.Pre_finite_gates.Facts] (x0 : FVec Idealize.ShloMosaic.Ideal S16384x4096 .bf16)
    (x1 : FVec Idealize.ShloMosaic.Ideal S16384 .f32) (x2 : FVec Idealize.ShloMosaic.Ideal S2x4096 .f32)
    (x3 : FVec Idealize.ShloMosaic.Ideal S2x4096x18432 .f32) (x4 : FVec Idealize.ShloMosaic.Ideal S2x2x4096 .f32)
    (h : Cert.Pre_finite_gates.fn (F := Idealize.ShloMosaic.Ideal) x0 x1 x2 x3 x4 = fun _ => 1#1) :
    (∃ X : S16384x4096.Idx → ℝ, x0 = fun i => ((X i : ℝ) : EReal)) ∧ (∃ X : S16384.Idx → ℝ, x1 = fun i => ((X i : ℝ) : EReal))
      ∧ (∃ X : S2x4096.Idx → ℝ, x2 = fun i => ((X i : ℝ) : EReal)) ∧ ∃ X : S2x4096x18432.Idx → ℝ, x3 = fun i => ((X i : ℝ) : EReal) := by
  haveI : Subsingleton S_.Idx := ⟨fun a b => funext fun i => i.elim0⟩
  have h0 := congrFun h (fun a => a.elim0)
  dsimp only [Cert.Pre_finite_gates.fn, Cert.Pre_finite_gates.fn_part1] at h0
  obtain ⟨habc, hd⟩ := IntOp.andi_eq_one.1 h0
  obtain ⟨hab, hc⟩ := IntOp.andi_eq_one.1 habc
  obtain ⟨ha, hb⟩ := IntOp.andi_eq_one.1 hab
  have ra : ∀ i : S16384x4096.Idx, ∃ r : ℝ, x0 i = (r : EReal) := fun i => Cert.Mix.real_of_abs_lt (x0 i) (Host.reduce_andi_all _ _ _ _ _ ha i)
  have rb : ∀ i : S16384.Idx, ∃ r : ℝ, x1 i = (r : EReal) := fun i => Cert.Mix.real_of_abs_lt (x1 i) (Host.reduce_andi_all _ _ _ _ _ hb i)
  have rc : ∀ i : S2x4096.Idx, ∃ r : ℝ, x2 i = (r : EReal) := fun i => Cert.Mix.real_of_abs_lt (x2 i) (Host.reduce_andi_all _ _ _ _ _ hc i)
  have rd : ∀ i : S2x4096x18432.Idx, ∃ r : ℝ, x3 i = (r : EReal) := fun i => Cert.Mix.real_of_abs_lt (x3 i) (Host.reduce_andi_all _ _ _ _ _ hd i)
  choose A hA using ra
  choose B hB using rb
  choose C hC using rc
  choose D hD using rd
  exact ⟨⟨A, funext hA⟩, ⟨B, funext hB⟩, ⟨C, funext hC⟩, D, funext hD⟩
end Cert.GatesProof
-- ==== Proof.GatesValue.lean ====
/-
  The merge gates as a whole: block by block the launch writes the reference's sigmoid of the projection, the rows scaled after the
  product and not before it.
-/
module
public import proofs.«01_k».proof.Proof.GatesPoint
public import proofs.«01_k».proof.Proof.Gen.GatesReferenceIdeal.Read
public import proofs.«01_k».proof.Proof.FiniteGates
public import proofs.«01_k».proof.Proof.Half
public import Idealize.ShloMosaic.Lib.Affine
public import Idealize.ShloMosaic.Lib.StableHlo.RunRead
public import Idealize.ShloMosaic.PureOps.Ideal.Laws
@[expose] public section
set_option maxRecDepth 16384
noncomputable section
namespace Cert.GatesProof
open Cert.GatesIdeal Cert.GatesIdeal.Gen
open Idealize.ShloMosaic hiding ix0 ix1 ix2 ix3 ix4 ix5
open Idealize.ShloMosaic.TcCoe Idealize.SL.Sem
open Idealize.ShloMosaic.ValueIdx
open scoped BigOperators

/-! ## The reference, entry by entry -/

section
open Cert.GatesReferenceIdeal.Read
variable (x0 : FVec Idealize.ShloMosaic.Ideal Cert.GatesReferenceIdeal.S16384x4096 .bf16) (x1 : FVec Idealize.ShloMosaic.Ideal Cert.GatesReferenceIdeal.S16384 .f32)
  (x2 : FVec Idealize.ShloMosaic.Ideal Cert.GatesReferenceIdeal.S2x4096 .f32) (x3 : FVec Idealize.ShloMosaic.Ideal Cert.GatesReferenceIdeal.S2x4096x18432 .f32)
  (x4 : FVec Idealize.ShloMosaic.Ideal Cert.GatesReferenceIdeal.S2x2x4096 .f32)

/-- The normalised activation. -/
theorem normed (r : Fin 16384) (k : Fin 4096) :
    val_main_v8 (F := Idealize.ShloMosaic.Ideal) x0 x1 x2 (ix2 r k) = x0 (ix2 r k) * x1 (ix1 r) * x2 (ix2 1 k) := by
  have hk := k.isLt
  rw [val_main_v8_apply, Ideal.mulf_def, val_main_v3_apply, Ideal.mulf_def, val_main_v0_apply, Ideal.extf_def, val_main_v2_apply,
    val_main_v1_apply, val_main_v7_apply, val_main_v6_apply, val_main_v5_apply, val_main_v4_apply]
  refine congrArg₂ (· * ·) (congrArg (_ * ·) ?_) ?_
  · exact congrArg _ (funext fun a => match a with | ⟨0, _⟩ => rfl)
  · refine congrArg _ (funext fun a => Fin.ext ?_)
    match a with
    | ⟨0, _⟩ => rfl
    | ⟨1, _⟩ => show k.val % 4096 = k.val; omega
/-- The projection's column. -/
theorem weight (k : Fin 4096) (n : Fin 8192) :
    val_main_v10 (F := Idealize.ShloMosaic.Ideal) x3 (ix2 k n) = x3 (ix3 1 k (⟨10240 + n.val, by omega⟩ : Fin 18432)) := by
  have hk := k.isLt; have hn := n.isLt
  rw [val_main_v10_apply, val_main_v9_apply]
  refine congrArg _ (funext fun a => Fin.ext ?_)
  match a with
  | ⟨0, _⟩ => rfl
  | ⟨1, _⟩ => show (k.val * 8192 + n.val) / 8192 % 4096 = k.val; omega
  | ⟨2, _⟩ => show 10240 + (k.val * 8192 + n.val) % 8192 = 10240 + n.val; omega
/-- The bias. -/
theorem bias (r : Fin 16384) (n : Fin 8192) :
    val_main_v16 (F := Idealize.ShloMosaic.Ideal) x4 (ix2 r n) = x4 (ix3 1 (⟨n.val / 4096, by omega⟩ : Fin 2) (⟨n.val % 4096, by omega⟩ : Fin 4096)) := by
  have hn := n.isLt
  rw [val_main_v16_apply, val_main_v15_apply, val_main_v14_apply, val_main_v13_apply, val_main_v12_apply]
  refine congrArg _ (funext fun a => Fin.ext ?_)
  match a with
  | ⟨0, _⟩ => rfl
  | ⟨1, _⟩ => show (n.val / 4096 * 4096 + n.val % 4096) / 4096 % 2 = n.val / 4096; omega
  | ⟨2, _⟩ => show (n.val / 4096 * 4096 + n.val % 4096) % 4096 = n.val % 4096; omega

/-- The reference's result. -/
theorem ref_entry (r : Fin 16384) (n : Fin 8192) :
    val_main_v24 (F := Idealize.ShloMosaic.Ideal) x0 x1 x2 x3 x4 (ix2 r n)
      = Idealize.ShloMosaic.Ideal.logistic ((∑ k : Fin 4096, x0 (ix2 r k) * x1 (ix1 r) * x2 (ix2 1 k) * x3 (ix3 1 k (⟨10240 + n.val, by omega⟩ : Fin 18432)))
        + x4 (ix3 1 (⟨n.val / 4096, by omega⟩ : Fin 2) (⟨n.val % 4096, by omega⟩ : Fin 4096))) := by
  have hs : val_main_v11 (F := Idealize.ShloMosaic.Ideal) x0 x1 x2 x3 (ix2 r n)
      = ∑ k : Fin 4096, x0 (ix2 r k) * x1 (ix1 r) * x2 (ix2 1 k) * x3 (ix3 1 k (⟨10240 + n.val, by omega⟩ : Fin 18432)) := by
    rw [val_main_v11_apply]
    refine Finset.sum_congr rfl fun k _ => congrArg₂ (· * ·) ?_ ?_
    · rw [← normed x0 x1 x2 r k]
      exact congrArg _ (funext fun a => match a with | ⟨0, _⟩ => rfl | ⟨1, _⟩ => rfl)
    · rw [← weight x3 k n]
      exact congrArg _ (funext fun a => match a with | ⟨0, _⟩ => rfl | ⟨1, _⟩ => rfl)
  have h1 : (FloatOps.ofBits (F := Idealize.ShloMosaic.Ideal) .f32 0x3F800000#32 : EReal) = 1 := by
    show (Idealize.ShloMosaic.Ideal.ofBits .f32 0x3F800000#32 : EReal) = 1
    rw [show (Idealize.ShloMosaic.Ideal.ofBits .f32 0x3F800000#32 : EReal) = ((1 : ℝ) : EReal) from by simp [Idealize.ShloMosaic.Ideal.ofBits, Idealize.ShloMosaic.Ideal.ieee, -EReal.coe_mul]; norm_num, EReal.coe_one]
  rw [val_main_v24_apply, Ideal.truncf_def, val_main_v23_apply, Ideal.hostDivf_def, val_main_v22_apply, val_main_cst_0_apply,
    val_main_v21_apply, Ideal.addf_def, val_main_v20_apply, val_main_cst_apply, val_main_v19_apply, Ideal.hostUnary_exp_def,
    val_main_v18_apply, Ideal.hostNegf_def, Ideal.negf_def, val_main_v17_apply, Ideal.addf_def, hs, bias, h1]
  rfl
end

/-! ## Scaling the rows before or after the product -/

/-- Scaling after the sum is scaling each of its terms, for real numbers. -/
theorem scale_out (h g w : Fin 4096 → ℝ) (s : ℝ) :
    ((∑ k : Fin 4096, (h k : EReal) * ((g k : EReal) * (w k : EReal))) * (s : EReal) : EReal)
      = ∑ k : Fin 4096, (h k : EReal) * (s : EReal) * (g k : EReal) * (w k : EReal) := by
  have e1 : (∑ k : Fin 4096, (h k : EReal) * ((g k : EReal) * (w k : EReal)) : EReal) = ((∑ k : Fin 4096, h k * (g k * w k) : ℝ) : EReal) := by
    rw [← Cert.Mix.coe_sum]
    exact Finset.sum_congr rfl fun k _ => by rw [EReal.coe_mul, EReal.coe_mul]
  have e2 : (∑ k : Fin 4096, (h k : EReal) * (s : EReal) * (g k : EReal) * (w k : EReal) : EReal) = ((∑ k : Fin 4096, h k * s * g k * w k : ℝ) : EReal) := by
    rw [← Cert.Mix.coe_sum]
    exact Finset.sum_congr rfl fun k _ => by rw [EReal.coe_mul, EReal.coe_mul, EReal.coe_mul]
  rw [e1, e2, ← EReal.coe_mul, Finset.sum_mul]
  exact congrArg _ (Finset.sum_congr rfl fun k _ => by ring)

/-! ## The launch -/

theorem idx_in : ∀ t : Fin grid0.N, win0_0.index t = ![t.val / 8, 0] ∧ win0_1.index t = ![t.val / 8, 0]
    ∧ win0_2.index t = ![1, 0, 10 + t.val % 8] ∧ win0_3.index t = ![0, t.val % 8] ∧ win0_4.index t = ![t.val / 8, t.val % 8] := by decide +kernel

variable (m : (ℓ : Loc nD τ sig) → Buf (Elt Idealize.ShloMosaic.Ideal) ℓ) (c : Dev nD)

/-- The weights the launch reads: the projection, each row scaled by the norm's weight. -/
theorem w_word (l : Fin 2) (k : Fin 4096) (n : Fin 18432) : V m c main_v3 (ix3 l k n)
    = @HMul.hMul EReal EReal EReal _ (m ((c : Thread nD τ).loc main_arg2) (ix2 l k)) (m ((c : Thread nD τ).loc main_arg3) (ix3 l k n)) := by
  unfold_abbrev_sides; after_reads_simp
  refine (show _ = FloatOps.mulf (F := Idealize.ShloMosaic.Ideal) (φ := .f32) _ _ from rfl).trans ?_
  rw [Ideal.mulf_def]
  refine congrArg₂ (· * ·) ?_ rfl
  refine (broadcastInDim_apply (![0, 1, 2] : Fin 3 → Fin 3) bcast_S2x4096x1_S2x4096x18432_0_1_2 _ (ix3 l k n) (ix3 l k (0 : Fin 1)) ?_).trans ?_
  · intro a; fin_cases a <;> rfl
  · refine broadcastInDim_apply (![0, 1] : Fin 2 → Fin 3) bcast_S2x4096_S2x4096x1_0_1 _ (ix3 l k (0 : Fin 1)) (ix2 l k) ?_
    intro a; fin_cases a <;> rfl
/-- The row scales the launch reads. -/
theorem r_word (r : Fin 16384) (l : Fin 128) : V m c main_v5 (ix2 r l) = m ((c : Thread nD τ).loc main_arg1) (ix1 r) := by
  unfold_abbrev_sides; after_reads_simp
  refine (broadcastInDim_apply (![0, 1] : Fin 2 → Fin 2) bcast_S16384x1_S16384x128_0_1 _ (ix2 r l) (ix2 r (0 : Fin 1)) ?_).trans ?_
  · intro a; fin_cases a <;> rfl
  · refine broadcastInDim_apply (![0] : Fin 1 → Fin 2) bcast_S16384_S16384x1_0 _ (ix2 r (0 : Fin 1)) (ix1 r) ?_
    intro a; fin_cases a; rfl
/-- The biases the launch reads. -/
theorem b_word (n : Fin 8192) : V m c main_v8 (ix2 0 n)
    = m ((c : Thread nD τ).loc main_arg4) (ix3 1 (⟨n.val / 4096, by omega⟩ : Fin 2) (⟨n.val % 4096, by omega⟩ : Fin 4096)) := by
  unfold_abbrev_sides; after_reads_simp
  have hn := n.isLt
  refine (shapeCast_apply _ shapeCasts_S2x4096_S1x8192 (ix2 0 n) (ix2 (⟨n.val / 4096, by omega⟩ : Fin 2) (⟨n.val % 4096, by omega⟩ : Fin 4096)) ?_).trans ?_
  · rw [Shape.rowMajor_val_two, Shape.rowMajor_val_two]
    show n.val / 4096 * 4096 + n.val % 4096 = 0 * 8192 + n.val
    omega
  refine (shapeCast_apply _ shapeCasts_S1x2x4096_S2x4096 _ (ix3 0 (⟨n.val / 4096, by omega⟩ : Fin 2) (⟨n.val % 4096, by omega⟩ : Fin 4096)) ?_).trans ?_
  · rw [Shape.rowMajor_val_two, Shape.rowMajor_val_three]
    show (0 * 2 + n.val / 4096) * 4096 + n.val % 4096 = n.val / 4096 * 4096 + n.val % 4096
    omega
  refine extractStridedSlice_apply _ _ slices_S2x2x4096_S1x2x4096_1_0_0 _ _ ?_
  intro a; fin_cases a
  · rfl
  · exact (Nat.zero_add _).symm
  · exact (Nat.zero_add _).symm

variable (t : Fin cfg0.N)
theorem lt_N : t.val < 128 := lt_of_lt_of_eq t.isLt N_0
/-- A block's row in the array, … -/
def row (r : Fin 1024) : Fin 16384 := ⟨1024 * (t.val / 8) + r.val, by have := lt_N t; omega⟩
/-- … and its column. -/
def column (j : Fin 1024) : Fin 8192 := ⟨1024 * (t.val % 8) + j.val, by omega⟩

theorem iblk0_apply (r : Fin 1024) (k : Fin 4096) : iblk m c 0 t (ix2 r k) = V m c main_arg0 (ix2 (row t r) k) := by
  have e := (idx_in t).1
  have := lt_N t
  unfold row
  blk_ext [iblk, e]
  all_goals first | exact congrArg (· + _) (Nat.mul_comm _ _) | exact Nat.mul_one _
theorem iblk1_apply (r : Fin 1024) (k : Fin 128) : iblk m c 1 t (ix2 r k) = V m c main_v5 (ix2 (row t r) k) := by
  have e := (idx_in t).2.1
  have := lt_N t
  unfold row
  blk_ext [iblk, e]
  all_goals first | exact congrArg (· + _) (Nat.mul_comm _ _) | exact Nat.mul_one _
theorem iblk2_apply (k : Fin 4096) (j : Fin 1024) :
    iblk m c 2 t (ix3 0 k j) = V m c main_v3 (ix3 1 k (⟨10240 + (column t j).val, by omega⟩ : Fin 18432)) := by
  have e := (idx_in t).2.2.1
  have := lt_N t
  unfold column
  blk_ext [iblk, e]
  all_goals first | exact congrArg (· + _) (Nat.mul_comm _ _) | exact Nat.mul_one _ | exact (show (10 + t.val % 8) * 1024 + j.val = 10240 + (1024 * (t.val % 8) + j.val) by omega)
theorem iblk3_apply (j : Fin 1024) : iblk m c 3 t (ix2 0 j) = V m c main_v8 (ix2 0 (column t j)) := by
  have e := (idx_in t).2.2.2.1
  have := lt_N t
  unfold column
  blk_ext [iblk, e]
  all_goals first | exact congrArg (· + _) (Nat.mul_comm _ _) | exact Nat.mul_one _

variable (H : S16384x4096.Idx → ℝ) (R : S16384.Idx → ℝ) (G : S2x4096.Idx → ℝ) (W : S2x4096x18432.Idx → ℝ)
  (h0 : (m ((c : Thread nD τ).loc main_arg0) : S16384x4096.Idx → EReal) = fun i => ((H i : ℝ) : EReal))
  (h1 : (m ((c : Thread nD τ).loc main_arg1) : S16384.Idx → EReal) = fun i => ((R i : ℝ) : EReal))
  (h2 : (m ((c : Thread nD τ).loc main_arg2) : S2x4096.Idx → EReal) = fun i => ((G i : ℝ) : EReal))
  (h3 : (m ((c : Thread nD τ).loc main_arg3) : S2x4096x18432.Idx → EReal) = fun i => ((W i : ℝ) : EReal))
include h0 h1 h2 h3

/-- One entry of what a point writes back: the reference's. -/
theorem point_entry (r j : Fin 1024) :
    entry (iblk m c 0 t) (iblk m c 1 t) (iblk m c 2 t) (iblk m c 3 t) r j
      = Cert.GatesReferenceIdeal.Read.val_main_v24 (F := Idealize.ShloMosaic.Ideal) (m ((c : Thread nD τ).loc main_arg0)) (m ((c : Thread nD τ).loc main_arg1))
          (m ((c : Thread nD τ).loc main_arg2)) (m ((c : Thread nD τ).loc main_arg3)) (m ((c : Thread nD τ).loc main_arg4)) (ix2 (row t r) (column t j)) := by
  rw [ref_entry, h0, h1, h2, h3]
  unfold entry
  refine congrArg Idealize.ShloMosaic.Ideal.logistic (congrArg₂ (· + ·) ?_ ?_)
  · refine Eq.trans ?_ (scale_out (fun k => H (ix2 (row t r) k)) (fun k => G (ix2 1 k))
      (fun k => W (ix3 1 k (⟨10240 + (column t j).val, by omega⟩ : Fin 18432))) (R (ix1 (row t r))))
    refine congrArg₂ (· * ·) (Finset.sum_congr rfl fun k _ => congrArg₂ (· * ·) ?_ ?_) ?_
    · rw [iblk0_apply, V_main_arg0, h0]
    · rw [iblk2_apply, w_word, h2, h3]
    · rw [iblk1_apply, r_word, h1]
  · rw [iblk3_apply, b_word]

/-- The output array is the reference's result. -/
theorem array_eq : (Gen.dats m 0 c).arrAt 4 cfg0.N
    = Cert.GatesReferenceIdeal.Read.val_main_v24 (F := Idealize.ShloMosaic.Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (Gen.dats m 0 c).arrAt_eq_of_covers 4 _ (by decide +kernel) fun t hf y => ?_
  rw [after0_4, out_eq]
  blk_simp
  have e := (idx_in t).2.2.2.2
  obtain ⟨r, j, rfl⟩ : ∃ (r j : Fin 1024), y = ix2 r j := ⟨y 0, y 1, ValueIdx.eq_ix2 y⟩
  refine (point_entry m c t H R G W h0 h1 h2 h3 r j).trans (congrArg (Cert.GatesReferenceIdeal.Read.val_main_v24 (F := Idealize.ShloMosaic.Ideal) _ _ _ _ _) ?_)
  funext a
  refine Fin.ext ?_
  fin_cases a <;> blk_simp [e]
  · exact congrArg (· + _) (Nat.mul_comm _ _)
  · exact congrArg (· + _) (Nat.mul_comm _ _)
omit h0 h1 h2 h3

/-- The value claim of the gates. -/
theorem algebraic : Cert.algebraic_GatesIdeal_GatesReferenceIdeal_pre_finite_gates (hGatesIdeal := Cert.GatesIdeal.Gen.facts)
    (hGatesReferenceIdeal := Cert.GatesReferenceIdeal.Gen.facts) (hPre_finite_gates := Cert.Pre_finite_gates.Gen.facts) := by
  intro m g m' g' hpre hargs
  refine ⟨fun c => (Gen.dats m 0 c).arrAt 4 cfg0.N, Cert.GatesIdeal.Value.run_blocks m g, ?_⟩
  refine (θ_run _ _ _).mono (fun r h c => ?_) (Cert.GatesReferenceIdeal.Value.run m' g')
  refine ⟨(h c).1.trans ?_, (h c).2⟩
  obtain ⟨⟨H, h0⟩, ⟨R, h1⟩, ⟨G, h2⟩, W, h3⟩ := finite_args (hP := Cert.Pre_finite_gates.Gen.facts) _ _ _ _ _ (hpre c)
  refine Eq.trans ?_ (array_eq m c H R G W h0 h1 h2 h3).symm
  rw [Cert.GatesReferenceIdeal.Read.val_main_v24_eq, (hargs c).1, (hargs c).2.1, (hargs c).2.2.1, (hargs c).2.2.2.1, (hargs c).2.2.2.2]
end Cert.GatesProof
-- ==== Proof.MergePoint.lean ====
/-
  The branch merge, one grid point: four strips of 256 rows, each the two products of its rows with the weight blocks, weighted by
  the two gate tiles and added.
-/
module
public import proofs.«01_k».proof.Defs
public import proofs.«01_k».proof.Proof.Gen.MergeIdeal.Value
public import Idealize.ShloMosaic.Lib.Pipeline.Value
public import Idealize.ShloMosaic.Lib.Pipeline.ValueKit
public import Idealize.ShloMosaic.Lib.Pipeline.ValueKit.Tiles
public import Idealize.ShloMosaic.Lib.MatmulPlain
public import Idealize.ShloMosaic.Lib.ValueIdx
public import Idealize.ShloMosaic.Lib.IdealHost
public import Idealize.ShloMosaic.Lib.Tactic
public import Idealize.ShloMosaic.Lib.Claim
@[expose] public section
set_option maxRecDepth 8192
noncomputable section
namespace Cert.MergeProof
open Cert.MergeIdeal Cert.MergeIdeal.Gen
open Idealize.ShloMosaic hiding ix0 ix1 ix2 ix3 ix4 ix5
open Idealize.ShloMosaic.TcCoe Idealize.SL.Sem
open Idealize.ShloMosaic.ValueIdx
open scoped BigOperators

/-- The accumulator starts at 0. -/
theorem acc_zero : (Idealize.ShloMosaic.Ideal.ofBits .f32 0x00000000#32 : EReal) = 0 := by
  simp [Idealize.ShloMosaic.Ideal.ofBits, Idealize.ShloMosaic.Ideal.ieee]

/-- 256 rows of a branch times a weight block. -/
def strip (A : FVec Idealize.ShloMosaic.Ideal S256x2048 .bf16) (B : FVec Idealize.ShloMosaic.Ideal S1x2048x1024 .bf16) :
    FVec Idealize.ShloMosaic.Ideal S256x1024 .f32 :=
  matmul dot_S256x2048_S2048x1024_S256x1024_1_0_0_1_n_n none A (shapeCast S2048x1024 B shapeCasts_S1x2048x1024_S2048x1024)
    (constant S256x1024 .f32 0x00000000#32)

theorem strip_apply (A : FVec Idealize.ShloMosaic.Ideal S256x2048 .bf16) (B : FVec Idealize.ShloMosaic.Ideal S1x2048x1024 .bf16)
    (r : Fin 256) (j : Fin 1024) : strip A B (ix2 r j) = ∑ k : Fin 2048, A (ix2 r k) * B (ix3 0 k j) := by
  have h := Ideal.matmul_plain_apply (M := 256) (K := 2048) (N := 1024) none A
    (shapeCast S2048x1024 B shapeCasts_S1x2048x1024_S2048x1024) (constant S256x1024 .f32 0x00000000#32) r j
  refine (show strip A B (ix2 r j) = _ from h).trans ?_
  show Idealize.ShloMosaic.Ideal.ofBits .f32 0x00000000#32 + _ = _
  rw [acc_zero, zero_add]
  refine Finset.sum_congr rfl fun k _ => congrArg (A (ix2 r k) * ·) ?_
  exact shapeCast_apply _ _ _ _ (by
    rw [Shape.rowMajor_val_three, Shape.rowMajor_val_two]
    show (0 * 2048 + k.val) * 1024 + j.val = k.val * 1024 + j.val
    omega)

/-- What one strip stores: the gate tiles' rows times the products' rows, added. -/
def gated (A C : FVec Idealize.ShloMosaic.Ideal S256x2048 .bf16) (B D : FVec Idealize.ShloMosaic.Ideal S1x2048x1024 .bf16)
    (p q : FVec Idealize.ShloMosaic.Ideal S256x1024 .bf16) : FVec Idealize.ShloMosaic.Ideal S256x1024 .bf16 :=
  truncf .bf16 (addf (mulf (extf .f32 p bitsLt_bf16_f32) (strip A B)) (mulf (extf .f32 q bitsLt_bf16_f32) (strip C D))) bitsLt_bf16_f32

section
variable (x0 x1 : FVec Idealize.ShloMosaic.Ideal S1024x2048 .bf16) (x2 x3 : FVec Idealize.ShloMosaic.Ideal S1x2048x1024 .bf16)
  (x4 x5 : FVec Idealize.ShloMosaic.Ideal S1024x1024 .bf16)

/-- One entry of a point's output tile. -/
def entry (r j : Fin 1024) : EReal :=
  x4 (ix2 r j) * (∑ k : Fin 2048, x0 (ix2 r k) * x2 (ix3 0 k j)) + x5 (ix2 r j) * (∑ k : Fin 2048, x1 (ix2 r k) * x3 (ix3 0 k j))
/-- The tile. -/
def tile : FVec Idealize.ShloMosaic.Ideal S1024x1024 .bf16 := fun y => entry x0 x1 x2 x3 x4 x5 (y 0) (y 1)

/-- A strip that starts at row `o` stores the tile's rows from `o` on. -/
theorem gated_apply (o : ℕ) (ho : o + 256 ≤ 1024) (A C : FVec Idealize.ShloMosaic.Ideal S256x2048 .bf16)
    (B D : FVec Idealize.ShloMosaic.Ideal S1x2048x1024 .bf16) (p q : FVec Idealize.ShloMosaic.Ideal S256x1024 .bf16)
    (hA : ∀ (r : Fin 256) (k : Fin 2048), A (ix2 r k) = x0 (ix2 (⟨o + r.val, by omega⟩ : Fin 1024) k))
    (hC : ∀ (r : Fin 256) (k : Fin 2048), C (ix2 r k) = x1 (ix2 (⟨o + r.val, by omega⟩ : Fin 1024) k))
    (hB : B = x2) (hD : D = x3)
    (hp : ∀ (r : Fin 256) (j : Fin 1024), p (ix2 r j) = x4 (ix2 (⟨o + r.val, by omega⟩ : Fin 1024) j))
    (hq : ∀ (r : Fin 256) (j : Fin 1024), q (ix2 r j) = x5 (ix2 (⟨o + r.val, by omega⟩ : Fin 1024) j))
    (r : Fin 256) (j : Fin 1024) :
    gated A C B D p q (ix2 r j) = entry x0 x1 x2 x3 x4 x5 (⟨o + r.val, by omega⟩ : Fin 1024) j := by
  show p (ix2 r j) * strip A B (ix2 r j) + q (ix2 r j) * strip C D (ix2 r j) = _
  rw [strip_apply, strip_apply, hp, hq, hB, hD]
  unfold entry
  refine congrArg₂ (· + ·) (congrArg (_ * ·) (Finset.sum_congr rfl fun k _ => ?_)) (congrArg (_ * ·) (Finset.sum_congr rfl fun k _ => ?_))
  · rw [hA]
  · rw [hC]

/-- Rows read at an offset. -/
theorem ld_rows (X : FVec Idealize.ShloMosaic.Ideal S1024x2048 .bf16) (o : ℕ) (ho : o + 256 ≤ 1024)
    (inb : ∀ a, (![o, 0] : Fin 2 → ℕ) a + S256x2048.size a ≤ S1024x2048.size a) (r : Fin 256) (k : Fin 2048) :
    View.ld (Val := Elt Idealize.ShloMosaic.Ideal) (e' := .bf16) X (Rect.unit (s := S1024x2048) ![o, 0] S256x2048.size inb) (ix2 r k)
      = X (ix2 (⟨o + r.val, by omega⟩ : Fin 1024) k) := by
  refine View.ld_unit_apply_of (Val := Elt Idealize.ShloMosaic.Ideal) (e := .bf16) X _ _ inb (ix2 r k) _ ?_
  intro a; fin_cases a
  · rfl
  · exact (Nat.zero_add _).symm
theorem ld_gate (X : FVec Idealize.ShloMosaic.Ideal S1024x1024 .bf16) (o : ℕ) (ho : o + 256 ≤ 1024)
    (inb : ∀ a, (![o, 0] : Fin 2 → ℕ) a + S256x1024.size a ≤ S1024x1024.size a) (r : Fin 256) (k : Fin 1024) :
    View.ld (Val := Elt Idealize.ShloMosaic.Ideal) (e' := .bf16) X (Rect.unit (s := S1024x1024) ![o, 0] S256x1024.size inb) (ix2 r k)
      = X (ix2 (⟨o + r.val, by omega⟩ : Fin 1024) k) := by
  refine View.ld_unit_apply_of (Val := Elt Idealize.ShloMosaic.Ideal) (e := .bf16) X _ _ inb (ix2 r k) _ ?_
  intro a; fin_cases a
  · rfl
  · exact (Nat.zero_add _).symm
theorem off_zero : (![0, 0, 0] : Fin 3 → ℕ) = fun _ => 0 := by decide
theorem ld_weight (X : FVec Idealize.ShloMosaic.Ideal S1x2048x1024 .bf16) :
    View.ld (Val := Elt Idealize.ShloMosaic.Ideal) (e' := .bf16) X r0_1 = X :=
  View.ld_unit_zero (Val := Elt Idealize.ShloMosaic.Ideal) (e := .bf16) (S := S1x2048x1024) off_zero _ X

/-- One strip, as its store writes it. -/
theorem strip_store (o : ℕ) (ho : o + 256 ≤ 1024) (inb : ∀ a, (![o, 0] : Fin 2 → ℕ) a + S256x2048.size a ≤ S1024x2048.size a)
    (inb' : ∀ a, (![o, 0] : Fin 2 → ℕ) a + S256x1024.size a ≤ S1024x1024.size a)
    (x : (Rect.unit (s := S1024x1024) ![o, 0] S256x1024.size inb').shape.Idx) :
    gated (View.ld (Val := Elt Idealize.ShloMosaic.Ideal) (e' := .bf16) x0 (Rect.unit (s := S1024x2048) ![o, 0] S256x2048.size inb))
        (View.ld (Val := Elt Idealize.ShloMosaic.Ideal) (e' := .bf16) x1 (Rect.unit (s := S1024x2048) ![o, 0] S256x2048.size inb))
        (View.ld (Val := Elt Idealize.ShloMosaic.Ideal) (e' := .bf16) x2 r0_1) (View.ld (Val := Elt Idealize.ShloMosaic.Ideal) (e' := .bf16) x3 r0_1)
        (View.ld (Val := Elt Idealize.ShloMosaic.Ideal) (e' := .bf16) x4 (Rect.unit (s := S1024x1024) ![o, 0] S256x1024.size inb'))
        (View.ld (Val := Elt Idealize.ShloMosaic.Ideal) (e' := .bf16) x5 (Rect.unit (s := S1024x1024) ![o, 0] S256x1024.size inb')) x
      = tile x0 x1 x2 x3 x4 x5 ((Rect.unit (s := S1024x1024) ![o, 0] S256x1024.size inb').emb x) := by
  obtain ⟨r, j, rfl⟩ : ∃ (r : Fin 256) (j : Fin 1024), x = ix2 r j := ⟨x 0, x 1, ValueIdx.eq_ix2 x⟩
  refine (gated_apply x0 x1 x2 x3 x4 x5 o ho _ _ _ _ _ _ (ld_rows x0 o ho inb) (ld_rows x1 o ho inb) (ld_weight x2) (ld_weight x3)
    (ld_gate x4 o ho inb') (ld_gate x5 o ho inb') r j).trans ?_
  unfold tile
  refine congrArg₂ (entry x0 x1 x2 x3 x4 x5) (Fin.ext ?_) (Fin.ext ?_)
  · exact (Rect.idx_unit_val (s := S1024x1024) ![o, 0] S256x1024.size inb' (ix2 r j) 0).symm
  · exact ((Rect.idx_unit_val (s := S1024x1024) ![o, 0] S256x1024.size inb' (ix2 r j) 1).trans (Nat.zero_add _)).symm

/-- The four stores are the tile. -/
theorem out_eq : out0_6 (F := Idealize.ShloMosaic.Ideal) x0 x1 x2 x3 x4 x5 = tile x0 x1 x2 x3 x4 x5 := by
  funext y
  unfold out0_6
  refine View.canon_apply_of_pieces (Val := Elt Idealize.ShloMosaic.Ideal) (e := .bf16) (tile x0 x1 x2 x3 x4 x5) _ ?_ y (cover0_6 _ _ _ _ y)
  simp only [List.forall_mem_cons]
  refine ⟨?_, ?_, ?_, ?_, fun p hp => absurd hp List.not_mem_nil⟩
  · exact fun x => strip_store x0 x1 x2 x3 x4 x5 768 (by decide) inb_S1024x2048_S256x2048_768_0 inb_S1024x1024_S256x1024_768_0 x
  · exact fun x => strip_store x0 x1 x2 x3 x4 x5 512 (by decide) inb_S1024x2048_S256x2048_512_0 inb_S1024x1024_S256x1024_512_0 x
  · exact fun x => strip_store x0 x1 x2 x3 x4 x5 256 (by decide) inb_S1024x2048_S256x2048_256_0 inb_S1024x1024_S256x1024_256_0 x
  · exact fun x => strip_store x0 x1 x2 x3 x4 x5 0 (by decide) inb_S1024x2048_S256x2048_0_0 inb_S1024x1024_S256x1024_0_0 x
end
end Cert.MergeProof
-- ==== Proof.MergeValue.lean ====
/-
  The branch merge as a whole: block by block the launch writes the reference's weighted sum of the two branches' projections.
-/
module
public import proofs.«01_k».proof.Proof.MergePoint
public import proofs.«01_k».proof.Proof.Gen.MergeReferenceIdeal.Read
public import Idealize.ShloMosaic.Lib.Affine
public import Idealize.ShloMosaic.Lib.StableHlo.RunRead
public import Idealize.ShloMosaic.PureOps.Ideal.Laws
@[expose] public section
set_option maxRecDepth 16384
noncomputable section
namespace Cert.MergeProof
open Cert.MergeIdeal Cert.MergeIdeal.Gen
open Idealize.ShloMosaic hiding ix0 ix1 ix2 ix3 ix4 ix5
open Idealize.ShloMosaic.TcCoe Idealize.SL.Sem
open Idealize.ShloMosaic.ValueIdx
open scoped BigOperators

/-! ## The reference, entry by entry -/

section
open Cert.MergeReferenceIdeal.Read
variable (x0 x1 : FVec Idealize.ShloMosaic.Ideal Cert.MergeReferenceIdeal.S16384x2048 .bf16)
  (x2 x3 : FVec Idealize.ShloMosaic.Ideal Cert.MergeReferenceIdeal.S2x2048x4096 .f32)
  (x4 : FVec Idealize.ShloMosaic.Ideal Cert.MergeReferenceIdeal.S16384x8192 .bf16)

theorem proj_a (r : Fin 16384) (n : Fin 4096) :
    val_main_v3 (F := Idealize.ShloMosaic.Ideal) x0 x2 (ix2 r n) = ∑ k : Fin 2048, x0 (ix2 r k) * x2 (ix3 1 k n) := by
  rw [val_main_v3_apply]
  refine Finset.sum_congr rfl fun k _ => congrArg₂ (· * ·) ?_ ?_
  · rw [val_main_v0_apply, Ideal.extf_def]
    exact congrArg _ (funext fun a => match a with | ⟨0, _⟩ => rfl | ⟨1, _⟩ => rfl)
  · rw [val_main_v2_apply, val_main_v1_apply]
    have hk := k.isLt; have hn := n.isLt
    refine congrArg _ (funext fun a => Fin.ext ?_)
    match a with
    | ⟨0, _⟩ => rfl
    | ⟨1, _⟩ => show (k.val * 4096 + n.val) / 4096 % 2048 = k.val; omega
    | ⟨2, _⟩ => show (k.val * 4096 + n.val) % 4096 = n.val; omega
theorem proj_b (r : Fin 16384) (n : Fin 4096) :
    val_main_v7 (F := Idealize.ShloMosaic.Ideal) x1 x3 (ix2 r n) = ∑ k : Fin 2048, x1 (ix2 r k) * x3 (ix3 1 k n) := by
  rw [val_main_v7_apply]
  refine Finset.sum_congr rfl fun k _ => congrArg₂ (· * ·) ?_ ?_
  · rw [val_main_v4_apply, Ideal.extf_def]
    exact congrArg _ (funext fun a => match a with | ⟨0, _⟩ => rfl | ⟨1, _⟩ => rfl)
  · rw [val_main_v6_apply, val_main_v5_apply]
    have hk := k.isLt; have hn := n.isLt
    refine congrArg _ (funext fun a => Fin.ext ?_)
    match a with
    | ⟨0, _⟩ => rfl
    | ⟨1, _⟩ => show (k.val * 4096 + n.val) / 4096 % 2048 = k.val; omega
    | ⟨2, _⟩ => show (k.val * 4096 + n.val) % 4096 = n.val; omega

/-- The reference's result. -/
theorem ref_entry (r : Fin 16384) (n : Fin 4096) :
    val_main_v15 (F := Idealize.ShloMosaic.Ideal) x0 x1 x2 x3 x4 (ix2 r n)
      = x4 (ix2 r (⟨n.val, by omega⟩ : Fin 8192)) * (∑ k : Fin 2048, x0 (ix2 r k) * x2 (ix3 1 k n))
        + x4 (ix2 r (⟨4096 + n.val, by omega⟩ : Fin 8192)) * (∑ k : Fin 2048, x1 (ix2 r k) * x3 (ix3 1 k n)) := by
  rw [val_main_v15_apply, Ideal.truncf_def, val_main_v14_apply, Ideal.addf_def, val_main_v10_apply, Ideal.mulf_def, val_main_v13_apply,
    Ideal.mulf_def, proj_a, proj_b, val_main_v9_apply, Ideal.extf_def, val_main_v12_apply, Ideal.extf_def, val_main_v8_apply, val_main_v11_apply]
  refine congrArg₂ (· + ·) (congrArg (· * _) ?_) (congrArg (· * _) ?_)
  · exact congrArg _ (funext fun a => match a with | ⟨0, _⟩ => rfl | ⟨1, _⟩ => rfl)
  · exact congrArg _ (funext fun a => match a with | ⟨0, _⟩ => rfl | ⟨1, _⟩ => rfl)
end

/-! ## The launch -/

theorem idx_rows : ∀ t : Fin grid0.N, win0_0.index t = ![t.val / 4, 0] ∧ win0_1.index t = ![t.val / 4, 0] := by decide +kernel
theorem idx_w : ∀ t : Fin grid0.N, win0_2.index t = ![1, 0, t.val % 4] ∧ win0_3.index t = ![1, 0, t.val % 4] := by decide +kernel
theorem idx_sg : ∀ t : Fin grid0.N, win0_4.index t = ![t.val / 4, t.val % 4] ∧ win0_5.index t = ![t.val / 4, 4 + t.val % 4]
    ∧ win0_6.index t = ![t.val / 4, t.val % 4] := by decide +kernel

variable (m : (ℓ : Loc nD τ sig) → Buf (Elt Idealize.ShloMosaic.Ideal) ℓ) (c : Dev nD)

/-- The weights the launch reads are the arguments. -/
theorem wa_eq : V m c main_v0 = m ((c : Thread nD τ).loc main_arg2) := by
  unfold_abbrev_sides; after_reads_simp
  rfl
theorem wb_eq : V m c main_v1 = m ((c : Thread nD τ).loc main_arg3) := by
  unfold_abbrev_sides; after_reads_simp
  rfl

variable (t : Fin cfg0.N)
theorem lt_N : t.val < 64 := lt_of_lt_of_eq t.isLt N_0
/-- A block's row in the array, … -/
def row (r : Fin 1024) : Fin 16384 := ⟨1024 * (t.val / 4) + r.val, by have := lt_N t; omega⟩
/-- … and its column. -/
def column (j : Fin 1024) : Fin 4096 := ⟨1024 * (t.val % 4) + j.val, by omega⟩

theorem iblk0_apply (r : Fin 1024) (k : Fin 2048) : iblk m c 0 t (ix2 r k) = V m c main_arg0 (ix2 (row t r) k) := by
  have e := (idx_rows t).1
  have := lt_N t
  unfold row
  blk_ext [iblk, e]
  all_goals first | exact congrArg (· + _) (Nat.mul_comm _ _) | exact Nat.mul_one _
theorem iblk1_apply (r : Fin 1024) (k : Fin 2048) : iblk m c 1 t (ix2 r k) = V m c main_arg1 (ix2 (row t r) k) := by
  have e := (idx_rows t).2
  have := lt_N t
  unfold row
  blk_ext [iblk, e]
  all_goals first | exact congrArg (· + _) (Nat.mul_comm _ _) | exact Nat.mul_one _
theorem iblk2_apply (k : Fin 2048) (j : Fin 1024) : iblk m c 2 t (ix3 0 k j) = V m c main_v0 (ix3 1 k (column t j)) := by
  have e := (idx_w t).1
  have := lt_N t
  unfold column
  blk_ext [iblk, e]
  all_goals first | exact congrArg (· + _) (Nat.mul_comm _ _) | exact Nat.mul_one _
theorem iblk3_apply (k : Fin 2048) (j : Fin 1024) : iblk m c 3 t (ix3 0 k j) = V m c main_v1 (ix3 1 k (column t j)) := by
  have e := (idx_w t).2
  have := lt_N t
  unfold column
  blk_ext [iblk, e]
  all_goals first | exact congrArg (· + _) (Nat.mul_comm _ _) | exact Nat.mul_one _
theorem iblk4_apply (r : Fin 1024) (j : Fin 1024) :
    iblk m c 4 t (ix2 r j) = V m c main_arg4 (ix2 (row t r) (⟨(column t j).val, by omega⟩ : Fin 8192)) := by
  have e := (idx_sg t).1
  have := lt_N t
  unfold row column
  blk_ext [iblk, e]
  all_goals first | exact congrArg (· + _) (Nat.mul_comm _ _) | exact Nat.mul_one _
theorem iblk5_apply (r : Fin 1024) (j : Fin 1024) :
    iblk m c 5 t (ix2 r j) = V m c main_arg4 (ix2 (row t r) (⟨4096 + (column t j).val, by omega⟩ : Fin 8192)) := by
  have e := (idx_sg t).2.1
  have := lt_N t
  unfold row column
  blk_ext [iblk, e]
  all_goals first | exact congrArg (· + _) (Nat.mul_comm _ _) | exact Nat.mul_one _ | exact (show (4 + t.val % 4) * 1024 + j.val = 4096 + (1024 * (t.val % 4) + j.val) by omega)

/-- One entry of what a point writes back: the reference's. -/
theorem point_entry (r j : Fin 1024) :
    entry (iblk m c 0 t) (iblk m c 1 t) (iblk m c 2 t) (iblk m c 3 t) (iblk m c 4 t) (iblk m c 5 t) r j
      = Cert.MergeReferenceIdeal.Read.val_main_v15 (F := Idealize.ShloMosaic.Ideal) (m ((c : Thread nD τ).loc main_arg0)) (m ((c : Thread nD τ).loc main_arg1))
          (m ((c : Thread nD τ).loc main_arg2)) (m ((c : Thread nD τ).loc main_arg3)) (m ((c : Thread nD τ).loc main_arg4)) (ix2 (row t r) (column t j)) := by
  rw [ref_entry]
  unfold entry
  refine congrArg₂ (· + ·) (congrArg₂ (· * ·) ?_ (Finset.sum_congr rfl fun k _ => congrArg₂ (· * ·) ?_ ?_))
    (congrArg₂ (· * ·) ?_ (Finset.sum_congr rfl fun k _ => congrArg₂ (· * ·) ?_ ?_))
  · rw [iblk4_apply, V_main_arg4]
  · rw [iblk0_apply, V_main_arg0]
  · rw [iblk2_apply, wa_eq]
  · rw [iblk5_apply, V_main_arg4]
  · rw [iblk1_apply, V_main_arg1]
  · rw [iblk3_apply, wb_eq]

/-- The output array is the reference's result. -/
theorem array_eq : (Gen.dats m 0 c).arrAt 6 cfg0.N
    = Cert.MergeReferenceIdeal.Read.val_main_v15 (F := Idealize.ShloMosaic.Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  refine (Gen.dats m 0 c).arrAt_eq_of_covers 6 _ (by decide +kernel) fun t hf y => ?_
  rw [after0_6, out_eq]
  blk_simp
  have e := (idx_sg t).2.2
  obtain ⟨r, j, rfl⟩ : ∃ (r j : Fin 1024), y = ix2 r j := ⟨y 0, y 1, ValueIdx.eq_ix2 y⟩
  refine (point_entry m c t r j).trans (congrArg (Cert.MergeReferenceIdeal.Read.val_main_v15 (F := Idealize.ShloMosaic.Ideal) _ _ _ _ _) ?_)
  funext a
  refine Fin.ext ?_
  fin_cases a <;> blk_simp [e]
  · exact congrArg (· + _) (Nat.mul_comm _ _)
  · exact congrArg (· + _) (Nat.mul_comm _ _)

/-- The value claim of the branch merge. -/
theorem algebraic : Cert.algebraic_MergeIdeal_MergeReferenceIdeal (hMergeIdeal := Cert.MergeIdeal.Gen.facts)
    (hMergeReferenceIdeal := Cert.MergeReferenceIdeal.Gen.facts) := by
  intro m g m' g' _ hargs
  refine ⟨fun c => (Gen.dats m 0 c).arrAt 6 cfg0.N, Cert.MergeIdeal.Value.run_blocks m g, ?_⟩
  refine (θ_run _ _ _).mono (fun r h c => ?_) (Cert.MergeReferenceIdeal.Value.run m' g')
  refine ⟨(h c).1.trans ?_, (h c).2⟩
  refine Eq.trans ?_ (array_eq m c).symm
  rw [Cert.MergeReferenceIdeal.Read.val_main_v15_eq, (hargs c).1, (hargs c).2.1, (hargs c).2.2.1, (hargs c).2.2.2.1, (hargs c).2.2.2.2]
end Cert.MergeProof
-- ==== Proof.FinalPoint.lean ====
/-
  The last projection and the final norm, one grid point: the residual rows plus the projected rows, eight strips of 512 columns; their
  squares summed lane by lane; each strip read back and scaled by the inverse root of the mean square and by the norm's weights.
-/
module
public import proofs.«01_k».proof.Defs
public import proofs.«01_k».proof.Proof.Gen.FinalIdeal.Value
public import Idealize.ShloMosaic.Lib.Pipeline.Value
public import Idealize.ShloMosaic.Lib.Pipeline.ReadBack
public import Idealize.ShloMosaic.Lib.Pipeline.ValueKit
public import Idealize.ShloMosaic.Lib.Pipeline.ValueKit.Tiles
public import Idealize.ShloMosaic.Lib.MatmulPlain
public import Idealize.ShloMosaic.Lib.ValueIdx
public import Idealize.ShloMosaic.Lib.ValueLayout
public import Idealize.ShloMosaic.Lib.IdealHost
public import Idealize.ShloMosaic.Lib.Tactic
public import Idealize.ShloMosaic.Lib.Claim
public import Idealize.ShloMosaic.Lib.Pointwise.Sums
public import Idealize.ShloMosaic.PureOps.Ideal.Laws
@[expose] public section
set_option maxRecDepth 8192
noncomputable section
namespace Cert.FinalProof
open Cert.FinalIdeal Cert.FinalIdeal.Gen
open Idealize.ShloMosaic hiding ix0 ix1 ix2 ix3 ix4 ix5
open Idealize.ShloMosaic.TcCoe Idealize.SL.Sem
open Idealize.ShloMosaic.ValueIdx
open scoped BigOperators

/-- The accumulator starts at 0. -/
theorem acc_zero : (Idealize.ShloMosaic.Ideal.ofBits .f32 0x00000000#32 : EReal) = 0 := by simp [Idealize.ShloMosaic.Ideal.ofBits, Idealize.ShloMosaic.Ideal.ieee]

/-! ## One strip of columns -/

/-- The residual plus the projection, 512 columns of it. -/
def part (A : FVec Idealize.ShloMosaic.Ideal S256x4096 .bf16) (x : FVec Idealize.ShloMosaic.Ideal S256x512 .f32) (B : FVec Idealize.ShloMosaic.Ideal S1x4096x512 .bf16) : FVec Idealize.ShloMosaic.Ideal S256x512 .f32 :=
  addf x (matmul dot_S256x4096_S4096x512_S256x512_1_0_0_1_n_n none A (shapeCast S4096x512 B shapeCasts_S1x4096x512_S4096x512)
    (constant S256x512 .f32 0x00000000#32))

theorem part_apply (A : FVec Idealize.ShloMosaic.Ideal S256x4096 .bf16) (x : FVec Idealize.ShloMosaic.Ideal S256x512 .f32) (B : FVec Idealize.ShloMosaic.Ideal S1x4096x512 .bf16) (r : Fin 256) (j : Fin 512) :
    part A x B (ix2 r j) = x (ix2 r j) + ∑ k : Fin 4096, A (ix2 r k) * B (ix3 0 k j) := by
  have h := Ideal.matmul_plain_apply (M := 256) (K := 4096) (N := 512) none A
    (shapeCast S4096x512 B shapeCasts_S1x4096x512_S4096x512) (constant S256x512 .f32 0x00000000#32) r j
  refine congrArg (x (ix2 r j) + ·) (Eq.trans h ?_)
  show Idealize.ShloMosaic.Ideal.ofBits .f32 0x00000000#32 + _ = _
  rw [acc_zero, zero_add]
  refine Finset.sum_congr rfl fun k _ => congrArg (A (ix2 r k) * ·) ?_
  exact shapeCast_apply _ _ _ _ (by
    rw [Shape.rowMajor_val_three, Shape.rowMajor_val_two]
    show (0 * 4096 + k.val) * 512 + j.val = k.val * 512 + j.val
    omega)

/-- Four groups of 128 columns added up. -/
def quads (s : FVec Idealize.ShloMosaic.Ideal S256x512 .f32) : FVec Idealize.ShloMosaic.Ideal S256x128 .f32 :=
  addf (addf (addf (addf (broadcast S256x128 (Scalar.ofBits (F := Idealize.ShloMosaic.Ideal) .f32 0x00000000#32))
    (extractStridedSlice S256x128 ![0, 0] s slices_S256x512_o0_0_S256x128)) (extractStridedSlice S256x128 ![0, 128] s slices_S256x512_o0_128_S256x128))
    (extractStridedSlice S256x128 ![0, 256] s slices_S256x512_o0_256_S256x128)) (extractStridedSlice S256x128 ![0, 384] s slices_S256x512_o0_384_S256x128)

theorem group_apply (s : FVec Idealize.ShloMosaic.Ideal S256x512 .f32) (o : ℕ) (ho : o + 128 ≤ 512) (h) (r : Fin 256) (l : Fin 128) :
    extractStridedSlice S256x128 ![0, o] s h (ix2 r l) = s (ix2 r (⟨o + l.val, by omega⟩ : Fin 512)) := by
  refine extractStridedSlice_apply _ s h _ _ ?_
  intro a; fin_cases a
  · exact (Nat.zero_add _).symm
  · rfl

theorem quads_apply (s : FVec Idealize.ShloMosaic.Ideal S256x512 .f32) (r : Fin 256) (l : Fin 128) :
    quads s (ix2 r l) = ∑ q : Fin 4, s (ix2 r (⟨q.val * 128 + l.val, by omega⟩ : Fin 512)) := by
  show ((((Idealize.ShloMosaic.Ideal.ofBits .f32 0x00000000#32 : EReal) + extractStridedSlice S256x128 ![0, 0] s slices_S256x512_o0_0_S256x128 (ix2 r l))
    + extractStridedSlice S256x128 ![0, 128] s slices_S256x512_o0_128_S256x128 (ix2 r l))
    + extractStridedSlice S256x128 ![0, 256] s slices_S256x512_o0_256_S256x128 (ix2 r l))
    + extractStridedSlice S256x128 ![0, 384] s slices_S256x512_o0_384_S256x128 (ix2 r l) = _
  rw [acc_zero, zero_add, group_apply s 0 (by decide), group_apply s 128 (by decide), group_apply s 256 (by decide), group_apply s 384 (by decide),
    Fin.sum_univ_four]
  rfl

/-! ## The row scale -/

/-- The squares of all eight strips, added up lane by lane. -/
def lanes (P0 P1 P2 P3 P4 P5 P6 P7 : FVec Idealize.ShloMosaic.Ideal S256x512 .f32) : FVec Idealize.ShloMosaic.Ideal S256x128 .f32 :=
  addf (addf (addf (addf (addf (addf (addf (addf (broadcast S256x128 (Scalar.ofBits (F := Idealize.ShloMosaic.Ideal) .f32 0x00000000#32)) (quads (mulf P0 P0)))
    (quads (mulf P1 P1))) (quads (mulf P2 P2))) (quads (mulf P3 P3))) (quads (mulf P4 P4))) (quads (mulf P5 P5))) (quads (mulf P6 P6))) (quads (mulf P7 P7))
/-- The inverse root of the rows' mean square. -/
def scale (P0 P1 P2 P3 P4 P5 P6 P7 : FVec Idealize.ShloMosaic.Ideal S256x512 .f32) : FVec Idealize.ShloMosaic.Ideal S256x1 .f32 :=
  rsqrt (addf (divf (shapeCast S256x1 (multiReduction .add [1] S256 (lanes P0 P1 P2 P3 P4 P5 P6 P7) 0x00000000#32 reduces_S256x128_S256 (.inl rfl) rfl) shapeCasts_S256_S256x1)
    (broadcast S256x1 (Scalar.ofBits (F := Idealize.ShloMosaic.Ideal) .f32 0x45800000#32))) (broadcast S256x1 (Scalar.ofBits (F := Idealize.ShloMosaic.Ideal) .f32 0x358637BD#32)))

/-- A strip, scaled by rows and by columns. -/
def scaled (s : FVec Idealize.ShloMosaic.Ideal S256x1 .f32) (y : FVec Idealize.ShloMosaic.Ideal S256x512 .f32) (g : FVec Idealize.ShloMosaic.Ideal S1x512 .f32) : FVec Idealize.ShloMosaic.Ideal S256x512 .f32 :=
  mulf (mulf (shapeCast S256x512 y shapeCasts_S256x512_S256x512) (broadcastTo S256x512 s broadcasts_S256x1_S256x512))
    (broadcastTo S256x512 (shapeCast S1x512 g shapeCasts_S1x512_S1x512) broadcasts_S1x512_S256x512)

theorem scaled_apply (s : FVec Idealize.ShloMosaic.Ideal S256x1 .f32) (y : FVec Idealize.ShloMosaic.Ideal S256x512 .f32) (g : FVec Idealize.ShloMosaic.Ideal S1x512 .f32) (r : Fin 256) (j : Fin 512) :
    scaled s y g (ix2 r j) = y (ix2 r j) * s (ix2 r 0) * g (ix2 0 j) := by
  show shapeCast S256x512 y shapeCasts_S256x512_S256x512 (ix2 r j) * broadcastTo S256x512 s broadcasts_S256x1_S256x512 (ix2 r j)
    * broadcastTo S256x512 (shapeCast S1x512 g shapeCasts_S1x512_S1x512) broadcasts_S1x512_S256x512 (ix2 r j) = _
  rw [shapeCast_self, shapeCast_self]
  refine congrArg₂ (· * ·) (congrArg (_ * ·) ?_) (broadcastTo_1b_ab_apply g broadcasts_S1x512_S256x512 r j)
  refine broadcastTo_apply s broadcasts_S256x1_S256x512 (ix2 r j) (ix2 r 0) ?_
  intro a; fin_cases a <;> rfl

section
variable (Y : Fin 256 → Fin 4096 → EReal) (P0 P1 P2 P3 P4 P5 P6 P7 : FVec Idealize.ShloMosaic.Ideal S256x512 .f32)
  (h0 : ∀ (r : Fin 256) (j : Fin 512) (n : Fin 4096), n.val = 0 + j.val → P0 (ix2 r j) = Y r n)
  (h1 : ∀ (r : Fin 256) (j : Fin 512) (n : Fin 4096), n.val = 512 + j.val → P1 (ix2 r j) = Y r n)
  (h2 : ∀ (r : Fin 256) (j : Fin 512) (n : Fin 4096), n.val = 1024 + j.val → P2 (ix2 r j) = Y r n)
  (h3 : ∀ (r : Fin 256) (j : Fin 512) (n : Fin 4096), n.val = 1536 + j.val → P3 (ix2 r j) = Y r n)
  (h4 : ∀ (r : Fin 256) (j : Fin 512) (n : Fin 4096), n.val = 2048 + j.val → P4 (ix2 r j) = Y r n)
  (h5 : ∀ (r : Fin 256) (j : Fin 512) (n : Fin 4096), n.val = 2560 + j.val → P5 (ix2 r j) = Y r n)
  (h6 : ∀ (r : Fin 256) (j : Fin 512) (n : Fin 4096), n.val = 3072 + j.val → P6 (ix2 r j) = Y r n)
  (h7 : ∀ (r : Fin 256) (j : Fin 512) (n : Fin 4096), n.val = 3584 + j.val → P7 (ix2 r j) = Y r n)

/-- 4096 columns, lane by lane. -/
theorem sum_lanes (f : Fin 4096 → EReal) :
    ∑ l : Fin 128, ∑ t : Fin 8, ∑ q : Fin 4, f (⟨t.val * 512 + (q.val * 128 + l.val), by omega⟩ : Fin 4096) = ∑ n : Fin 4096, f n := by
  rw [Fin.sum_univ_tiles 8 512 (by decide) f, Finset.sum_comm]
  refine Finset.sum_congr rfl fun t _ => ?_
  rw [Fin.sum_univ_tiles 4 128 (by decide) (fun u : Fin 512 => f (⟨t.val * 512 + u.val, by omega⟩ : Fin 4096)), Finset.sum_comm]

include h0 h1 h2 h3 h4 h5 h6 h7
theorem lanes_apply (r : Fin 256) (l : Fin 128) : lanes P0 P1 P2 P3 P4 P5 P6 P7 (ix2 r l)
    = ∑ t : Fin 8, ∑ q : Fin 4, Y r (⟨t.val * 512 + (q.val * 128 + l.val), by omega⟩ : Fin 4096) * Y r (⟨t.val * 512 + (q.val * 128 + l.val), by omega⟩ : Fin 4096) := by
  show (((((((((Idealize.ShloMosaic.Ideal.ofBits .f32 0x00000000#32 : EReal) + quads (mulf P0 P0) (ix2 r l)) + quads (mulf P1 P1) (ix2 r l)) + quads (mulf P2 P2) (ix2 r l))
    + quads (mulf P3 P3) (ix2 r l)) + quads (mulf P4 P4) (ix2 r l)) + quads (mulf P5 P5) (ix2 r l)) + quads (mulf P6 P6) (ix2 r l)) + quads (mulf P7 P7) (ix2 r l)) = _
  rw [acc_zero, zero_add, Fin.sum_univ_eight]
  simp only [quads_apply]
  refine congrArg₂ (· + ·) (congrArg₂ (· + ·) (congrArg₂ (· + ·) (congrArg₂ (· + ·) (congrArg₂ (· + ·) (congrArg₂ (· + ·) (congrArg₂ (· + ·) ?_ ?_) ?_) ?_) ?_) ?_) ?_) ?_
  · exact Finset.sum_congr rfl fun q _ => congrArg₂ (· * ·) (h0 r _ _ rfl) (h0 r _ _ rfl)
  · exact Finset.sum_congr rfl fun q _ => congrArg₂ (· * ·) (h1 r _ _ rfl) (h1 r _ _ rfl)
  · exact Finset.sum_congr rfl fun q _ => congrArg₂ (· * ·) (h2 r _ _ rfl) (h2 r _ _ rfl)
  · exact Finset.sum_congr rfl fun q _ => congrArg₂ (· * ·) (h3 r _ _ rfl) (h3 r _ _ rfl)
  · exact Finset.sum_congr rfl fun q _ => congrArg₂ (· * ·) (h4 r _ _ rfl) (h4 r _ _ rfl)
  · exact Finset.sum_congr rfl fun q _ => congrArg₂ (· * ·) (h5 r _ _ rfl) (h5 r _ _ rfl)
  · exact Finset.sum_congr rfl fun q _ => congrArg₂ (· * ·) (h6 r _ _ rfl) (h6 r _ _ rfl)
  · exact Finset.sum_congr rfl fun q _ => congrArg₂ (· * ·) (h7 r _ _ rfl) (h7 r _ _ rfl)

/-- The row scale's entry. -/
theorem scale_apply (r : Fin 256) : scale P0 P1 P2 P3 P4 P5 P6 P7 (ix2 r 0)
    = Idealize.ShloMosaic.Ideal.rsqrt (Idealize.ShloMosaic.Ideal.div (∑ n : Fin 4096, Y r n * Y r n) (Idealize.ShloMosaic.Ideal.ofBits .f32 0x45800000#32) + Idealize.ShloMosaic.Ideal.ofBits .f32 0x358637BD#32) := by
  show Idealize.ShloMosaic.Ideal.rsqrt (Idealize.ShloMosaic.Ideal.div (shapeCast S256x1 (multiReduction .add [1] S256 (lanes P0 P1 P2 P3 P4 P5 P6 P7) 0x00000000#32 reduces_S256x128_S256 (.inl rfl) rfl) shapeCasts_S256_S256x1 (ix2 r 0))
    (Idealize.ShloMosaic.Ideal.ofBits .f32 0x45800000#32) + Idealize.ShloMosaic.Ideal.ofBits .f32 0x358637BD#32) = _
  refine congrArg (fun z => Idealize.ShloMosaic.Ideal.rsqrt (Idealize.ShloMosaic.Ideal.div z (Idealize.ShloMosaic.Ideal.ofBits .f32 0x45800000#32) + Idealize.ShloMosaic.Ideal.ofBits .f32 0x358637BD#32)) ?_
  refine (shapeCast_apply _ shapeCasts_S256_S256x1 (ix2 r 0) (ix1 r) ?_).trans ?_
  · rw [Shape.rowMajor_val_two, Shape.rowMajor_val_one]
    show r.val = r.val * 1 + 0
    omega
  refine (Ideal.multiReduction_add_single (lanes P0 P1 P2 P3 P4 P5 P6 P7) 0x00000000#32 reduces_S256x128_S256 (.inl rfl) rfl (ix1 r)).trans ?_
  rw [← sum_lanes (fun n => Y r n * Y r n)]
  refine Finset.sum_congr rfl fun l _ => ?_
  refine Eq.trans (congrArg (lanes P0 P1 P2 P3 P4 P5 P6 P7) ?_) (lanes_apply Y P0 P1 P2 P3 P4 P5 P6 P7 h0 h1 h2 h3 h4 h5 h6 h7 r l)
  funext a
  refine Fin.ext ?_
  rw [Shape.Reduces.lift_val]
  fin_cases a <;> rfl
end
end Cert.FinalProof
-- ==== Proof.FinalTile.lean ====
/-
  The last projection and the final norm, one grid point's stores: eight strips, written, read back and written again scaled, leave the
  rows' projection with its residual, divided by the root of the mean square and weighted by the norm.
-/
module
public import proofs.«01_k».proof.Defs
public import proofs.«01_k».proof.Proof.Gen.FinalIdeal.Value
public import proofs.«01_k».proof.Proof.FinalPoint
public import Idealize.ShloMosaic.Lib.Pipeline.Value
public import Idealize.ShloMosaic.Lib.Pipeline.ReadBack
public import Idealize.ShloMosaic.Lib.Pipeline.ValueKit
public import Idealize.ShloMosaic.Lib.Pipeline.ValueKit.Tiles
public import Idealize.ShloMosaic.Lib.MatmulPlain
public import Idealize.ShloMosaic.Lib.ValueIdx
public import Idealize.ShloMosaic.Lib.ValueLayout
public import Idealize.ShloMosaic.Lib.IdealHost
public import Idealize.ShloMosaic.Lib.Tactic
public import Idealize.ShloMosaic.Lib.Claim
public import Idealize.ShloMosaic.Lib.Pointwise.Sums
public import Idealize.ShloMosaic.PureOps.Ideal.Laws
@[expose] public section
set_option maxRecDepth 8192
noncomputable section
namespace Cert.FinalProof
open Cert.FinalIdeal Cert.FinalIdeal.Gen
open Idealize.ShloMosaic hiding ix0 ix1 ix2 ix3 ix4 ix5
open Idealize.ShloMosaic.TcCoe Idealize.SL.Sem
open Idealize.ShloMosaic.ValueIdx
open scoped BigOperators

section
variable (x0 : FVec Idealize.ShloMosaic.Ideal S256x4096 .bf16) (x1 : FVec Idealize.ShloMosaic.Ideal S1x4096x4096 .bf16) (x2 : FVec Idealize.ShloMosaic.Ideal S256x4096 .f32) (x3 : FVec Idealize.ShloMosaic.Ideal S1x4096 .f32)

/-- The residual plus the projection. -/
def proj (r : Fin 256) (n : Fin 4096) : EReal := x2 (ix2 r n) + ∑ k : Fin 4096, x0 (ix2 r k) * x1 (ix3 0 k n)
/-- One entry of a point's output: the final norm of that. -/
def entry (r : Fin 256) (n : Fin 4096) : EReal :=
  proj x0 x1 x2 r n * Idealize.ShloMosaic.Ideal.rsqrt (Idealize.ShloMosaic.Ideal.div (∑ n : Fin 4096, proj x0 x1 x2 r n * proj x0 x1 x2 r n) (Idealize.ShloMosaic.Ideal.ofBits .f32 0x45800000#32)
    + Idealize.ShloMosaic.Ideal.ofBits .f32 0x358637BD#32) * x3 (ix2 0 n)
/-- The tile. -/
def tile : FVec Idealize.ShloMosaic.Ideal S256x4096 .f32 := fun y => entry x0 x1 x2 x3 (y 0) (y 1)

/-! ## Loads -/

theorem off_zero2 : (![0, 0] : Fin 2 → ℕ) = fun _ => 0 := by decide
theorem ld_rows (inb) : View.ld (Val := Elt Idealize.ShloMosaic.Ideal) (e' := .bf16) x0 (Rect.unit (s := S256x4096) ![0, 0] ![256, 4096] inb) = x0 :=
  View.ld_unit_zero (Val := Elt Idealize.ShloMosaic.Ideal) (e := .bf16) (S := S256x4096) off_zero2 inb x0
theorem ld_res (o : ℕ) (ho : o + 512 ≤ 4096) (inb) (r : Fin 256) (j : Fin 512) :
    View.ld (Val := Elt Idealize.ShloMosaic.Ideal) (e' := .f32) x2 (Rect.unit (s := S256x4096) ![0, o] ![256, 512] inb) (ix2 r j) = x2 (ix2 r (⟨o + j.val, by omega⟩ : Fin 4096)) := by
  refine View.ld_unit_apply_of (Val := Elt Idealize.ShloMosaic.Ideal) (e := .f32) x2 _ _ inb (ix2 r j) _ ?_
  intro a; fin_cases a
  · exact (Nat.zero_add _).symm
  · rfl
theorem ld_w (o : ℕ) (ho : o + 512 ≤ 4096) (inb) (k : Fin 4096) (j : Fin 512) :
    View.ld (Val := Elt Idealize.ShloMosaic.Ideal) (e' := .bf16) x1 (Rect.unit (s := S1x4096x4096) ![0, 0, o] ![1, 4096, 512] inb) (ix3 0 k j)
      = x1 (ix3 0 k (⟨o + j.val, by omega⟩ : Fin 4096)) := by
  refine View.ld_unit_apply_of (Val := Elt Idealize.ShloMosaic.Ideal) (e := .bf16) x1 _ _ inb (ix3 0 k j) _ ?_
  intro a; fin_cases a
  · rfl
  · exact (Nat.zero_add _).symm
  · rfl
theorem ld_g (o : ℕ) (ho : o + 512 ≤ 4096) (inb) (j : Fin 512) :
    View.ld (Val := Elt Idealize.ShloMosaic.Ideal) (e' := .f32) x3 (Rect.unit (s := S1x4096) ![0, o] ![1, 512] inb) (ix2 0 j) = x3 (ix2 0 (⟨o + j.val, by omega⟩ : Fin 4096)) := by
  refine View.ld_unit_apply_of (Val := Elt Idealize.ShloMosaic.Ideal) (e := .f32) x3 _ _ inb (ix2 0 j) _ ?_
  intro a; fin_cases a
  · rfl
  · rfl

/-- The strip at column `o`. -/
def strip (o : ℕ) (inb : ∀ a, (![0, o] : Fin 2 → ℕ) a + (![256, 512] : Fin 2 → ℕ) a ≤ S256x4096.size a)
    (inb' : ∀ a, (![0, 0, o] : Fin 3 → ℕ) a + (![1, 4096, 512] : Fin 3 → ℕ) a ≤ S1x4096x4096.size a) : FVec Idealize.ShloMosaic.Ideal S256x512 .f32 :=
  part x0 (View.ld (Val := Elt Idealize.ShloMosaic.Ideal) (e' := .f32) x2 (Rect.unit (s := S256x4096) ![0, o] ![256, 512] inb))
    (View.ld (Val := Elt Idealize.ShloMosaic.Ideal) (e' := .bf16) x1 (Rect.unit (s := S1x4096x4096) ![0, 0, o] ![1, 4096, 512] inb'))
theorem strip_apply (o : ℕ) (ho : o + 512 ≤ 4096) (inb inb') (r : Fin 256) (j : Fin 512) (n : Fin 4096) (hn : n.val = o + j.val) :
    strip x0 x1 x2 o inb inb' (ix2 r j) = proj x0 x1 x2 r n := by
  rw [show n = (⟨o + j.val, by omega⟩ : Fin 4096) from Fin.ext hn]
  unfold strip proj
  rw [part_apply, ld_res x2 o ho]
  exact congrArg (_ + ·) (Finset.sum_congr rfl fun k _ => congrArg (_ * ·) (ld_w x1 o ho inb' k j))

/-- All eight strips' row scale. -/
def rows : FVec Idealize.ShloMosaic.Ideal S256x1 .f32 :=
  scale (strip x0 x1 x2 0 inb_S256x4096_S256x512_0_0 inb_S1x4096x4096_S1x4096x512_0_0_0) (strip x0 x1 x2 512 inb_S256x4096_S256x512_0_512 inb_S1x4096x4096_S1x4096x512_0_0_512) (strip x0 x1 x2 1024 inb_S256x4096_S256x512_0_1024 inb_S1x4096x4096_S1x4096x512_0_0_1024) (strip x0 x1 x2 1536 inb_S256x4096_S256x512_0_1536 inb_S1x4096x4096_S1x4096x512_0_0_1536) (strip x0 x1 x2 2048 inb_S256x4096_S256x512_0_2048 inb_S1x4096x4096_S1x4096x512_0_0_2048) (strip x0 x1 x2 2560 inb_S256x4096_S256x512_0_2560 inb_S1x4096x4096_S1x4096x512_0_0_2560) (strip x0 x1 x2 3072 inb_S256x4096_S256x512_0_3072 inb_S1x4096x4096_S1x4096x512_0_0_3072) (strip x0 x1 x2 3584 inb_S256x4096_S256x512_0_3584 inb_S1x4096x4096_S1x4096x512_0_0_3584)
theorem rows_apply (r : Fin 256) : rows x0 x1 x2 (ix2 r 0)
    = Idealize.ShloMosaic.Ideal.rsqrt (Idealize.ShloMosaic.Ideal.div (∑ n : Fin 4096, proj x0 x1 x2 r n * proj x0 x1 x2 r n) (Idealize.ShloMosaic.Ideal.ofBits .f32 0x45800000#32) + Idealize.ShloMosaic.Ideal.ofBits .f32 0x358637BD#32) :=
  scale_apply (proj x0 x1 x2) _ _ _ _ _ _ _ _ (strip_apply x0 x1 x2 0 (by decide) _ _) (strip_apply x0 x1 x2 512 (by decide) _ _) (strip_apply x0 x1 x2 1024 (by decide) _ _) (strip_apply x0 x1 x2 1536 (by decide) _ _) (strip_apply x0 x1 x2 2048 (by decide) _ _) (strip_apply x0 x1 x2 2560 (by decide) _ _) (strip_apply x0 x1 x2 3072 (by decide) _ _) (strip_apply x0 x1 x2 3584 (by decide) _ _) r

/-- A strip's last store holds the tile's columns. -/
theorem store_eq (o : ℕ) (ho : o + 512 ≤ 4096) (inb inb' inbg) (z : (Rect.unit (s := S256x4096) ![0, o] ![256, 512] inb).shape.Idx) :
    scaled (rows x0 x1 x2) (strip x0 x1 x2 o inb inb') (View.ld (Val := Elt Idealize.ShloMosaic.Ideal) (e' := .f32) x3 (Rect.unit (s := S1x4096) ![0, o] ![1, 512] inbg)) z
      = tile x0 x1 x2 x3 ((Rect.unit (s := S256x4096) ![0, o] ![256, 512] inb).emb z) := by
  obtain ⟨r, j, rfl⟩ : ∃ (r : Fin 256) (j : Fin 512), z = ix2 r j := ⟨z 0, z 1, ValueIdx.eq_ix2 z⟩
  refine (scaled_apply _ _ _ r j).trans ?_
  rw [strip_apply x0 x1 x2 o ho inb inb' r j ⟨o + j.val, by omega⟩ rfl, rows_apply, ld_g x3 o ho]
  unfold tile
  refine (show _ = entry x0 x1 x2 x3 r (⟨o + j.val, by omega⟩ : Fin 4096) from rfl).trans ?_
  refine congrArg₂ (entry x0 x1 x2 x3) (Fin.ext ?_) (Fin.ext ?_)
  · exact ((Rect.idx_unit_val (s := S256x4096) ![0, o] ![256, 512] inb (ix2 r j) 0).trans (Nat.zero_add _)).symm
  · exact (Rect.idx_unit_val (s := S256x4096) ![0, o] ![256, 512] inb (ix2 r j) 1).symm
end

/-! ## The stores -/

theorem mem_cols (o : ℕ) (i) (y : S256x4096.Idx) (h1 : o ≤ (y 1).val) (h2 : (y 1).val < o + 512) :
    y ∈ (Rect.unit (s := S256x4096) ![0, o] ![256, 512] i).set := by
  have hy0 : (y 0).val < 256 := (y 0).isLt
  refine (Rect.mem_set_unit (inb := i)).2 fun a => ?_
  fin_cases a
  · refine ⟨Nat.zero_le _, ?_⟩
    show (y 0).val < 0 + 256
    omega
  · exact ⟨h1, h2⟩

/-- Eight strips that agree with one tile are that tile, whatever was written before. -/
theorem canon_cols (G : FVec Idealize.ShloMosaic.Ideal S256x4096 .f32) (p0 p1 p2 p3 p4 p5 p6 p7 : FVec Idealize.ShloMosaic.Ideal S256x512 .f32) (i0 i1 i2 i3 i4 i5 i6 i7)
    (L' : List (View.Piece (Elt Idealize.ShloMosaic.Ideal) S256x4096 .f32))
    (h0 : ∀ z, p0 z = G ((Rect.unit (s := S256x4096) ![0, 0] ![256, 512] i0).emb z))
    (h1 : ∀ z, p1 z = G ((Rect.unit (s := S256x4096) ![0, 512] ![256, 512] i1).emb z))
    (h2 : ∀ z, p2 z = G ((Rect.unit (s := S256x4096) ![0, 1024] ![256, 512] i2).emb z))
    (h3 : ∀ z, p3 z = G ((Rect.unit (s := S256x4096) ![0, 1536] ![256, 512] i3).emb z))
    (h4 : ∀ z, p4 z = G ((Rect.unit (s := S256x4096) ![0, 2048] ![256, 512] i4).emb z))
    (h5 : ∀ z, p5 z = G ((Rect.unit (s := S256x4096) ![0, 2560] ![256, 512] i5).emb z))
    (h6 : ∀ z, p6 z = G ((Rect.unit (s := S256x4096) ![0, 3072] ![256, 512] i6).emb z))
    (h7 : ∀ z, p7 z = G ((Rect.unit (s := S256x4096) ![0, 3584] ![256, 512] i7).emb z)) :
    View.canon (([⟨Rect.unit (s := S256x4096) ![0, 3584] ![256, 512] i7, p7⟩, ⟨Rect.unit (s := S256x4096) ![0, 3072] ![256, 512] i6, p6⟩, ⟨Rect.unit (s := S256x4096) ![0, 2560] ![256, 512] i5, p5⟩, ⟨Rect.unit (s := S256x4096) ![0, 2048] ![256, 512] i4, p4⟩, ⟨Rect.unit (s := S256x4096) ![0, 1536] ![256, 512] i3, p3⟩, ⟨Rect.unit (s := S256x4096) ![0, 1024] ![256, 512] i2, p2⟩, ⟨Rect.unit (s := S256x4096) ![0, 512] ![256, 512] i1, p1⟩, ⟨Rect.unit (s := S256x4096) ![0, 0] ![256, 512] i0, p0⟩] : List (View.Piece (Elt Idealize.ShloMosaic.Ideal) S256x4096 .f32)) ++ L') = G := by
  funext y
  have hp : View.PiecesOf (Val := Elt Idealize.ShloMosaic.Ideal) (e := .f32) G [⟨Rect.unit (s := S256x4096) ![0, 3584] ![256, 512] i7, p7⟩, ⟨Rect.unit (s := S256x4096) ![0, 3072] ![256, 512] i6, p6⟩, ⟨Rect.unit (s := S256x4096) ![0, 2560] ![256, 512] i5, p5⟩, ⟨Rect.unit (s := S256x4096) ![0, 2048] ![256, 512] i4, p4⟩, ⟨Rect.unit (s := S256x4096) ![0, 1536] ![256, 512] i3, p3⟩, ⟨Rect.unit (s := S256x4096) ![0, 1024] ![256, 512] i2, p2⟩, ⟨Rect.unit (s := S256x4096) ![0, 512] ![256, 512] i1, p1⟩, ⟨Rect.unit (s := S256x4096) ![0, 0] ![256, 512] i0, p0⟩] := ⟨h7, h6, h5, h4, h3, h2, h1, h0, trivial⟩
  refine View.canon_append_of_piecesOf (Val := Elt Idealize.ShloMosaic.Ideal) (e := .f32) G L' _ hp y ?_
  have hy1 : (y 1).val < 4096 := (y 1).isLt
  by_cases a7 : 3584 ≤ (y 1).val
  · exact ⟨_, List.mem_cons_self, mem_cols 3584 i7 y a7 (by omega)⟩
  by_cases a6 : 3072 ≤ (y 1).val
  · exact ⟨_, (List.mem_cons_of_mem _ List.mem_cons_self), mem_cols 3072 i6 y a6 (by omega)⟩
  by_cases a5 : 2560 ≤ (y 1).val
  · exact ⟨_, (List.mem_cons_of_mem _ (List.mem_cons_of_mem _ List.mem_cons_self)), mem_cols 2560 i5 y a5 (by omega)⟩
  by_cases a4 : 2048 ≤ (y 1).val
  · exact ⟨_, (List.mem_cons_of_mem _ (List.mem_cons_of_mem _ (List.mem_cons_of_mem _ List.mem_cons_self))), mem_cols 2048 i4 y a4 (by omega)⟩
  by_cases a3 : 1536 ≤ (y 1).val
  · exact ⟨_, (List.mem_cons_of_mem _ (List.mem_cons_of_mem _ (List.mem_cons_of_mem _ (List.mem_cons_of_mem _ List.mem_cons_self)))), mem_cols 1536 i3 y a3 (by omega)⟩
  by_cases a2 : 1024 ≤ (y 1).val
  · exact ⟨_, (List.mem_cons_of_mem _ (List.mem_cons_of_mem _ (List.mem_cons_of_mem _ (List.mem_cons_of_mem _ (List.mem_cons_of_mem _ List.mem_cons_self))))), mem_cols 1024 i2 y a2 (by omega)⟩
  by_cases a1 : 512 ≤ (y 1).val
  · exact ⟨_, (List.mem_cons_of_mem _ (List.mem_cons_of_mem _ (List.mem_cons_of_mem _ (List.mem_cons_of_mem _ (List.mem_cons_of_mem _ (List.mem_cons_of_mem _ List.mem_cons_self)))))), mem_cols 512 i1 y a1 (by omega)⟩
  exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), mem_cols 0 i0 y (Nat.zero_le _) (by omega)⟩

set_option maxHeartbeats 400000 in
/-- What a point writes back. -/
theorem out_eq (c : Dev nD) (i : grid0.Coords) (arg1 : Memref sig .tc .vmem S256x4096 .bf16) (harg1 : arg1.IsWhole) (arg2 : Memref sig .tc .vmem S1x4096x4096 .bf16) (harg2 : arg2.IsWhole) (arg3 : Memref sig .tc .vmem S256x4096 .f32) (harg3 : arg3.IsWhole) (arg4 : Memref sig .tc .vmem S1x4096 .f32) (harg4 : arg4.IsWhole) (arg5 : Memref sig .tc .vmem S256x4096 .f32) (harg5 : arg5.IsWhole)
    (x0 : Vec Idealize.ShloMosaic.Ideal S256x4096 .bf16) (x1 : Vec Idealize.ShloMosaic.Ideal S1x4096x4096 .bf16) (x2 : Vec Idealize.ShloMosaic.Ideal S256x4096 .f32) (x3 : Vec Idealize.ShloMosaic.Ideal S1x4096 .f32) :
    out0_A_4 (F := Idealize.ShloMosaic.Ideal) c i arg1 harg1 arg2 harg2 arg3 harg3 arg4 harg4 arg5 harg5 x0 x1 x2 x3 = tile x0 x1 x2 x3 := by
  unfold out0_A_4
  rw [View.read_writes_eq_canon _ _ _ (cover0_A_4 c i arg1 harg1 arg2 harg2 arg3 harg3 arg4 harg4 arg5 harg5 x0 x1 x2 x3)]
  unfold kernelRun0_A
  dsimp only
  sl_unfold_words
  simp only [View.readAt_eq_ld, harg1.read_unread, harg2.read_unread, harg3.read_unread, harg4.read_unread]
  simp (config := {decide := true}) only [↓View.readCov_skip, ↓View.readCov_cons_toLoadRect, ld_rows]
  exact canon_cols (tile x0 x1 x2 x3) _ _ _ _ _ _ _ _ _ _ _ _ _ _ _ _ _
    (fun z => store_eq x0 x1 x2 x3 0 (by decide) inb_S256x4096_S256x512_0_0 inb_S1x4096x4096_S1x4096x512_0_0_0 inb_S1x4096_S1x512_0_0 z)
    (fun z => store_eq x0 x1 x2 x3 512 (by decide) inb_S256x4096_S256x512_0_512 inb_S1x4096x4096_S1x4096x512_0_0_512 inb_S1x4096_S1x512_0_512 z)
    (fun z => store_eq x0 x1 x2 x3 1024 (by decide) inb_S256x4096_S256x512_0_1024 inb_S1x4096x4096_S1x4096x512_0_0_1024 inb_S1x4096_S1x512_0_1024 z)
    (fun z => store_eq x0 x1 x2 x3 1536 (by decide) inb_S256x4096_S256x512_0_1536 inb_S1x4096x4096_S1x4096x512_0_0_1536 inb_S1x4096_S1x512_0_1536 z)
    (fun z => store_eq x0 x1 x2 x3 2048 (by decide) inb_S256x4096_S256x512_0_2048 inb_S1x4096x4096_S1x4096x512_0_0_2048 inb_S1x4096_S1x512_0_2048 z)
    (fun z => store_eq x0 x1 x2 x3 2560 (by decide) inb_S256x4096_S256x512_0_2560 inb_S1x4096x4096_S1x4096x512_0_0_2560 inb_S1x4096_S1x512_0_2560 z)
    (fun z => store_eq x0 x1 x2 x3 3072 (by decide) inb_S256x4096_S256x512_0_3072 inb_S1x4096x4096_S1x4096x512_0_0_3072 inb_S1x4096_S1x512_0_3072 z)
    (fun z => store_eq x0 x1 x2 x3 3584 (by decide) inb_S256x4096_S256x512_0_3584 inb_S1x4096x4096_S1x4096x512_0_0_3584 inb_S1x4096_S1x512_0_3584 z)
end Cert.FinalProof
-- ==== Proof.FinalValue.lean ====
/-
  The last projection and the final norm as a whole: row block by row block the launch writes the reference's normalised residual stream.
-/
module
public import proofs.«01_k».proof.Proof.FinalTile
public import proofs.«01_k».proof.Proof.Gen.FinalReferenceIdeal.Read
public import Idealize.ShloMosaic.Lib.Affine
public import Idealize.ShloMosaic.Lib.StableHlo.RunRead
public import Idealize.ShloMosaic.PureOps.Ideal.Laws
@[expose] public section
set_option maxRecDepth 16384
noncomputable section
namespace Cert.FinalProof
open Cert.FinalIdeal Cert.FinalIdeal.Gen
open Idealize.ShloMosaic hiding ix0 ix1 ix2 ix3 ix4 ix5
open Idealize.ShloMosaic.TcCoe Idealize.SL.Sem
open Idealize.ShloMosaic.ValueIdx
open scoped BigOperators

/-! ## The reference, entry by entry -/

section
open Cert.FinalReferenceIdeal.Read
variable (x0 : FVec Idealize.ShloMosaic.Ideal Cert.FinalReferenceIdeal.S16384x4096 .bf16) (x1 : FVec Idealize.ShloMosaic.Ideal Cert.FinalReferenceIdeal.S2x4096x4096 .f32)
  (x2 : FVec Idealize.ShloMosaic.Ideal Cert.FinalReferenceIdeal.S16384x4096 .f32) (x3 : FVec Idealize.ShloMosaic.Ideal Cert.FinalReferenceIdeal.S4096 .f32)

/-- The residual stream after the layer. -/
def stream (r : Fin 16384) (n : Fin 4096) : EReal := x2 (ix2 r n) + ∑ k : Fin 4096, x0 (ix2 r k) * x1 (ix3 1 k n)

theorem stream_eq (r : Fin 16384) (n : Fin 4096) : val_main_v4 (F := Idealize.ShloMosaic.Ideal) x0 x1 x2 (ix2 r n) = stream x0 x1 x2 r n := by
  rw [val_main_v4_apply, Ideal.addf_def, val_main_v3_apply]
  unfold stream
  refine congrArg (_ + ·) (Finset.sum_congr rfl fun k _ => congrArg₂ (· * ·) ?_ ?_)
  · rw [val_main_v0_apply, Ideal.extf_def]
    exact congrArg _ (funext fun a => match a with | ⟨0, _⟩ => rfl | ⟨1, _⟩ => rfl)
  · rw [val_main_v2_apply, val_main_v1_apply]
    have hk := k.isLt; have hn := n.isLt
    refine congrArg _ (funext fun a => Fin.ext ?_)
    match a with
    | ⟨0, _⟩ => rfl
    | ⟨1, _⟩ => show (k.val * 4096 + n.val) / 4096 % 4096 = k.val; omega
    | ⟨2, _⟩ => show (k.val * 4096 + n.val) % 4096 = n.val; omega

/-- The sum of a row's squares. -/
theorem squares_eq (r : Fin 16384) : val_main_v6 (F := Idealize.ShloMosaic.Ideal) x0 x1 x2 (ix1 r) = ∑ n : Fin 4096, stream x0 x1 x2 r n * stream x0 x1 x2 r n := by
  rw [val_main_v6_apply, val_main_cst_apply]
  refine (congrArg (· + _) acc_zero).trans ((zero_add _).trans (Finset.sum_congr rfl fun n _ => ?_))
  rw [val_main_v5_apply, Ideal.mulf_def, ← stream_eq]
  have e : idx_main_v6 (ix1 r) n = ix2 r n := funext fun a => match a with | ⟨0, _⟩ => rfl | ⟨1, _⟩ => rfl
  rw [e]

/-- The reference's result. -/
theorem ref_entry (r : Fin 16384) (n : Fin 4096) :
    val_main_v17 (F := Idealize.ShloMosaic.Ideal) x0 x1 x2 x3 (ix2 r n)
      = stream x0 x1 x2 r n * Idealize.ShloMosaic.Ideal.rsqrt (Idealize.ShloMosaic.Ideal.div (∑ n : Fin 4096, stream x0 x1 x2 r n * stream x0 x1 x2 r n) (Idealize.ShloMosaic.Ideal.ofBits .f32 0x45800000#32)
          + Idealize.ShloMosaic.Ideal.ofBits .f32 0x358637BD#32) * x3 (ix1 n) := by
  rw [val_main_v17_apply, Ideal.mulf_def, val_main_v14_apply, Ideal.mulf_def, stream_eq, val_main_v13_apply, val_main_v12_apply,
    Ideal.hostUnary_rsqrt_def, val_main_v11_apply, Ideal.addf_def, val_main_v9_apply, Ideal.hostDivf_def, val_main_v7_apply, val_main_v8_apply,
    val_main_cst_0_apply, val_main_v10_apply, val_main_cst_1_apply, val_main_v16_apply, val_main_v15_apply]
  refine congrArg₂ (· * ·) (congrArg (_ * ·) (congrArg (fun z => Idealize.ShloMosaic.Ideal.rsqrt (Idealize.ShloMosaic.Ideal.div z (Idealize.ShloMosaic.Ideal.ofBits .f32 0x45800000#32)
    + Idealize.ShloMosaic.Ideal.ofBits .f32 0x358637BD#32)) ?_)) ?_
  · rw [← squares_eq]
    exact congrArg _ (funext fun a => match a with | ⟨0, _⟩ => rfl)
  · exact congrArg _ (funext fun a => match a with | ⟨0, _⟩ => rfl)
end

/-! ## The launch -/

theorem idx_rows : ∀ t : Fin grid0.N, win0_0.index t = ![t.val, 0] ∧ win0_2.index t = ![t.val, 0] ∧ win0_4.index t = ![t.val, 0] := by decide +kernel
theorem idx_w : ∀ t : Fin grid0.N, win0_1.index t = ![1, 0, 0] := by decide +kernel
theorem idx_g : ∀ t : Fin grid0.N, win0_3.index t = ![0, 0] := by decide +kernel

variable (m : (ℓ : Loc nD τ sig) → Buf (Elt Idealize.ShloMosaic.Ideal) ℓ) (c : Dev nD)

/-- The projection the launch reads is the argument. -/
theorem w_eq : V m c main_v0 = m ((c : Thread nD τ).loc main_arg1) := by
  unfold_abbrev_sides; after_reads_simp
  rfl
/-- The norm's weights are one row. -/
theorem g_eq (n : Fin 4096) : V m c main_v1 (ix2 0 n) = m ((c : Thread nD τ).loc main_arg3) (ix1 n) := by
  unfold_abbrev_sides; after_reads_simp
  refine shapeCast_apply _ _ (ix2 0 n) (ix1 n) ?_
  rw [Shape.rowMajor_val_two, Shape.rowMajor_val_one]
  show n.val = 0 * 4096 + n.val
  omega

variable (t : Fin cfg0.N)
theorem lt_N : t.val < 64 := lt_of_lt_of_eq t.isLt N_0
/-- A block's row in the array. -/
def row (r : Fin 256) : Fin 16384 := ⟨256 * t.val + r.val, by have := lt_N t; omega⟩

theorem iblk0_apply (r : Fin 256) (k : Fin 4096) : iblk m c 0 t (ix2 r k) = V m c main_arg0 (ix2 (row t r) k) := by
  have e := (idx_rows t).1
  have := lt_N t
  unfold row
  blk_ext [iblk, e]
  all_goals first | exact congrArg (· + _) (Nat.mul_comm _ _) | exact Nat.mul_one _
theorem iblk1_apply (k n : Fin 4096) : iblk m c 1 t (ix3 0 k n) = V m c main_v0 (ix3 1 k n) := by
  have e := idx_w t
  have := lt_N t
  blk_ext [iblk, e]
theorem iblk2_apply (r : Fin 256) (n : Fin 4096) : iblk m c 2 t (ix2 r n) = V m c main_arg2 (ix2 (row t r) n) := by
  have e := (idx_rows t).2.1
  have := lt_N t
  unfold row
  blk_ext [iblk, e]
  all_goals first | exact congrArg (· + _) (Nat.mul_comm _ _) | exact Nat.mul_one _
theorem iblk3_apply (n : Fin 4096) : iblk m c 3 t (ix2 0 n) = V m c main_v1 (ix2 0 n) := by
  have e := idx_g t
  have := lt_N t
  blk_ext [iblk, e]

theorem proj_eq (r : Fin 256) (n : Fin 4096) : proj (iblk m c 0 t) (iblk m c 1 t) (iblk m c 2 t) r n
    = stream (m ((c : Thread nD τ).loc main_arg0)) (m ((c : Thread nD τ).loc main_arg1)) (m ((c : Thread nD τ).loc main_arg2)) (row t r) n := by
  unfold proj stream
  refine congrArg₂ (· + ·) ?_ (Finset.sum_congr rfl fun k _ => congrArg₂ (· * ·) ?_ ?_)
  · rw [iblk2_apply, V_main_arg2]
  · rw [iblk0_apply, V_main_arg0]
  · rw [iblk1_apply, w_eq]

/-- One entry of what a point writes back: the reference's. -/
theorem point_entry (r : Fin 256) (n : Fin 4096) :
    entry (iblk m c 0 t) (iblk m c 1 t) (iblk m c 2 t) (iblk m c 3 t) r n = Cert.FinalReferenceIdeal.Read.val_main_v17 (F := Idealize.ShloMosaic.Ideal) (m ((c : Thread nD τ).loc main_arg0)) (m ((c : Thread nD τ).loc main_arg1)) (m ((c : Thread nD τ).loc main_arg2)) (m ((c : Thread nD τ).loc main_arg3)) (ix2 (row t r) n) := by
  rw [ref_entry]
  unfold entry
  simp only [proj_eq]
  rw [iblk3_apply, g_eq]

/-- The output array is the reference's result. -/
theorem array_eq : (Gen.dats m 0 c).arrAt 4 cfg0.N = Cert.FinalReferenceIdeal.Read.val_main_v17 (F := Idealize.ShloMosaic.Ideal) (m ((c : Thread nD τ).loc main_arg0)) (m ((c : Thread nD τ).loc main_arg1)) (m ((c : Thread nD τ).loc main_arg2)) (m ((c : Thread nD τ).loc main_arg3)) := by
  refine (Gen.dats m 0 c).arrAt_eq_of_covers 4 _ (by decide +kernel) fun t hf y => ?_
  rw [after0_4]
  unfold outsAt0
  rw [out_eq]
  blk_simp
  have e := (idx_rows t).2.2
  obtain ⟨r, n, rfl⟩ : ∃ (r : Fin 256) (n : Fin 4096), y = ix2 r n := ⟨y 0, y 1, ValueIdx.eq_ix2 y⟩
  refine (point_entry m c t r n).trans (congrArg (Cert.FinalReferenceIdeal.Read.val_main_v17 (F := Idealize.ShloMosaic.Ideal) _ _ _ _) ?_)
  funext a
  refine Fin.ext ?_
  fin_cases a <;> blk_simp [e]
  · exact congrArg (· + _) (Nat.mul_comm _ _)

/-- The value claim of the last projection and the final norm. -/
theorem algebraic : Cert.algebraic_FinalIdeal_FinalReferenceIdeal (hFinalIdeal := Cert.FinalIdeal.Gen.facts)
    (hFinalReferenceIdeal := Cert.FinalReferenceIdeal.Gen.facts) := by
  intro m g m' g' _ hargs
  refine ⟨fun c => (Gen.dats m 0 c).arrAt 4 cfg0.N, Cert.FinalIdeal.Value.run_blocks m g, ?_⟩
  refine (θ_run _ _ _).mono (fun r h c => ?_) (Cert.FinalReferenceIdeal.Value.run m' g')
  refine ⟨(h c).1.trans ?_, (h c).2⟩
  refine Eq.trans ?_ (array_eq m c).symm
  rw [Cert.FinalReferenceIdeal.Read.val_main_v17_eq, (hargs c).1, (hargs c).2.1, (hargs c).2.2.1, (hargs c).2.2.2]
end Cert.FinalProof
-- ==== Proof.InputsPoint.lean ====
/-
  The Fourier branch's inputs, one grid point: rows times a block of weights, scaled row by row; the even and the odd rows of one block
  go apart through a scratch buffer, the other block goes through the gate x times its sigmoid.
-/
module
public import proofs.«01_k».proof.Defs
public import proofs.«01_k».proof.Proof.Gen.InputsIdeal.Value
public import Idealize.ShloMosaic.Lib.Pipeline.Value
public import Idealize.ShloMosaic.Lib.Pipeline.ReadBack
public import Idealize.ShloMosaic.Lib.Pipeline.ValueKit
public import Idealize.ShloMosaic.Lib.Pipeline.ValueKit.Tiles
public import Idealize.ShloMosaic.Lib.MatmulPlain
public import Idealize.ShloMosaic.Lib.ValueIdx
public import Idealize.ShloMosaic.Lib.ValueLayout
public import Idealize.ShloMosaic.Lib.IdealHost
public import Idealize.ShloMosaic.Lib.Tactic
public import Idealize.ShloMosaic.Lib.Claim
public import Idealize.ShloMosaic.Lib.Pointwise.Sums
public import Idealize.ShloMosaic.PureOps.Ideal.Laws
@[expose] public section
set_option maxRecDepth 8192
noncomputable section
namespace Cert.InputsProof
open Cert.InputsIdeal Cert.InputsIdeal.Gen
open Idealize.ShloMosaic hiding ix0 ix1 ix2 ix3 ix4 ix5
open Idealize.ShloMosaic.TcCoe Idealize.SL.Sem
open Idealize.ShloMosaic.ValueIdx
open scoped BigOperators

/-- The accumulator starts at 0. -/
theorem acc_zero : (Idealize.ShloMosaic.Ideal.ofBits .f32 0x00000000#32 : EReal) = 0 := by simp [Idealize.ShloMosaic.Ideal.ofBits, Idealize.ShloMosaic.Ideal.ieee]

/-! ## A strip of 256 rows -/

/-- The rows times a block of weights, each row scaled. -/
def strip (A : FVec Idealize.ShloMosaic.Ideal S256x4096 .bf16) (s : FVec Idealize.ShloMosaic.Ideal S256x128 .f32) (B : FVec Idealize.ShloMosaic.Ideal S1x4096x512 .bf16) : FVec Idealize.ShloMosaic.Ideal S256x512 .f32 :=
  mulf (matmul dot_S256x4096_S4096x512_S256x512_1_0_0_1_n_n none A (shapeCast S4096x512 B shapeCasts_S1x4096x512_S4096x512)
      (constant S256x512 .f32 0x00000000#32))
    (concatenate S256x512 1 [⟨S256x128, shapeCast S256x128 s shapeCasts_S256x128_S256x128⟩, ⟨S256x128, shapeCast S256x128 s shapeCasts_S256x128_S256x128⟩,
      ⟨S256x128, shapeCast S256x128 s shapeCasts_S256x128_S256x128⟩, ⟨S256x128, shapeCast S256x128 s shapeCasts_S256x128_S256x128⟩]
      concatenates_S256x128_S256x128_S256x128_S256x128_S256x512_d1)

theorem strip_apply (A : FVec Idealize.ShloMosaic.Ideal S256x4096 .bf16) (s : FVec Idealize.ShloMosaic.Ideal S256x128 .f32) (B : FVec Idealize.ShloMosaic.Ideal S1x4096x512 .bf16) (r : Fin 256) (j : Fin 512) :
    strip A s B (ix2 r j) = (∑ k : Fin 4096, A (ix2 r k) * B (ix3 0 k j)) * s (ix2 r (⟨j.val % 128, by omega⟩ : Fin 128)) := by
  have h := Ideal.matmul_plain_apply (M := 256) (K := 4096) (N := 512) none A
    (shapeCast S4096x512 B shapeCasts_S1x4096x512_S4096x512) (constant S256x512 .f32 0x00000000#32) r j
  refine congrArg₂ (· * ·) (Eq.trans h ?_) ?_
  · show Idealize.ShloMosaic.Ideal.ofBits .f32 0x00000000#32 + _ = _
    rw [acc_zero, zero_add]
    refine Finset.sum_congr rfl fun k _ => congrArg (A (ix2 r k) * ·) ?_
    exact shapeCast_apply _ _ _ _ (by
      rw [Shape.rowMajor_val_three, Shape.rowMajor_val_two]
      show (0 * 4096 + k.val) * 512 + j.val = k.val * 512 + j.val
      omega)
  · rw [shapeCast_self]
    refine concatenate_replicate_apply (t := S256x512) (s₁ := S256x128) 1 4 s _ rfl (ix2 r j) _ rfl fun b hb => ?_
    fin_cases b
    · rfl
    · exact absurd rfl hb

section
variable (x0 : FVec Idealize.ShloMosaic.Ideal S1024x4096 .bf16) (x1 : FVec Idealize.ShloMosaic.Ideal S1024x128 .f32) (x2 : FVec Idealize.ShloMosaic.Ideal S1x4096x512 .bf16)

/-- One entry of the scaled product. -/
def prod (r : Fin 1024) (j : Fin 512) : EReal :=
  (∑ k : Fin 4096, x0 (ix2 r k) * x2 (ix3 0 k j)) * x1 (ix2 r (⟨j.val % 128, by omega⟩ : Fin 128))
/-- Its even (`d = 0`) or odd (`d = 1`) rows. -/
def tileHalf (d : ℕ) (hd : d < 2) : FVec Idealize.ShloMosaic.Ideal S512x512 .bf16 := fun y =>
  prod x0 x1 x2 (⟨2 * (y 0).val + d, by have : (y 0).val < 512 := (y 0).isLt; omega⟩ : Fin 1024) (y 1)
/-- The gate of its entries. -/
def tileGate : FVec Idealize.ShloMosaic.Ideal S1024x512 .bf16 := fun y => prod x0 x1 x2 (y 0) (y 1) * Idealize.ShloMosaic.Ideal.logistic (prod x0 x1 x2 (y 0) (y 1))

/-! ## Loads -/

theorem off_zero : (![0, 0, 0] : Fin 3 → ℕ) = fun _ => 0 := by decide
theorem ld_rows (o : ℕ) (ho : o + 256 ≤ 1024) (inb) (r : Fin 256) (k : Fin 4096) :
    View.ld (Val := Elt Idealize.ShloMosaic.Ideal) (e' := .bf16) x0 (Rect.unit (s := S1024x4096) ![o, 0] ![256, 4096] inb) (ix2 r k)
      = x0 (ix2 (⟨o + r.val, by omega⟩ : Fin 1024) k) := by
  refine View.ld_unit_apply_of (Val := Elt Idealize.ShloMosaic.Ideal) (e := .bf16) x0 _ _ inb (ix2 r k) _ ?_
  intro a; fin_cases a
  · rfl
  · exact (Nat.zero_add _).symm
theorem ld_scale (o : ℕ) (ho : o + 256 ≤ 1024) (inb) (r : Fin 256) (k : Fin 128) :
    View.ld (Val := Elt Idealize.ShloMosaic.Ideal) (e' := .f32) x1 (Rect.unit (s := S1024x128) ![o, 0] ![256, 128] inb) (ix2 r k)
      = x1 (ix2 (⟨o + r.val, by omega⟩ : Fin 1024) k) := by
  refine View.ld_unit_apply_of (Val := Elt Idealize.ShloMosaic.Ideal) (e := .f32) x1 _ _ inb (ix2 r k) _ ?_
  intro a; fin_cases a
  · rfl
  · exact (Nat.zero_add _).symm
theorem ld_weight (inb) : View.ld (Val := Elt Idealize.ShloMosaic.Ideal) (e' := .bf16) x2 (Rect.unit (s := S1x4096x512) ![0, 0, 0] ![1, 4096, 512] inb) = x2 :=
  View.ld_unit_zero (Val := Elt Idealize.ShloMosaic.Ideal) (e := .bf16) (S := S1x4096x512) off_zero inb x2

/-- The strip at row `o` holds the product's rows. -/
theorem strip_ld (o : ℕ) (ho : o + 256 ≤ 1024) (inb inb1 inb2) (r : Fin 256) (j : Fin 512) (n : Fin 1024) (hn : n.val = o + r.val) :
    strip (View.ld (Val := Elt Idealize.ShloMosaic.Ideal) (e' := .bf16) x0 (Rect.unit (s := S1024x4096) ![o, 0] ![256, 4096] inb))
      (View.ld (Val := Elt Idealize.ShloMosaic.Ideal) (e' := .f32) x1 (Rect.unit (s := S1024x128) ![o, 0] ![256, 128] inb1))
      (View.ld (Val := Elt Idealize.ShloMosaic.Ideal) (e' := .bf16) x2 (Rect.unit (s := S1x4096x512) ![0, 0, 0] ![1, 4096, 512] inb2)) (ix2 r j)
      = prod x0 x1 x2 n j := by
  rw [show n = (⟨o + r.val, by omega⟩ : Fin 1024) from Fin.ext hn]
  rw [strip_apply, ld_weight]
  unfold prod
  refine congrArg₂ (· * ·) (Finset.sum_congr rfl fun k _ => congrArg (· * _) ?_) ?_
  · exact ld_rows x0 o ho inb r k
  · exact ld_scale x1 o ho inb1 r _

/-! ## The even and the odd rows -/

/-- Every second row of a lane group, from the one at `p - o` on. -/
def half (o p col : ℕ) (h : p = o ∨ p = o + 1) (s : FVec Idealize.ShloMosaic.Ideal S256x512 .f32) (sl : S256x512.Slices ![0, col] S256x128) : FVec Idealize.ShloMosaic.Ideal S128x128 .bf16 :=
  truncf .bf16 (shapeCast S128x128 (fun y : S1x128x128.Idx =>
    (shapeCast S1x256x128 (extractStridedSlice S256x128 ![0, col] s sl) shapeCasts_S256x128_S1x256x128)
      (ix3 0 (⟨2 * (y 1).val + (p - o), by have : (y 1).val < 128 := (y 1).isLt; omega⟩ : Fin 256) (y 2)))
    shapeCasts_S1x128x128_S128x128) bitsLt_bf16_f32
theorem half_apply (o p col : ℕ) (h : p = o ∨ p = o + 1) (s : FVec Idealize.ShloMosaic.Ideal S256x512 .f32) (sl : S256x512.Slices ![0, col] S256x128)
    (r j : Fin 128) (r' : Fin 256) (j' : Fin 512) (hr : r'.val = 2 * r.val + (p - o)) (hj : j'.val = col + j.val) :
    half o p col h s sl (ix2 r j) = s (ix2 r' j') := by
  refine (shapeCast_apply (fun y : S1x128x128.Idx =>
    (shapeCast S1x256x128 (extractStridedSlice S256x128 ![0, col] s sl) shapeCasts_S256x128_S1x256x128)
      (ix3 0 (⟨2 * (y 1).val + (p - o), by have : (y 1).val < 128 := (y 1).isLt; omega⟩ : Fin 256) (y 2)))
    shapeCasts_S1x128x128_S128x128 (ix2 r j) (ix3 0 r j) ?_).trans ?_
  · rw [Shape.rowMajor_val_two, Shape.rowMajor_val_three]
    show (0 * 128 + r.val) * 128 + j.val = r.val * 128 + j.val
    omega
  refine (shapeCast_apply _ shapeCasts_S256x128_S1x256x128 _ (ix2 r' j) ?_).trans ?_
  · rw [Shape.rowMajor_val_two, Shape.rowMajor_val_three]
    show r'.val * 128 + j.val = (0 * 256 + (2 * r.val + (p - o))) * 128 + j.val
    omega
  refine extractStridedSlice_apply _ _ sl _ _ ?_
  intro a; fin_cases a
  · exact (Nat.zero_add _).symm
  · exact hj

/-- A store of every second row. -/
theorem half_store (o p u col d : ℕ) (hd : d < 2) (hu : o = 2 * u) (hp : p = o + d) (hb : o + 256 ≤ 1024 ∧ col + 128 ≤ 512)
    (sl : S256x512.Slices ![0, col] S256x128) (inb inb1 inb2) (inb' : ∀ a, (![u, col] : Fin 2 → ℕ) a + (![128, 128] : Fin 2 → ℕ) a ≤ S512x512.size a)
    (x : (Rect.unit (s := S512x512) ![u, col] ![128, 128] inb').shape.Idx) :
    half o p col (by omega) (strip (View.ld (Val := Elt Idealize.ShloMosaic.Ideal) (e' := .bf16) x0 (Rect.unit (s := S1024x4096) ![o, 0] ![256, 4096] inb))
      (View.ld (Val := Elt Idealize.ShloMosaic.Ideal) (e' := .f32) x1 (Rect.unit (s := S1024x128) ![o, 0] ![256, 128] inb1))
      (View.ld (Val := Elt Idealize.ShloMosaic.Ideal) (e' := .bf16) x2 (Rect.unit (s := S1x4096x512) ![0, 0, 0] ![1, 4096, 512] inb2))) sl x
      = tileHalf x0 x1 x2 d hd ((Rect.unit (s := S512x512) ![u, col] ![128, 128] inb').emb x) := by
  obtain ⟨r, j, rfl⟩ : ∃ (r j : Fin 128), x = ix2 r j := ⟨x 0, x 1, ValueIdx.eq_ix2 x⟩
  refine (half_apply o p col _ _ sl r j (⟨2 * r.val + (p - o), by omega⟩ : Fin 256) (⟨col + j.val, by omega⟩ : Fin 512) rfl rfl).trans ?_
  refine (strip_ld x0 x1 x2 o hb.1 inb inb1 inb2 _ _ (⟨o + (2 * r.val + (p - o)), by omega⟩ : Fin 1024) rfl).trans ?_
  unfold tileHalf
  refine congrArg₂ (prod x0 x1 x2) (Fin.ext ?_) (Fin.ext ?_)
  · have e := Rect.idx_unit_val (s := S512x512) ![u, col] ![128, 128] inb' (ix2 r j) 0
    have e' : ((Rect.unit (s := S512x512) ![u, col] ![128, 128] inb').emb (ix2 r j) 0).val = u + r.val := e
    show o + (2 * r.val + (p - o)) = 2 * ((Rect.unit (s := S512x512) ![u, col] ![128, 128] inb').emb (ix2 r j) 0).val + d
    rw [e']
    omega
  · exact (Rect.idx_unit_val (s := S512x512) ![u, col] ![128, 128] inb' (ix2 r j) 1).symm

/-! ## The gate -/

/-- A strip's entries, each times its sigmoid. -/
def gated (s : FVec Idealize.ShloMosaic.Ideal S256x512 .f32) : FVec Idealize.ShloMosaic.Ideal S256x512 .bf16 := truncf .bf16 (mulf s (logistic s)) bitsLt_bf16_f32

theorem gate_store (o : ℕ) (ho : o + 256 ≤ 1024) (inb inb1 inb2) (inb' : ∀ a, (![o, 0] : Fin 2 → ℕ) a + (![256, 512] : Fin 2 → ℕ) a ≤ S1024x512.size a)
    (x : (Rect.unit (s := S1024x512) ![o, 0] ![256, 512] inb').shape.Idx) :
    gated (strip (View.ld (Val := Elt Idealize.ShloMosaic.Ideal) (e' := .bf16) x0 (Rect.unit (s := S1024x4096) ![o, 0] ![256, 4096] inb))
      (View.ld (Val := Elt Idealize.ShloMosaic.Ideal) (e' := .f32) x1 (Rect.unit (s := S1024x128) ![o, 0] ![256, 128] inb1))
      (View.ld (Val := Elt Idealize.ShloMosaic.Ideal) (e' := .bf16) x2 (Rect.unit (s := S1x4096x512) ![0, 0, 0] ![1, 4096, 512] inb2))) x
      = tileGate x0 x1 x2 ((Rect.unit (s := S1024x512) ![o, 0] ![256, 512] inb').emb x) := by
  obtain ⟨r, j, rfl⟩ : ∃ (r : Fin 256) (j : Fin 512), x = ix2 r j := ⟨x 0, x 1, ValueIdx.eq_ix2 x⟩
  have e := strip_ld x0 x1 x2 o ho inb inb1 inb2 r j (⟨o + r.val, by omega⟩ : Fin 1024) rfl
  refine (congrArg (fun s : EReal => s * Idealize.ShloMosaic.Ideal.logistic s) e).trans ?_
  unfold tileGate
  refine congrArg₂ (fun a b => prod x0 x1 x2 a b * Idealize.ShloMosaic.Ideal.logistic (prod x0 x1 x2 a b)) (Fin.ext ?_) (Fin.ext ?_)
  · exact (Rect.idx_unit_val (s := S1024x512) ![o, 0] ![256, 512] inb' (ix2 r j) 0).symm
  · exact ((Rect.idx_unit_val (s := S1024x512) ![o, 0] ![256, 512] inb' (ix2 r j) 1).trans (Nat.zero_add _)).symm
end

/-! ## The stores -/

/-- A strided load from a lane group's rows just stored. -/
theorem readCov_rows (v : View sig .tc .vmem S4x1024x128 .f32) (q o p : ℕ) (h : p = o ∨ p = o + 1) (i) (w : FVec Idealize.ShloMosaic.Ideal S1x256x128 .f32)
    (L : List (View.Piece (Elt Idealize.ShloMosaic.Ideal) S4x1024x128 .f32)) (inb) :
    View.readCov (Val := Elt Idealize.ShloMosaic.Ideal) v (⟨Rect.unit (s := S4x1024x128) ![q, o, 0] ![1, 256, 128] i, w⟩ :: L)
        (⟨![q, p, 0], ![1, 128, 128], ![1, 2, 1], inb⟩ : LoadRect S4x1024x128)
      = fun y : S1x128x128.Idx => w (ix3 0 (⟨2 * (y 1).val + (p - o), by have : (y 1).val < 128 := (y 1).isLt; omega⟩ : Fin 256) (y 2)) := by
  rw [View.readCov_eq_canon']
  funext y
  refine Eq.trans (congrArg (View.canon _) ?_) (View.canon_cons_emb (Val := Elt Idealize.ShloMosaic.Ideal) (Rect.unit (s := S4x1024x128) ![q, o, 0] ![1, 256, 128] i) w L _)
  funext a
  refine Fin.ext ?_
  have h0 : (y 0).val < 1 := (y 0).isLt
  fin_cases a
  · show q + 1 * (y 0).val = q + 1 * 0
    omega
  · show p + 2 * (y 1).val = o + 1 * (2 * (y 1).val + (p - o))
    omega
  · rfl

set_option maxHeartbeats 400000 in
/-- The even rows a point writes back. -/
theorem out4_eq (c : Dev nD) (i : grid0.Coords) (arg2 : Memref sig .tc .vmem S1024x4096 .bf16) (harg2 : arg2.IsWhole) (arg3 : Memref sig .tc .vmem S1024x128 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1024x512 .bf16) (harg8 : arg8.IsWhole) (arg9 : Memref sig .tc .vmem S4x1024x128 .f32) (harg9 : arg9.IsWhole) (x0 : Vec Idealize.ShloMosaic.Ideal S1024x4096 .bf16) (x1 : Vec Idealize.ShloMosaic.Ideal S1024x128 .f32) (x2 x3 : Vec Idealize.ShloMosaic.Ideal S1x4096x512 .bf16) :
    out0_A_4 (F := Idealize.ShloMosaic.Ideal) c i arg2 harg2 arg3 harg3 arg4 harg4 arg5 harg5 arg6 harg6 arg7 harg7 arg8 harg8 arg9 harg9 x0 x1 x2 x3 = tileHalf x0 x1 x2 0 (by decide) := by
  unfold out0_A_4
  rw [View.read_writes_eq_canon _ _ _ (cover0_A_4 c i arg2 harg2 arg3 harg3 arg4 harg4 arg5 harg5 arg6 harg6 arg7 harg7 arg8 harg8 arg9 harg9 x0 x1 x2 x3)]
  funext y
  refine View.canon_apply_of_pieces (Val := Elt Idealize.ShloMosaic.Ideal) (e := .bf16) (tileHalf x0 x1 x2 0 (by decide)) _ ?_ y (cover0_A_4 c i arg2 harg2 arg3 harg3 arg4 harg4 arg5 harg5 arg6 harg6 arg7 harg7 arg8 harg8 arg9 harg9 x0 x1 x2 x3 y)
  unfold kernelRun0_A
  dsimp only
  sl_unfold_words
  simp only [View.readAt_eq_ld, harg2.read_unread, harg3.read_unread, harg4.read_unread, harg5.read_unread]
  simp (config := {decide := true}) only [↓readCov_rows]
  simp only [List.forall_mem_cons]
  refine ⟨?_, ?_, ?_, ?_, ?_, ?_, ?_, ?_, ?_, ?_, ?_, ?_, ?_, ?_, ?_, ?_, fun p hp => absurd hp List.not_mem_nil⟩
  · exact fun x => half_store x0 x1 x2 768 768 384 384 0 (by decide) (by decide) (by decide) (by decide) slices_S256x512_o0_384_S256x128 inb_S1024x4096_S256x4096_768_0 inb_S1024x128_S256x128_768_0 inb_S1x4096x512_S1x4096x512_0_0_0 inb_S512x512_S128x128_384_384 x
  · exact fun x => half_store x0 x1 x2 768 768 384 256 0 (by decide) (by decide) (by decide) (by decide) slices_S256x512_o0_256_S256x128 inb_S1024x4096_S256x4096_768_0 inb_S1024x128_S256x128_768_0 inb_S1x4096x512_S1x4096x512_0_0_0 inb_S512x512_S128x128_384_256 x
  · exact fun x => half_store x0 x1 x2 768 768 384 128 0 (by decide) (by decide) (by decide) (by decide) slices_S256x512_o0_128_S256x128 inb_S1024x4096_S256x4096_768_0 inb_S1024x128_S256x128_768_0 inb_S1x4096x512_S1x4096x512_0_0_0 inb_S512x512_S128x128_384_128 x
  · exact fun x => half_store x0 x1 x2 768 768 384 0 0 (by decide) (by decide) (by decide) (by decide) slices_S256x512_o0_0_S256x128 inb_S1024x4096_S256x4096_768_0 inb_S1024x128_S256x128_768_0 inb_S1x4096x512_S1x4096x512_0_0_0 inb_S512x512_S128x128_384_0 x
  · exact fun x => half_store x0 x1 x2 512 512 256 384 0 (by decide) (by decide) (by decide) (by decide) slices_S256x512_o0_384_S256x128 inb_S1024x4096_S256x4096_512_0 inb_S1024x128_S256x128_512_0 inb_S1x4096x512_S1x4096x512_0_0_0 inb_S512x512_S128x128_256_384 x
  · exact fun x => half_store x0 x1 x2 512 512 256 256 0 (by decide) (by decide) (by decide) (by decide) slices_S256x512_o0_256_S256x128 inb_S1024x4096_S256x4096_512_0 inb_S1024x128_S256x128_512_0 inb_S1x4096x512_S1x4096x512_0_0_0 inb_S512x512_S128x128_256_256 x
  · exact fun x => half_store x0 x1 x2 512 512 256 128 0 (by decide) (by decide) (by decide) (by decide) slices_S256x512_o0_128_S256x128 inb_S1024x4096_S256x4096_512_0 inb_S1024x128_S256x128_512_0 inb_S1x4096x512_S1x4096x512_0_0_0 inb_S512x512_S128x128_256_128 x
  · exact fun x => half_store x0 x1 x2 512 512 256 0 0 (by decide) (by decide) (by decide) (by decide) slices_S256x512_o0_0_S256x128 inb_S1024x4096_S256x4096_512_0 inb_S1024x128_S256x128_512_0 inb_S1x4096x512_S1x4096x512_0_0_0 inb_S512x512_S128x128_256_0 x
  · exact fun x => half_store x0 x1 x2 256 256 128 384 0 (by decide) (by decide) (by decide) (by decide) slices_S256x512_o0_384_S256x128 inb_S1024x4096_S256x4096_256_0 inb_S1024x128_S256x128_256_0 inb_S1x4096x512_S1x4096x512_0_0_0 inb_S512x512_S128x128_128_384 x
  · exact fun x => half_store x0 x1 x2 256 256 128 256 0 (by decide) (by decide) (by decide) (by decide) slices_S256x512_o0_256_S256x128 inb_S1024x4096_S256x4096_256_0 inb_S1024x128_S256x128_256_0 inb_S1x4096x512_S1x4096x512_0_0_0 inb_S512x512_S128x128_128_256 x
  · exact fun x => half_store x0 x1 x2 256 256 128 128 0 (by decide) (by decide) (by decide) (by decide) slices_S256x512_o0_128_S256x128 inb_S1024x4096_S256x4096_256_0 inb_S1024x128_S256x128_256_0 inb_S1x4096x512_S1x4096x512_0_0_0 inb_S512x512_S128x128_128_128 x
  · exact fun x => half_store x0 x1 x2 256 256 128 0 0 (by decide) (by decide) (by decide) (by decide) slices_S256x512_o0_0_S256x128 inb_S1024x4096_S256x4096_256_0 inb_S1024x128_S256x128_256_0 inb_S1x4096x512_S1x4096x512_0_0_0 inb_S512x512_S128x128_128_0 x
  · exact fun x => half_store x0 x1 x2 0 0 0 384 0 (by decide) (by decide) (by decide) (by decide) slices_S256x512_o0_384_S256x128 inb_S1024x4096_S256x4096_0_0 inb_S1024x128_S256x128_0_0 inb_S1x4096x512_S1x4096x512_0_0_0 inb_S512x512_S128x128_0_384 x
  · exact fun x => half_store x0 x1 x2 0 0 0 256 0 (by decide) (by decide) (by decide) (by decide) slices_S256x512_o0_256_S256x128 inb_S1024x4096_S256x4096_0_0 inb_S1024x128_S256x128_0_0 inb_S1x4096x512_S1x4096x512_0_0_0 inb_S512x512_S128x128_0_256 x
  · exact fun x => half_store x0 x1 x2 0 0 0 128 0 (by decide) (by decide) (by decide) (by decide) slices_S256x512_o0_128_S256x128 inb_S1024x4096_S256x4096_0_0 inb_S1024x128_S256x128_0_0 inb_S1x4096x512_S1x4096x512_0_0_0 inb_S512x512_S128x128_0_128 x
  · exact fun x => half_store x0 x1 x2 0 0 0 0 0 (by decide) (by decide) (by decide) (by decide) slices_S256x512_o0_0_S256x128 inb_S1024x4096_S256x4096_0_0 inb_S1024x128_S256x128_0_0 inb_S1x4096x512_S1x4096x512_0_0_0 inb_S512x512_S128x128_0_0 x

set_option maxHeartbeats 400000 in
/-- The odd rows. -/
theorem out5_eq (c : Dev nD) (i : grid0.Coords) (arg2 : Memref sig .tc .vmem S1024x4096 .bf16) (harg2 : arg2.IsWhole) (arg3 : Memref sig .tc .vmem S1024x128 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1024x512 .bf16) (harg8 : arg8.IsWhole) (arg9 : Memref sig .tc .vmem S4x1024x128 .f32) (harg9 : arg9.IsWhole) (x0 : Vec Idealize.ShloMosaic.Ideal S1024x4096 .bf16) (x1 : Vec Idealize.ShloMosaic.Ideal S1024x128 .f32) (x2 x3 : Vec Idealize.ShloMosaic.Ideal S1x4096x512 .bf16) :
    out0_A_5 (F := Idealize.ShloMosaic.Ideal) c i arg2 harg2 arg3 harg3 arg4 harg4 arg5 harg5 arg6 harg6 arg7 harg7 arg8 harg8 arg9 harg9 x0 x1 x2 x3 = tileHalf x0 x1 x2 1 (by decide) := by
  unfold out0_A_5
  rw [View.read_writes_eq_canon _ _ _ (cover0_A_5 c i arg2 harg2 arg3 harg3 arg4 harg4 arg5 harg5 arg6 harg6 arg7 harg7 arg8 harg8 arg9 harg9 x0 x1 x2 x3)]
  funext y
  refine View.canon_apply_of_pieces (Val := Elt Idealize.ShloMosaic.Ideal) (e := .bf16) (tileHalf x0 x1 x2 1 (by decide)) _ ?_ y (cover0_A_5 c i arg2 harg2 arg3 harg3 arg4 harg4 arg5 harg5 arg6 harg6 arg7 harg7 arg8 harg8 arg9 harg9 x0 x1 x2 x3 y)
  unfold kernelRun0_A
  dsimp only
  sl_unfold_words
  simp only [View.readAt_eq_ld, harg2.read_unread, harg3.read_unread, harg4.read_unread, harg5.read_unread]
  simp (config := {decide := true}) only [↓readCov_rows]
  simp only [List.forall_mem_cons]
  refine ⟨?_, ?_, ?_, ?_, ?_, ?_, ?_, ?_, ?_, ?_, ?_, ?_, ?_, ?_, ?_, ?_, fun p hp => absurd hp List.not_mem_nil⟩
  · exact fun x => half_store x0 x1 x2 768 769 384 384 1 (by decide) (by decide) (by decide) (by decide) slices_S256x512_o0_384_S256x128 inb_S1024x4096_S256x4096_768_0 inb_S1024x128_S256x128_768_0 inb_S1x4096x512_S1x4096x512_0_0_0 inb_S512x512_S128x128_384_384 x
  · exact fun x => half_store x0 x1 x2 768 769 384 256 1 (by decide) (by decide) (by decide) (by decide) slices_S256x512_o0_256_S256x128 inb_S1024x4096_S256x4096_768_0 inb_S1024x128_S256x128_768_0 inb_S1x4096x512_S1x4096x512_0_0_0 inb_S512x512_S128x128_384_256 x
  · exact fun x => half_store x0 x1 x2 768 769 384 128 1 (by decide) (by decide) (by decide) (by decide) slices_S256x512_o0_128_S256x128 inb_S1024x4096_S256x4096_768_0 inb_S1024x128_S256x128_768_0 inb_S1x4096x512_S1x4096x512_0_0_0 inb_S512x512_S128x128_384_128 x
  · exact fun x => half_store x0 x1 x2 768 769 384 0 1 (by decide) (by decide) (by decide) (by decide) slices_S256x512_o0_0_S256x128 inb_S1024x4096_S256x4096_768_0 inb_S1024x128_S256x128_768_0 inb_S1x4096x512_S1x4096x512_0_0_0 inb_S512x512_S128x128_384_0 x
  · exact fun x => half_store x0 x1 x2 512 513 256 384 1 (by decide) (by decide) (by decide) (by decide) slices_S256x512_o0_384_S256x128 inb_S1024x4096_S256x4096_512_0 inb_S1024x128_S256x128_512_0 inb_S1x4096x512_S1x4096x512_0_0_0 inb_S512x512_S128x128_256_384 x
  · exact fun x => half_store x0 x1 x2 512 513 256 256 1 (by decide) (by decide) (by decide) (by decide) slices_S256x512_o0_256_S256x128 inb_S1024x4096_S256x4096_512_0 inb_S1024x128_S256x128_512_0 inb_S1x4096x512_S1x4096x512_0_0_0 inb_S512x512_S128x128_256_256 x
  · exact fun x => half_store x0 x1 x2 512 513 256 128 1 (by decide) (by decide) (by decide) (by decide) slices_S256x512_o0_128_S256x128 inb_S1024x4096_S256x4096_512_0 inb_S1024x128_S256x128_512_0 inb_S1x4096x512_S1x4096x512_0_0_0 inb_S512x512_S128x128_256_128 x
  · exact fun x => half_store x0 x1 x2 512 513 256 0 1 (by decide) (by decide) (by decide) (by decide) slices_S256x512_o0_0_S256x128 inb_S1024x4096_S256x4096_512_0 inb_S1024x128_S256x128_512_0 inb_S1x4096x512_S1x4096x512_0_0_0 inb_S512x512_S128x128_256_0 x
  · exact fun x => half_store x0 x1 x2 256 257 128 384 1 (by decide) (by decide) (by decide) (by decide) slices_S256x512_o0_384_S256x128 inb_S1024x4096_S256x4096_256_0 inb_S1024x128_S256x128_256_0 inb_S1x4096x512_S1x4096x512_0_0_0 inb_S512x512_S128x128_128_384 x
  · exact fun x => half_store x0 x1 x2 256 257 128 256 1 (by decide) (by decide) (by decide) (by decide) slices_S256x512_o0_256_S256x128 inb_S1024x4096_S256x4096_256_0 inb_S1024x128_S256x128_256_0 inb_S1x4096x512_S1x4096x512_0_0_0 inb_S512x512_S128x128_128_256 x
  · exact fun x => half_store x0 x1 x2 256 257 128 128 1 (by decide) (by decide) (by decide) (by decide) slices_S256x512_o0_128_S256x128 inb_S1024x4096_S256x4096_256_0 inb_S1024x128_S256x128_256_0 inb_S1x4096x512_S1x4096x512_0_0_0 inb_S512x512_S128x128_128_128 x
  · exact fun x => half_store x0 x1 x2 256 257 128 0 1 (by decide) (by decide) (by decide) (by decide) slices_S256x512_o0_0_S256x128 inb_S1024x4096_S256x4096_256_0 inb_S1024x128_S256x128_256_0 inb_S1x4096x512_S1x4096x512_0_0_0 inb_S512x512_S128x128_128_0 x
  · exact fun x => half_store x0 x1 x2 0 1 0 384 1 (by decide) (by decide) (by decide) (by decide) slices_S256x512_o0_384_S256x128 inb_S1024x4096_S256x4096_0_0 inb_S1024x128_S256x128_0_0 inb_S1x4096x512_S1x4096x512_0_0_0 inb_S512x512_S128x128_0_384 x
  · exact fun x => half_store x0 x1 x2 0 1 0 256 1 (by decide) (by decide) (by decide) (by decide) slices_S256x512_o0_256_S256x128 inb_S1024x4096_S256x4096_0_0 inb_S1024x128_S256x128_0_0 inb_S1x4096x512_S1x4096x512_0_0_0 inb_S512x512_S128x128_0_256 x
  · exact fun x => half_store x0 x1 x2 0 1 0 128 1 (by decide) (by decide) (by decide) (by decide) slices_S256x512_o0_128_S256x128 inb_S1024x4096_S256x4096_0_0 inb_S1024x128_S256x128_0_0 inb_S1x4096x512_S1x4096x512_0_0_0 inb_S512x512_S128x128_0_128 x
  · exact fun x => half_store x0 x1 x2 0 1 0 0 1 (by decide) (by decide) (by decide) (by decide) slices_S256x512_o0_0_S256x128 inb_S1024x4096_S256x4096_0_0 inb_S1024x128_S256x128_0_0 inb_S1x4096x512_S1x4096x512_0_0_0 inb_S512x512_S128x128_0_0 x

set_option maxHeartbeats 400000 in
/-- The gate. -/
theorem out6_eq (c : Dev nD) (i : grid0.Coords) (arg2 : Memref sig .tc .vmem S1024x4096 .bf16) (harg2 : arg2.IsWhole) (arg3 : Memref sig .tc .vmem S1024x128 .f32) (harg3 : arg3.IsWhole) (arg4 : Memref sig .tc .vmem S1x4096x512 .bf16) (harg4 : arg4.IsWhole) (arg5 : Memref sig .tc .vmem S1x4096x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S1024x512 .bf16) (harg8 : arg8.IsWhole) (arg9 : Memref sig .tc .vmem S4x1024x128 .f32) (harg9 : arg9.IsWhole) (x0 : Vec Idealize.ShloMosaic.Ideal S1024x4096 .bf16) (x1 : Vec Idealize.ShloMosaic.Ideal S1024x128 .f32) (x2 x3 : Vec Idealize.ShloMosaic.Ideal S1x4096x512 .bf16) :
    out0_A_6 (F := Idealize.ShloMosaic.Ideal) c i arg2 harg2 arg3 harg3 arg4 harg4 arg5 harg5 arg6 harg6 arg7 harg7 arg8 harg8 arg9 harg9 x0 x1 x2 x3 = tileGate x0 x1 x3 := by
  unfold out0_A_6
  rw [View.read_writes_eq_canon _ _ _ (cover0_A_6 c i arg2 harg2 arg3 harg3 arg4 harg4 arg5 harg5 arg6 harg6 arg7 harg7 arg8 harg8 arg9 harg9 x0 x1 x2 x3)]
  funext y
  refine View.canon_apply_of_pieces (Val := Elt Idealize.ShloMosaic.Ideal) (e := .bf16) (tileGate x0 x1 x3) _ ?_ y (cover0_A_6 c i arg2 harg2 arg3 harg3 arg4 harg4 arg5 harg5 arg6 harg6 arg7 harg7 arg8 harg8 arg9 harg9 x0 x1 x2 x3 y)
  unfold kernelRun0_A
  dsimp only
  sl_unfold_words
  simp only [View.readAt_eq_ld, harg2.read_unread, harg3.read_unread, harg4.read_unread, harg5.read_unread]
  simp only [List.forall_mem_cons]
  refine ⟨?_, ?_, ?_, ?_, fun p hp => absurd hp List.not_mem_nil⟩
  · exact fun x => gate_store x0 x1 x3 768 (by decide) inb_S1024x4096_S256x4096_768_0 inb_S1024x128_S256x128_768_0 inb_S1x4096x512_S1x4096x512_0_0_0 inb_S1024x512_S256x512_768_0 x
  · exact fun x => gate_store x0 x1 x3 512 (by decide) inb_S1024x4096_S256x4096_512_0 inb_S1024x128_S256x128_512_0 inb_S1x4096x512_S1x4096x512_0_0_0 inb_S1024x512_S256x512_512_0 x
  · exact fun x => gate_store x0 x1 x3 256 (by decide) inb_S1024x4096_S256x4096_256_0 inb_S1024x128_S256x128_256_0 inb_S1x4096x512_S1x4096x512_0_0_0 inb_S1024x512_S256x512_256_0 x
  · exact fun x => gate_store x0 x1 x3 0 (by decide) inb_S1024x4096_S256x4096_0_0 inb_S1024x128_S256x128_0_0 inb_S1x4096x512_S1x4096x512_0_0_0 inb_S1024x512_S256x512_0_0 x
end Cert.InputsProof
-- ==== Proof.FiniteInputs.lean ====
/-
  What the branch inputs' precondition says: the activations, the row scales, the norm's weights and the projection are real numbers.
-/
module
public import proofs.«01_k».proof.Defs
public import proofs.«01_k».proof.Proof.Gen.Pre_finite_inputs
public import proofs.«01_k».proof.Proof.Finite
@[expose] public section
noncomputable section
namespace Cert.InputsProof
open Cert.Pre_finite_inputs Idealize.ShloMosaic

/-- The precondition, read. -/
theorem finite_args [hP : Cert.Pre_finite_inputs.Facts] (x0 : FVec Idealize.ShloMosaic.Ideal S16384x4096 .bf16)
    (x1 : FVec Idealize.ShloMosaic.Ideal S16384 .f32) (x2 : FVec Idealize.ShloMosaic.Ideal S2x4096 .f32)
    (x3 : FVec Idealize.ShloMosaic.Ideal S2x4096x18432 .f32)
    (h : Cert.Pre_finite_inputs.fn (F := Idealize.ShloMosaic.Ideal) x0 x1 x2 x3 = fun _ => 1#1) :
    (∃ X : S16384x4096.Idx → ℝ, x0 = fun i => ((X i : ℝ) : EReal)) ∧ (∃ X : S16384.Idx → ℝ, x1 = fun i => ((X i : ℝ) : EReal))
      ∧ (∃ X : S2x4096.Idx → ℝ, x2 = fun i => ((X i : ℝ) : EReal)) ∧ ∃ X : S2x4096x18432.Idx → ℝ, x3 = fun i => ((X i : ℝ) : EReal) := by
  haveI : Subsingleton S_.Idx := ⟨fun a b => funext fun i => i.elim0⟩
  have h0 := congrFun h (fun a => a.elim0)
  dsimp only [Cert.Pre_finite_inputs.fn, Cert.Pre_finite_inputs.fn_part1] at h0
  obtain ⟨habc, hd⟩ := IntOp.andi_eq_one.1 h0
  obtain ⟨hab, hc⟩ := IntOp.andi_eq_one.1 habc
  obtain ⟨ha, hb⟩ := IntOp.andi_eq_one.1 hab
  have ra : ∀ i : S16384x4096.Idx, ∃ r : ℝ, x0 i = (r : EReal) := fun i => Cert.Mix.real_of_abs_lt (x0 i) (Host.reduce_andi_all _ _ _ _ _ ha i)
  have rb : ∀ i : S16384.Idx, ∃ r : ℝ, x1 i = (r : EReal) := fun i => Cert.Mix.real_of_abs_lt (x1 i) (Host.reduce_andi_all _ _ _ _ _ hb i)
  have rc : ∀ i : S2x4096.Idx, ∃ r : ℝ, x2 i = (r : EReal) := fun i => Cert.Mix.real_of_abs_lt (x2 i) (Host.reduce_andi_all _ _ _ _ _ hc i)
  have rd : ∀ i : S2x4096x18432.Idx, ∃ r : ℝ, x3 i = (r : EReal) := fun i => Cert.Mix.real_of_abs_lt (x3 i) (Host.reduce_andi_all _ _ _ _ _ hd i)
  choose A hA using ra
  choose B hB using rb
  choose C hC using rc
  choose D hD using rd
  exact ⟨⟨A, funext hA⟩, ⟨B, funext hB⟩, ⟨C, funext hC⟩, D, funext hD⟩
end Cert.InputsProof
-- ==== Proof.InputsValue.lean ====
/-
  The Fourier branch's inputs as a whole: block by block the launch writes the reference's projected sequence at its even and its odd
  positions and its gate, the rows scaled after the product and not before it.
-/
module
public import proofs.«01_k».proof.Proof.InputsPoint
public import proofs.«01_k».proof.Proof.Gen.InputsReferenceIdeal.Read
public import proofs.«01_k».proof.Proof.FiniteInputs
public import proofs.«01_k».proof.Proof.GatesValue
public import proofs.«01_k».proof.Proof.Half
public import Idealize.ShloMosaic.Lib.Affine
public import Idealize.ShloMosaic.Lib.StableHlo.RunRead
public import Idealize.ShloMosaic.PureOps.Ideal.Laws
@[expose] public section
set_option maxRecDepth 16384
noncomputable section
namespace Cert.InputsProof
open Cert.InputsIdeal Cert.InputsIdeal.Gen
open Idealize.ShloMosaic hiding ix0 ix1 ix2 ix3 ix4 ix5
open Idealize.ShloMosaic.TcCoe Idealize.SL.Sem
open Idealize.ShloMosaic.ValueIdx
open scoped BigOperators

/-! ## The reference, entry by entry -/

section
open Cert.InputsReferenceIdeal.Read
variable (x0 : FVec Idealize.ShloMosaic.Ideal Cert.InputsReferenceIdeal.S16384x4096 .bf16) (x1 : FVec Idealize.ShloMosaic.Ideal Cert.InputsReferenceIdeal.S16384 .f32)
  (x2 : FVec Idealize.ShloMosaic.Ideal Cert.InputsReferenceIdeal.S2x4096 .f32) (x3 : FVec Idealize.ShloMosaic.Ideal Cert.InputsReferenceIdeal.S2x4096x18432 .f32)

/-- The normalised activation. -/
theorem normed (r : Fin 16384) (k : Fin 4096) :
    val_main_v8 (F := Idealize.ShloMosaic.Ideal) x0 x1 x2 (ix2 r k) = x0 (ix2 r k) * x1 (ix1 r) * x2 (ix2 1 k) := by
  have hk := k.isLt
  rw [val_main_v8_apply, Ideal.mulf_def, val_main_v3_apply, Ideal.mulf_def, val_main_v0_apply, Ideal.extf_def, val_main_v2_apply,
    val_main_v1_apply, val_main_v7_apply, val_main_v6_apply, val_main_v5_apply, val_main_v4_apply]
  refine congrArg₂ (· * ·) (congrArg (_ * ·) ?_) ?_
  · exact congrArg _ (funext fun a => match a with | ⟨0, _⟩ => rfl)
  · refine congrArg _ (funext fun a => Fin.ext ?_)
    match a with
    | ⟨0, _⟩ => rfl
    | ⟨1, _⟩ => show k.val % 4096 = k.val; omega

/-- One entry of the projection, `o` columns on. -/
def proj (o : ℕ) (ho : o + 2048 ≤ 18432) (r : Fin 16384) (n : Fin 2048) : EReal :=
  ∑ k : Fin 4096, x0 (ix2 r k) * x1 (ix1 r) * x2 (ix2 1 k) * x3 (ix3 1 k (⟨o + n.val, by omega⟩ : Fin 18432))
/-- The projection's column. -/
theorem weight6144 (k : Fin 4096) (n : Fin 2048) :
    val_main_v10 (F := Idealize.ShloMosaic.Ideal) x3 (ix2 k n) = x3 (ix3 1 k (⟨6144 + n.val, by omega⟩ : Fin 18432)) := by
  have hk := k.isLt; have hn := n.isLt
  rw [val_main_v10_apply, val_main_v9_apply]
  refine congrArg _ (funext fun a => Fin.ext ?_)
  match a with
  | ⟨0, _⟩ => rfl
  | ⟨1, _⟩ => show (k.val * 2048 + n.val) / 2048 % 4096 = k.val; omega
  | ⟨2, _⟩ => show 6144 + (k.val * 2048 + n.val) % 2048 = 6144 + n.val; omega
theorem proj6144 (r : Fin 16384) (n : Fin 2048) : val_main_v11 (F := Idealize.ShloMosaic.Ideal) x0 x1 x2 x3 (ix2 r n) = proj x0 x1 x2 x3 6144 (by decide) r n := by
  rw [val_main_v11_apply]
  unfold proj
  refine Finset.sum_congr rfl fun k _ => congrArg₂ (· * ·) ?_ ?_
  · rw [← normed x0 x1 x2 r k]
    exact congrArg _ (funext fun a => match a with | ⟨0, _⟩ => rfl | ⟨1, _⟩ => rfl)
  · rw [← weight6144 x3 k n]
    exact congrArg _ (funext fun a => match a with | ⟨0, _⟩ => rfl | ⟨1, _⟩ => rfl)
/-- The projection's column. -/
theorem weight8192 (k : Fin 4096) (n : Fin 2048) :
    val_main_v14 (F := Idealize.ShloMosaic.Ideal) x3 (ix2 k n) = x3 (ix3 1 k (⟨8192 + n.val, by omega⟩ : Fin 18432)) := by
  have hk := k.isLt; have hn := n.isLt
  rw [val_main_v14_apply, val_main_v13_apply]
  refine congrArg _ (funext fun a => Fin.ext ?_)
  match a with
  | ⟨0, _⟩ => rfl
  | ⟨1, _⟩ => show (k.val * 2048 + n.val) / 2048 % 4096 = k.val; omega
  | ⟨2, _⟩ => show 8192 + (k.val * 2048 + n.val) % 2048 = 8192 + n.val; omega
theorem proj8192 (r : Fin 16384) (n : Fin 2048) : val_main_v15 (F := Idealize.ShloMosaic.Ideal) x0 x1 x2 x3 (ix2 r n) = proj x0 x1 x2 x3 8192 (by decide) r n := by
  rw [val_main_v15_apply]
  unfold proj
  refine Finset.sum_congr rfl fun k _ => congrArg₂ (· * ·) ?_ ?_
  · rw [← normed x0 x1 x2 r k]
    exact congrArg _ (funext fun a => match a with | ⟨0, _⟩ => rfl | ⟨1, _⟩ => rfl)
  · rw [← weight8192 x3 k n]
    exact congrArg _ (funext fun a => match a with | ⟨0, _⟩ => rfl | ⟨1, _⟩ => rfl)
/-- The even positions. -/
theorem ref_even (r : Fin 8192) (n : Fin 2048) : val_main_v18 (F := Idealize.ShloMosaic.Ideal) x0 x1 x2 x3 (ix2 r n)
    = proj x0 x1 x2 x3 6144 (by decide) (⟨2 * r.val + 0, by omega⟩ : Fin 16384) n := by
  have hr := r.isLt; have hn := n.isLt
  rw [val_main_v18_apply, Ideal.truncf_def, val_main_v17_apply, val_main_v16_apply, val_main_v12_apply, ← proj6144]
  refine congrArg _ (funext fun a => Fin.ext ?_)
  match a with
  | ⟨0, _⟩ => show (((r.val * 2048 + n.val) / 2048 * 2 + 0) * 2048 + (r.val * 2048 + n.val) % 2048) / 2048 = 2 * r.val + 0; omega
  | ⟨1, _⟩ => show (((r.val * 2048 + n.val) / 2048 * 2 + 0) * 2048 + (r.val * 2048 + n.val) % 2048) % 2048 = n.val; omega
/-- The odd positions. -/
theorem ref_odd (r : Fin 8192) (n : Fin 2048) : val_main_v21 (F := Idealize.ShloMosaic.Ideal) x0 x1 x2 x3 (ix2 r n)
    = proj x0 x1 x2 x3 6144 (by decide) (⟨2 * r.val + 1, by omega⟩ : Fin 16384) n := by
  have hr := r.isLt; have hn := n.isLt
  rw [val_main_v21_apply, Ideal.truncf_def, val_main_v20_apply, val_main_v19_apply, val_main_v12_apply, ← proj6144]
  refine congrArg _ (funext fun a => Fin.ext ?_)
  match a with
  | ⟨0, _⟩ => show (((r.val * 2048 + n.val) / 2048 * 2 + (1 + 0)) * 2048 + (r.val * 2048 + n.val) % 2048) / 2048 = 2 * r.val + 1; omega
  | ⟨1, _⟩ => show (((r.val * 2048 + n.val) / 2048 * 2 + (1 + 0)) * 2048 + (r.val * 2048 + n.val) % 2048) % 2048 = n.val; omega
/-- The gate. -/
theorem ref_gate (r : Fin 16384) (n : Fin 2048) : val_main_v23 (F := Idealize.ShloMosaic.Ideal) x0 x1 x2 x3 (ix2 r n)
    = proj x0 x1 x2 x3 8192 (by decide) r n * Idealize.ShloMosaic.Ideal.logistic (proj x0 x1 x2 x3 8192 (by decide) r n) := by
  have h1 : (FloatOps.ofBits (F := Idealize.ShloMosaic.Ideal) .f32 0x3F800000#32 : EReal) = 1 := by
    show (Idealize.ShloMosaic.Ideal.ofBits .f32 0x3F800000#32 : EReal) = 1
    rw [show (Idealize.ShloMosaic.Ideal.ofBits .f32 0x3F800000#32 : EReal) = ((1 : ℝ) : EReal) from by simp [Idealize.ShloMosaic.Ideal.ofBits, Idealize.ShloMosaic.Ideal.ieee, -EReal.coe_mul]; norm_num, EReal.coe_one]
  rw [val_main_v23_apply, Ideal.truncf_def, val_main_v22_apply, Ideal.mulf_def, val_main_call0_v5_apply, Ideal.hostDivf_def, val_main_call0_v4_apply,
    val_main_call0_cst_0_apply, val_main_call0_v3_apply, Ideal.addf_def, val_main_call0_v2_apply, val_main_call0_cst_apply,
    val_main_call0_v1_apply, Ideal.hostUnary_exp_def, val_main_call0_v0_apply, Ideal.hostNegf_def, Ideal.negf_def, proj8192, h1]
  rfl
end

/-! ## The launch -/

theorem idx_in : ∀ t : Fin grid0.N, win0_0.index t = ![t.val / 4, 0] ∧ win0_1.index t = ![t.val / 4, 0]
    ∧ win0_2.index t = ![1, 0, 12 + t.val % 4] ∧ win0_3.index t = ![1, 0, 16 + t.val % 4] ∧ win0_4.index t = ![t.val / 4, t.val % 4]
    ∧ win0_5.index t = ![t.val / 4, t.val % 4] ∧ win0_6.index t = ![t.val / 4, t.val % 4] := by decide +kernel

variable (m : (ℓ : Loc nD τ sig) → Buf (Elt Idealize.ShloMosaic.Ideal) ℓ) (c : Dev nD)

/-- The weights the launch reads: the projection, each row scaled by the norm's weight. -/
theorem w_word (l : Fin 2) (k : Fin 4096) (n : Fin 18432) : V m c main_v5 (ix3 l k n)
    = @HMul.hMul EReal EReal EReal _ (m ((c : Thread nD τ).loc main_arg2) (ix2 l k)) (m ((c : Thread nD τ).loc main_arg3) (ix3 l k n)) := by
  unfold_abbrev_sides; after_reads_simp
  refine (show _ = FloatOps.mulf (F := Idealize.ShloMosaic.Ideal) (φ := .f32) _ _ from rfl).trans ?_
  rw [Ideal.mulf_def]
  refine congrArg₂ (· * ·) ?_ rfl
  refine (broadcastInDim_apply (![0, 1, 2] : Fin 3 → Fin 3) bcast_S2x4096x1_S2x4096x18432_0_1_2 _ (ix3 l k n) (ix3 l k (0 : Fin 1)) ?_).trans ?_
  · intro a; fin_cases a <;> rfl
  · refine broadcastInDim_apply (![0, 1] : Fin 2 → Fin 3) bcast_S2x4096_S2x4096x1_0_1 _ (ix3 l k (0 : Fin 1)) (ix2 l k) ?_
    intro a; fin_cases a <;> rfl
/-- The row scales the launch reads. -/
theorem r_word (r : Fin 16384) (l : Fin 128) : V m c main_v1 (ix2 r l) = m ((c : Thread nD τ).loc main_arg1) (ix1 r) := by
  unfold_abbrev_sides; after_reads_simp
  refine (broadcastInDim_apply (![0, 1] : Fin 2 → Fin 2) bcast_S16384x1_S16384x128_0_1 _ (ix2 r l) (ix2 r (0 : Fin 1)) ?_).trans ?_
  · intro a; fin_cases a <;> rfl
  · refine broadcastInDim_apply (![0] : Fin 1 → Fin 2) bcast_S16384_S16384x1_0 _ (ix2 r (0 : Fin 1)) (ix1 r) ?_
    intro a; fin_cases a; rfl

variable (t : Fin cfg0.N)
theorem lt_N : t.val < 64 := lt_of_lt_of_eq t.isLt N_0
/-- A block's row in the array, … -/
def row (r : Fin 1024) : Fin 16384 := ⟨1024 * (t.val / 4) + r.val, by have := lt_N t; omega⟩
/-- … and its column. -/
def column (j : Fin 512) : Fin 2048 := ⟨512 * (t.val % 4) + j.val, by omega⟩

theorem iblk0_apply (r : Fin 1024) (k : Fin 4096) : iblk m c 0 t (ix2 r k) = V m c main_arg0 (ix2 (row t r) k) := by
  have e := (idx_in t).1
  have := lt_N t
  unfold row
  blk_ext [iblk, e]
  all_goals first | exact congrArg (· + _) (Nat.mul_comm _ _) | exact Nat.mul_one _
theorem iblk1_apply (r : Fin 1024) (k : Fin 128) : iblk m c 1 t (ix2 r k) = V m c main_v1 (ix2 (row t r) k) := by
  have e := (idx_in t).2.1
  have := lt_N t
  unfold row
  blk_ext [iblk, e]
  all_goals first | exact congrArg (· + _) (Nat.mul_comm _ _) | exact Nat.mul_one _
theorem iblk2_apply (k : Fin 4096) (j : Fin 512) :
    iblk m c 2 t (ix3 0 k j) = V m c main_v5 (ix3 1 k (⟨6144 + (column t j).val, by omega⟩ : Fin 18432)) := by
  have e := (idx_in t).2.2.1
  have := lt_N t
  unfold column
  blk_ext [iblk, e]
  all_goals first | exact congrArg (· + _) (Nat.mul_comm _ _) | exact Nat.mul_one _ | exact (show (12 + t.val % 4) * 512 + j.val = 6144 + (512 * (t.val % 4) + j.val) by omega)
theorem iblk3_apply (k : Fin 4096) (j : Fin 512) :
    iblk m c 3 t (ix3 0 k j) = V m c main_v5 (ix3 1 k (⟨8192 + (column t j).val, by omega⟩ : Fin 18432)) := by
  have e := (idx_in t).2.2.2.1
  have := lt_N t
  unfold column
  blk_ext [iblk, e]
  all_goals first | exact congrArg (· + _) (Nat.mul_comm _ _) | exact Nat.mul_one _ | exact (show (16 + t.val % 4) * 512 + j.val = 8192 + (512 * (t.val % 4) + j.val) by omega)

variable (H : S16384x4096.Idx → ℝ) (R : S16384.Idx → ℝ) (G : S2x4096.Idx → ℝ) (W : S2x4096x18432.Idx → ℝ)
  (h0 : (m ((c : Thread nD τ).loc main_arg0) : S16384x4096.Idx → EReal) = fun i => ((H i : ℝ) : EReal))
  (h1 : (m ((c : Thread nD τ).loc main_arg1) : S16384.Idx → EReal) = fun i => ((R i : ℝ) : EReal))
  (h2 : (m ((c : Thread nD τ).loc main_arg2) : S2x4096.Idx → EReal) = fun i => ((G i : ℝ) : EReal))
  (h3 : (m ((c : Thread nD τ).loc main_arg3) : S2x4096x18432.Idx → EReal) = fun i => ((W i : ℝ) : EReal))
include h0 h1 h2 h3

/-- One entry of a block's scaled product: the reference's projection. -/
theorem prod6144 (r : Fin 1024) (j : Fin 512) : prod (iblk m c 0 t) (iblk m c 1 t) (iblk m c 2 t) r j
    = proj (m ((c : Thread nD τ).loc main_arg0)) (m ((c : Thread nD τ).loc main_arg1)) (m ((c : Thread nD τ).loc main_arg2)) (m ((c : Thread nD τ).loc main_arg3)) 6144 (by decide) (row t r) (column t j) := by
  unfold prod proj
  rw [h0, h1, h2, h3]
  refine Eq.trans ?_ (Cert.GatesProof.scale_out (fun k => H (ix2 (row t r) k)) (fun k => G (ix2 1 k))
    (fun k => W (ix3 1 k (⟨6144 + (column t j).val, by omega⟩ : Fin 18432))) (R (ix1 (row t r))))
  refine congrArg₂ (· * ·) (Finset.sum_congr rfl fun k _ => congrArg₂ (· * ·) ?_ ?_) ?_
  · rw [iblk0_apply, V_main_arg0, h0]
  · rw [iblk2_apply, w_word, h2, h3]
  · rw [iblk1_apply, r_word, h1]

/-- One entry of a block's scaled product: the reference's projection. -/
theorem prod8192 (r : Fin 1024) (j : Fin 512) : prod (iblk m c 0 t) (iblk m c 1 t) (iblk m c 3 t) r j
    = proj (m ((c : Thread nD τ).loc main_arg0)) (m ((c : Thread nD τ).loc main_arg1)) (m ((c : Thread nD τ).loc main_arg2)) (m ((c : Thread nD τ).loc main_arg3)) 8192 (by decide) (row t r) (column t j) := by
  unfold prod proj
  rw [h0, h1, h2, h3]
  refine Eq.trans ?_ (Cert.GatesProof.scale_out (fun k => H (ix2 (row t r) k)) (fun k => G (ix2 1 k))
    (fun k => W (ix3 1 k (⟨8192 + (column t j).val, by omega⟩ : Fin 18432))) (R (ix1 (row t r))))
  refine congrArg₂ (· * ·) (Finset.sum_congr rfl fun k _ => congrArg₂ (· * ·) ?_ ?_) ?_
  · rw [iblk0_apply, V_main_arg0, h0]
  · rw [iblk3_apply, w_word, h2, h3]
  · rw [iblk1_apply, r_word, h1]

/-- The even positions' array. -/
theorem array4_eq : (Gen.dats m 0 c).arrAt 4 cfg0.N = Cert.InputsReferenceIdeal.Read.val_main_v18 (F := Idealize.ShloMosaic.Ideal) (m ((c : Thread nD τ).loc main_arg0)) (m ((c : Thread nD τ).loc main_arg1)) (m ((c : Thread nD τ).loc main_arg2)) (m ((c : Thread nD τ).loc main_arg3)) := by
  refine (Gen.dats m 0 c).arrAt_eq_of_covers 4 _ (by decide +kernel) fun t hf y => ?_
  rw [after0_4]
  refine Eq.trans (congrArg (fun o => (cfg0.win 4).cut (grid0.coords t) o y) (show (outsAt0 m c t).1 = tileHalf (iblk m c 0 t) (iblk m c 1 t) (iblk m c 2 t) 0 (by decide) from out4_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t))) ?_
  blk_simp
  have e := (idx_in t).2.2.2.2.1
  obtain ⟨r, j, rfl⟩ : ∃ (r j : Fin 512), y = ix2 r j := ⟨y 0, y 1, ValueIdx.eq_ix2 y⟩
  have hN := lt_N t
  refine ((prod6144 m c t H R G W h0 h1 h2 h3 (⟨2 * r.val + 0, by omega⟩ : Fin 1024) j).trans ?_)
  refine Eq.trans ?_ (congrArg (Cert.InputsReferenceIdeal.Read.val_main_v18 (F := Idealize.ShloMosaic.Ideal) _ _ _ _) (?_ : ix2 (⟨512 * (t.val / 4) + r.val, by omega⟩ : Fin 8192) (column t j) = _))
  · refine Eq.trans ?_ (ref_even _ _ _ _ _ _).symm
    refine congrArg (fun x => proj _ _ _ _ 6144 _ x _) (Fin.ext ?_)
    show 1024 * (t.val / 4) + (2 * r.val + 0) = 2 * (512 * (t.val / 4) + r.val) + 0
    omega
  funext a
  refine Fin.ext ?_
  fin_cases a <;> blk_simp [e]
  · exact congrArg (· + _) (Nat.mul_comm _ _)
  · exact congrArg (· + _) (Nat.mul_comm _ _)
/-- The odd positions'. -/
theorem array5_eq : (Gen.dats m 0 c).arrAt 5 cfg0.N = Cert.InputsReferenceIdeal.Read.val_main_v21 (F := Idealize.ShloMosaic.Ideal) (m ((c : Thread nD τ).loc main_arg0)) (m ((c : Thread nD τ).loc main_arg1)) (m ((c : Thread nD τ).loc main_arg2)) (m ((c : Thread nD τ).loc main_arg3)) := by
  refine (Gen.dats m 0 c).arrAt_eq_of_covers 5 _ (by decide +kernel) fun t hf y => ?_
  rw [after0_5]
  refine Eq.trans (congrArg (fun o => (cfg0.win 5).cut (grid0.coords t) o y) (show (outsAt0 m c t).2.1 = tileHalf (iblk m c 0 t) (iblk m c 1 t) (iblk m c 2 t) 1 (by decide) from out5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t))) ?_
  blk_simp
  have e := (idx_in t).2.2.2.2.2.1
  obtain ⟨r, j, rfl⟩ : ∃ (r j : Fin 512), y = ix2 r j := ⟨y 0, y 1, ValueIdx.eq_ix2 y⟩
  have hN := lt_N t
  refine ((prod6144 m c t H R G W h0 h1 h2 h3 (⟨2 * r.val + 1, by omega⟩ : Fin 1024) j).trans ?_)
  refine Eq.trans ?_ (congrArg (Cert.InputsReferenceIdeal.Read.val_main_v21 (F := Idealize.ShloMosaic.Ideal) _ _ _ _) (?_ : ix2 (⟨512 * (t.val / 4) + r.val, by omega⟩ : Fin 8192) (column t j) = _))
  · refine Eq.trans ?_ (ref_odd _ _ _ _ _ _).symm
    refine congrArg (fun x => proj _ _ _ _ 6144 _ x _) (Fin.ext ?_)
    show 1024 * (t.val / 4) + (2 * r.val + 1) = 2 * (512 * (t.val / 4) + r.val) + 1
    omega
  funext a
  refine Fin.ext ?_
  fin_cases a <;> blk_simp [e]
  · exact congrArg (· + _) (Nat.mul_comm _ _)
  · exact congrArg (· + _) (Nat.mul_comm _ _)
/-- One entry of a block's gate: the reference's. -/
theorem point_gate (r : Fin 1024) (j : Fin 512) : tileGate (iblk m c 0 t) (iblk m c 1 t) (iblk m c 3 t) (ix2 r j)
    = Cert.InputsReferenceIdeal.Read.val_main_v23 (F := Idealize.ShloMosaic.Ideal) (m ((c : Thread nD τ).loc main_arg0)) (m ((c : Thread nD τ).loc main_arg1)) (m ((c : Thread nD τ).loc main_arg2)) (m ((c : Thread nD τ).loc main_arg3)) (ix2 (row t r) (column t j)) := by
  rw [ref_gate, ← prod8192 m c t H R G W h0 h1 h2 h3 r j]
  rfl

set_option maxHeartbeats 1600000 in
/-- The gate's. -/
theorem array6_eq : (Gen.dats m 0 c).arrAt 6 cfg0.N = Cert.InputsReferenceIdeal.Read.val_main_v23 (F := Idealize.ShloMosaic.Ideal) (m ((c : Thread nD τ).loc main_arg0)) (m ((c : Thread nD τ).loc main_arg1)) (m ((c : Thread nD τ).loc main_arg2)) (m ((c : Thread nD τ).loc main_arg3)) := by
  refine (Gen.dats m 0 c).arrAt_eq_of_covers 6 _ (by decide +kernel) fun t hf y => ?_
  rw [after0_6]
  refine Eq.trans (congrArg (fun o => (cfg0.win 6).cut (grid0.coords t) o y) (show (outsAt0 m c t).2.2 = tileGate (iblk m c 0 t) (iblk m c 1 t) (iblk m c 3 t) from out6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (iblk m c 0 t) (iblk m c 1 t) (iblk m c 2 t) (iblk m c 3 t))) ?_
  blk_simp
  have e := (idx_in t).2.2.2.2.2.2
  obtain ⟨r, j, rfl⟩ : ∃ (r : Fin 1024) (j : Fin 512), y = ix2 r j := ⟨y 0, y 1, ValueIdx.eq_ix2 y⟩
  refine (point_gate m c t H R G W h0 h1 h2 h3 r j).trans (congrArg (Cert.InputsReferenceIdeal.Read.val_main_v23 (F := Idealize.ShloMosaic.Ideal) _ _ _ _) ?_)
  funext a
  refine Fin.ext ?_
  fin_cases a <;> blk_simp [e]
  · exact congrArg (· + _) (Nat.mul_comm _ _)
  · exact congrArg (· + _) (Nat.mul_comm _ _)
omit h0 h1 h2 h3

/-- The value claim of the branch inputs. -/
theorem algebraic : Cert.algebraic_InputsIdeal_InputsReferenceIdeal_pre_finite_inputs (hInputsIdeal := Cert.InputsIdeal.Gen.facts)
    (hInputsReferenceIdeal := Cert.InputsReferenceIdeal.Gen.facts) (hPre_finite_inputs := Cert.Pre_finite_inputs.Gen.facts) := by
  intro m g m' g' hpre hargs
  refine ⟨fun c => (Gen.dats m 0 c).arrAt 4 cfg0.N, fun c => (Gen.dats m 0 c).arrAt 5 cfg0.N, fun c => (Gen.dats m 0 c).arrAt 6 cfg0.N,
    Cert.InputsIdeal.Value.run_blocks m g, ?_⟩
  refine (θ_run _ _ _).mono (fun r h c => ?_) (Cert.InputsReferenceIdeal.Value.run m' g')
  obtain ⟨⟨H, h0⟩, ⟨R, h1⟩, ⟨G, h2⟩, W, h3⟩ := finite_args (hP := Cert.Pre_finite_inputs.Gen.facts) _ _ _ _ (hpre c)
  refine ⟨(h c).1.trans ?_, (h c).2.1.trans ?_, (h c).2.2.1.trans ?_, (h c).2.2.2⟩
  · refine Eq.trans ?_ (array4_eq m c H R G W h0 h1 h2 h3).symm
    rw [Cert.InputsReferenceIdeal.Read.val_main_v18_eq, (hargs c).1, (hargs c).2.1, (hargs c).2.2.1, (hargs c).2.2.2]
  · refine Eq.trans ?_ (array5_eq m c H R G W h0 h1 h2 h3).symm
    rw [Cert.InputsReferenceIdeal.Read.val_main_v21_eq, (hargs c).1, (hargs c).2.1, (hargs c).2.2.1, (hargs c).2.2.2]
  · refine Eq.trans ?_ (array6_eq m c H R G W h0 h1 h2 h3).symm
    rw [Cert.InputsReferenceIdeal.Read.val_main_v23_eq, (hargs c).1, (hargs c).2.1, (hargs c).2.2.1, (hargs c).2.2.2]
end Cert.InputsProof
-- ==== Proof.SpatialPoint.lean ====
/-
  The spatial gating, one grid point: four strips of 256 rows, each two chunks of 128. Of a strip the rows times two blocks of weights,
  scaled row by row; the one through gelu, the other through x times its sigmoid; and the normalised columns mixed within each chunk by
  the head's matrix, with the head's bias.
-/
module
public import proofs.«01_k».proof.Defs
public import proofs.«01_k».proof.Proof.Gen.SpatialIdeal.Value
public import Idealize.ShloMosaic.Lib.Pipeline.Value
public import Idealize.ShloMosaic.Lib.Pipeline.ValueKit
public import Idealize.ShloMosaic.Lib.Pipeline.ValueKit.Tiles
public import Idealize.ShloMosaic.Lib.MatmulPlain
public import Idealize.ShloMosaic.Lib.ValueIdx
public import Idealize.ShloMosaic.Lib.ValueLayout
public import Idealize.ShloMosaic.Lib.IdealHost
public import Idealize.ShloMosaic.Lib.Tactic
public import Idealize.ShloMosaic.Lib.Claim
public import Idealize.ShloMosaic.Lib.Pointwise.Sums
public import Idealize.ShloMosaic.PureOps.Ideal.Laws
@[expose] public section
set_option maxRecDepth 8192
noncomputable section
namespace Cert.SpatialProof
open Cert.SpatialIdeal Cert.SpatialIdeal.Gen
open Idealize.ShloMosaic hiding ix0 ix1 ix2 ix3 ix4 ix5
open Idealize.ShloMosaic.TcCoe Idealize.SL.Sem
open Idealize.ShloMosaic.ValueIdx
open scoped BigOperators

/-- The accumulator starts at 0. -/
theorem acc_zero : (Idealize.ShloMosaic.Ideal.ofBits .f32 0x00000000#32 : EReal) = 0 := by simp [Idealize.ShloMosaic.Ideal.ofBits, Idealize.ShloMosaic.Ideal.ieee]

/-! ## A strip of 256 rows -/

/-- Row values, laid out once per 128 columns. -/
def lanes (p : FVec Idealize.ShloMosaic.Ideal S256x128 .f32) : FVec Idealize.ShloMosaic.Ideal S256x512 .f32 :=
  concatenate S256x512 1 [⟨S256x128, shapeCast S256x128 p shapeCasts_S256x128_S256x128⟩, ⟨S256x128, shapeCast S256x128 p shapeCasts_S256x128_S256x128⟩,
      ⟨S256x128, shapeCast S256x128 p shapeCasts_S256x128_S256x128⟩, ⟨S256x128, shapeCast S256x128 p shapeCasts_S256x128_S256x128⟩]
      concatenates_S256x128_S256x128_S256x128_S256x128_S256x512_d1
theorem lanes_apply (p : FVec Idealize.ShloMosaic.Ideal S256x128 .f32) (r : Fin 256) (j : Fin 512) :
    lanes p (ix2 r j) = p (ix2 r (⟨j.val % 128, by omega⟩ : Fin 128)) := by
  unfold lanes
  rw [shapeCast_self]
  refine concatenate_replicate_apply (t := S256x512) (s₁ := S256x128) 1 4 p _ rfl (ix2 r j) _ rfl fun b hb => ?_
  fin_cases b
  · rfl
  · exact absurd rfl hb

/-- The rows times a block of weights, each row scaled. -/
def strip (A : FVec Idealize.ShloMosaic.Ideal S256x4096 .bf16) (s : FVec Idealize.ShloMosaic.Ideal S256x128 .f32) (B : FVec Idealize.ShloMosaic.Ideal S1x4096x512 .bf16) : FVec Idealize.ShloMosaic.Ideal S256x512 .f32 :=
  mulf (matmul dot_S256x4096_S4096x512_S256x512_1_0_0_1_n_n none A (shapeCast S4096x512 B shapeCasts_S1x4096x512_S4096x512)
      (constant S256x512 .f32 0x00000000#32)) (lanes s)
theorem strip_apply (A : FVec Idealize.ShloMosaic.Ideal S256x4096 .bf16) (s : FVec Idealize.ShloMosaic.Ideal S256x128 .f32) (B : FVec Idealize.ShloMosaic.Ideal S1x4096x512 .bf16) (r : Fin 256) (j : Fin 512) :
    strip A s B (ix2 r j) = (∑ k : Fin 4096, A (ix2 r k) * B (ix3 0 k j)) * s (ix2 r (⟨j.val % 128, by omega⟩ : Fin 128)) := by
  have h := Ideal.matmul_plain_apply (M := 256) (K := 4096) (N := 512) none A
    (shapeCast S4096x512 B shapeCasts_S1x4096x512_S4096x512) (constant S256x512 .f32 0x00000000#32) r j
  refine congrArg₂ (· * ·) (Eq.trans h ?_) (lanes_apply s r j)
  show Idealize.ShloMosaic.Ideal.ofBits .f32 0x00000000#32 + _ = _
  rw [acc_zero, zero_add]
  refine Finset.sum_congr rfl fun k _ => congrArg (A (ix2 r k) * ·) ?_
  exact shapeCast_apply _ _ _ _ (by
    rw [Shape.rowMajor_val_three, Shape.rowMajor_val_two]
    show (0 * 4096 + k.val) * 512 + j.val = k.val * 512 + j.val
    omega)

/-- The tanh form of gelu. -/
def gelu (x : EReal) : EReal :=
  x * (Idealize.ShloMosaic.Ideal.ofBits .f32 0x3F000000#32 * (Idealize.ShloMosaic.Ideal.ofBits .f32 0x3F800000#32
    + Idealize.ShloMosaic.Ideal.tanh (Idealize.ShloMosaic.Ideal.ofBits .f32 0x3F4C422A#32 * (x + Idealize.ShloMosaic.Ideal.ofBits .f32 0x3D372713#32 * (x * (x * x))))))
/-- … of a strip. -/
def geluV (x : FVec Idealize.ShloMosaic.Ideal S256x512 .f32) : FVec Idealize.ShloMosaic.Ideal S256x512 .f32 :=
  mulf x (mulf (broadcast S256x512 (Scalar.ofBits .f32 0x3F000000#32)) (addf (broadcast S256x512 (Scalar.ofBits .f32 0x3F800000#32))
    (tanh (mulf (broadcast S256x512 (Scalar.ofBits .f32 0x3F4C422A#32)) (addf x (mulf (broadcast S256x512 (Scalar.ofBits .f32 0x3D372713#32)) (mulf x (mulf x x))))))))
theorem geluV_apply (x : FVec Idealize.ShloMosaic.Ideal S256x512 .f32) (y : S256x512.Idx) : geluV x y = gelu (x y) := rfl

/-- The layer norm's scaling of a strip. -/
def normV (g : FVec Idealize.ShloMosaic.Ideal S256x512 .f32) (mu rs : FVec Idealize.ShloMosaic.Ideal S256x128 .f32) (lg lb : FVec Idealize.ShloMosaic.Ideal S1x512 .f32) : FVec Idealize.ShloMosaic.Ideal S256x512 .bf16 :=
  truncf .bf16 (addf (mulf (mulf (subf g (lanes mu)) (lanes rs)) (broadcastTo S256x512 (shapeCast S1x512 lg shapeCasts_S1x512_S1x512) broadcasts_S1x512_S256x512))
    (broadcastTo S256x512 (shapeCast S1x512 lb shapeCasts_S1x512_S1x512) broadcasts_S1x512_S256x512)) bitsLt_bf16_f32
theorem normV_apply (g : FVec Idealize.ShloMosaic.Ideal S256x512 .f32) (mu rs : FVec Idealize.ShloMosaic.Ideal S256x128 .f32) (lg lb : FVec Idealize.ShloMosaic.Ideal S1x512 .f32) (r : Fin 256) (j : Fin 512) :
    normV g mu rs lg lb (ix2 r j) = ((g (ix2 r j) - mu (ix2 r (⟨j.val % 128, by omega⟩ : Fin 128))) * rs (ix2 r (⟨j.val % 128, by omega⟩ : Fin 128)))
      * lg (ix2 0 j) + lb (ix2 0 j) := by
  show ((g (ix2 r j) - lanes mu (ix2 r j)) * lanes rs (ix2 r j)) * broadcastTo S256x512 (shapeCast S1x512 lg shapeCasts_S1x512_S1x512) broadcasts_S1x512_S256x512 (ix2 r j)
    + broadcastTo S256x512 (shapeCast S1x512 lb shapeCasts_S1x512_S1x512) broadcasts_S1x512_S256x512 (ix2 r j) = _
  rw [lanes_apply, lanes_apply, shapeCast_self, shapeCast_self]
  refine congrArg₂ (fun a b : EReal => a + b) (congrArg₂ (fun a b : EReal => a * b) rfl ?_) ?_
  · exact broadcastTo_1b_ab_apply lg broadcasts_S1x512_S256x512 r j
  · exact broadcastTo_1b_ab_apply lb broadcasts_S1x512_S256x512 r j

/-! ## One head's mixing -/

/-- The strip's two chunks of one head, side by side. -/
def pair (col : ℕ) (s0 : S256x512.Slices ![0, col] S128x128) (s1 : S256x512.Slices ![128, col] S128x128) (v : FVec Idealize.ShloMosaic.Ideal S256x512 .bf16) : FVec Idealize.ShloMosaic.Ideal S128x256 .bf16 :=
  concatenate S128x256 1 [⟨S128x128, extractStridedSlice S128x128 ![0, col] v s0⟩, ⟨S128x128, extractStridedSlice S128x128 ![128, col] v s1⟩]
    concatenates_S128x128_S128x128_S128x256_d1
theorem pair_left (col : ℕ) (s0 : S256x512.Slices ![0, col] S128x128) (s1 : S256x512.Slices ![128, col] S128x128) (v : FVec Idealize.ShloMosaic.Ideal S256x512 .bf16)
    (q : Fin 128) (n : Fin 256) (r' : Fin 256) (j : Fin 512) (hn : n.val < 128) (hr : r'.val = q.val) (hj : j.val = col + n.val) :
    pair col s0 s1 v (ix2 q n) = v (ix2 r' j) := by
  refine (concatenate_pair_apply_left (t := S128x256) (s₁ := S128x128) (s₂ := S128x128) 1 _ _ _ (ix2 q n) rfl (ix2 q (⟨n.val, hn⟩ : Fin 128)) ?_).trans ?_
  · intro b; fin_cases b <;> rfl
  · refine extractStridedSlice_apply _ _ s0 _ _ ?_
    intro a; fin_cases a
    · exact hr.trans (Nat.zero_add _).symm
    · exact hj
theorem pair_right (col : ℕ) (s0 : S256x512.Slices ![0, col] S128x128) (s1 : S256x512.Slices ![128, col] S128x128) (v : FVec Idealize.ShloMosaic.Ideal S256x512 .bf16)
    (q : Fin 128) (n : Fin 256) (r' : Fin 256) (j : Fin 512) (d : Fin 128) (hn : n.val = 128 + d.val) (hr : r'.val = 128 + q.val) (hj : j.val = col + d.val) :
    pair col s0 s1 v (ix2 q n) = v (ix2 r' j) := by
  refine (concatenate_pair_apply_right (t := S128x256) (s₁ := S128x128) (s₂ := S128x128) 1 _ _ _ (ix2 q n) rfl rfl (ix2 q d) ?_ ?_).trans ?_
  · intro b hb; fin_cases b
    · rfl
    · exact absurd rfl hb
  · show d.val + 128 = n.val
    omega
  · refine extractStridedSlice_apply _ _ s1 _ _ ?_
    intro a; fin_cases a
    · exact hr
    · exact hj

/-- The head's matrix times both chunks. -/
def mixed (w : FVec Idealize.ShloMosaic.Ideal S1x1x128x128 .bf16) (c : FVec Idealize.ShloMosaic.Ideal S128x256 .bf16) : FVec Idealize.ShloMosaic.Ideal S128x256 .f32 :=
  matmul dot_S128x128_S128x256_S128x256_1_0_0_1_n_n none (shapeCast S128x128 w shapeCasts_S1x1x128x128_S128x128) c (constant S128x256 .f32 0x00000000#32)
theorem mixed_apply (w : FVec Idealize.ShloMosaic.Ideal S1x1x128x128 .bf16) (c : FVec Idealize.ShloMosaic.Ideal S128x256 .bf16) (p : Fin 128) (n : Fin 256) :
    mixed w c (ix2 p n) = ∑ q : Fin 128, w (ix4 0 0 p q) * c (ix2 q n) := by
  have h := Ideal.matmul_plain_apply (M := 128) (K := 128) (N := 256) none (shapeCast S128x128 w shapeCasts_S1x1x128x128_S128x128) c
    (constant S128x256 .f32 0x00000000#32) p n
  refine (show mixed w c (ix2 p n) = _ from h).trans ?_
  show Idealize.ShloMosaic.Ideal.ofBits .f32 0x00000000#32 + _ = _
  rw [acc_zero, zero_add]
  refine Finset.sum_congr rfl fun q _ => congrArg (· * c (ix2 q n)) ?_
  exact shapeCast_apply _ _ _ _ (by
    rw [Shape.rowMajor_val_four, Shape.rowMajor_val_two]
    show ((0 * 1 + 0) * 128 + p.val) * 128 + q.val = p.val * 128 + q.val
    omega)

/-- The head's columns: each chunk's mixture plus the bias, one above the other. -/
def head (col : ℕ) (s0 : S256x512.Slices ![0, col] S128x128) (s1 : S256x512.Slices ![128, col] S128x128) (v : FVec Idealize.ShloMosaic.Ideal S256x512 .bf16)
    (w : FVec Idealize.ShloMosaic.Ideal S1x1x128x128 .bf16) (b : FVec Idealize.ShloMosaic.Ideal S1x1x128x128 .f32) : FVec Idealize.ShloMosaic.Ideal S256x128 .f32 :=
  concatenate S256x128 0 [⟨S128x128, addf (extractStridedSlice S128x128 ![0, 0] (mixed w (pair col s0 s1 v)) slices_S128x256_o0_0_S128x128) (shapeCast S128x128 b shapeCasts_S1x1x128x128_S128x128)⟩,
      ⟨S128x128, addf (extractStridedSlice S128x128 ![0, 128] (mixed w (pair col s0 s1 v)) slices_S128x256_o0_128_S128x128) (shapeCast S128x128 b shapeCasts_S1x1x128x128_S128x128)⟩]
    concatenates_S128x128_S128x128_S256x128_d0
theorem bias_apply (b : FVec Idealize.ShloMosaic.Ideal S1x1x128x128 .f32) (p d : Fin 128) :
    shapeCast S128x128 b shapeCasts_S1x1x128x128_S128x128 (ix2 p d) = b (ix4 0 0 p d) :=
  shapeCast_apply _ _ _ _ (by
    rw [Shape.rowMajor_val_four, Shape.rowMajor_val_two]
    show ((0 * 1 + 0) * 128 + p.val) * 128 + d.val = p.val * 128 + d.val
    omega)
theorem head_apply (col : ℕ) (s0 : S256x512.Slices ![0, col] S128x128) (s1 : S256x512.Slices ![128, col] S128x128) (v : FVec Idealize.ShloMosaic.Ideal S256x512 .bf16)
    (w : FVec Idealize.ShloMosaic.Ideal S1x1x128x128 .bf16) (b : FVec Idealize.ShloMosaic.Ideal S1x1x128x128 .f32) (r : Fin 256) (d : Fin 128) (j : Fin 512) (hj : j.val = col + d.val) :
    head col s0 s1 v w b (ix2 r d) = (∑ q : Fin 128, w (ix4 0 0 (⟨r.val % 128, by omega⟩ : Fin 128) q) * v (ix2 (⟨r.val / 128 * 128 + q.val, by omega⟩ : Fin 256) j))
      + b (ix4 0 0 (⟨r.val % 128, by omega⟩ : Fin 128) d) := by
  by_cases hr : r.val < 128
  · refine (concatenate_pair_apply_left (t := S256x128) (s₁ := S128x128) (s₂ := S128x128) 0 _ _ _ (ix2 r d) rfl (ix2 (⟨r.val % 128, by omega⟩ : Fin 128) d) ?_).trans ?_
    · intro b; fin_cases b
      · show r.val % 128 = r.val
        omega
      · rfl
    · refine congrArg₂ (· + ·) ?_ (bias_apply b _ d)
      refine (extractStridedSlice_apply _ _ slices_S128x256_o0_0_S128x128 _ (ix2 (⟨r.val % 128, by omega⟩ : Fin 128) (⟨d.val, by omega⟩ : Fin 256)) ?_).trans ?_
      · intro a; fin_cases a
        · exact (Nat.zero_add _).symm
        · exact (Nat.zero_add _).symm
      · rw [mixed_apply]
        refine Finset.sum_congr rfl fun q _ => congrArg (_ * ·) ?_
        exact pair_left col s0 s1 v q _ _ j d.isLt (show r.val / 128 * 128 + q.val = q.val by omega) hj
  · refine (concatenate_pair_apply_right (t := S256x128) (s₁ := S128x128) (s₂ := S128x128) 0 _ _ _ (ix2 r d) rfl rfl (ix2 (⟨r.val % 128, by omega⟩ : Fin 128) d) ?_ ?_).trans ?_
    · intro b hb; fin_cases b
      · exact absurd rfl hb
      · rfl
    · show r.val % 128 + 128 = r.val
      omega
    · refine congrArg₂ (· + ·) ?_ (bias_apply b _ d)
      refine (extractStridedSlice_apply _ _ slices_S128x256_o0_128_S128x128 _ (ix2 (⟨r.val % 128, by omega⟩ : Fin 128) (⟨128 + d.val, by omega⟩ : Fin 256)) ?_).trans ?_
      · intro a; fin_cases a
        · exact (Nat.zero_add _).symm
        · rfl
      · rw [mixed_apply]
        refine Finset.sum_congr rfl fun q _ => congrArg (_ * ·) ?_
        exact pair_right col s0 s1 v q _ _ j d rfl (show r.val / 128 * 128 + q.val = 128 + q.val by omega) hj

/-- The four heads, side by side. -/
def heads (v : FVec Idealize.ShloMosaic.Ideal S256x512 .bf16) (w0 w1 w2 w3 : FVec Idealize.ShloMosaic.Ideal S1x1x128x128 .bf16) (b0 b1 b2 b3 : FVec Idealize.ShloMosaic.Ideal S1x1x128x128 .f32) : FVec Idealize.ShloMosaic.Ideal S256x512 .f32 :=
  concatenate S256x512 1 [⟨S256x128, head 0 slices_S256x512_o0_0_S128x128 slices_S256x512_o128_0_S128x128 v w0 b0⟩,
      ⟨S256x128, head 128 slices_S256x512_o0_128_S128x128 slices_S256x512_o128_128_S128x128 v w1 b1⟩,
      ⟨S256x128, head 256 slices_S256x512_o0_256_S128x128 slices_S256x512_o128_256_S128x128 v w2 b2⟩,
      ⟨S256x128, head 384 slices_S256x512_o0_384_S128x128 slices_S256x512_o128_384_S128x128 v w3 b3⟩]
    concatenates_S256x128_S256x128_S256x128_S256x128_S256x512_d1

/-- Columns 0 to 127 are head 0. -/
theorem heads_apply0 (v : FVec Idealize.ShloMosaic.Ideal S256x512 .bf16) (w0 w1 w2 w3 : FVec Idealize.ShloMosaic.Ideal S1x1x128x128 .bf16) (b0 b1 b2 b3 : FVec Idealize.ShloMosaic.Ideal S1x1x128x128 .f32)
    (r : Fin 256) (j : Fin 512) (d : Fin 128) (hj : j.val = 0 + d.val) : heads v w0 w1 w2 w3 b0 b1 b2 b3 (ix2 r j) = head 0 slices_S256x512_o0_0_S128x128 slices_S256x512_o128_0_S128x128 v w0 b0 (ix2 r d) := by
  unfold heads
  refine concatenate_apply_piece (t := S256x512) 1 _ _ (ix2 r j) 0 ?_ S256x128 (head 0 slices_S256x512_o0_0_S128x128 slices_S256x512_o128_0_S128x128 v w0 b0) ?_ rfl 0 ?_ (ix2 r d) ?_ ?_
  · show 0 < 4
    decide
  · rfl
  · rfl
  · intro b hb; fin_cases b
    · rfl
    · exact absurd rfl hb
  · exact hj.symm
/-- Columns 128 to 255 are head 1. -/
theorem heads_apply1 (v : FVec Idealize.ShloMosaic.Ideal S256x512 .bf16) (w0 w1 w2 w3 : FVec Idealize.ShloMosaic.Ideal S1x1x128x128 .bf16) (b0 b1 b2 b3 : FVec Idealize.ShloMosaic.Ideal S1x1x128x128 .f32)
    (r : Fin 256) (j : Fin 512) (d : Fin 128) (hj : j.val = 128 + d.val) : heads v w0 w1 w2 w3 b0 b1 b2 b3 (ix2 r j) = head 128 slices_S256x512_o0_128_S128x128 slices_S256x512_o128_128_S128x128 v w1 b1 (ix2 r d) := by
  unfold heads
  refine concatenate_apply_piece (t := S256x512) 1 _ _ (ix2 r j) 1 ?_ S256x128 (head 128 slices_S256x512_o0_128_S128x128 slices_S256x512_o128_128_S128x128 v w1 b1) ?_ rfl 128 ?_ (ix2 r d) ?_ ?_
  · show 1 < 4
    decide
  · rfl
  · rfl
  · intro b hb; fin_cases b
    · rfl
    · exact absurd rfl hb
  · exact hj.symm
/-- Columns 256 to 383 are head 2. -/
theorem heads_apply2 (v : FVec Idealize.ShloMosaic.Ideal S256x512 .bf16) (w0 w1 w2 w3 : FVec Idealize.ShloMosaic.Ideal S1x1x128x128 .bf16) (b0 b1 b2 b3 : FVec Idealize.ShloMosaic.Ideal S1x1x128x128 .f32)
    (r : Fin 256) (j : Fin 512) (d : Fin 128) (hj : j.val = 256 + d.val) : heads v w0 w1 w2 w3 b0 b1 b2 b3 (ix2 r j) = head 256 slices_S256x512_o0_256_S128x128 slices_S256x512_o128_256_S128x128 v w2 b2 (ix2 r d) := by
  unfold heads
  refine concatenate_apply_piece (t := S256x512) 1 _ _ (ix2 r j) 2 ?_ S256x128 (head 256 slices_S256x512_o0_256_S128x128 slices_S256x512_o128_256_S128x128 v w2 b2) ?_ rfl 256 ?_ (ix2 r d) ?_ ?_
  · show 2 < 4
    decide
  · rfl
  · rfl
  · intro b hb; fin_cases b
    · rfl
    · exact absurd rfl hb
  · exact hj.symm
/-- Columns 384 to 511 are head 3. -/
theorem heads_apply3 (v : FVec Idealize.ShloMosaic.Ideal S256x512 .bf16) (w0 w1 w2 w3 : FVec Idealize.ShloMosaic.Ideal S1x1x128x128 .bf16) (b0 b1 b2 b3 : FVec Idealize.ShloMosaic.Ideal S1x1x128x128 .f32)
    (r : Fin 256) (j : Fin 512) (d : Fin 128) (hj : j.val = 384 + d.val) : heads v w0 w1 w2 w3 b0 b1 b2 b3 (ix2 r j) = head 384 slices_S256x512_o0_384_S128x128 slices_S256x512_o128_384_S128x128 v w3 b3 (ix2 r d) := by
  unfold heads
  refine concatenate_apply_piece (t := S256x512) 1 _ _ (ix2 r j) 3 ?_ S256x128 (head 384 slices_S256x512_o0_384_S128x128 slices_S256x512_o128_384_S128x128 v w3 b3) ?_ rfl 384 ?_ (ix2 r d) ?_ ?_
  · show 3 < 4
    decide
  · rfl
  · rfl
  · intro b hb; fin_cases b
    · rfl
    · exact absurd rfl hb
  · exact hj.symm

/-- What one strip stores. -/
def stored (A : FVec Idealize.ShloMosaic.Ideal S256x4096 .bf16) (s : FVec Idealize.ShloMosaic.Ideal S256x128 .f32) (Bu Bz : FVec Idealize.ShloMosaic.Ideal S1x4096x512 .bf16) (g : FVec Idealize.ShloMosaic.Ideal S256x512 .f32) (mu rs : FVec Idealize.ShloMosaic.Ideal S256x128 .f32)
    (lg lb : FVec Idealize.ShloMosaic.Ideal S1x512 .f32) (w0 w1 w2 w3 : FVec Idealize.ShloMosaic.Ideal S1x1x128x128 .bf16) (b0 b1 b2 b3 : FVec Idealize.ShloMosaic.Ideal S1x1x128x128 .f32) : FVec Idealize.ShloMosaic.Ideal S256x512 .bf16 :=
  truncf .bf16 (mulf (mulf (geluV (strip A s Bu)) (heads (normV g mu rs lg lb) w0 w1 w2 w3 b0 b1 b2 b3)) (mulf (strip A s Bz) (logistic (strip A s Bz)))) bitsLt_bf16_f32

section
variable (x0 : FVec Idealize.ShloMosaic.Ideal S1024x4096 .bf16) (x1 : FVec Idealize.ShloMosaic.Ideal S1024x128 .f32) (x2 x3 : FVec Idealize.ShloMosaic.Ideal S1x4096x512 .bf16) (x4 : FVec Idealize.ShloMosaic.Ideal S1024x512 .f32)
  (x5 x6 : FVec Idealize.ShloMosaic.Ideal S1024x128 .f32) (x7 x8 : FVec Idealize.ShloMosaic.Ideal S1x512 .f32) (x9 : FVec Idealize.ShloMosaic.Ideal S1x4x128x128 .bf16) (x10 : FVec Idealize.ShloMosaic.Ideal S1x4x128x128 .f32)

/-! ## A point's tile -/

/-- One entry of the scaled product. -/
def prod (x2 : FVec Idealize.ShloMosaic.Ideal S1x4096x512 .bf16) (r : Fin 1024) (j : Fin 512) : EReal :=
  (∑ k : Fin 4096, x0 (ix2 r k) * x2 (ix3 0 k j)) * x1 (ix2 r (⟨j.val % 128, by omega⟩ : Fin 128))
/-- One normalised entry. -/
def normed (r : Fin 1024) (j : Fin 512) : EReal :=
  ((x4 (ix2 r j) - x5 (ix2 r (⟨j.val % 128, by omega⟩ : Fin 128))) * x6 (ix2 r (⟨j.val % 128, by omega⟩ : Fin 128))) * x7 (ix2 0 j) + x8 (ix2 0 j)
/-- One mixed entry: the column's entries of the row's chunk, weighted by the head's matrix, plus the bias. -/
def mix (r : Fin 1024) (j : Fin 512) : EReal :=
  (∑ q : Fin 128, x9 (ix4 0 (⟨j.val / 128, by omega⟩ : Fin 4) (⟨r.val % 128, by omega⟩ : Fin 128) q)
      * normed x4 x5 x6 x7 x8 (⟨r.val / 128 * 128 + q.val, by omega⟩ : Fin 1024) j)
    + x10 (ix4 0 (⟨j.val / 128, by omega⟩ : Fin 4) (⟨r.val % 128, by omega⟩ : Fin 128) (⟨j.val % 128, by omega⟩ : Fin 128))
/-- One entry of the output tile. -/
def entry (r : Fin 1024) (j : Fin 512) : EReal :=
  gelu (prod x0 x1 x2 r j) * mix x4 x5 x6 x7 x8 x9 x10 r j * (prod x0 x1 x3 r j * Idealize.ShloMosaic.Ideal.logistic (prod x0 x1 x3 r j))
/-- The tile. -/
def tile : FVec Idealize.ShloMosaic.Ideal S1024x512 .bf16 := fun y => entry x0 x1 x2 x3 x4 x5 x6 x7 x8 x9 x10 (y 0) (y 1)

/-! ## Loads -/

theorem off_zero : (![0, 0, 0] : Fin 3 → ℕ) = fun _ => 0 := by decide
theorem off_zero2 : (![0, 0] : Fin 2 → ℕ) = fun _ => 0 := by decide
theorem ld_rows (o : ℕ) (ho : o + 256 ≤ 1024) (inb) (r : Fin 256) (k : Fin 4096) :
    View.ld (Val := Elt Idealize.ShloMosaic.Ideal) (e' := .bf16) x0 (Rect.unit (s := S1024x4096) ![o, 0] ![256, 4096] inb) (ix2 r k)
      = x0 (ix2 (⟨o + r.val, by omega⟩ : Fin 1024) k) := by
  refine View.ld_unit_apply_of (Val := Elt Idealize.ShloMosaic.Ideal) (e := .bf16) x0 _ _ inb (ix2 r k) _ ?_
  intro a; fin_cases a
  · rfl
  · exact (Nat.zero_add _).symm
theorem ld_scale (o : ℕ) (ho : o + 256 ≤ 1024) (inb) (r : Fin 256) (k : Fin 128) :
    View.ld (Val := Elt Idealize.ShloMosaic.Ideal) (e' := .f32) x1 (Rect.unit (s := S1024x128) ![o, 0] ![256, 128] inb) (ix2 r k)
      = x1 (ix2 (⟨o + r.val, by omega⟩ : Fin 1024) k) := by
  refine View.ld_unit_apply_of (Val := Elt Idealize.ShloMosaic.Ideal) (e := .f32) x1 _ _ inb (ix2 r k) _ ?_
  intro a; fin_cases a
  · rfl
  · exact (Nat.zero_add _).symm
theorem ld_values (o : ℕ) (ho : o + 256 ≤ 1024) (inb) (r : Fin 256) (k : Fin 512) :
    View.ld (Val := Elt Idealize.ShloMosaic.Ideal) (e' := .f32) x4 (Rect.unit (s := S1024x512) ![o, 0] ![256, 512] inb) (ix2 r k)
      = x4 (ix2 (⟨o + r.val, by omega⟩ : Fin 1024) k) := by
  refine View.ld_unit_apply_of (Val := Elt Idealize.ShloMosaic.Ideal) (e := .f32) x4 _ _ inb (ix2 r k) _ ?_
  intro a; fin_cases a
  · rfl
  · exact (Nat.zero_add _).symm
theorem ld_weight (inb) : View.ld (Val := Elt Idealize.ShloMosaic.Ideal) (e' := .bf16) x2 (Rect.unit (s := S1x4096x512) ![0, 0, 0] ![1, 4096, 512] inb) = x2 :=
  View.ld_unit_zero (Val := Elt Idealize.ShloMosaic.Ideal) (e := .bf16) (S := S1x4096x512) off_zero inb x2
theorem ld_vector (inb) : View.ld (Val := Elt Idealize.ShloMosaic.Ideal) (e' := .f32) x7 (Rect.unit (s := S1x512) ![0, 0] ![1, 512] inb) = x7 :=
  View.ld_unit_zero (Val := Elt Idealize.ShloMosaic.Ideal) (e := .f32) (S := S1x512) off_zero2 inb x7
theorem ld_matrix (h : Fin 4) (inb) (p q : Fin 128) :
    View.ld (Val := Elt Idealize.ShloMosaic.Ideal) (e' := .bf16) x9 (Rect.unit (s := S1x4x128x128) ![0, h.val, 0, 0] ![1, 1, 128, 128] inb) (ix4 0 0 p q) = x9 (ix4 0 h p q) := by
  refine View.ld_unit_apply_of (Val := Elt Idealize.ShloMosaic.Ideal) (e := .bf16) x9 _ _ inb (ix4 0 0 p q) _ ?_
  intro a; fin_cases a
  · rfl
  · rfl
  · exact (Nat.zero_add _).symm
  · exact (Nat.zero_add _).symm
theorem ld_bias (h : Fin 4) (inb) (p q : Fin 128) :
    View.ld (Val := Elt Idealize.ShloMosaic.Ideal) (e' := .f32) x10 (Rect.unit (s := S1x4x128x128) ![0, h.val, 0, 0] ![1, 1, 128, 128] inb) (ix4 0 0 p q) = x10 (ix4 0 h p q) := by
  refine View.ld_unit_apply_of (Val := Elt Idealize.ShloMosaic.Ideal) (e := .f32) x10 _ _ inb (ix4 0 0 p q) _ ?_
  intro a; fin_cases a
  · rfl
  · rfl
  · exact (Nat.zero_add _).symm
  · exact (Nat.zero_add _).symm

theorem strip_ld (o : ℕ) (ho : o + 256 ≤ 1024) (inb inb1 inb2) (r : Fin 256) (j : Fin 512) (n : Fin 1024) (hn : n.val = o + r.val) :
    strip (View.ld (Val := Elt Idealize.ShloMosaic.Ideal) (e' := .bf16) x0 (Rect.unit (s := S1024x4096) ![o, 0] ![256, 4096] inb))
      (View.ld (Val := Elt Idealize.ShloMosaic.Ideal) (e' := .f32) x1 (Rect.unit (s := S1024x128) ![o, 0] ![256, 128] inb1))
      (View.ld (Val := Elt Idealize.ShloMosaic.Ideal) (e' := .bf16) x2 (Rect.unit (s := S1x4096x512) ![0, 0, 0] ![1, 4096, 512] inb2)) (ix2 r j)
      = prod x0 x1 x2 n j := by
  rw [show n = (⟨o + r.val, by omega⟩ : Fin 1024) from Fin.ext hn]
  rw [strip_apply, ld_weight]
  unfold prod
  refine congrArg₂ (· * ·) (Finset.sum_congr rfl fun k _ => congrArg (· * _) ?_) ?_
  · exact ld_rows x0 o ho inb r k
  · exact ld_scale x1 o ho inb1 r _

theorem norm_ld (o : ℕ) (ho : o + 256 ≤ 1024) (i4 i5 i6 i7 i8) (r : Fin 256) (j : Fin 512) (n : Fin 1024) (hn : n.val = o + r.val) :
    normV (View.ld (Val := Elt Idealize.ShloMosaic.Ideal) (e' := .f32) x4 (Rect.unit (s := S1024x512) ![o, 0] ![256, 512] i4))
      (View.ld (Val := Elt Idealize.ShloMosaic.Ideal) (e' := .f32) x5 (Rect.unit (s := S1024x128) ![o, 0] ![256, 128] i5))
      (View.ld (Val := Elt Idealize.ShloMosaic.Ideal) (e' := .f32) x6 (Rect.unit (s := S1024x128) ![o, 0] ![256, 128] i6))
      (View.ld (Val := Elt Idealize.ShloMosaic.Ideal) (e' := .f32) x7 (Rect.unit (s := S1x512) ![0, 0] ![1, 512] i7))
      (View.ld (Val := Elt Idealize.ShloMosaic.Ideal) (e' := .f32) x8 (Rect.unit (s := S1x512) ![0, 0] ![1, 512] i8)) (ix2 r j)
      = normed x4 x5 x6 x7 x8 n j := by
  rw [show n = (⟨o + r.val, by omega⟩ : Fin 1024) from Fin.ext hn]
  rw [normV_apply, ld_vector, ld_vector, ld_values x4 o ho, ld_scale x5 o ho, ld_scale x6 o ho]
  rfl

/-- One head of a strip, in the tile's coordinates. -/
theorem head_entry (o : ℕ) (ho : o + 256 ≤ 1024) (hc : o % 128 = 0) (h : Fin 4) (col : ℕ) (hcol : col = 128 * h.val) (s0 s1) (v : FVec Idealize.ShloMosaic.Ideal S256x512 .bf16)
    (hv : ∀ (r : Fin 256) (j : Fin 512) (n : Fin 1024), n.val = o + r.val → v (ix2 r j) = normed x4 x5 x6 x7 x8 n j)
    (iw ib) (r : Fin 256) (j : Fin 512) (d : Fin 128) (hj : j.val = col + d.val) (n : Fin 1024) (hn : n.val = o + r.val) :
    head col s0 s1 v (View.ld (Val := Elt Idealize.ShloMosaic.Ideal) (e' := .bf16) x9 (Rect.unit (s := S1x4x128x128) ![0, h.val, 0, 0] ![1, 1, 128, 128] iw))
      (View.ld (Val := Elt Idealize.ShloMosaic.Ideal) (e' := .f32) x10 (Rect.unit (s := S1x4x128x128) ![0, h.val, 0, 0] ![1, 1, 128, 128] ib)) (ix2 r d)
      = mix x4 x5 x6 x7 x8 x9 x10 n j := by
  have hh : (⟨j.val / 128, by omega⟩ : Fin 4) = h := Fin.ext (show j.val / 128 = h.val by omega)
  have hp : (⟨n.val % 128, by omega⟩ : Fin 128) = (⟨r.val % 128, by omega⟩ : Fin 128) := Fin.ext (show n.val % 128 = r.val % 128 by omega)
  have hd : (⟨j.val % 128, by omega⟩ : Fin 128) = d := Fin.ext (show j.val % 128 = d.val by omega)
  rw [head_apply col s0 s1 v _ _ r d j hj]
  unfold mix
  rw [hh, hp, hd]
  refine congrArg₂ (· + ·) (Finset.sum_congr rfl fun q _ => congrArg₂ (· * ·) ?_ ?_) ?_
  · exact ld_matrix x9 h iw _ q
  · exact hv _ j _ (show n.val / 128 * 128 + q.val = o + (r.val / 128 * 128 + q.val) by omega)
  · exact ld_bias x10 h ib _ d

theorem heads_entry (o : ℕ) (ho : o + 256 ≤ 1024) (hc : o % 128 = 0) (v : FVec Idealize.ShloMosaic.Ideal S256x512 .bf16)
    (hv : ∀ (r : Fin 256) (j : Fin 512) (n : Fin 1024), n.val = o + r.val → v (ix2 r j) = normed x4 x5 x6 x7 x8 n j)
    (r : Fin 256) (j : Fin 512) (n : Fin 1024) (hn : n.val = o + r.val) :
    heads v (View.ld (Val := Elt Idealize.ShloMosaic.Ideal) (e' := .bf16) x9 r0_5) (View.ld (Val := Elt Idealize.ShloMosaic.Ideal) (e' := .bf16) x9 r0_6)
      (View.ld (Val := Elt Idealize.ShloMosaic.Ideal) (e' := .bf16) x9 r0_7) (View.ld (Val := Elt Idealize.ShloMosaic.Ideal) (e' := .bf16) x9 r0_8)
      (View.ld (Val := Elt Idealize.ShloMosaic.Ideal) (e' := .f32) x10 r0_5) (View.ld (Val := Elt Idealize.ShloMosaic.Ideal) (e' := .f32) x10 r0_6)
      (View.ld (Val := Elt Idealize.ShloMosaic.Ideal) (e' := .f32) x10 r0_7) (View.ld (Val := Elt Idealize.ShloMosaic.Ideal) (e' := .f32) x10 r0_8) (ix2 r j)
      = mix x4 x5 x6 x7 x8 x9 x10 n j := by
  have hjl := j.isLt
  have hb : j.val / 128 = 0 ∨ j.val / 128 = 1 ∨ j.val / 128 = 2 ∨ j.val / 128 = 3 := by omega
  rcases hb with hb | hb | hb | hb
  · exact (heads_apply0 v _ _ _ _ _ _ _ _ r j (⟨j.val - 0, by omega⟩ : Fin 128) (show j.val = 0 + (j.val - 0) by omega)).trans
      (head_entry x4 x5 x6 x7 x8 x9 x10 o ho hc 0 0 rfl _ _ v hv _ _ r j _ (show j.val = 0 + (j.val - 0) by omega) n hn)
  · exact (heads_apply1 v _ _ _ _ _ _ _ _ r j (⟨j.val - 128, by omega⟩ : Fin 128) (show j.val = 128 + (j.val - 128) by omega)).trans
      (head_entry x4 x5 x6 x7 x8 x9 x10 o ho hc 1 128 rfl _ _ v hv _ _ r j _ (show j.val = 128 + (j.val - 128) by omega) n hn)
  · exact (heads_apply2 v _ _ _ _ _ _ _ _ r j (⟨j.val - 256, by omega⟩ : Fin 128) (show j.val = 256 + (j.val - 256) by omega)).trans
      (head_entry x4 x5 x6 x7 x8 x9 x10 o ho hc 2 256 rfl _ _ v hv _ _ r j _ (show j.val = 256 + (j.val - 256) by omega) n hn)
  · exact (heads_apply3 v _ _ _ _ _ _ _ _ r j (⟨j.val - 384, by omega⟩ : Fin 128) (show j.val = 384 + (j.val - 384) by omega)).trans
      (head_entry x4 x5 x6 x7 x8 x9 x10 o ho hc 3 384 rfl _ _ v hv _ _ r j _ (show j.val = 384 + (j.val - 384) by omega) n hn)

/-- One strip, as its store writes it. -/
theorem strip_store (o : ℕ) (ho : o + 256 ≤ 1024) (hc : o % 128 = 0) (i0 i1 i2 i4) (i7)
    (inb' : ∀ a, (![o, 0] : Fin 2 → ℕ) a + (![256, 512] : Fin 2 → ℕ) a ≤ S1024x512.size a)
    (x : (Rect.unit (s := S1024x512) ![o, 0] ![256, 512] inb').shape.Idx) :
    stored (View.ld (Val := Elt Idealize.ShloMosaic.Ideal) (e' := .bf16) x0 (Rect.unit (s := S1024x4096) ![o, 0] ![256, 4096] i0))
      (View.ld (Val := Elt Idealize.ShloMosaic.Ideal) (e' := .f32) x1 (Rect.unit (s := S1024x128) ![o, 0] ![256, 128] i1))
      (View.ld (Val := Elt Idealize.ShloMosaic.Ideal) (e' := .bf16) x2 (Rect.unit (s := S1x4096x512) ![0, 0, 0] ![1, 4096, 512] i2))
      (View.ld (Val := Elt Idealize.ShloMosaic.Ideal) (e' := .bf16) x3 (Rect.unit (s := S1x4096x512) ![0, 0, 0] ![1, 4096, 512] i2))
      (View.ld (Val := Elt Idealize.ShloMosaic.Ideal) (e' := .f32) x4 (Rect.unit (s := S1024x512) ![o, 0] ![256, 512] i4))
      (View.ld (Val := Elt Idealize.ShloMosaic.Ideal) (e' := .f32) x5 (Rect.unit (s := S1024x128) ![o, 0] ![256, 128] i1))
      (View.ld (Val := Elt Idealize.ShloMosaic.Ideal) (e' := .f32) x6 (Rect.unit (s := S1024x128) ![o, 0] ![256, 128] i1))
      (View.ld (Val := Elt Idealize.ShloMosaic.Ideal) (e' := .f32) x7 (Rect.unit (s := S1x512) ![0, 0] ![1, 512] i7))
      (View.ld (Val := Elt Idealize.ShloMosaic.Ideal) (e' := .f32) x8 (Rect.unit (s := S1x512) ![0, 0] ![1, 512] i7))
      (View.ld (Val := Elt Idealize.ShloMosaic.Ideal) (e' := .bf16) x9 r0_5) (View.ld (Val := Elt Idealize.ShloMosaic.Ideal) (e' := .bf16) x9 r0_6)
      (View.ld (Val := Elt Idealize.ShloMosaic.Ideal) (e' := .bf16) x9 r0_7) (View.ld (Val := Elt Idealize.ShloMosaic.Ideal) (e' := .bf16) x9 r0_8)
      (View.ld (Val := Elt Idealize.ShloMosaic.Ideal) (e' := .f32) x10 r0_5) (View.ld (Val := Elt Idealize.ShloMosaic.Ideal) (e' := .f32) x10 r0_6)
      (View.ld (Val := Elt Idealize.ShloMosaic.Ideal) (e' := .f32) x10 r0_7) (View.ld (Val := Elt Idealize.ShloMosaic.Ideal) (e' := .f32) x10 r0_8) x
      = tile x0 x1 x2 x3 x4 x5 x6 x7 x8 x9 x10 ((Rect.unit (s := S1024x512) ![o, 0] ![256, 512] inb').emb x) := by
  obtain ⟨r, j, rfl⟩ : ∃ (r : Fin 256) (j : Fin 512), x = ix2 r j := ⟨x 0, x 1, ValueIdx.eq_ix2 x⟩
  have eu := strip_ld x0 x1 x2 o ho i0 i1 i2 r j (⟨o + r.val, by omega⟩ : Fin 1024) rfl
  have ez := strip_ld x0 x1 x3 o ho i0 i1 i2 r j (⟨o + r.val, by omega⟩ : Fin 1024) rfl
  have em := heads_entry x4 x5 x6 x7 x8 x9 x10 o ho hc _ (norm_ld x4 x5 x6 x7 x8 o ho i4 i1 i1 i7 i7) r j (⟨o + r.val, by omega⟩ : Fin 1024) rfl
  refine (congrArg₂ (fun a b : EReal => a * b) (congrArg₂ (fun a b : EReal => gelu a * b) eu em) (congrArg (fun s : EReal => s * Idealize.ShloMosaic.Ideal.logistic s) ez)).trans ?_
  unfold tile
  refine congrArg₂ (entry x0 x1 x2 x3 x4 x5 x6 x7 x8 x9 x10) (Fin.ext ?_) (Fin.ext ?_)
  · exact (Rect.idx_unit_val (s := S1024x512) ![o, 0] ![256, 512] inb' (ix2 r j) 0).symm
  · exact ((Rect.idx_unit_val (s := S1024x512) ![o, 0] ![256, 512] inb' (ix2 r j) 1).trans (Nat.zero_add _)).symm

/-- The four stores are the tile. -/
theorem out_eq : out0_11 (F := Idealize.ShloMosaic.Ideal) x0 x1 x2 x3 x4 x5 x6 x7 x8 x9 x10 = tile x0 x1 x2 x3 x4 x5 x6 x7 x8 x9 x10 := by
  funext y
  unfold out0_11
  refine View.canon_apply_of_pieces (Val := Elt Idealize.ShloMosaic.Ideal) (e := .bf16) (tile x0 x1 x2 x3 x4 x5 x6 x7 x8 x9 x10) _ ?_ y (cover0_11 _ _ _ _ y)
  simp only [List.forall_mem_cons]
  unfold k0_pay60 k0_pay59 k0_pay58 k0_pay57 k0_pay56 k0_pay55
  refine ⟨?_, ?_, ?_, ?_, fun p hp => absurd hp List.not_mem_nil⟩
  · exact fun x => strip_store x0 x1 x2 x3 x4 x5 x6 x7 x8 x9 x10 768 (by decide) (by decide) inb_S1024x4096_S256x4096_768_0 inb_S1024x128_S256x128_768_0
      inb_S1x4096x512_S1x4096x512_0_0_0 inb_S1024x512_S256x512_768_0 inb_S1x512_S1x512_0_0 inb_S1024x512_S256x512_768_0 x
  · exact fun x => strip_store x0 x1 x2 x3 x4 x5 x6 x7 x8 x9 x10 512 (by decide) (by decide) inb_S1024x4096_S256x4096_512_0 inb_S1024x128_S256x128_512_0
      inb_S1x4096x512_S1x4096x512_0_0_0 inb_S1024x512_S256x512_512_0 inb_S1x512_S1x512_0_0 inb_S1024x512_S256x512_512_0 x
  · exact fun x => strip_store x0 x1 x2 x3 x4 x5 x6 x7 x8 x9 x10 256 (by decide) (by decide) inb_S1024x4096_S256x4096_256_0 inb_S1024x128_S256x128_256_0
      inb_S1x4096x512_S1x4096x512_0_0_0 inb_S1024x512_S256x512_256_0 inb_S1x512_S1x512_0_0 inb_S1024x512_S256x512_256_0 x
  · exact fun x => strip_store x0 x1 x2 x3 x4 x5 x6 x7 x8 x9 x10 0 (by decide) (by decide) inb_S1024x4096_S256x4096_0_0 inb_S1024x128_S256x128_0_0
      inb_S1x4096x512_S1x4096x512_0_0_0 inb_S1024x512_S256x512_0_0 inb_S1x512_S1x512_0_0 inb_S1024x512_S256x512_0_0 x
end
end Cert.SpatialProof
-- ==== Proof.FiniteSpatial.lean ====
/-
  What the spatial gating's precondition says: the activations, the row scales, the norm's weights and the projection are real numbers.
-/
module
public import proofs.«01_k».proof.Defs
public import proofs.«01_k».proof.Proof.Gen.Pre_finite_spatial
public import proofs.«01_k».proof.Proof.Finite
@[expose] public section
noncomputable section
namespace Cert.SpatialProof
open Cert.Pre_finite_spatial Idealize.ShloMosaic

/-- The precondition, read. -/
theorem finite_args [hP : Cert.Pre_finite_spatial.Facts] (x0 : FVec Idealize.ShloMosaic.Ideal S16384x4096 .bf16)
    (x1 : FVec Idealize.ShloMosaic.Ideal S16384 .f32) (x2 : FVec Idealize.ShloMosaic.Ideal S2x4096 .f32)
    (x3 : FVec Idealize.ShloMosaic.Ideal S2x4096x18432 .f32) (x4 : FVec Idealize.ShloMosaic.Ideal S16384x2048 .f32)
    (x5 x6 : FVec Idealize.ShloMosaic.Ideal S16384 .f32) (x7 x8 : FVec Idealize.ShloMosaic.Ideal S2x2048 .f32)
    (x9 : FVec Idealize.ShloMosaic.Ideal S2x16x128x128 .f32) (x10 : FVec Idealize.ShloMosaic.Ideal S2x16x128 .f32)
    (h : Cert.Pre_finite_spatial.fn (F := Idealize.ShloMosaic.Ideal) x0 x1 x2 x3 x4 x5 x6 x7 x8 x9 x10 = fun _ => 1#1) :
    (∃ X : S16384x4096.Idx → ℝ, x0 = fun i => ((X i : ℝ) : EReal)) ∧ (∃ X : S16384.Idx → ℝ, x1 = fun i => ((X i : ℝ) : EReal))
      ∧ (∃ X : S2x4096.Idx → ℝ, x2 = fun i => ((X i : ℝ) : EReal)) ∧ ∃ X : S2x4096x18432.Idx → ℝ, x3 = fun i => ((X i : ℝ) : EReal) := by
  haveI : Subsingleton S_.Idx := ⟨fun a b => funext fun i => i.elim0⟩
  have h0 := congrFun h (fun a => a.elim0)
  dsimp only [Cert.Pre_finite_spatial.fn, Cert.Pre_finite_spatial.fn_part1] at h0
  obtain ⟨habc, hd⟩ := IntOp.andi_eq_one.1 h0
  obtain ⟨hab, hc⟩ := IntOp.andi_eq_one.1 habc
  obtain ⟨ha, hb⟩ := IntOp.andi_eq_one.1 hab
  have ra : ∀ i : S16384x4096.Idx, ∃ r : ℝ, x0 i = (r : EReal) := fun i => Cert.Mix.real_of_abs_lt (x0 i) (Host.reduce_andi_all _ _ _ _ _ ha i)
  have rb : ∀ i : S16384.Idx, ∃ r : ℝ, x1 i = (r : EReal) := fun i => Cert.Mix.real_of_abs_lt (x1 i) (Host.reduce_andi_all _ _ _ _ _ hb i)
  have rc : ∀ i : S2x4096.Idx, ∃ r : ℝ, x2 i = (r : EReal) := fun i => Cert.Mix.real_of_abs_lt (x2 i) (Host.reduce_andi_all _ _ _ _ _ hc i)
  have rd : ∀ i : S2x4096x18432.Idx, ∃ r : ℝ, x3 i = (r : EReal) := fun i => Cert.Mix.real_of_abs_lt (x3 i) (Host.reduce_andi_all _ _ _ _ _ hd i)
  choose A hA using ra
  choose B hB using rb
  choose C hC using rc
  choose D hD using rd
  exact ⟨⟨A, funext hA⟩, ⟨B, funext hB⟩, ⟨C, funext hC⟩, D, funext hD⟩
end Cert.SpatialProof
-- ==== Proof.SpatialValue.lean ====
/-
  The spatial gating as a whole: block by block the launch writes the reference's gated entries, the rows scaled after the product and
  not before it, and each head's mixing read chunk by chunk.
-/
module
public import proofs.«01_k».proof.Proof.SpatialPoint
public import proofs.«01_k».proof.Proof.Gen.SpatialReferenceIdeal.Read
public import proofs.«01_k».proof.Proof.FiniteSpatial
public import proofs.«01_k».proof.Proof.GatesValue
public import proofs.«01_k».proof.Proof.Half
public import Idealize.ShloMosaic.Lib.Affine
public import Idealize.ShloMosaic.Lib.StableHlo.RunRead
public import Idealize.ShloMosaic.PureOps.Ideal.Laws
@[expose] public section
set_option maxRecDepth 16384
noncomputable section
namespace Cert.SpatialProof
open Cert.SpatialIdeal Cert.SpatialIdeal.Gen
open Idealize.ShloMosaic hiding ix0 ix1 ix2 ix3 ix4 ix5
open Idealize.ShloMosaic.TcCoe Idealize.SL.Sem
open Idealize.ShloMosaic.ValueIdx
open scoped BigOperators

/-! ## The reference, entry by entry -/

section
open Cert.SpatialReferenceIdeal.Read
variable (x0 : FVec Idealize.ShloMosaic.Ideal Cert.SpatialReferenceIdeal.S16384x4096 .bf16) (x1 : FVec Idealize.ShloMosaic.Ideal Cert.SpatialReferenceIdeal.S16384 .f32)
  (x2 : FVec Idealize.ShloMosaic.Ideal Cert.SpatialReferenceIdeal.S2x4096 .f32) (x3 : FVec Idealize.ShloMosaic.Ideal Cert.SpatialReferenceIdeal.S2x4096x18432 .f32)
  (x4 : FVec Idealize.ShloMosaic.Ideal Cert.SpatialReferenceIdeal.S16384x2048 .f32) (x5 x6 : FVec Idealize.ShloMosaic.Ideal Cert.SpatialReferenceIdeal.S16384 .f32) (x7 x8 : FVec Idealize.ShloMosaic.Ideal Cert.SpatialReferenceIdeal.S2x2048 .f32)
  (x9 : FVec Idealize.ShloMosaic.Ideal Cert.SpatialReferenceIdeal.S2x16x128x128 .f32) (x10 : FVec Idealize.ShloMosaic.Ideal Cert.SpatialReferenceIdeal.S2x16x128 .f32)

/-- The normalised activation. -/
theorem activation (r : Fin 16384) (k : Fin 4096) :
    val_main_v8 (F := Idealize.ShloMosaic.Ideal) x0 x1 x2 (ix2 r k) = x0 (ix2 r k) * x1 (ix1 r) * x2 (ix2 1 k) := by
  have hk := k.isLt
  rw [val_main_v8_apply, Ideal.mulf_def, val_main_v3_apply, Ideal.mulf_def, val_main_v0_apply, Ideal.extf_def, val_main_v2_apply,
    val_main_v1_apply, val_main_v7_apply, val_main_v6_apply, val_main_v5_apply, val_main_v4_apply]
  refine congrArg₂ (· * ·) (congrArg (_ * ·) ?_) ?_
  · exact congrArg _ (funext fun a => match a with | ⟨0, _⟩ => rfl)
  · refine congrArg _ (funext fun a => Fin.ext ?_)
    match a with
    | ⟨0, _⟩ => rfl
    | ⟨1, _⟩ => show k.val % 4096 = k.val; omega

/-- One entry of the projection, `o` columns on. -/
def proj (o : ℕ) (ho : o + 2048 ≤ 18432) (r : Fin 16384) (n : Fin 2048) : EReal :=
  ∑ k : Fin 4096, x0 (ix2 r k) * x1 (ix1 r) * x2 (ix2 1 k) * x3 (ix3 1 k (⟨o + n.val, by omega⟩ : Fin 18432))
/-- The projection's column. -/
theorem weight0 (k : Fin 4096) (n : Fin 2048) :
    val_main_v10 (F := Idealize.ShloMosaic.Ideal) x3 (ix2 k n) = x3 (ix3 1 k (⟨0 + n.val, by omega⟩ : Fin 18432)) := by
  have hk := k.isLt; have hn := n.isLt
  rw [val_main_v10_apply, val_main_v9_apply]
  refine congrArg _ (funext fun a => Fin.ext ?_)
  match a with
  | ⟨0, _⟩ => rfl
  | ⟨1, _⟩ => show (k.val * 2048 + n.val) / 2048 % 4096 = k.val; omega
  | ⟨2, _⟩ => show (k.val * 2048 + n.val) % 2048 = 0 + n.val; omega
theorem proj0 (r : Fin 16384) (n : Fin 2048) : val_main_v11 (F := Idealize.ShloMosaic.Ideal) x0 x1 x2 x3 (ix2 r n) = proj x0 x1 x2 x3 0 (by decide) r n := by
  rw [val_main_v11_apply]
  unfold proj
  refine Finset.sum_congr rfl fun k _ => congrArg₂ (· * ·) ?_ ?_
  · rw [← activation x0 x1 x2 r k]
    exact congrArg _ (funext fun a => match a with | ⟨0, _⟩ => rfl | ⟨1, _⟩ => rfl)
  · rw [← weight0 x3 k n]
    exact congrArg _ (funext fun a => match a with | ⟨0, _⟩ => rfl | ⟨1, _⟩ => rfl)
/-- The projection's column. -/
theorem weight4096 (k : Fin 4096) (n : Fin 2048) :
    val_main_v26 (F := Idealize.ShloMosaic.Ideal) x3 (ix2 k n) = x3 (ix3 1 k (⟨4096 + n.val, by omega⟩ : Fin 18432)) := by
  have hk := k.isLt; have hn := n.isLt
  rw [val_main_v26_apply, val_main_v25_apply]
  refine congrArg _ (funext fun a => Fin.ext ?_)
  match a with
  | ⟨0, _⟩ => rfl
  | ⟨1, _⟩ => show (k.val * 2048 + n.val) / 2048 % 4096 = k.val; omega
  | ⟨2, _⟩ => show 4096 + (k.val * 2048 + n.val) % 2048 = 4096 + n.val; omega
theorem proj4096 (r : Fin 16384) (n : Fin 2048) : val_main_v27 (F := Idealize.ShloMosaic.Ideal) x0 x1 x2 x3 (ix2 r n) = proj x0 x1 x2 x3 4096 (by decide) r n := by
  rw [val_main_v27_apply]
  unfold proj
  refine Finset.sum_congr rfl fun k _ => congrArg₂ (· * ·) ?_ ?_
  · rw [← activation x0 x1 x2 r k]
    exact congrArg _ (funext fun a => match a with | ⟨0, _⟩ => rfl | ⟨1, _⟩ => rfl)
  · rw [← weight4096 x3 k n]
    exact congrArg _ (funext fun a => match a with | ⟨0, _⟩ => rfl | ⟨1, _⟩ => rfl)
/-- The first projection's gelu. -/
theorem ref_gelu (r : Fin 16384) (n : Fin 2048) : val_main_v24 (F := Idealize.ShloMosaic.Ideal) x0 x1 x2 x3 (ix2 r n) = gelu (proj x0 x1 x2 x3 0 (by decide) r n) := by
  rw [val_main_v24_apply, Ideal.mulf_def, val_main_v23_apply, Ideal.mulf_def, val_main_v22_apply, val_main_cst_2_apply, val_main_v21_apply, Ideal.addf_def,
    val_main_v20_apply, val_main_cst_1_apply, val_main_v19_apply, val_main_v18_apply, Ideal.mulf_def, val_main_v17_apply, val_main_cst_0_apply,
    val_main_v16_apply, Ideal.addf_def, val_main_v15_apply, Ideal.mulf_def, val_main_v14_apply, val_main_cst_apply, val_main_v13_apply, Ideal.mulf_def,
    val_main_v12_apply, Ideal.mulf_def, proj0]
  generalize (proj x0 x1 x2 x3 0 (by decide) r n : EReal) = p
  unfold gelu
  rw [mul_comm p (p * p)]
  rfl
/-- The second projection times its sigmoid. -/
theorem ref_gate (r : Fin 16384) (n : Fin 2048) : val_main_v57 (F := Idealize.ShloMosaic.Ideal) x0 x1 x2 x3 (ix2 r n)
    = proj x0 x1 x2 x3 4096 (by decide) r n * Idealize.ShloMosaic.Ideal.logistic (proj x0 x1 x2 x3 4096 (by decide) r n) := by
  have h1 : (FloatOps.ofBits (F := Idealize.ShloMosaic.Ideal) .f32 0x3F800000#32 : EReal) = 1 := by
    show (Idealize.ShloMosaic.Ideal.ofBits .f32 0x3F800000#32 : EReal) = 1
    rw [show (Idealize.ShloMosaic.Ideal.ofBits .f32 0x3F800000#32 : EReal) = ((1 : ℝ) : EReal) from by simp [Idealize.ShloMosaic.Ideal.ofBits, Idealize.ShloMosaic.Ideal.ieee, -EReal.coe_mul]; norm_num, EReal.coe_one]
  rw [val_main_v57_apply, Ideal.mulf_def, val_main_call0_v5_apply, Ideal.hostDivf_def, val_main_call0_v4_apply,
    val_main_call0_cst_0_apply, val_main_call0_v3_apply, Ideal.addf_def, val_main_call0_v2_apply, val_main_call0_cst_apply,
    val_main_call0_v1_apply, Ideal.hostUnary_exp_def, val_main_call0_v0_apply, Ideal.hostNegf_def, Ideal.negf_def, proj4096, h1]
  rfl

/-- One entry of the layer norm's output. -/
def scaled (r : Fin 16384) (n : Fin 2048) : EReal := ((x4 (ix2 r n) - x5 (ix1 r)) * x6 (ix1 r)) * x7 (ix2 1 n) + x8 (ix2 1 n)
theorem ref_scaled (r : Fin 16384) (n : Fin 2048) : val_main_v43 (F := Idealize.ShloMosaic.Ideal) x4 x5 x6 x7 x8 (ix2 r n) = scaled x4 x5 x6 x7 x8 r n := by
  have hn := n.isLt
  rw [val_main_v43_apply, Ideal.addf_def, val_main_v38_apply, Ideal.mulf_def, val_main_v33_apply, Ideal.mulf_def, val_main_v30_apply, Ideal.subf_def,
    val_main_v29_apply, val_main_v28_apply, val_main_v32_apply, val_main_v31_apply, val_main_v37_apply, val_main_v36_apply, val_main_v35_apply, val_main_v34_apply,
    val_main_v42_apply, val_main_v41_apply, val_main_v40_apply, val_main_v39_apply]
  unfold scaled
  refine congrArg₂ (· + ·) (congrArg₂ (· * ·) (congrArg₂ (· * ·) (congrArg (_ - ·) ?_) ?_) ?_) ?_
  · exact congrArg _ (funext fun a => match a with | ⟨0, _⟩ => rfl)
  · exact congrArg _ (funext fun a => match a with | ⟨0, _⟩ => rfl)
  · refine congrArg _ (funext fun a => Fin.ext ?_)
    match a with
    | ⟨0, _⟩ => rfl
    | ⟨1, _⟩ => show n.val % 2048 = n.val; omega
  · refine congrArg _ (funext fun a => Fin.ext ?_)
    match a with
    | ⟨0, _⟩ => rfl
    | ⟨1, _⟩ => show n.val % 2048 = n.val; omega

/-- The mixing by chunk, position, head and column. -/
theorem ref_chunks (c p : Fin 128) (h : Fin 16) (d : Fin 128) : val_main_v54 (F := Idealize.ShloMosaic.Ideal) x4 x5 x6 x7 x8 x9 x10 (ix4 c p h d)
    = (∑ q : Fin 128, x9 (ix4 1 h p q) * scaled x4 x5 x6 x7 x8 (⟨128 * c.val + q.val, by omega⟩ : Fin 16384) (⟨128 * h.val + d.val, by omega⟩ : Fin 2048)) + x10 (ix3 1 h p) := by
  have hc := c.isLt; have hp := p.isLt; have hh := h.isLt; have hd := d.isLt
  rw [val_main_v54_apply, Ideal.addf_def, val_main_v48_apply, val_main_v47_apply, val_main_v53_apply, val_main_v52_apply, val_main_v51_apply, val_main_v50_apply, val_main_v49_apply]
  refine congrArg₂ (· + ·) (Finset.sum_congr rfl fun q _ => (mul_comm _ _).trans (congrArg₂ (· * ·) ?_ ?_)) ?_
  · have hq := q.isLt
    rw [val_main_v46_apply, val_main_v45_apply]
    refine congrArg _ (funext fun a => Fin.ext ?_)
    match a with
    | ⟨0, _⟩ => rfl
    | ⟨1, _⟩ => show ((h.val * 128 + p.val) * 128 + q.val) / 16384 % 16 = h.val; omega
    | ⟨2, _⟩ => show ((h.val * 128 + p.val) * 128 + q.val) / 128 % 128 = p.val; omega
    | ⟨3, _⟩ => show ((h.val * 128 + p.val) * 128 + q.val) % 128 = q.val; omega
  · have hq := q.isLt
    rw [val_main_v44_apply, ← ref_scaled]
    refine congrArg _ (funext fun a => Fin.ext ?_)
    match a with
    | ⟨0, _⟩ => show (((c.val * 128 + q.val) * 16 + h.val) * 128 + d.val) / 2048 = 128 * c.val + q.val; omega
    | ⟨1, _⟩ => show (((c.val * 128 + q.val) * 16 + h.val) * 128 + d.val) % 2048 = 128 * h.val + d.val; omega
  · refine congrArg _ (funext fun a => Fin.ext ?_)
    match a with
    | ⟨0, _⟩ => rfl
    | ⟨1, _⟩ => show (h.val * 128 + p.val) / 128 % 16 = h.val; omega
    | ⟨2, _⟩ => show (h.val * 128 + p.val) % 128 = p.val; omega
/-- The mixing by row and column. -/
def mixing (r : Fin 16384) (n : Fin 2048) : EReal :=
  (∑ q : Fin 128, x9 (ix4 1 (⟨n.val / 128, by omega⟩ : Fin 16) (⟨r.val % 128, by omega⟩ : Fin 128) q)
    * scaled x4 x5 x6 x7 x8 (⟨128 * (r.val / 128) + q.val, by omega⟩ : Fin 16384) n) + x10 (ix3 1 (⟨n.val / 128, by omega⟩ : Fin 16) (⟨r.val % 128, by omega⟩ : Fin 128))
theorem ref_mixing (r : Fin 16384) (n : Fin 2048) : val_main_v55 (F := Idealize.ShloMosaic.Ideal) x4 x5 x6 x7 x8 x9 x10 (ix2 r n) = mixing x4 x5 x6 x7 x8 x9 x10 r n := by
  have hr := r.isLt; have hn := n.isLt
  have e : idx_main_v55 (ix2 r n) = ix4 (⟨r.val / 128, by omega⟩ : Fin 128) (⟨r.val % 128, by omega⟩ : Fin 128) (⟨n.val / 128, by omega⟩ : Fin 16) (⟨n.val % 128, by omega⟩ : Fin 128) := by
    refine funext fun a => Fin.ext ?_
    match a with
    | ⟨0, _⟩ => show (r.val * 2048 + n.val) / 262144 = r.val / 128; omega
    | ⟨1, _⟩ => show (r.val * 2048 + n.val) / 2048 % 128 = r.val % 128; omega
    | ⟨2, _⟩ => show (r.val * 2048 + n.val) / 128 % 16 = n.val / 128; omega
    | ⟨3, _⟩ => show (r.val * 2048 + n.val) % 128 = n.val % 128; omega
  rw [val_main_v55_apply, e, ref_chunks]
  unfold mixing
  refine congrArg (· + _) (Finset.sum_congr rfl fun q _ => congrArg (_ * ·) (congrArg (scaled x4 x5 x6 x7 x8 _) (Fin.ext ?_)))
  show 128 * (n.val / 128) + n.val % 128 = n.val
  omega
/-- The result's entries. -/
theorem ref_entry (r : Fin 16384) (n : Fin 2048) : val_main_v59 (F := Idealize.ShloMosaic.Ideal) x0 x1 x2 x3 x4 x5 x6 x7 x8 x9 x10 (ix2 r n)
    = gelu (proj x0 x1 x2 x3 0 (by decide) r n) * mixing x4 x5 x6 x7 x8 x9 x10 r n
      * (proj x0 x1 x2 x3 4096 (by decide) r n * Idealize.ShloMosaic.Ideal.logistic (proj x0 x1 x2 x3 4096 (by decide) r n)) := by
  rw [val_main_v59_apply, Ideal.truncf_def, val_main_v58_apply, Ideal.mulf_def, val_main_v56_apply, Ideal.mulf_def, ref_gelu, ref_mixing, ref_gate]
end

/-! ## The launch -/

theorem idx_in : ∀ t : Fin grid0.N, win0_0.index t = ![t.val / 4, 0] ∧ win0_1.index t = ![t.val / 4, 0]
    ∧ win0_2.index t = ![1, 0, t.val % 4] ∧ win0_3.index t = ![1, 0, 8 + t.val % 4] ∧ win0_4.index t = ![t.val / 4, t.val % 4]
    ∧ win0_5.index t = ![t.val / 4, 0] ∧ win0_6.index t = ![t.val / 4, 0] ∧ win0_7.index t = ![0, t.val % 4] ∧ win0_8.index t = ![0, t.val % 4]
    ∧ win0_9.index t = ![1, t.val % 4, 0, 0] ∧ win0_10.index t = ![1, t.val % 4, 0, 0] ∧ win0_11.index t = ![t.val / 4, t.val % 4] := by decide +kernel

variable (m : (ℓ : Loc nD τ sig) → Buf (Elt Idealize.ShloMosaic.Ideal) ℓ) (c : Dev nD)

/-- The weights the launch reads: the projection, each row scaled by the norm's weight. -/
theorem w_word (l : Fin 2) (k : Fin 4096) (n : Fin 18432) : V m c main_v7 (ix3 l k n)
    = @HMul.hMul EReal EReal EReal _ (m ((c : Thread nD τ).loc main_arg2) (ix2 l k)) (m ((c : Thread nD τ).loc main_arg3) (ix3 l k n)) := by
  unfold_abbrev_sides; after_reads_simp
  refine (show _ = FloatOps.mulf (F := Idealize.ShloMosaic.Ideal) (φ := .f32) _ _ from rfl).trans ?_
  rw [Ideal.mulf_def]
  refine congrArg₂ (· * ·) ?_ rfl
  refine (broadcastInDim_apply (![0, 1, 2] : Fin 3 → Fin 3) bcast_S2x4096x1_S2x4096x18432_0_1_2 _ (ix3 l k n) (ix3 l k (0 : Fin 1)) ?_).trans ?_
  · intro a; fin_cases a <;> rfl
  · refine broadcastInDim_apply (![0, 1] : Fin 2 → Fin 3) bcast_S2x4096_S2x4096x1_0_1 _ (ix3 l k (0 : Fin 1)) (ix2 l k) ?_
    intro a; fin_cases a <;> rfl
/-- The row values the launch reads, argument 1. -/
theorem row_word1 (r : Fin 16384) (l : Fin 128) : V m c main_v3 (ix2 r l) = m ((c : Thread nD τ).loc main_arg1) (ix1 r) := by
  unfold_abbrev_sides; after_reads_simp
  refine (broadcastInDim_apply (![0, 1] : Fin 2 → Fin 2) bcast_S16384x1_S16384x128_0_1 _ (ix2 r l) (ix2 r (0 : Fin 1)) ?_).trans ?_
  · intro a; fin_cases a <;> rfl
  · refine broadcastInDim_apply (![0] : Fin 1 → Fin 2) bcast_S16384_S16384x1_0 _ (ix2 r (0 : Fin 1)) (ix1 r) ?_
    intro a; fin_cases a; rfl
/-- The row values the launch reads, argument 5. -/
theorem row_word5 (r : Fin 16384) (l : Fin 128) : V m c main_v9 (ix2 r l) = m ((c : Thread nD τ).loc main_arg5) (ix1 r) := by
  unfold_abbrev_sides; after_reads_simp
  refine (broadcastInDim_apply (![0, 1] : Fin 2 → Fin 2) bcast_S16384x1_S16384x128_0_1 _ (ix2 r l) (ix2 r (0 : Fin 1)) ?_).trans ?_
  · intro a; fin_cases a <;> rfl
  · refine broadcastInDim_apply (![0] : Fin 1 → Fin 2) bcast_S16384_S16384x1_0 _ (ix2 r (0 : Fin 1)) (ix1 r) ?_
    intro a; fin_cases a; rfl
/-- The row values the launch reads, argument 6. -/
theorem row_word6 (r : Fin 16384) (l : Fin 128) : V m c main_v11 (ix2 r l) = m ((c : Thread nD τ).loc main_arg6) (ix1 r) := by
  unfold_abbrev_sides; after_reads_simp
  refine (broadcastInDim_apply (![0, 1] : Fin 2 → Fin 2) bcast_S16384x1_S16384x128_0_1 _ (ix2 r l) (ix2 r (0 : Fin 1)) ?_).trans ?_
  · intro a; fin_cases a <;> rfl
  · refine broadcastInDim_apply (![0] : Fin 1 → Fin 2) bcast_S16384_S16384x1_0 _ (ix2 r (0 : Fin 1)) (ix1 r) ?_
    intro a; fin_cases a; rfl
/-- The column values the launch reads, argument 7. -/
theorem column_word7 (n : Fin 2048) : V m c main_v17 (ix2 0 n) = m ((c : Thread nD τ).loc main_arg7) (ix2 1 n) := by
  unfold_abbrev_sides; after_reads_simp
  refine (shapeCast_apply _ shapeCasts_S2048_S1x2048 (ix2 0 n) (ix1 n) (by
    rw [Shape.rowMajor_val_one, Shape.rowMajor_val_two]; show n.val = 0 * 2048 + n.val; omega)).trans ?_
  refine (shapeCast_apply _ shapeCasts_S1x2048_S2048 (ix1 n) (ix2 0 n) (by
    rw [Shape.rowMajor_val_one, Shape.rowMajor_val_two]; show 0 * 2048 + n.val = n.val; omega)).trans ?_
  refine extractStridedSlice_apply _ _ slices_S2x2048_S1x2048_1_0 _ _ ?_
  intro a; fin_cases a
  · rfl
  · exact (Nat.zero_add _).symm
/-- The column values the launch reads, argument 8. -/
theorem column_word8 (n : Fin 2048) : V m c main_v18 (ix2 0 n) = m ((c : Thread nD τ).loc main_arg8) (ix2 1 n) := by
  unfold_abbrev_sides; after_reads_simp
  refine (shapeCast_apply _ shapeCasts_S2048_S1x2048 (ix2 0 n) (ix1 n) (by
    rw [Shape.rowMajor_val_one, Shape.rowMajor_val_two]; show n.val = 0 * 2048 + n.val; omega)).trans ?_
  refine (shapeCast_apply _ shapeCasts_S1x2048_S2048 (ix1 n) (ix2 0 n) (by
    rw [Shape.rowMajor_val_one, Shape.rowMajor_val_two]; show 0 * 2048 + n.val = n.val; omega)).trans ?_
  refine extractStridedSlice_apply _ _ slices_S2x2048_S1x2048_1_0 _ _ ?_
  intro a; fin_cases a
  · rfl
  · exact (Nat.zero_add _).symm
/-- The heads' matrices the launch reads. -/
theorem matrix_word (l : Fin 2) (h : Fin 16) (p q : Fin 128) : V m c main_v16 (ix4 l h p q) = m ((c : Thread nD τ).loc main_arg9) (ix4 l h p q) := by
  unfold_abbrev_sides; after_reads_simp
  rfl
/-- The heads' biases the launch reads. -/
theorem bias_word (l : Fin 2) (h : Fin 16) (p d : Fin 128) : V m c main_v1 (ix4 l h p d) = m ((c : Thread nD τ).loc main_arg10) (ix3 l h p) := by
  unfold_abbrev_sides; after_reads_simp
  refine (broadcastInDim_apply (![0, 1, 2, 3] : Fin 4 → Fin 4) bcast_S2x16x128x1_S2x16x128x128_0_1_2_3 _ (ix4 l h p d) (ix4 l h p (0 : Fin 1)) ?_).trans ?_
  · intro a; fin_cases a <;> rfl
  · refine broadcastInDim_apply (![0, 1, 2] : Fin 3 → Fin 4) bcast_S2x16x128_S2x16x128x1_0_1_2 _ (ix4 l h p (0 : Fin 1)) (ix3 l h p) ?_
    intro a; fin_cases a <;> rfl

variable (t : Fin cfg0.N)
theorem lt_N : t.val < 64 := lt_of_lt_of_eq t.isLt N_0
/-- A block's row in the array, … -/
def row (r : Fin 1024) : Fin 16384 := ⟨1024 * (t.val / 4) + r.val, by have := lt_N t; omega⟩
/-- … its column, … -/
def column (j : Fin 512) : Fin 2048 := ⟨512 * (t.val % 4) + j.val, by omega⟩
/-- … and its head. -/
def headOf (h : Fin 4) : Fin 16 := ⟨4 * (t.val % 4) + h.val, by omega⟩

theorem iblk0_apply (r : Fin 1024) (k : Fin 4096) : iblk m c 0 t (ix2 r k) = V m c main_arg0 (ix2 (row t r) k) := by
  have e := (idx_in t).1
  have := lt_N t
  unfold row
  blk_ext [iblk, e]
  all_goals first | exact congrArg (· + _) (Nat.mul_comm _ _) | exact Nat.mul_one _
theorem iblk1_apply (r : Fin 1024) (k : Fin 128) : iblk m c 1 t (ix2 r k) = V m c main_v3 (ix2 (row t r) k) := by
  have e := (idx_in t).2.1
  have := lt_N t
  unfold row
  blk_ext [iblk, e]
  all_goals first | exact congrArg (· + _) (Nat.mul_comm _ _) | exact Nat.mul_one _
theorem iblk5_apply (r : Fin 1024) (k : Fin 128) : iblk m c 5 t (ix2 r k) = V m c main_v9 (ix2 (row t r) k) := by
  have e := (idx_in t).2.2.2.2.2.1
  have := lt_N t
  unfold row
  blk_ext [iblk, e]
  all_goals first | exact congrArg (· + _) (Nat.mul_comm _ _) | exact Nat.mul_one _
theorem iblk6_apply (r : Fin 1024) (k : Fin 128) : iblk m c 6 t (ix2 r k) = V m c main_v11 (ix2 (row t r) k) := by
  have e := (idx_in t).2.2.2.2.2.2.1
  have := lt_N t
  unfold row
  blk_ext [iblk, e]
  all_goals first | exact congrArg (· + _) (Nat.mul_comm _ _) | exact Nat.mul_one _
theorem iblk2_apply (k : Fin 4096) (j : Fin 512) :
    iblk m c 2 t (ix3 0 k j) = V m c main_v7 (ix3 1 k (⟨0 + (column t j).val, by omega⟩ : Fin 18432)) := by
  have e := (idx_in t).2.2.1
  have := lt_N t
  unfold column
  blk_ext [iblk, e]
  all_goals first | exact congrArg (· + _) (Nat.mul_comm _ _) | exact Nat.mul_one _ | exact (show t.val % 4 * 512 + j.val = 0 + (512 * (t.val % 4) + j.val) by omega)
theorem iblk3_apply (k : Fin 4096) (j : Fin 512) :
    iblk m c 3 t (ix3 0 k j) = V m c main_v7 (ix3 1 k (⟨4096 + (column t j).val, by omega⟩ : Fin 18432)) := by
  have e := (idx_in t).2.2.2.1
  have := lt_N t
  unfold column
  blk_ext [iblk, e]
  all_goals first | exact congrArg (· + _) (Nat.mul_comm _ _) | exact Nat.mul_one _ | exact (show (8 + t.val % 4) * 512 + j.val = 4096 + (512 * (t.val % 4) + j.val) by omega)
theorem iblk4_apply (r : Fin 1024) (j : Fin 512) : iblk m c 4 t (ix2 r j) = V m c main_arg4 (ix2 (row t r) (column t j)) := by
  have e := (idx_in t).2.2.2.2.1
  have := lt_N t
  unfold row column
  blk_ext [iblk, e]
  all_goals first | exact congrArg (· + _) (Nat.mul_comm _ _) | exact Nat.mul_one _
theorem iblk7_apply (j : Fin 512) : iblk m c 7 t (ix2 0 j) = V m c main_v17 (ix2 0 (column t j)) := by
  have e := (idx_in t).2.2.2.2.2.2.2.1
  have := lt_N t
  unfold column
  blk_ext [iblk, e]
  all_goals first | exact congrArg (· + _) (Nat.mul_comm _ _) | exact Nat.mul_one _
theorem iblk8_apply (j : Fin 512) : iblk m c 8 t (ix2 0 j) = V m c main_v18 (ix2 0 (column t j)) := by
  have e := (idx_in t).2.2.2.2.2.2.2.2.1
  have := lt_N t
  unfold column
  blk_ext [iblk, e]
  all_goals first | exact congrArg (· + _) (Nat.mul_comm _ _) | exact Nat.mul_one _
theorem iblk9_apply (h : Fin 4) (p q : Fin 128) : iblk m c 9 t (ix4 0 h p q) = V m c main_v16 (ix4 1 (headOf t h) p q) := by
  have e := (idx_in t).2.2.2.2.2.2.2.2.2.1
  have := lt_N t
  unfold headOf
  blk_ext [iblk, e]
  all_goals first | exact congrArg (· + _) (Nat.mul_comm _ _) | exact Nat.mul_one _
theorem iblk10_apply (h : Fin 4) (p q : Fin 128) : iblk m c 10 t (ix4 0 h p q) = V m c main_v1 (ix4 1 (headOf t h) p q) := by
  have e := (idx_in t).2.2.2.2.2.2.2.2.2.2.1
  have := lt_N t
  unfold headOf
  blk_ext [iblk, e]
  all_goals first | exact congrArg (· + _) (Nat.mul_comm _ _) | exact Nat.mul_one _

/-- One entry of a block's layer norm: the reference's. -/
theorem norm_entry (r : Fin 1024) (j : Fin 512) : normed (iblk m c 4 t) (iblk m c 5 t) (iblk m c 6 t) (iblk m c 7 t) (iblk m c 8 t) r j
    = scaled (m ((c : Thread nD τ).loc main_arg4)) (m ((c : Thread nD τ).loc main_arg5)) (m ((c : Thread nD τ).loc main_arg6)) (m ((c : Thread nD τ).loc main_arg7)) (m ((c : Thread nD τ).loc main_arg8)) (row t r) (column t j) := by
  unfold normed scaled
  refine congrArg₂ (· + ·) (congrArg₂ (· * ·) (congrArg₂ (· * ·) (congrArg₂ (· - ·) ?_ ?_) ?_) ?_) ?_
  · rw [iblk4_apply, V_main_arg4]
  · rw [iblk5_apply, row_word5]
  · rw [iblk6_apply, row_word6]
  · rw [iblk7_apply, column_word7]
  · rw [iblk8_apply, column_word8]
/-- One entry of a block's mixing: the reference's. -/
theorem mix_entry (r : Fin 1024) (j : Fin 512) :
    mix (iblk m c 4 t) (iblk m c 5 t) (iblk m c 6 t) (iblk m c 7 t) (iblk m c 8 t) (iblk m c 9 t) (iblk m c 10 t) r j
    = mixing (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (row t r) (column t j) := by
  have hN := lt_N t
  have hh : headOf t (⟨j.val / 128, by omega⟩ : Fin 4) = (⟨(column t j).val / 128, by omega⟩ : Fin 16) :=
    Fin.ext (show 4 * (t.val % 4) + j.val / 128 = (512 * (t.val % 4) + j.val) / 128 by omega)
  have hp : (⟨r.val % 128, by omega⟩ : Fin 128) = (⟨(row t r).val % 128, by omega⟩ : Fin 128) :=
    Fin.ext (show r.val % 128 = (1024 * (t.val / 4) + r.val) % 128 by omega)
  unfold mix mixing
  refine congrArg₂ (· + ·) (Finset.sum_congr rfl fun q _ => congrArg₂ (· * ·) ?_ ?_) ?_
  · rw [iblk9_apply, matrix_word, hh, hp]
  · rw [norm_entry]
    refine congrArg (fun x => scaled _ _ _ _ _ x _) (Fin.ext ?_)
    show 1024 * (t.val / 4) + (r.val / 128 * 128 + q.val) = 128 * ((1024 * (t.val / 4) + r.val) / 128) + q.val
    omega
  · rw [iblk10_apply, bias_word, hh, hp]

variable (H : S16384x4096.Idx → ℝ) (R : S16384.Idx → ℝ) (G : S2x4096.Idx → ℝ) (W : S2x4096x18432.Idx → ℝ)
  (h0 : (m ((c : Thread nD τ).loc main_arg0) : S16384x4096.Idx → EReal) = fun i => ((H i : ℝ) : EReal))
  (h1 : (m ((c : Thread nD τ).loc main_arg1) : S16384.Idx → EReal) = fun i => ((R i : ℝ) : EReal))
  (h2 : (m ((c : Thread nD τ).loc main_arg2) : S2x4096.Idx → EReal) = fun i => ((G i : ℝ) : EReal))
  (h3 : (m ((c : Thread nD τ).loc main_arg3) : S2x4096x18432.Idx → EReal) = fun i => ((W i : ℝ) : EReal))
include h0 h1 h2 h3

/-- One entry of a block's scaled product: the reference's projection. -/
theorem prod0 (r : Fin 1024) (j : Fin 512) : prod (iblk m c 0 t) (iblk m c 1 t) (iblk m c 2 t) r j
    = proj (m ((c : Thread nD τ).loc main_arg0)) (m ((c : Thread nD τ).loc main_arg1)) (m ((c : Thread nD τ).loc main_arg2)) (m ((c : Thread nD τ).loc main_arg3)) 0 (by decide) (row t r) (column t j) := by
  unfold prod proj
  rw [h0, h1, h2, h3]
  refine Eq.trans ?_ (Cert.GatesProof.scale_out (fun k => H (ix2 (row t r) k)) (fun k => G (ix2 1 k))
    (fun k => W (ix3 1 k (⟨0 + (column t j).val, by omega⟩ : Fin 18432))) (R (ix1 (row t r))))
  refine congrArg₂ (· * ·) (Finset.sum_congr rfl fun k _ => congrArg₂ (· * ·) ?_ ?_) ?_
  · rw [iblk0_apply, V_main_arg0, h0]
  · rw [iblk2_apply, w_word, h2, h3]
  · rw [iblk1_apply, row_word1, h1]

/-- One entry of a block's scaled product: the reference's projection. -/
theorem prod4096 (r : Fin 1024) (j : Fin 512) : prod (iblk m c 0 t) (iblk m c 1 t) (iblk m c 3 t) r j
    = proj (m ((c : Thread nD τ).loc main_arg0)) (m ((c : Thread nD τ).loc main_arg1)) (m ((c : Thread nD τ).loc main_arg2)) (m ((c : Thread nD τ).loc main_arg3)) 4096 (by decide) (row t r) (column t j) := by
  unfold prod proj
  rw [h0, h1, h2, h3]
  refine Eq.trans ?_ (Cert.GatesProof.scale_out (fun k => H (ix2 (row t r) k)) (fun k => G (ix2 1 k))
    (fun k => W (ix3 1 k (⟨4096 + (column t j).val, by omega⟩ : Fin 18432))) (R (ix1 (row t r))))
  refine congrArg₂ (· * ·) (Finset.sum_congr rfl fun k _ => congrArg₂ (· * ·) ?_ ?_) ?_
  · rw [iblk0_apply, V_main_arg0, h0]
  · rw [iblk3_apply, w_word, h2, h3]
  · rw [iblk1_apply, row_word1, h1]

/-- One entry of a block's output: the reference's. -/
theorem point_entry (r : Fin 1024) (j : Fin 512) :
    tile (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r j)
    = Cert.SpatialReferenceIdeal.Read.val_main_v59 (F := Idealize.ShloMosaic.Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (ix2 (row t r) (column t j)) := by
  rw [ref_entry, ← prod0 m c t H R G W h0 h1 h2 h3 r j, ← prod4096 m c t H R G W h0 h1 h2 h3 r j, ← mix_entry m c t r j]
  rfl

set_option maxHeartbeats 1600000 in
/-- The output array. -/
theorem array_eq : (Gen.dats m 0 c).arrAt 11 cfg0.N = Cert.SpatialReferenceIdeal.Read.val_main_v59 (F := Idealize.ShloMosaic.Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (Gen.dats m 0 c).arrAt_eq_of_covers 11 _ (by decide +kernel) fun t hf y => ?_
  rw [after0_11, out_eq]
  blk_simp
  have e := (idx_in t).2.2.2.2.2.2.2.2.2.2.2
  obtain ⟨r, j, rfl⟩ : ∃ (r : Fin 1024) (j : Fin 512), y = ix2 r j := ⟨y 0, y 1, ValueIdx.eq_ix2 y⟩
  refine (point_entry m c t H R G W h0 h1 h2 h3 r j).trans (congrArg (Cert.SpatialReferenceIdeal.Read.val_main_v59 (F := Idealize.ShloMosaic.Ideal) _ _ _ _ _ _ _ _ _ _ _) ?_)
  funext a
  refine Fin.ext ?_
  fin_cases a <;> blk_simp [e]
  · exact congrArg (· + _) (Nat.mul_comm _ _)
  · exact congrArg (· + _) (Nat.mul_comm _ _)
omit h0 h1 h2 h3

/-- The value claim of the spatial gating. -/
theorem algebraic : Cert.algebraic_SpatialIdeal_SpatialReferenceIdeal_pre_finite_spatial (hSpatialIdeal := Cert.SpatialIdeal.Gen.facts)
    (hSpatialReferenceIdeal := Cert.SpatialReferenceIdeal.Gen.facts) (hPre_finite_spatial := Cert.Pre_finite_spatial.Gen.facts) := by
  intro m g m' g' hpre hargs
  refine ⟨fun c => (Gen.dats m 0 c).arrAt 11 cfg0.N, Cert.SpatialIdeal.Value.run_blocks m g, ?_⟩
  refine (θ_run _ _ _).mono (fun r h c => ?_) (Cert.SpatialReferenceIdeal.Value.run m' g')
  refine ⟨(h c).1.trans ?_, (h c).2⟩
  obtain ⟨⟨H, h0⟩, ⟨R, h1⟩, ⟨G, h2⟩, W, h3⟩ := finite_args (hP := Cert.Pre_finite_spatial.Gen.facts) _ _ _ _ _ _ _ _ _ _ _ (hpre c)
  refine Eq.trans ?_ (array_eq m c H R G W h0 h1 h2 h3).symm
  obtain ⟨a0, a1, a2, a3, a4, a5, a6, a7, a8, a9, a10⟩ := hargs c
  rw [Cert.SpatialReferenceIdeal.Read.val_main_v59_eq, a0, a1, a2, a3, a4, a5, a6, a7, a8, a9, a10]
end Cert.SpatialProof
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite
public import proofs.«01_k».proof.Proof.Fourier
public import proofs.«01_k».proof.Proof.GatesValue
public import proofs.«01_k».proof.Proof.MergeValue
public import proofs.«01_k».proof.Proof.FinalValue
public import proofs.«01_k».proof.Proof.InputsValue
public import proofs.«01_k».proof.Proof.SpatialValue
public import proofs.«01_k».proof.Proof.Gen.Gates
public import proofs.«01_k».proof.Proof.Gen.Gates.Skeleton
public import proofs.«01_k».proof.Proof.Gen.Gates.Launch
public import proofs.«01_k».proof.Proof.Gen.Gates.Points
public import proofs.«01_k».proof.Proof.Gen.Gates.Frame
public import proofs.«01_k».proof.Proof.Gen.GatesIdeal
public import proofs.«01_k».proof.Proof.Gen.GatesIdeal.Skeleton
public import proofs.«01_k».proof.Proof.Gen.GatesIdeal.Launch
public import proofs.«01_k».proof.Proof.Gen.GatesIdeal.Points
public import proofs.«01_k».proof.Proof.Gen.GatesIdeal.Frame
public import proofs.«01_k».proof.Proof.Gen.GatesIdeal.Value
public import proofs.«01_k».proof.Proof.Gen.GatesReferenceIdeal.Run
public import proofs.«01_k».proof.Proof.Gen.GatesReferenceIdeal.Read
public import proofs.«01_k».proof.Proof.Gen.GatesReferenceIdeal
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeReferenceIdeal.Run
public import proofs.«01_k».proof.Proof.Gen.MergeReferenceIdeal.Read
public import proofs.«01_k».proof.Proof.Gen.MergeReferenceIdeal
public import proofs.«01_k».proof.Proof.Gen.Final
public import proofs.«01_k».proof.Proof.Gen.Final.Skeleton
public import proofs.«01_k».proof.Proof.Gen.Final.Launch
public import proofs.«01_k».proof.Proof.Gen.Final.Points
public import proofs.«01_k».proof.Proof.Gen.Final.Frame
public import proofs.«01_k».proof.Proof.Gen.FinalIdeal
public import proofs.«01_k».proof.Proof.Gen.FinalIdeal.Skeleton
public import proofs.«01_k».proof.Proof.Gen.FinalIdeal.Launch
public import proofs.«01_k».proof.Proof.Gen.FinalIdeal.Points
public import proofs.«01_k».proof.Proof.Gen.FinalIdeal.Frame
public import proofs.«01_k».proof.Proof.Gen.FinalIdeal.Value
public import proofs.«01_k».proof.Proof.Gen.FinalReferenceIdeal.Run
public import proofs.«01_k».proof.Proof.Gen.FinalReferenceIdeal.Read
public import proofs.«01_k».proof.Proof.Gen.FinalReferenceIdeal
public import proofs.«01_k».proof.Proof.Gen.Pre_finite_gates
public import proofs.«01_k».proof.Proof.Gen.Inputs
public import proofs.«01_k».proof.Proof.Gen.Inputs.Skeleton
public import proofs.«01_k».proof.Proof.Gen.Inputs.Launch
public import proofs.«01_k».proof.Proof.Gen.Inputs.Points
public import proofs.«01_k».proof.Proof.Gen.Inputs.Frame
public import proofs.«01_k».proof.Proof.Gen.InputsIdeal
public import proofs.«01_k».proof.Proof.Gen.InputsIdeal.Skeleton
public import proofs.«01_k».proof.Proof.Gen.InputsIdeal.Launch
public import proofs.«01_k».proof.Proof.Gen.InputsIdeal.Points
public import proofs.«01_k».proof.Proof.Gen.InputsIdeal.Frame
public import proofs.«01_k».proof.Proof.Gen.InputsIdeal.Value
public import proofs.«01_k».proof.Proof.Gen.InputsReferenceIdeal.Run
public import proofs.«01_k».proof.Proof.Gen.InputsReferenceIdeal.Read
public import proofs.«01_k».proof.Proof.Gen.InputsReferenceIdeal
public import proofs.«01_k».proof.Proof.Gen.Spatial
public import proofs.«01_k».proof.Proof.Gen.Spatial.Skeleton
public import proofs.«01_k».proof.Proof.Gen.Spatial.Launch
public import proofs.«01_k».proof.Proof.Gen.Spatial.Points
public import proofs.«01_k».proof.Proof.Gen.Spatial.Frame
public import proofs.«01_k».proof.Proof.Gen.SpatialIdeal
public import proofs.«01_k».proof.Proof.Gen.SpatialIdeal.Skeleton
public import proofs.«01_k».proof.Proof.Gen.SpatialIdeal.Launch
public import proofs.«01_k».proof.Proof.Gen.SpatialIdeal.Points
public import proofs.«01_k».proof.Proof.Gen.SpatialIdeal.Frame
public import proofs.«01_k».proof.Proof.Gen.SpatialIdeal.Value
public import proofs.«01_k».proof.Proof.Gen.SpatialReferenceIdeal.Run
public import proofs.«01_k».proof.Proof.Gen.SpatialReferenceIdeal.Read
public import proofs.«01_k».proof.Proof.Gen.SpatialReferenceIdeal
public import proofs.«01_k».proof.Proof.Gen.Pre_finite_inputs
public import proofs.«01_k».proof.Proof.Gen.Pre_finite_spatial
public import Idealize.ShloMosaic.Adequacy
public import Idealize.ShloMosaic.Init

@[expose] public section

noncomputable section

namespace Cert.Proof

open Idealize.ShloMosaic Idealize.SL.Sem Cert.Kernel

/-- The reference leaves its arguments as they were, and has no counter that could be left raised. -/
theorem reference_frame : Cert.quiescent_ReferenceIdeal (hReferenceIdeal := Cert.ReferenceIdeal.Gen.facts) := fun m ρ _ =>
  (θ_run (Cert.ReferenceIdeal.defs (F := Ideal)) _ _).mono
    (fun r h => ⟨fun c => (h c).2, sem_eq_zero_of_no_sems (by decide) r.2⟩)
    (Cert.ReferenceIdeal.Value.run (F := Ideal) m ρ)

/-- So does the one of the merge gates. -/
theorem gates_reference_frame : Cert.quiescent_GatesReferenceIdeal (hGatesReferenceIdeal := Cert.GatesReferenceIdeal.Gen.facts) := fun m ρ _ =>
  (θ_run (Cert.GatesReferenceIdeal.defs (F := Ideal)) _ _).mono
    (fun r h => ⟨fun c => (h c).2, sem_eq_zero_of_no_sems (by decide) r.2⟩)
    (Cert.GatesReferenceIdeal.Value.run (F := Ideal) m ρ)

/-- So does the one of the branch merge. -/
theorem merge_reference_frame : Cert.quiescent_MergeReferenceIdeal (hMergeReferenceIdeal := Cert.MergeReferenceIdeal.Gen.facts) := fun m ρ _ =>
  (θ_run (Cert.MergeReferenceIdeal.defs (F := Ideal)) _ _).mono
    (fun r h => ⟨fun c => (h c).2, sem_eq_zero_of_no_sems (by decide) r.2⟩)
    (Cert.MergeReferenceIdeal.Value.run (F := Ideal) m ρ)

/-- So does the one of the last projection. -/
theorem final_reference_frame : Cert.quiescent_FinalReferenceIdeal (hFinalReferenceIdeal := Cert.FinalReferenceIdeal.Gen.facts) := fun m ρ _ =>
  (θ_run (Cert.FinalReferenceIdeal.defs (F := Ideal)) _ _).mono
    (fun r h => ⟨fun c => (h c).2, sem_eq_zero_of_no_sems (by decide) r.2⟩)
    (Cert.FinalReferenceIdeal.Value.run (F := Ideal) m ρ)

/-- So does the one of the Fourier branch's projections. -/
theorem inputs_reference_frame : Cert.quiescent_InputsReferenceIdeal (hInputsReferenceIdeal := Cert.InputsReferenceIdeal.Gen.facts) := fun m ρ _ =>
  (θ_run (Cert.InputsReferenceIdeal.defs (F := Ideal)) _ _).mono
    (fun r h => ⟨fun c => (h c).2.2.2, sem_eq_zero_of_no_sems (by decide) r.2⟩)
    (Cert.InputsReferenceIdeal.Value.run (F := Ideal) m ρ)

/-- So does the one of the spatial gating. -/
theorem spatial_reference_frame : Cert.quiescent_SpatialReferenceIdeal (hSpatialReferenceIdeal := Cert.SpatialReferenceIdeal.Gen.facts) := fun m ρ _ =>
  (θ_run (Cert.SpatialReferenceIdeal.defs (F := Ideal)) _ _).mono
    (fun r h => ⟨fun c => (h c).2, sem_eq_zero_of_no_sems (by decide) r.2⟩)
    (Cert.SpatialReferenceIdeal.Value.run (F := Ideal) m ρ)

theorem claim : Cert.Claim := ⟨Cert.Kernel.Gen.facts,
  Cert.KernelIdeal.Gen.facts,
  Cert.ReferenceIdeal.Gen.facts,
  Cert.Gates.Gen.facts,
  Cert.GatesIdeal.Gen.facts,
  Cert.GatesReferenceIdeal.Gen.facts,
  Cert.Merge.Gen.facts,
  Cert.MergeIdeal.Gen.facts,
  Cert.MergeReferenceIdeal.Gen.facts,
  Cert.Final.Gen.facts,
  Cert.FinalIdeal.Gen.facts,
  Cert.FinalReferenceIdeal.Gen.facts,
  Cert.Inputs.Gen.facts,
  Cert.InputsIdeal.Gen.facts,
  Cert.InputsReferenceIdeal.Gen.facts,
  Cert.Spatial.Gen.facts,
  Cert.SpatialIdeal.Gen.facts,
  Cert.SpatialReferenceIdeal.Gen.facts,
  Cert.Pre_finite.Gen.facts,
  Cert.Pre_finite_gates.Gen.facts,
  Cert.Pre_finite_inputs.Gen.facts,
  Cert.Pre_finite_spatial.Gen.facts,
  fun m ρ _ => Cert.Kernel.Gen.frame m ρ,
  fun m ρ _ => Cert.KernelIdeal.Gen.frame m ρ,
  fun m ρ _ => Cert.KernelIdeal.Gen.frame m ρ,
  reference_frame,
  fun m ρ _ => reference_frame m ρ trivial,
  fun m ρ _ => Cert.Gates.Gen.frame m ρ,
  fun m ρ _ => Cert.GatesIdeal.Gen.frame m ρ,
  fun m ρ _ => Cert.GatesIdeal.Gen.frame m ρ,
  gates_reference_frame,
  fun m ρ _ => gates_reference_frame m ρ trivial,
  fun m ρ _ => Cert.Merge.Gen.frame m ρ,
  fun m ρ _ => Cert.MergeIdeal.Gen.frame m ρ,
  merge_reference_frame,
  fun m ρ _ => Cert.Final.Gen.frame m ρ,
  fun m ρ _ => Cert.FinalIdeal.Gen.frame m ρ,
  final_reference_frame,
  fun m ρ _ => Cert.Inputs.Gen.frame m ρ,
  fun m ρ _ => Cert.InputsIdeal.Gen.frame m ρ,
  fun m ρ _ => Cert.InputsIdeal.Gen.frame m ρ,
  inputs_reference_frame,
  fun m ρ _ => inputs_reference_frame m ρ trivial,
  fun m ρ _ => Cert.Spatial.Gen.frame m ρ,
  fun m ρ _ => Cert.SpatialIdeal.Gen.frame m ρ,
  fun m ρ _ => Cert.SpatialIdeal.Gen.frame m ρ,
  spatial_reference_frame,
  fun m ρ _ => spatial_reference_frame m ρ trivial,
  trivial,
  Cert.Mix.algebraic,
  trivial,
  Cert.GatesProof.algebraic,
  trivial,
  Cert.MergeProof.algebraic,
  trivial,
  Cert.FinalProof.algebraic,
  trivial,
  Cert.InputsProof.algebraic,
  trivial,
  Cert.SpatialProof.algebraic⟩

end Cert.Proof

end
